-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1x2560 : Shape := ⟨3, ![12, 1, 2560]⟩
abbrev S3x12x1x2560 : Shape := ⟨4, ![3, 12, 1, 2560]⟩
abbrev S3x640x2560 : Shape := ⟨3, ![3, 640, 2560]⟩
abbrev S3x1728x2560 : Shape := ⟨3, ![3, 1728, 2560]⟩
abbrev S3x640x6912 : Shape := ⟨3, ![3, 640, 6912]⟩
abbrev S3x7 : Shape := ⟨2, ![3, 7]⟩
abbrev S3x2560 : Shape := ⟨2, ![3, 2560]⟩
abbrev S3x6912 : Shape := ⟨2, ![3, 6912]⟩
abbrev S12x2560 : Shape := ⟨2, ![12, 2560]⟩
abbrev S3x12x2560 : Shape := ⟨3, ![3, 12, 2560]⟩
abbrev S3x12x1x6912 : Shape := ⟨4, ![3, 12, 1, 6912]⟩
abbrev S3x12x6912 : Shape := ⟨3, ![3, 12, 6912]⟩
abbrev S3x32x12 : Shape := ⟨3, ![3, 32, 12]⟩
abbrev S640x2560 : Shape := ⟨2, ![640, 2560]⟩
abbrev S1792x2560 : Shape := ⟨2, ![1792, 2560]⟩
abbrev S640x6912 : Shape := ⟨2, ![640, 6912]⟩
abbrev S11 : Shape := ⟨1, ![11]⟩
abbrev S16x2560 : Shape := ⟨2, ![16, 2560]⟩
abbrev S16x6912 : Shape := ⟨2, ![16, 6912]⟩
abbrev S4x5x16x128 : Shape := ⟨4, ![4, 5, 16, 128]⟩
abbrev S2x4x14x16x128 : Shape := ⟨5, ![2, 4, 14, 16, 128]⟩
abbrev S1x128 : Shape := ⟨2, ![1, 128]⟩
abbrev S1 : Shape := ⟨1, ![1]⟩
abbrev S_ : Shape := ⟨0, ![]⟩
abbrev S1x640x2560 : Shape := ⟨3, ![1, 640, 2560]⟩
abbrev S1728x2560 : Shape := ⟨2, ![1728, 2560]⟩
abbrev S1x1728x2560 : Shape := ⟨3, ![1, 1728, 2560]⟩
abbrev S1x640x6912 : Shape := ⟨3, ![1, 640, 6912]⟩
abbrev S7 : Shape := ⟨1, ![7]⟩
abbrev S1x7 : Shape := ⟨2, ![1, 7]⟩
abbrev S1x2560 : Shape := ⟨2, ![1, 2560]⟩
abbrev S16 : Shape := ⟨1, ![16]⟩
abbrev S16x1 : Shape := ⟨2, ![16, 1]⟩
abbrev S1x12x2560 : Shape := ⟨3, ![1, 12, 2560]⟩
abbrev S4x2560 : Shape := ⟨2, ![4, 2560]⟩
abbrev S16x256 : Shape := ⟨2, ![16, 256]⟩
abbrev S128x256 : Shape := ⟨2, ![128, 256]⟩
abbrev S256x128 : Shape := ⟨2, ![256, 128]⟩
abbrev S64x128 : Shape := ⟨2, ![64, 128]⟩
abbrev S256x256 : Shape := ⟨2, ![256, 256]⟩
abbrev S16x128 : Shape := ⟨2, ![16, 128]⟩
abbrev S1x1x16x128 : Shape := ⟨4, ![1, 1, 16, 128]⟩
abbrev S1x1 : Shape := ⟨2, ![1, 1]⟩
abbrev S1x12x1x2560 : Shape := ⟨4, ![1, 12, 1, 2560]⟩
abbrev S1x4x14x16x128 : Shape := ⟨5, ![1, 4, 14, 16, 128]⟩
abbrev S4x14x16x128 : Shape := ⟨4, ![4, 14, 16, 128]⟩
abbrev S1x1x1x16x128 : Shape := ⟨5, ![1, 1, 1, 16, 128]⟩
abbrev S16x1792 : Shape := ⟨2, ![16, 1792]⟩
abbrev S16x1728 : Shape := ⟨2, ![16, 1728]⟩
abbrev S12x6912 : Shape := ⟨2, ![12, 6912]⟩
abbrev S1x12x1x6912 : Shape := ⟨4, ![1, 12, 1, 6912]⟩
abbrev S1x6912 : Shape := ⟨2, ![1, 6912]⟩
abbrev S1x12x6912 : Shape := ⟨3, ![1, 12, 6912]⟩
abbrev S128x16 : Shape := ⟨2, ![128, 16]⟩
abbrev S32x12 : Shape := ⟨2, ![32, 12]⟩
abbrev S1x32x12 : Shape := ⟨3, ![1, 32, 12]⟩

abbrev nBuf : Space → Nat
  | .hbm => 21
  | .vmem => 25
  | .smem => 0
  | _ => 0

abbrev bufTy : (tb : Table) → Fin (tcTables nBuf tb) → BufTy
  | .hbm, ⟨0, _⟩ => ⟨S12x1x2560, .bf16⟩
  | .hbm, ⟨1, _⟩ => ⟨S3x12x1x2560, .f32⟩
  | .hbm, ⟨2, _⟩ => ⟨S3x640x2560, .i8⟩
  | .hbm, ⟨3, _⟩ => ⟨S3x1728x2560, .i8⟩
  | .hbm, ⟨4, _⟩ => ⟨S3x1728x2560, .i8⟩
  | .hbm, ⟨5, _⟩ => ⟨S3x640x6912, .i8⟩
  | .hbm, ⟨6, _⟩ => ⟨S3x7, .bf16⟩
  | .hbm, ⟨7, _⟩ => ⟨S3x2560, .f32⟩
  | .hbm, ⟨8, _⟩ => ⟨S3x2560, .f32⟩
  | .hbm, ⟨9, _⟩ => ⟨S3x2560, .f32⟩
  | .hbm, ⟨10, _⟩ => ⟨S3x6912, .f32⟩
  | .hbm, ⟨11, _⟩ => ⟨S12x2560, .bf16⟩
  | .hbm, ⟨12, _⟩ => ⟨S3x12x2560, .f32⟩
  | .hbm, ⟨13, _⟩ => ⟨S3x12x1x2560, .f32⟩
  | .hbm, ⟨14, _⟩ => ⟨S3x12x1x2560, .f32⟩
  | .hbm, ⟨15, _⟩ => ⟨S3x12x1x6912, .f32⟩
  | .hbm, ⟨16, _⟩ => ⟨S3x12x2560, .i8⟩
  | .hbm, ⟨17, _⟩ => ⟨S3x12x2560, .i8⟩
  | .hbm, ⟨18, _⟩ => ⟨S3x12x2560, .i8⟩
  | .hbm, ⟨19, _⟩ => ⟨S3x12x6912, .i8⟩
  | .hbm, ⟨20, _⟩ => ⟨S3x32x12, .f32⟩
  | .local _ .vmem, ⟨0, _⟩ => ⟨S12x2560, .bf16⟩
  | .local _ .vmem, ⟨1, _⟩ => ⟨S3x7, .bf16⟩
  | .local _ .vmem, ⟨2, _⟩ => ⟨S3x2560, .f32⟩
  | .local _ .vmem, ⟨3, _⟩ => ⟨S3x2560, .f32⟩
  | .local _ .vmem, ⟨4, _⟩ => ⟨S3x2560, .f32⟩
  | .local _ .vmem, ⟨5, _⟩ => ⟨S3x6912, .f32⟩
  | .local _ .vmem, ⟨6, _⟩ => ⟨S3x12x2560, .f32⟩
  | .local _ .vmem, ⟨7, _⟩ => ⟨S3x12x1x2560, .f32⟩
  | .local _ .vmem, ⟨8, _⟩ => ⟨S3x12x1x2560, .f32⟩
  | .local _ .vmem, ⟨9, _⟩ => ⟨S3x12x1x6912, .f32⟩
  | .local _ .vmem, ⟨10, _⟩ => ⟨S3x12x2560, .i8⟩
  | .local _ .vmem, ⟨11, _⟩ => ⟨S3x12x2560, .i8⟩
  | .local _ .vmem, ⟨12, _⟩ => ⟨S3x12x2560, .i8⟩
  | .local _ .vmem, ⟨13, _⟩ => ⟨S3x12x6912, .i8⟩
  | .local _ .vmem, ⟨14, _⟩ => ⟨S3x32x12, .f32⟩
  | .local _ .vmem, ⟨15, _⟩ => ⟨S640x2560, .i8⟩
  | .local _ .vmem, ⟨16, _⟩ => ⟨S1792x2560, .i8⟩
  | .local _ .vmem, ⟨17, _⟩ => ⟨S1792x2560, .i8⟩
  | .local _ .vmem, ⟨18, _⟩ => ⟨S640x6912, .i8⟩
  | .local _ .vmem, ⟨19, _⟩ => ⟨S16x2560, .f32⟩
  | .local _ .vmem, ⟨20, _⟩ => ⟨S16x2560, .bf16⟩
  | .local _ .vmem, ⟨21, _⟩ => ⟨S16x6912, .bf16⟩
  | .local _ .vmem, ⟨22, _⟩ => ⟨S4x5x16x128, .f32⟩
  | .local _ .vmem, ⟨23, _⟩ => ⟨S2x4x14x16x128, .f32⟩
  | .local _ .vmem, ⟨24, _⟩ => ⟨S16x6912, .f32⟩
  | _, _ => ⟨S12x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev main_v2_7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32_22 : BitVec 32 := 0#32
  let c3_i32 : BitVec 32 := 3#32
  let v31 : BitVec 32 := Scalar.addi c0_i32_22 c3_i32
  let c1_i32 : BitVec 32 := 1#32
  ⟨c0_i32_22, v31, c1_i32⟩
def k0_off1 (k0_t1 : Fin k0_t1_loop.trips) : Fin 2 → Nat :=
  let c0_i32_22 : BitVec 32 := 0#32
  let c1_i32 : BitVec 32 := 1#32
  let arg30 : BitVec 32 := Scf.iv c0_i32_22 c1_i32 k0_t1
  let v40 : Index := Scalar.indexCast arg30
  let c0_28 : Index := 0#32
  ![v40.toNat, 0]
def k0_off2 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let v78 : Index := Scalar.indexCast arg30
  let c0_38 : Index := 0#32
  let c0_39 : Index := 0#32
  ![v78.toNat, 0, 0]
def k0_off3 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c0_i32_59 : BitVec 32 := 0#32
  let c0_i32_60 : BitVec 32 := 0#32
  ![arg30.toNat, 0, 0]
def k0_mult1 : BitVec 32 :=
  let c0_i32_61 : BitVec 32 := 0#32
  let c5_i32 : BitVec 32 := 5#32
  let v135 : BitVec 32 := Scalar.muli c0_i32_61 c5_i32
  let c0_i32_62 : BitVec 32 := 0#32
  let v136 : BitVec 32 := Scalar.addi v135 c0_i32_62
  let c128_i32 : BitVec 32 := 128#32
  let v137 : BitVec 32 := Scalar.muli v136 c128_i32
  v137
def k0_off4 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v140 : Index := Scalar.indexCast v138
  let c0_65 : Index := 0#32
  ![v140.toNat, 0]
def k0_off5 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v173 : Index := Scalar.indexCast v138
  let c256_73 : Index := 256#32
  ![v173.toNat, 256]
def k0_off6 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v208 : Index := Scalar.indexCast v138
  let c512_85 : Index := 512#32
  ![v208.toNat, 512]
def k0_off7 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v243 : Index := Scalar.indexCast v138
  let c768_97 : Index := 768#32
  ![v243.toNat, 768]
def k0_off8 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v278 : Index := Scalar.indexCast v138
  let c1024_109 : Index := 1024#32
  ![v278.toNat, 1024]
def k0_off9 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v313 : Index := Scalar.indexCast v138
  let c1280_121 : Index := 1280#32
  ![v313.toNat, 1280]
def k0_off10 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v348 : Index := Scalar.indexCast v138
  let c1536_133 : Index := 1536#32
  ![v348.toNat, 1536]
def k0_off11 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v383 : Index := Scalar.indexCast v138
  let c1792_145 : Index := 1792#32
  ![v383.toNat, 1792]
def k0_off12 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v418 : Index := Scalar.indexCast v138
  let c2048_157 : Index := 2048#32
  ![v418.toNat, 2048]
def k0_off13 (c0_i32_62 : BitVec 32) : Fin 2 → Nat :=
  let c0_i32_61 : BitVec 32 := 0#32
  let c5_i32 : BitVec 32 := 5#32
  let v135 : BitVec 32 := Scalar.muli c0_i32_61 c5_i32
  let v136 : BitVec 32 := Scalar.addi v135 c0_i32_62
  let c128_i32 : BitVec 32 := 128#32
  let v137 : BitVec 32 := Scalar.muli v136 c128_i32
  let v138 : BitVec 32 := v137
  let v453 : Index := Scalar.indexCast v138
  let c2304_169 : Index := 2304#32
  ![v453.toNat, 2304]
def k0_off14 (c0_i32_62 : BitVec 32) : Fin 4 → Nat :=
  let c0_180 : Index := 0#32
  let c0_i32_61 : BitVec 32 := 0#32
  let c5_i32 : BitVec 32 := 5#32
  let v135 : BitVec 32 := Scalar.muli c0_i32_61 c5_i32
  let v136 : BitVec 32 := Scalar.addi v135 c0_i32_62
  let v493 : Index := Scalar.indexCast v136
  let c0_181 : Index := 0#32
  let c0_182 : Index := 0#32
  ![0, v493.toNat, 0, 0]
def k0_off15 (c0_i32_62 : BitVec 32) : Fin 4 → Nat :=
  let c1 : Index := 1#32
  let c0_i32_61 : BitVec 32 := 0#32
  let c5_i32 : BitVec 32 := 5#32
  let v135 : BitVec 32 := Scalar.muli c0_i32_61 c5_i32
  let v136 : BitVec 32 := Scalar.addi v135 c0_i32_62
  let v499 : Index := Scalar.indexCast v136
  let c0_183 : Index := 0#32
  let c0_184 : Index := 0#32
  ![1, v499.toNat, 0, 0]
def k0_off16 (c0_i32_62 : BitVec 32) : Fin 4 → Nat :=
  let c2 : Index := 2#32
  let c0_i32_61 : BitVec 32 := 0#32
  let c5_i32 : BitVec 32 := 5#32
  let v135 : BitVec 32 := Scalar.muli c0_i32_61 c5_i32
  let v136 : BitVec 32 := Scalar.addi v135 c0_i32_62
  let v505 : Index := Scalar.indexCast v136
  let c0_185 : Index := 0#32
  let c0_186 : Index := 0#32
  ![2, v505.toNat, 0, 0]
def k0_off17 (c0_i32_62 : BitVec 32) : Fin 4 → Nat :=
  let c3 : Index := 3#32
  let c0_i32_61 : BitVec 32 := 0#32
  let c5_i32 : BitVec 32 := 5#32
  let v135 : BitVec 32 := Scalar.muli c0_i32_61 c5_i32
  let v136 : BitVec 32 := Scalar.addi v135 c0_i32_62
  let v511 : Index := Scalar.indexCast v136
  let c0_187 : Index := 0#32
  let c0_188 : Index := 0#32
  ![3, v511.toNat, 0, 0]
def k0_mult2 : BitVec 32 :=
  let c0_i32_61 : BitVec 32 := 0#32
  let c5_i32_189 : BitVec 32 := 5#32
  let v515 : BitVec 32 := Scalar.muli c0_i32_61 c5_i32_189
  let c1_i32_190 : BitVec 32 := 1#32
  let v516 : BitVec 32 := Scalar.addi v515 c1_i32_190
  let c128_i32_191 : BitVec 32 := 128#32
  let v517 : BitVec 32 := Scalar.muli v516 c128_i32_191
  v517
def k0_mult3 : BitVec 32 :=
  let c0_i32_61 : BitVec 32 := 0#32
  let c5_i32_334 : BitVec 32 := 5#32
  let v895 : BitVec 32 := Scalar.muli c0_i32_61 c5_i32_334
  let c2_i32_335 : BitVec 32 := 2#32
  let v896 : BitVec 32 := Scalar.addi v895 c2_i32_335
  let c128_i32_336 : BitVec 32 := 128#32
  let v897 : BitVec 32 := Scalar.muli v896 c128_i32_336
  v897
def k0_mult4 : BitVec 32 :=
  let c0_i32_61 : BitVec 32 := 0#32
  let c5_i32_479 : BitVec 32 := 5#32
  let v1275 : BitVec 32 := Scalar.muli c0_i32_61 c5_i32_479
  let c3_i32_480 : BitVec 32 := 3#32
  let v1276 : BitVec 32 := Scalar.addi v1275 c3_i32_480
  let c128_i32_481 : BitVec 32 := 128#32
  let v1277 : BitVec 32 := Scalar.muli v1276 c128_i32_481
  v1277
def k0_mult5 : BitVec 32 :=
  let c0_i32_61 : BitVec 32 := 0#32
  let c5_i32_624 : BitVec 32 := 5#32
  let v1655 : BitVec 32 := Scalar.muli c0_i32_61 c5_i32_624
  let c4_i32_625 : BitVec 32 := 4#32
  let v1656 : BitVec 32 := Scalar.addi v1655 c4_i32_625
  let c128_i32_626 : BitVec 32 := 128#32
  let v1657 : BitVec 32 := Scalar.muli v1656 c128_i32_626
  v1657
def k0_cond1 (k0_t1 : Fin k0_t1_loop.trips) : BitVec 1 :=
  let c0_i32_22 : BitVec 32 := 0#32
  let c1_i32 : BitVec 32 := 1#32
  let arg30 : BitVec 32 := Scf.iv c0_i32_22 c1_i32 k0_t1
  let c1_i32_770 : BitVec 32 := 1#32
  let v2035 : BitVec 32 := Scalar.addi arg30 c1_i32_770
  let c3_i32_771 : BitVec 32 := 3#32
  let v2036 : BitVec 1 := Scalar.cmpi .slt v2035 c3_i32_771
  let v2037 : BitVec 32 := Scalar.extui v2036
  let c0_i32_772 : BitVec 32 := 0#32
  let v2038 : BitVec 1 := Scalar.cmpi .ne v2037 c0_i32_772
  v2038

def k0_off18 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c1_i32_1584 : BitVec 32 := 1#32
  let v2599 : BitVec 32 := Scalar.addi arg30 c1_i32_1584
  let c0_i32_1586 : BitVec 32 := 0#32
  let c0_i32_1587 : BitVec 32 := 0#32
  ![v2599.toNat, 0, 0]
def k0_off19 (k0_t1 : Fin k0_t1_loop.trips) : Fin 4 → Nat :=
  let c0_i32_22 : BitVec 32 := 0#32
  let c1_i32 : BitVec 32 := 1#32
  let arg30 : BitVec 32 := Scf.iv c0_i32_22 c1_i32 k0_t1
  let v2088 : Index := Scalar.indexCast arg30
  let c0_854 : Index := 0#32
  let c0_855 : Index := 0#32
  let c0_856 : Index := 0#32
  ![v2088.toNat, 0, 0, 0]
def k0_off20 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c0_i32_877 : BitVec 32 := 0#32
  let c0_i32_878 : BitVec 32 := 0#32
  ![arg30.toNat, 0, 0]
@[reducible] def k0_t2_loop : Scf.Loop 32 :=
  let c0_i32_880 : BitVec 32 := 0#32
  let c7_i32_881 : BitVec 32 := 7#32
  let v2144 : BitVec 32 := Scalar.addi c0_i32_880 c7_i32_881
  let c1_i32_882 : BitVec 32 := 1#32
  ⟨c0_i32_880, v2144, c1_i32_882⟩
def k0_mult6 (k0_t2 : Fin k0_t2_loop.trips) : BitVec 32 :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  v2601
def k0_off21 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2604 : Index := Scalar.indexCast v2602
  let c0_1589 : Index := 0#32
  ![v2604.toNat, 0]
def k0_off22 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2637 : Index := Scalar.indexCast v2602
  let c256_1602 : Index := 256#32
  ![v2637.toNat, 256]
def k0_off23 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2672 : Index := Scalar.indexCast v2602
  let c512_1615 : Index := 512#32
  ![v2672.toNat, 512]
def k0_off24 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2707 : Index := Scalar.indexCast v2602
  let c768_1628 : Index := 768#32
  ![v2707.toNat, 768]
def k0_off25 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2742 : Index := Scalar.indexCast v2602
  let c1024_1641 : Index := 1024#32
  ![v2742.toNat, 1024]
def k0_off26 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2777 : Index := Scalar.indexCast v2602
  let c1280_1654 : Index := 1280#32
  ![v2777.toNat, 1280]
def k0_off27 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2812 : Index := Scalar.indexCast v2602
  let c1536_1667 : Index := 1536#32
  ![v2812.toNat, 1536]
def k0_off28 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2847 : Index := Scalar.indexCast v2602
  let c1792_1680 : Index := 1792#32
  ![v2847.toNat, 1792]
def k0_off29 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2882 : Index := Scalar.indexCast v2602
  let c2048_1693 : Index := 2048#32
  ![v2882.toNat, 2048]
def k0_off30 (k0_t2 : Fin k0_t2_loop.trips) (c0_i32_1585 : BitVec 32) : Fin 2 → Nat :=
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2917 : Index := Scalar.indexCast v2602
  let c2304_1706 : Index := 2304#32
  ![v2917.toNat, 2304]
def k0_off31 (k0_t2 : Fin k0_t2_loop.trips) (c0_i32_1585 : BitVec 32) : Fin 4 → Nat :=
  let c0_1721 : Index := 0#32
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let v2959 : Index := Scalar.indexCast v2600
  let c0_1722 : Index := 0#32
  let c0_1723 : Index := 0#32
  ![0, v2959.toNat, 0, 0]
def k0_off32 (k0_t2 : Fin k0_t2_loop.trips) (c0_i32_1585 : BitVec 32) : Fin 4 → Nat :=
  let c1_1728 : Index := 1#32
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let v2967 : Index := Scalar.indexCast v2600
  let c0_1729 : Index := 0#32
  let c0_1730 : Index := 0#32
  ![1, v2967.toNat, 0, 0]
def k0_off33 (k0_t2 : Fin k0_t2_loop.trips) (c0_i32_1585 : BitVec 32) : Fin 4 → Nat :=
  let c2_1735 : Index := 2#32
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let v2975 : Index := Scalar.indexCast v2600
  let c0_1736 : Index := 0#32
  let c0_1737 : Index := 0#32
  ![2, v2975.toNat, 0, 0]
def k0_off34 (k0_t2 : Fin k0_t2_loop.trips) (c0_i32_1585 : BitVec 32) : Fin 4 → Nat :=
  let c3_1742 : Index := 3#32
  let c0_i32_880 : BitVec 32 := 0#32
  let c1_i32_882 : BitVec 32 := 1#32
  let arg31 : BitVec 32 := Scf.iv c0_i32_880 c1_i32_882 k0_t2
  let c2_i32_1584 : BitVec 32 := 2#32
  let v2599 : BitVec 32 := Scalar.muli arg31 c2_i32_1584
  let v2600 : BitVec 32 := Scalar.addi v2599 c0_i32_1585
  let v2983 : Index := Scalar.indexCast v2600
  let c0_1743 : Index := 0#32
  let c0_1744 : Index := 0#32
  ![3, v2983.toNat, 0, 0]
def k0_mult7 (k0_t2 : Fin k0_t2_loop.trips) : BitVec 32 :=
  let c0_i32_880 : BitVec 32 := 0#32
  let c1_i32_882 : BitVec 32 := 1#32
  let arg31 : BitVec 32 := Scf.iv c0_i32_880 c1_i32_882 k0_t2
  let c2_i32_1745 : BitVec 32 := 2#32
  let v2987 : BitVec 32 := Scalar.muli arg31 c2_i32_1745
  let c1_i32_1746 : BitVec 32 := 1#32
  let v2988 : BitVec 32 := Scalar.addi v2987 c1_i32_1746
  let c128_i32_1747 : BitVec 32 := 128#32
  let v2989 : BitVec 32 := Scalar.muli v2988 c128_i32_1747
  v2989
def k0_cond2 (k0_t1 : Fin k0_t1_loop.trips) : BitVec 1 :=
  let c0_i32_22 : BitVec 32 := 0#32
  let c1_i32 : BitVec 32 := 1#32
  let arg30 : BitVec 32 := Scf.iv c0_i32_22 c1_i32 k0_t1
  let c1_i32_884 : BitVec 32 := 1#32
  let v2145 : BitVec 32 := Scalar.addi arg30 c1_i32_884
  let c3_i32_885 : BitVec 32 := 3#32
  let v2146 : BitVec 1 := Scalar.cmpi .slt v2145 c3_i32_885
  let v2147 : BitVec 32 := Scalar.extui v2146
  let c0_i32_886 : BitVec 32 := 0#32
  let v2148 : BitVec 1 := Scalar.cmpi .ne v2147 c0_i32_886
  v2148

def k0_off35 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c1_i32_1584 : BitVec 32 := 1#32
  let v2599 : BitVec 32 := Scalar.addi arg30 c1_i32_1584
  let c0_i32_1588 : BitVec 32 := 0#32
  let c0_i32_1589 : BitVec 32 := 0#32
  ![v2599.toNat, 0, 0]
@[reducible] def k0_t3_loop : Scf.Loop 32 :=
  let c0_i32_893 : BitVec 32 := 0#32
  let c7_i32_894 : BitVec 32 := 7#32
  let v2154 : BitVec 32 := Scalar.addi c0_i32_893 c7_i32_894
  let c1_i32_895 : BitVec 32 := 1#32
  ⟨c0_i32_893, v2154, c1_i32_895⟩
def k0_mult8 (k0_t3 : Fin k0_t3_loop.trips) : BitVec 32 :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  v2601
def k0_off36 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2604 : Index := Scalar.indexCast v2602
  let c0_1589 : Index := 0#32
  ![v2604.toNat, 0]
def k0_off37 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2637 : Index := Scalar.indexCast v2602
  let c256_1602 : Index := 256#32
  ![v2637.toNat, 256]
def k0_off38 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2672 : Index := Scalar.indexCast v2602
  let c512_1615 : Index := 512#32
  ![v2672.toNat, 512]
def k0_off39 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2707 : Index := Scalar.indexCast v2602
  let c768_1628 : Index := 768#32
  ![v2707.toNat, 768]
def k0_off40 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2742 : Index := Scalar.indexCast v2602
  let c1024_1641 : Index := 1024#32
  ![v2742.toNat, 1024]
def k0_off41 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2777 : Index := Scalar.indexCast v2602
  let c1280_1654 : Index := 1280#32
  ![v2777.toNat, 1280]
def k0_off42 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2812 : Index := Scalar.indexCast v2602
  let c1536_1667 : Index := 1536#32
  ![v2812.toNat, 1536]
def k0_off43 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2847 : Index := Scalar.indexCast v2602
  let c1792_1680 : Index := 1792#32
  ![v2847.toNat, 1792]
def k0_off44 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2882 : Index := Scalar.indexCast v2602
  let c2048_1693 : Index := 2048#32
  ![v2882.toNat, 2048]
def k0_off45 (k0_t3 : Fin k0_t3_loop.trips) (c0_i32_1585 : BitVec 32) : Fin 2 → Nat :=
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let c128_i32_1586 : BitVec 32 := 128#32
  let v2601 : BitVec 32 := Scalar.muli v2600 c128_i32_1586
  let v2602 : BitVec 32 := v2601
  let v2917 : Index := Scalar.indexCast v2602
  let c2304_1706 : Index := 2304#32
  ![v2917.toNat, 2304]
def k0_off46 (k0_t3 : Fin k0_t3_loop.trips) (c0_i32_1585 : BitVec 32) : Fin 4 → Nat :=
  let c0_1721 : Index := 0#32
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let v2959 : Index := Scalar.indexCast v2600
  let c0_1722 : Index := 0#32
  let c0_1723 : Index := 0#32
  ![0, v2959.toNat, 0, 0]
def k0_off47 (k0_t3 : Fin k0_t3_loop.trips) (c0_i32_1585 : BitVec 32) : Fin 4 → Nat :=
  let c1_1728 : Index := 1#32
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let v2967 : Index := Scalar.indexCast v2600
  let c0_1729 : Index := 0#32
  let c0_1730 : Index := 0#32
  ![1, v2967.toNat, 0, 0]
def k0_off48 (k0_t3 : Fin k0_t3_loop.trips) (c0_i32_1585 : BitVec 32) : Fin 4 → Nat :=
  let c2_1735 : Index := 2#32
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let v2975 : Index := Scalar.indexCast v2600
  let c0_1736 : Index := 0#32
  let c0_1737 : Index := 0#32
  ![2, v2975.toNat, 0, 0]
def k0_off49 (k0_t3 : Fin k0_t3_loop.trips) (c0_i32_1585 : BitVec 32) : Fin 4 → Nat :=
  let c3_1742 : Index := 3#32
  let c0_i32_893 : BitVec 32 := 0#32
  let c1_i32_895 : BitVec 32 := 1#32
  let arg31 : BitVec 32 := Scf.iv c0_i32_893 c1_i32_895 k0_t3
  let c2_i32_1584 : BitVec 32 := 2#32
  let v2599 : BitVec 32 := Scalar.muli arg31 c2_i32_1584
  let v2600 : BitVec 32 := Scalar.addi v2599 c0_i32_1585
  let v2983 : Index := Scalar.indexCast v2600
  let c0_1743 : Index := 0#32
  let c0_1744 : Index := 0#32
  ![3, v2983.toNat, 0, 0]
def k0_mult9 (k0_t3 : Fin k0_t3_loop.trips) : BitVec 32 :=
  let c0_i32_893 : BitVec 32 := 0#32
  let c1_i32_895 : BitVec 32 := 1#32
  let arg31 : BitVec 32 := Scf.iv c0_i32_893 c1_i32_895 k0_t3
  let c2_i32_1745 : BitVec 32 := 2#32
  let v2987 : BitVec 32 := Scalar.muli arg31 c2_i32_1745
  let c1_i32_1746 : BitVec 32 := 1#32
  let v2988 : BitVec 32 := Scalar.addi v2987 c1_i32_1746
  let c128_i32_1747 : BitVec 32 := 128#32
  let v2989 : BitVec 32 := Scalar.muli v2988 c128_i32_1747
  v2989
def k0_cond3 (k0_t1 : Fin k0_t1_loop.trips) : BitVec 1 :=
  let c0_i32_22 : BitVec 32 := 0#32
  let c1_i32 : BitVec 32 := 1#32
  let arg30 : BitVec 32 := Scf.iv c0_i32_22 c1_i32 k0_t1
  let c1_i32_897 : BitVec 32 := 1#32
  let v2155 : BitVec 32 := Scalar.addi arg30 c1_i32_897
  let c3_i32_898 : BitVec 32 := 3#32
  let v2156 : BitVec 1 := Scalar.cmpi .slt v2155 c3_i32_898
  let v2157 : BitVec 32 := Scalar.extui v2156
  let c0_i32_899 : BitVec 32 := 0#32
  let v2158 : BitVec 1 := Scalar.cmpi .ne v2157 c0_i32_899
  v2158

def k0_off50 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c1_i32_1584 : BitVec 32 := 1#32
  let v2599 : BitVec 32 := Scalar.addi arg30 c1_i32_1584
  let c0_i32_1588 : BitVec 32 := 0#32
  let c0_i32_1589 : BitVec 32 := 0#32
  ![v2599.toNat, 0, 0]
def k0_off51 (k0_t1 : Fin k0_t1_loop.trips) : Fin 4 → Nat :=
  let c0_i32_22 : BitVec 32 := 0#32
  let c1_i32 : BitVec 32 := 1#32
  let arg30 : BitVec 32 := Scf.iv c0_i32_22 c1_i32 k0_t1
  let v2451 : Index := Scalar.indexCast arg30
  let c0_1462 : Index := 0#32
  let c0_1463 : Index := 0#32
  let c0_1464 : Index := 0#32
  ![v2451.toNat, 0, 0, 0]
def k0_off52 (k0_t1 : Fin k0_t1_loop.trips) : Fin 2 → Nat :=
  let c0_i32_22 : BitVec 32 := 0#32
  let c1_i32 : BitVec 32 := 1#32
  let arg30 : BitVec 32 := Scf.iv c0_i32_22 c1_i32 k0_t1
  let v2455 : Index := Scalar.indexCast arg30
  let c0_1465 : Index := 0#32
  ![v2455.toNat, 0]
def k0_off53 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let v2493 : Index := Scalar.indexCast arg30
  let c0_1477 : Index := 0#32
  let c0_1478 : Index := 0#32
  ![v2493.toNat, 0, 0]
def k0_off54 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c0_i32_1481 : BitVec 32 := 0#32
  let c0_i32_1482 : BitVec 32 := 0#32
  ![arg30.toNat, 0, 0]
@[reducible] def k0_t4_loop : Scf.Loop 32 :=
  let c0_i32_1483 : BitVec 32 := 0#32
  let c5_i32_1484 : BitVec 32 := 5#32
  let v2503 : BitVec 32 := Scalar.addi c0_i32_1483 c5_i32_1484
  let c1_i32_1485 : BitVec 32 := 1#32
  ⟨c0_i32_1483, v2503, c1_i32_1485⟩
def k0_mult10 (k0_t4 : Fin k0_t4_loop.trips) : BitVec 32 :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  v2601
def k0_off55 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2604 : Index := Scalar.indexCast v2602
  let c0_1589 : Index := 0#32
  ![v2604.toNat, 0]
def k0_off56 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2637 : Index := Scalar.indexCast v2602
  let c256_1602 : Index := 256#32
  ![v2637.toNat, 256]
def k0_off57 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2672 : Index := Scalar.indexCast v2602
  let c512_1615 : Index := 512#32
  ![v2672.toNat, 512]
def k0_off58 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2707 : Index := Scalar.indexCast v2602
  let c768_1628 : Index := 768#32
  ![v2707.toNat, 768]
def k0_off59 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2742 : Index := Scalar.indexCast v2602
  let c1024_1641 : Index := 1024#32
  ![v2742.toNat, 1024]
def k0_off60 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2777 : Index := Scalar.indexCast v2602
  let c1280_1654 : Index := 1280#32
  ![v2777.toNat, 1280]
def k0_off61 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2812 : Index := Scalar.indexCast v2602
  let c1536_1667 : Index := 1536#32
  ![v2812.toNat, 1536]
def k0_off62 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2847 : Index := Scalar.indexCast v2602
  let c1792_1680 : Index := 1792#32
  ![v2847.toNat, 1792]
def k0_off63 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2882 : Index := Scalar.indexCast v2602
  let c2048_1693 : Index := 2048#32
  ![v2882.toNat, 2048]
def k0_off64 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2917 : Index := Scalar.indexCast v2602
  let c2304_1706 : Index := 2304#32
  ![v2917.toNat, 2304]
def k0_off65 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2952 : Index := Scalar.indexCast v2602
  let c2560_1718 : Index := 2560#32
  ![v2952.toNat, 2560]
def k0_off66 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v2987 : Index := Scalar.indexCast v2602
  let c2816_1730 : Index := 2816#32
  ![v2987.toNat, 2816]
def k0_off67 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3022 : Index := Scalar.indexCast v2602
  let c3072_1742 : Index := 3072#32
  ![v3022.toNat, 3072]
def k0_off68 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3057 : Index := Scalar.indexCast v2602
  let c3328_1754 : Index := 3328#32
  ![v3057.toNat, 3328]
def k0_off69 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3092 : Index := Scalar.indexCast v2602
  let c3584_1766 : Index := 3584#32
  ![v3092.toNat, 3584]
def k0_off70 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3127 : Index := Scalar.indexCast v2602
  let c3840_1778 : Index := 3840#32
  ![v3127.toNat, 3840]
def k0_off71 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3162 : Index := Scalar.indexCast v2602
  let c4096_1790 : Index := 4096#32
  ![v3162.toNat, 4096]
def k0_off72 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3197 : Index := Scalar.indexCast v2602
  let c4352_1802 : Index := 4352#32
  ![v3197.toNat, 4352]
def k0_off73 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3232 : Index := Scalar.indexCast v2602
  let c4608_1814 : Index := 4608#32
  ![v3232.toNat, 4608]
def k0_off74 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3267 : Index := Scalar.indexCast v2602
  let c4864_1826 : Index := 4864#32
  ![v3267.toNat, 4864]
def k0_off75 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3302 : Index := Scalar.indexCast v2602
  let c5120_1838 : Index := 5120#32
  ![v3302.toNat, 5120]
def k0_off76 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3337 : Index := Scalar.indexCast v2602
  let c5376_1850 : Index := 5376#32
  ![v3337.toNat, 5376]
def k0_off77 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3372 : Index := Scalar.indexCast v2602
  let c5632_1862 : Index := 5632#32
  ![v3372.toNat, 5632]
def k0_off78 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3407 : Index := Scalar.indexCast v2602
  let c5888_1874 : Index := 5888#32
  ![v3407.toNat, 5888]
def k0_off79 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3442 : Index := Scalar.indexCast v2602
  let c6144_1886 : Index := 6144#32
  ![v3442.toNat, 6144]
def k0_off80 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3477 : Index := Scalar.indexCast v2602
  let c6400_1898 : Index := 6400#32
  ![v3477.toNat, 6400]
def k0_off81 (k0_t4 : Fin k0_t4_loop.trips) : Fin 2 → Nat :=
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let c128_i32_1586 : BitVec 32 := 128#32
  let v2601 : BitVec 32 := Scalar.muli v2600 c128_i32_1586
  let v2602 : BitVec 32 := v2601
  let v3512 : Index := Scalar.indexCast v2602
  let c6656_1910 : Index := 6656#32
  ![v3512.toNat, 6656]
def k0_off82 (k0_t4 : Fin k0_t4_loop.trips) : Fin 4 → Nat :=
  let c0_1921 : Index := 0#32
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let v3552 : Index := Scalar.indexCast v2600
  let c0_1922 : Index := 0#32
  let c0_1923 : Index := 0#32
  ![0, v3552.toNat, 0, 0]
def k0_off83 (k0_t4 : Fin k0_t4_loop.trips) : Fin 4 → Nat :=
  let c1_1924 : Index := 1#32
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let v3558 : Index := Scalar.indexCast v2600
  let c0_1925 : Index := 0#32
  let c0_1926 : Index := 0#32
  ![1, v3558.toNat, 0, 0]
def k0_off84 (k0_t4 : Fin k0_t4_loop.trips) : Fin 4 → Nat :=
  let c2_1927 : Index := 2#32
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let v3564 : Index := Scalar.indexCast v2600
  let c0_1928 : Index := 0#32
  let c0_1929 : Index := 0#32
  ![2, v3564.toNat, 0, 0]
def k0_off85 (k0_t4 : Fin k0_t4_loop.trips) : Fin 4 → Nat :=
  let c3_1930 : Index := 3#32
  let c0_i32_1483 : BitVec 32 := 0#32
  let c1_i32_1485 : BitVec 32 := 1#32
  let arg31 : BitVec 32 := Scf.iv c0_i32_1483 c1_i32_1485 k0_t4
  let c1_i32_1584 : BitVec 32 := 1#32
  let v2599 : BitVec 32 := Scalar.muli arg31 c1_i32_1584
  let c0_i32_1585 : BitVec 32 := 0#32
  let v2600 : BitVec 32 := Scalar.addi v2599 c0_i32_1585
  let v3570 : Index := Scalar.indexCast v2600
  let c0_1931 : Index := 0#32
  let c0_1932 : Index := 0#32
  ![3, v3570.toNat, 0, 0]
def k0_cond4 (k0_t1 : Fin k0_t1_loop.trips) : BitVec 1 :=
  let c0_i32_22 : BitVec 32 := 0#32
  let c1_i32 : BitVec 32 := 1#32
  let arg30 : BitVec 32 := Scf.iv c0_i32_22 c1_i32 k0_t1
  let c1_i32_1487 : BitVec 32 := 1#32
  let v2504 : BitVec 32 := Scalar.addi arg30 c1_i32_1487
  let c3_i32_1488 : BitVec 32 := 3#32
  let v2505 : BitVec 1 := Scalar.cmpi .slt v2504 c3_i32_1488
  let v2506 : BitVec 32 := Scalar.extui v2505
  let c0_i32_1489 : BitVec 32 := 0#32
  let v2507 : BitVec 1 := Scalar.cmpi .ne v2506 c0_i32_1489
  v2507

def k0_off86 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let c1_i32_1584 : BitVec 32 := 1#32
  let v2599 : BitVec 32 := Scalar.addi arg30 c1_i32_1584
  let c0_i32_1586 : BitVec 32 := 0#32
  let c0_i32_1587 : BitVec 32 := 0#32
  ![v2599.toNat, 0, 0]
def k0_off87 (k0_t1 : Fin k0_t1_loop.trips) : Fin 3 → Nat :=
  let c0_i32_22 : BitVec 32 := 0#32
  let c1_i32 : BitVec 32 := 1#32
  let arg30 : BitVec 32 := Scf.iv c0_i32_22 c1_i32 k0_t1
  let v2595 : Index := Scalar.indexCast arg30
  let c0_1582 : Index := 0#32
  let c0_1583 : Index := 0#32
  ![v2595.toNat, 0, 0]
abbrev stage0_0 : Fin 1 → Memref sig .tc .vmem S12x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x7 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x12x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x12x1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x12x1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x12x1x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x12x2560 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x12x2560 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x12x2560 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x12x6912 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x32x12 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
abbrev S12x1x2560 : Shape := ⟨3, ![12, 1, 2560]⟩
abbrev S3x12x1x2560 : Shape := ⟨4, ![3, 12, 1, 2560]⟩
abbrev S3x640x2560 : Shape := ⟨3, ![3, 640, 2560]⟩
abbrev S3x1728x2560 : Shape := ⟨3, ![3, 1728, 2560]⟩
abbrev S3x640x6912 : Shape := ⟨3, ![3, 640, 6912]⟩
abbrev S3x7 : Shape := ⟨2, ![3, 7]⟩
abbrev S3x2560 : Shape := ⟨2, ![3, 2560]⟩
abbrev S3x6912 : Shape := ⟨2, ![3, 6912]⟩
abbrev S3x12x1x6912 : Shape := ⟨4, ![3, 12, 1, 6912]⟩
abbrev S3x12x2560 : Shape := ⟨3, ![3, 12, 2560]⟩
abbrev S3x12x6912 : Shape := ⟨3, ![3, 12, 6912]⟩
abbrev S3x32x12 : Shape := ⟨3, ![3, 32, 12]⟩
abbrev S12x2560 : Shape := ⟨2, ![12, 2560]⟩
abbrev S1x7 : Shape := ⟨2, ![1, 7]⟩
abbrev S7 : Shape := ⟨1, ![7]⟩
abbrev S1x2560 : Shape := ⟨2, ![1, 2560]⟩
abbrev S2560 : Shape := ⟨1, ![2560]⟩
abbrev S12 : Shape := ⟨1, ![12]⟩
abbrev S12x1 : Shape := ⟨2, ![12, 1]⟩
abbrev S1x12x1x2560 : Shape := ⟨4, ![1, 12, 1, 2560]⟩
abbrev S1x640x2560 : Shape := ⟨3, ![1, 640, 2560]⟩
abbrev S640x2560 : Shape := ⟨2, ![640, 2560]⟩
abbrev S1 : Shape := ⟨1, ![1]⟩
abbrev S12x640 : Shape := ⟨2, ![12, 640]⟩
abbrev S1x1728x2560 : Shape := ⟨3, ![1, 1728, 2560]⟩
abbrev S1728x2560 : Shape := ⟨2, ![1728, 2560]⟩
abbrev S12x1728 : Shape := ⟨2, ![12, 1728]⟩
abbrev S12x6912 : Shape := ⟨2, ![12, 6912]⟩
abbrev S1x6912 : Shape := ⟨2, ![1, 6912]⟩
abbrev S6912 : Shape := ⟨1, ![6912]⟩
abbrev S1x640x6912 : Shape := ⟨3, ![1, 640, 6912]⟩
abbrev S640x6912 : Shape := ⟨2, ![640, 6912]⟩
abbrev S1x12x1x6912 : Shape := ⟨4, ![1, 12, 1, 6912]⟩
abbrev S1x12x2560 : Shape := ⟨3, ![1, 12, 2560]⟩
abbrev S1x12x6912 : Shape := ⟨3, ![1, 12, 6912]⟩
abbrev S1x1x12 : Shape := ⟨3, ![1, 1, 12]⟩

abbrev nBuf : Space → Nat
  | .hbm => 19
  | .vmem => 19
  | .smem => 0
  | _ => 0

abbrev bufTy : (tb : Table) → Fin (tcTables nBuf tb) → BufTy
  | .hbm, ⟨0, _⟩ => ⟨S12x1x2560, .bf16⟩
  | .hbm, ⟨1, _⟩ => ⟨S3x12x1x2560, .f32⟩
  | .hbm, ⟨2, _⟩ => ⟨S3x640x2560, .i8⟩
  | .hbm, ⟨3, _⟩ => ⟨S3x1728x2560, .i8⟩
  | .hbm, ⟨4, _⟩ => ⟨S3x1728x2560, .i8⟩
  | .hbm, ⟨5, _⟩ => ⟨S3x640x6912, .i8⟩
  | .hbm, ⟨6, _⟩ => ⟨S3x7, .bf16⟩
  | .hbm, ⟨7, _⟩ => ⟨S3x2560, .f32⟩
  | .hbm, ⟨8, _⟩ => ⟨S3x2560, .f32⟩
  | .hbm, ⟨9, _⟩ => ⟨S3x2560, .f32⟩
  | .hbm, ⟨10, _⟩ => ⟨S3x6912, .f32⟩
  | .hbm, ⟨11, _⟩ => ⟨S3x12x1x2560, .f32⟩
  | .hbm, ⟨12, _⟩ => ⟨S3x12x1x2560, .f32⟩
  | .hbm, ⟨13, _⟩ => ⟨S3x12x1x6912, .f32⟩
  | .hbm, ⟨14, _⟩ => ⟨S3x12x2560, .i8⟩
  | .hbm, ⟨15, _⟩ => ⟨S3x12x2560, .i8⟩
  | .hbm, ⟨16, _⟩ => ⟨S3x12x2560, .i8⟩
  | .hbm, ⟨17, _⟩ => ⟨S3x12x6912, .i8⟩
  | .hbm, ⟨18, _⟩ => ⟨S3x32x12, .f32⟩
  | .local _ .vmem, ⟨0, _⟩ => ⟨S12x1x2560, .bf16⟩
  | .local _ .vmem, ⟨1, _⟩ => ⟨S3x12x1x2560, .f32⟩
  | .local _ .vmem, ⟨2, _⟩ => ⟨S3x640x2560, .i8⟩
  | .local _ .vmem, ⟨3, _⟩ => ⟨S3x1728x2560, .i8⟩
  | .local _ .vmem, ⟨4, _⟩ => ⟨S3x1728x2560, .i8⟩
  | .local _ .vmem, ⟨5, _⟩ => ⟨S3x640x6912, .i8⟩
  | .local _ .vmem, ⟨6, _⟩ => ⟨S3x7, .bf16⟩
  | .local _ .vmem, ⟨7, _⟩ => ⟨S3x2560, .f32⟩
  | .local _ .vmem, ⟨8, _⟩ => ⟨S3x2560, .f32⟩
  | .local _ .vmem, ⟨9, _⟩ => ⟨S3x2560, .f32⟩
  | .local _ .vmem, ⟨10, _⟩ => ⟨S3x6912, .f32⟩
  | .local _ .vmem, ⟨11, _⟩ => ⟨S3x12x1x2560, .f32⟩
  | .local _ .vmem, ⟨12, _⟩ => ⟨S3x12x1x2560, .f32⟩
  | .local _ .vmem, ⟨13, _⟩ => ⟨S3x12x1x6912, .f32⟩
  | .local _ .vmem, ⟨14, _⟩ => ⟨S3x12x2560, .i8⟩
  | .local _ .vmem, ⟨15, _⟩ => ⟨S3x12x2560, .i8⟩
  | .local _ .vmem, ⟨16, _⟩ => ⟨S3x12x2560, .i8⟩
  | .local _ .vmem, ⟨17, _⟩ => ⟨S3x12x6912, .i8⟩
  | .local _ .vmem, ⟨18, _⟩ => ⟨S3x32x12, .f32⟩
  | _, _ => ⟨S12x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S12x1x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x12x1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1728x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1728x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x7 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x6912 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x12x1x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x12x1x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x12x1x6912 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x12x2560 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x12x2560 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x12x2560 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x12x6912 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x32x12 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.BitsLoops.lean ====
/- The three inner loops of the kernel's layer trip (the gate, up and down projections' row blocks): each
   one's invariant at the resource algebra of a body with transfers of its own. The pieces a trip writes are
   found by the run of one symbolic trip; the invariant is the pieces of the trips so far. -/
module

public import proofs.«01_k».proof.Proof.Gen.Kernel.Loops
public import Idealize.ShloMosaic.Lib.Tactic
public import Idealize.ShloMosaic.Lib.Pipeline.FrameBody

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's, with the counters the body's own transfers take their tokens from. -/
local notation "𝕄" => MT nD τ sig Unit (Elt F) ℕ (Pipeline.UD sig nD τ) ℕ

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg7 : Memref sig .tc .hbm S3x640x2560 .i8) (harg7 : arg7.IsWhole) (arg8 : Memref sig .tc .hbm S3x1728x2560 .i8) (harg8 : arg8.IsWhole) (arg9 : Memref sig .tc .hbm S3x1728x2560 .i8) (harg9 : arg9.IsWhole) (arg10 : Memref sig .tc .hbm S3x640x6912 .i8) (harg10 : arg10.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole) (arg19 : Memref sig .tc .vmem S640x2560 .i8) (harg19 : arg19.IsWhole) (arg20 : Memref sig .tc .vmem S1792x2560 .i8) (harg20 : arg20.IsWhole) (arg21 : Memref sig .tc .vmem S1792x2560 .i8) (harg21 : arg21.IsWhole) (arg22 : Memref sig .tc .vmem S640x6912 .i8) (harg22 : arg22.IsWhole) (arg23 : DmaSems sig S11) (arg24 : Memref sig .tc .vmem S16x2560 .f32) (harg24 : arg24.IsWhole) (arg25 : Memref sig .tc .vmem S16x2560 .bf16) (harg25 : arg25.IsWhole) (arg26 : Memref sig .tc .vmem S16x6912 .bf16) (harg26 : arg26.IsWhole) (arg27 : Memref sig .tc .vmem S4x5x16x128 .f32) (harg27 : arg27.IsWhole) (arg28 : Memref sig .tc .vmem S2x4x14x16x128 .f32) (harg28 : arg28.IsWhole) (arg29 : Memref sig .tc .vmem S16x6912 .f32) (harg29 : arg29.IsWhole)

/-! ### `k0_t2_loop`: the invariant -/

/-- One trip's resources: what the region reads (arg20, arg25) at its contents, what it writes
   (arg28) at any. -/
abbrev Trip_k0_t2 (c : Dev nD) (arg20 : Memref sig .tc .vmem S1792x2560 .i8) (arg25 : Memref sig .tc .vmem S16x2560 .bf16) (arg28 : Memref sig .tc .vmem S2x4x14x16x128 .f32) (X_arg20 : BufTy.Contents (Elt F) arg20.view.ty) (X_arg25 : BufTy.Contents (Elt F) arg25.view.ty) (f_arg28 : BufTy.Contents (Elt F) arg28.view.ty) : sProp 𝕄 :=
  iprop((arg20.view.loc (c : Thread nD τ) ↦[arg20.view.set]{fullShare} X_arg20) ∗ (arg25.view.loc (c : Thread nD τ) ↦[arg25.view.set]{fullShare} X_arg25) ∗ (arg28.view.loc (c : Thread nD τ) ↦[arg28.view.set]{fullShare} f_arg28))

set_option sl_exec.squeezeSlice true in
/-- ONE TRIP of `k0_t2_loop` at a symbolic `k`, run by `sl_exec` (its rectangles' offsets closed
   forms of `k`, their geometry linear arithmetic): the pieces it writes into arg28 are the run's
   own finds — the witnesses `sl_close` assigns handing the buffers to the continuation.
   `@[irreducible]`: cited, never unfolded. -/
@[irreducible] def trip_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : Fin k0_t2_loop.trips) :
    { L_arg28 : List (View.Piece (Elt F) S2x4x14x16x128 .f32) // ∀ (E : Set ℕ) (f_arg28 : BufTy.Contents (Elt F) arg28.view.ty),
      Trip_k0_t2 (F := F) c arg20 arg25 arg28 X_arg20 X_arg25 f_arg28
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 k PUnit.unit)
          (fun _ => Trip_k0_t2 (F := F) c arg20 arg25 arg28 X_arg20 X_arg25 (arg28.view.writes (Elt F) f_arg28 L_arg28)) } := by
  have hk : k.val < 7 := Nat.lt_of_lt_of_le k.isLt k0_t2_abs.2.1
  refine ⟨?_, fun E f_arg28 => ?run⟩
  case run =>
    unfold k0_t2_body
    iintro ⟨HR_arg20, HR_arg25, HW_arg28⟩
    sl_exec
    sl_step
    sl_close

/-- The trip's piece lists (plain projections of `trip_…`, for the recursion below to cite without
   its proof). -/
abbrev tripL_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : Fin k0_t2_loop.trips) : List (View.Piece (Elt F) S2x4x14x16x128 .f32) :=
  (trip_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k).1

/-- Trip `k`'s contribution to the state the recursion `pb_k0_t2` below carries (`prev`): its pieces
   in front, per written memref; past the last trip, `prev` itself. -/
@[irreducible] def pb_k0_t2Step (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : ℕ) (prev : List (View.Piece (Elt F) S2x4x14x16x128 .f32)) : List (View.Piece (Elt F) S2x4x14x16x128 .f32) :=
  if h : k < k0_t2_loop.trips then
    (tripL_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 ⟨k, h⟩) ++ prev
  else prev

/-- The pieces of the trips before `k` (last first), per written memref. -/
def pb_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) : ℕ → List (View.Piece (Elt F) S2x4x14x16x128 .f32)
  | 0 => []
  | k + 1 => pb_k0_t2Step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k (pb_k0_t2 𝒱 c bd k0_t1 arg30 v2126 v2132 X_arg20 X_arg25 k)

/-- The loop's next trip, after the trips before. -/
theorem pb_k0_t2_succ (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : Fin k0_t2_loop.trips) :
    pb_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 (k.val + 1)
      = (tripL_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k) ++ (pb_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k.val) := by
  rw [pb_k0_t2.eq_2]; unfold pb_k0_t2Step; exact dif_pos k.isLt

/-- THE INVARIANT before trip `k`: arg20, arg25 read at `X_·`; arg28 holding the pieces of the trips
   before `k` written over the contents at loop entry `G_·` (stated `∃ f, … ∗ ⌜f = …⌝`, so that a
   hypothesis of any contents matches and the equation is what is proved). -/
abbrev inv_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (G_arg28 : BufTy.Contents (Elt F) arg28.view.ty) (k : ℕ) (_u : PUnit) : sProp 𝕄 :=
  iprop((arg20.view.loc (c : Thread nD τ) ↦[arg20.view.set]{fullShare} X_arg20) ∗ (arg25.view.loc (c : Thread nD τ) ↦[arg25.view.set]{fullShare} X_arg25) ∗ (∃ f, (arg28.view.loc (c : Thread nD τ) ↦[arg28.view.set]{fullShare} f) ∗ ⌜f = arg28.view.writes (Elt F) G_arg28 (pb_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k)⌝))

set_option warn.classDefReducibility false in
/-- The loop by its invariant (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (G_arg28 : BufTy.Contents (Elt F) arg28.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 where
  inv := inv_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 G_arg28
  step k acc := by
    iintro ⟨HR_arg20, HR_arg25, ⟨%f_arg28, HW_arg28, %h_arg28⟩⟩
    iapply (wp_wand_r Idealize.ShloMosaic.frame (wpE (defs₀ (F := F)) 𝒱 (c : Thread nD τ) bd) E)
    isplitl [HR_arg20 HR_arg25 HW_arg28]
    · iapply ((trip_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k).2 E f_arg28)
      isplitl [HR_arg20]; · iexact HR_arg20
      isplitl [HR_arg25]; · iexact HR_arg25
      iexact HW_arg28
    · iintro %_ ⟨HR_arg20, HR_arg25, HW_arg28⟩
      isplitl [HR_arg20]; · iexact HR_arg20
      isplitl [HR_arg25]; · iexact HR_arg25
      rw [pb_k0_t2_succ]
      iexists _; isplitl [HW_arg28]; · iexact HW_arg28
      ipureintro; rw [h_arg28, ← View.writes_append]

/-! ### `k0_t3_loop`: the invariant -/

/-- One trip's resources: what the region reads (arg21, arg25) at its contents, what it writes
   (arg28) at any. -/
abbrev Trip_k0_t3 (c : Dev nD) (arg21 : Memref sig .tc .vmem S1792x2560 .i8) (arg25 : Memref sig .tc .vmem S16x2560 .bf16) (arg28 : Memref sig .tc .vmem S2x4x14x16x128 .f32) (X_arg21 : BufTy.Contents (Elt F) arg21.view.ty) (X_arg25 : BufTy.Contents (Elt F) arg25.view.ty) (f_arg28 : BufTy.Contents (Elt F) arg28.view.ty) : sProp 𝕄 :=
  iprop((arg21.view.loc (c : Thread nD τ) ↦[arg21.view.set]{fullShare} X_arg21) ∗ (arg25.view.loc (c : Thread nD τ) ↦[arg25.view.set]{fullShare} X_arg25) ∗ (arg28.view.loc (c : Thread nD τ) ↦[arg28.view.set]{fullShare} f_arg28))

set_option sl_exec.squeezeSlice true in
/-- ONE TRIP of `k0_t3_loop` at a symbolic `k`, run by `sl_exec` (its rectangles' offsets closed
   forms of `k`, their geometry linear arithmetic): the pieces it writes into arg28 are the run's
   own finds — the witnesses `sl_close` assigns handing the buffers to the continuation.
   `@[irreducible]`: cited, never unfolded. -/
@[irreducible] def trip_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : Fin k0_t3_loop.trips) :
    { L_arg28 : List (View.Piece (Elt F) S2x4x14x16x128 .f32) // ∀ (E : Set ℕ) (f_arg28 : BufTy.Contents (Elt F) arg28.view.ty),
      Trip_k0_t3 (F := F) c arg21 arg25 arg28 X_arg21 X_arg25 f_arg28
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 k PUnit.unit)
          (fun _ => Trip_k0_t3 (F := F) c arg21 arg25 arg28 X_arg21 X_arg25 (arg28.view.writes (Elt F) f_arg28 L_arg28)) } := by
  have hk : k.val < 7 := Nat.lt_of_lt_of_le k.isLt k0_t3_abs.2.1
  refine ⟨?_, fun E f_arg28 => ?run⟩
  case run =>
    unfold k0_t3_body
    iintro ⟨HR_arg21, HR_arg25, HW_arg28⟩
    sl_exec
    sl_step
    sl_close

/-- The trip's piece lists (plain projections of `trip_…`, for the recursion below to cite without
   its proof). -/
abbrev tripL_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : Fin k0_t3_loop.trips) : List (View.Piece (Elt F) S2x4x14x16x128 .f32) :=
  (trip_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k).1

/-- Trip `k`'s contribution to the state the recursion `pb_k0_t3` below carries (`prev`): its pieces
   in front, per written memref; past the last trip, `prev` itself. -/
@[irreducible] def pb_k0_t3Step (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : ℕ) (prev : List (View.Piece (Elt F) S2x4x14x16x128 .f32)) : List (View.Piece (Elt F) S2x4x14x16x128 .f32) :=
  if h : k < k0_t3_loop.trips then
    (tripL_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 ⟨k, h⟩) ++ prev
  else prev

/-- The pieces of the trips before `k` (last first), per written memref. -/
def pb_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) : ℕ → List (View.Piece (Elt F) S2x4x14x16x128 .f32)
  | 0 => []
  | k + 1 => pb_k0_t3Step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k (pb_k0_t3 𝒱 c bd k0_t1 arg30 v2126 v2132 X_arg21 X_arg25 k)

/-- The loop's next trip, after the trips before. -/
theorem pb_k0_t3_succ (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : Fin k0_t3_loop.trips) :
    pb_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 (k.val + 1)
      = (tripL_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k) ++ (pb_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k.val) := by
  rw [pb_k0_t3.eq_2]; unfold pb_k0_t3Step; exact dif_pos k.isLt

/-- THE INVARIANT before trip `k`: arg21, arg25 read at `X_·`; arg28 holding the pieces of the trips
   before `k` written over the contents at loop entry `G_·` (stated `∃ f, … ∗ ⌜f = …⌝`, so that a
   hypothesis of any contents matches and the equation is what is proved). -/
abbrev inv_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (G_arg28 : BufTy.Contents (Elt F) arg28.view.ty) (k : ℕ) (_u : PUnit) : sProp 𝕄 :=
  iprop((arg21.view.loc (c : Thread nD τ) ↦[arg21.view.set]{fullShare} X_arg21) ∗ (arg25.view.loc (c : Thread nD τ) ↦[arg25.view.set]{fullShare} X_arg25) ∗ (∃ f, (arg28.view.loc (c : Thread nD τ) ↦[arg28.view.set]{fullShare} f) ∗ ⌜f = arg28.view.writes (Elt F) G_arg28 (pb_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k)⌝))

set_option warn.classDefReducibility false in
/-- The loop by its invariant (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (G_arg28 : BufTy.Contents (Elt F) arg28.view.ty) :
    LoopInvTy_k0_t3 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 where
  inv := inv_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 G_arg28
  step k acc := by
    iintro ⟨HR_arg21, HR_arg25, ⟨%f_arg28, HW_arg28, %h_arg28⟩⟩
    iapply (wp_wand_r Idealize.ShloMosaic.frame (wpE (defs₀ (F := F)) 𝒱 (c : Thread nD τ) bd) E)
    isplitl [HR_arg21 HR_arg25 HW_arg28]
    · iapply ((trip_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k).2 E f_arg28)
      isplitl [HR_arg21]; · iexact HR_arg21
      isplitl [HR_arg25]; · iexact HR_arg25
      iexact HW_arg28
    · iintro %_ ⟨HR_arg21, HR_arg25, HW_arg28⟩
      isplitl [HR_arg21]; · iexact HR_arg21
      isplitl [HR_arg25]; · iexact HR_arg25
      rw [pb_k0_t3_succ]
      iexists _; isplitl [HW_arg28]; · iexact HW_arg28
      ipureintro; rw [h_arg28, ← View.writes_append]

/-! ### `k0_t4_loop`: the invariant -/

/-- One trip's resources: what the region reads (arg22, arg26) at its contents, what it writes
   (arg27) at any. -/
abbrev Trip_k0_t4 (c : Dev nD) (arg22 : Memref sig .tc .vmem S640x6912 .i8) (arg26 : Memref sig .tc .vmem S16x6912 .bf16) (arg27 : Memref sig .tc .vmem S4x5x16x128 .f32) (X_arg22 : BufTy.Contents (Elt F) arg22.view.ty) (X_arg26 : BufTy.Contents (Elt F) arg26.view.ty) (f_arg27 : BufTy.Contents (Elt F) arg27.view.ty) : sProp 𝕄 :=
  iprop((arg22.view.loc (c : Thread nD τ) ↦[arg22.view.set]{fullShare} X_arg22) ∗ (arg26.view.loc (c : Thread nD τ) ↦[arg26.view.set]{fullShare} X_arg26) ∗ (arg27.view.loc (c : Thread nD τ) ↦[arg27.view.set]{fullShare} f_arg27))

/-- ONE TRIP of `k0_t4_loop` at a symbolic `k`, run by `sl_exec` (its rectangles' offsets closed
   forms of `k`, their geometry linear arithmetic): the pieces it writes into arg27 are the run's
   own finds — the witnesses `sl_close` assigns handing the buffers to the continuation.
   `@[irreducible]`: cited, never unfolded. -/
@[irreducible] def trip_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : Fin k0_t4_loop.trips) :
    { L_arg27 : List (View.Piece (Elt F) S4x5x16x128 .f32) // ∀ (E : Set ℕ) (f_arg27 : BufTy.Contents (Elt F) arg27.view.ty),
      Trip_k0_t4 (F := F) c arg22 arg26 arg27 X_arg22 X_arg26 f_arg27
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2468 v2470 k PUnit.unit)
          (fun _ => Trip_k0_t4 (F := F) c arg22 arg26 arg27 X_arg22 X_arg26 (arg27.view.writes (Elt F) f_arg27 L_arg27)) } := by
  have hk : k.val < 5 := Nat.lt_of_lt_of_le k.isLt k0_t4_abs.2.1
  refine ⟨?_, fun E f_arg27 => ?run⟩
  case run =>
    unfold k0_t4_body
    iintro ⟨HR_arg22, HR_arg26, HW_arg27⟩
    sl_exec
    sl_step
    sl_close

/-- The trip's piece lists (plain projections of `trip_…`, for the recursion below to cite without
   its proof). -/
abbrev tripL_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : Fin k0_t4_loop.trips) : List (View.Piece (Elt F) S4x5x16x128 .f32) :=
  (trip_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k).1

/-- Trip `k`'s contribution to the state the recursion `pb_k0_t4` below carries (`prev`): its pieces
   in front, per written memref; past the last trip, `prev` itself. -/
@[irreducible] def pb_k0_t4Step (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : ℕ) (prev : List (View.Piece (Elt F) S4x5x16x128 .f32)) : List (View.Piece (Elt F) S4x5x16x128 .f32) :=
  if h : k < k0_t4_loop.trips then
    (tripL_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 ⟨k, h⟩) ++ prev
  else prev

/-- The pieces of the trips before `k` (last first), per written memref. -/
def pb_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) : ℕ → List (View.Piece (Elt F) S4x5x16x128 .f32)
  | 0 => []
  | k + 1 => pb_k0_t4Step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k (pb_k0_t4 𝒱 c bd k0_t1 arg30 v2468 v2470 X_arg22 X_arg26 k)

/-- The loop's next trip, after the trips before. -/
theorem pb_k0_t4_succ (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : Fin k0_t4_loop.trips) :
    pb_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 (k.val + 1)
      = (tripL_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k) ++ (pb_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k.val) := by
  rw [pb_k0_t4.eq_2]; unfold pb_k0_t4Step; exact dif_pos k.isLt

/-- THE INVARIANT before trip `k`: arg22, arg26 read at `X_·`; arg27 holding the pieces of the trips
   before `k` written over the contents at loop entry `G_·` (stated `∃ f, … ∗ ⌜f = …⌝`, so that a
   hypothesis of any contents matches and the equation is what is proved). -/
abbrev inv_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (G_arg27 : BufTy.Contents (Elt F) arg27.view.ty) (k : ℕ) (_u : PUnit) : sProp 𝕄 :=
  iprop((arg22.view.loc (c : Thread nD τ) ↦[arg22.view.set]{fullShare} X_arg22) ∗ (arg26.view.loc (c : Thread nD τ) ↦[arg26.view.set]{fullShare} X_arg26) ∗ (∃ f, (arg27.view.loc (c : Thread nD τ) ↦[arg27.view.set]{fullShare} f) ∗ ⌜f = arg27.view.writes (Elt F) G_arg27 (pb_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k)⌝))

set_option warn.classDefReducibility false in
/-- The loop by its invariant (`@[sl_loop]`: `sl_exec` finds it meeting `k0_t4_loop`,
   fixing `X_· G_·` against the context; after the loop each written memref holds `writes G (pb …
   trips)`). -/
@[sl_loop] def loopInv_k0_t4 (𝒱 : Variants) (c : Dev nD) (bd : Option 𝒱.V) (E : Set ℕ) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (G_arg27 : BufTy.Contents (Elt F) arg27.view.ty) :
    LoopInvTy_k0_t4 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2468 v2470 where
  inv := inv_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 G_arg27
  step k acc := by
    iintro ⟨HR_arg22, HR_arg26, ⟨%f_arg27, HW_arg27, %h_arg27⟩⟩
    iapply (wp_wand_r Idealize.ShloMosaic.frame (wpE (defs₀ (F := F)) 𝒱 (c : Thread nD τ) bd) E)
    isplitl [HR_arg22 HR_arg26 HW_arg27]
    · iapply ((trip_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k).2 E f_arg27)
      isplitl [HR_arg22]; · iexact HR_arg22
      isplitl [HR_arg26]; · iexact HR_arg26
      iexact HW_arg27
    · iintro %_ ⟨HR_arg22, HR_arg26, HW_arg27⟩
      isplitl [HR_arg22]; · iexact HR_arg22
      isplitl [HR_arg26]; · iexact HR_arg26
      rw [pb_k0_t4_succ]
      iexists _; isplitl [HW_arg27]; · iexact HW_arg27
      ipureintro; rw [h_arg27, ← View.writes_append]

end Cert.Kernel.Hand

end
-- ==== Proof.BitsTrip.lean ====
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import proofs.«01_k».proof.Proof.BitsLoops
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, with the counters the body's own transfers take their tokens from. -/
local notation "𝕄" => MT nD τ sig Unit (Elt F) ℕ (Pipeline.UD sig nD τ) ℕ

abbrev scM0_0 : Memref sig .tc .vmem S640x2560 .i8 := Memref.whole cc0_scratch0
abbrev scM0_1 : Memref sig .tc .vmem S1792x2560 .i8 := Memref.whole cc0_scratch1
abbrev scM0_2 : Memref sig .tc .vmem S1792x2560 .i8 := Memref.whole cc0_scratch2
abbrev scM0_3 : Memref sig .tc .vmem S640x6912 .i8 := Memref.whole cc0_scratch3
abbrev scM0_5 : Memref sig .tc .vmem S16x2560 .f32 := Memref.whole cc0_scratch5
abbrev scM0_6 : Memref sig .tc .vmem S16x2560 .bf16 := Memref.whole cc0_scratch6
abbrev scM0_7 : Memref sig .tc .vmem S16x6912 .bf16 := Memref.whole cc0_scratch7
abbrev scM0_8 : Memref sig .tc .vmem S4x5x16x128 .f32 := Memref.whole cc0_scratch8
abbrev scM0_9 : Memref sig .tc .vmem S2x4x14x16x128 .f32 := Memref.whole cc0_scratch9
abbrev scM0_10 : Memref sig .tc .vmem S16x6912 .f32 := Memref.whole cc0_scratch10
abbrev hbM0_0 : Memref sig .tc .hbm S3x640x2560 .i8 := Memref.whole main_arg2
abbrev hbM0_1 : Memref sig .tc .hbm S3x1728x2560 .i8 := Memref.whole main_arg3
abbrev hbM0_2 : Memref sig .tc .hbm S3x1728x2560 .i8 := Memref.whole main_arg4
abbrev hbM0_3 : Memref sig .tc .hbm S3x640x6912 .i8 := Memref.whole main_arg5
/-- The contents of a memref's buffer. -/
abbrev HbBuf0 (c : Dev nD) {sp : Space} {S : Shape} {e : EltTy} (M : Memref sig .tc sp S e) : Type := Buf (Elt F) (M.view.loc (c : Thread nD τ))
/-- The ownership of a memref's buffer with its contents. -/
abbrev hbPt0 (c : Dev nD) {sp : Space} {S : Shape} {e : EltTy} (M : Memref sig .tc sp S e) (f : HbBuf0 (F := F) c M) : sProp 𝕄 :=
  M.view.loc (c : Thread nD τ) ↦{fullShare} f
/-- A buffer of the body's, held whole at contents `f`. -/
abbrev pt (c : Dev nD) {sp : Space} {S : Shape} {e : EltTy} (M : Memref sig .tc sp S e) (f : HbBuf0 (F := F) c M) : sProp 𝕄 :=
  M.view.loc (c : Thread nD τ) ↦[M.view.set]{fullShare} f

/-- Layer `o 0`'s slab of a weight argument, as the kernel's copies name it. -/
abbrev slab7 (o : Fin 3 → ℕ) (h : ∀ a, o a + S1x640x2560.size a ≤ S3x640x2560.size a) : Memref sig .tc .hbm S640x2560 .i8 :=
  (hbM0_0.slice (Rect.unit (s := S3x640x2560) o S1x640x2560.size h) (fun _ => rfl)).squeeze S640x2560 squeezes_S1x640x2560_S640x2560
abbrev slab8 (o : Fin 3 → ℕ) (h : ∀ a, o a + S1x1728x2560.size a ≤ S3x1728x2560.size a) : Memref sig .tc .hbm S1728x2560 .i8 :=
  (hbM0_1.slice (Rect.unit (s := S3x1728x2560) o S1x1728x2560.size h) (fun _ => rfl)).squeeze S1728x2560 squeezes_S1x1728x2560_S1728x2560
abbrev slab9 (o : Fin 3 → ℕ) (h : ∀ a, o a + S1x1728x2560.size a ≤ S3x1728x2560.size a) : Memref sig .tc .hbm S1728x2560 .i8 :=
  (hbM0_2.slice (Rect.unit (s := S3x1728x2560) o S1x1728x2560.size h) (fun _ => rfl)).squeeze S1728x2560 squeezes_S1x1728x2560_S1728x2560
abbrev slab10 (o : Fin 3 → ℕ) (h : ∀ a, o a + S1x640x6912.size a ≤ S3x640x6912.size a) : Memref sig .tc .hbm S640x6912 .i8 :=
  (hbM0_3.slice (Rect.unit (s := S3x640x6912) o S1x640x6912.size h) (fun _ => rfl)).squeeze S640x6912 squeezes_S1x640x6912_S640x6912

/-- The copy of a layer's slab of argument 7 in flight: its buffer whole at `g` and the slab back when waited for; and the
    rest of the argument. -/
abbrev fl7 (c : Dev nD) (o : Fin 3 → ℕ) (h : ∀ a, o a + S1x640x2560.size a ≤ S3x640x2560.size a) (g : HbBuf0 (F := F) c scM0_0) (f : HbBuf0 (F := F) c hbM0_0) : sProp 𝕄 :=
  iprop(Transfers.Flight (countersEmb (U := Pipeline.UD sig nD τ)) (c : Thread nD τ) (SemLoc.dma 22) () 51200
      iprop(pt c scM0_0 g ∗ (hbM0_0.view.loc (c : Thread nD τ) ↦[(slab7 o h).view.set]{fullShare} f))
    ∗ (hbM0_0.view.loc (c : Thread nD τ) ↦[Finset.univ \ (slab7 o h).view.set]{fullShare} f))
/-- The copy of a layer's slab of argument 8 in flight: its buffer whole at `g` and the slab back when waited for; and the
    rest of the argument. -/
abbrev fl8 (c : Dev nD) (o : Fin 3 → ℕ) (h : ∀ a, o a + S1x1728x2560.size a ≤ S3x1728x2560.size a) (g : HbBuf0 (F := F) c scM0_1) (f : HbBuf0 (F := F) c hbM0_1) : sProp 𝕄 :=
  iprop(Transfers.Flight (countersEmb (U := Pipeline.UD sig nD τ)) (c : Thread nD τ) (SemLoc.dma 23) () 138240
      iprop(pt c scM0_1 g ∗ (hbM0_1.view.loc (c : Thread nD τ) ↦[(slab8 o h).view.set]{fullShare} f))
    ∗ (hbM0_1.view.loc (c : Thread nD τ) ↦[Finset.univ \ (slab8 o h).view.set]{fullShare} f))
/-- The copy of a layer's slab of argument 9 in flight: its buffer whole at `g` and the slab back when waited for; and the
    rest of the argument. -/
abbrev fl9 (c : Dev nD) (o : Fin 3 → ℕ) (h : ∀ a, o a + S1x1728x2560.size a ≤ S3x1728x2560.size a) (g : HbBuf0 (F := F) c scM0_2) (f : HbBuf0 (F := F) c hbM0_2) : sProp 𝕄 :=
  iprop(Transfers.Flight (countersEmb (U := Pipeline.UD sig nD τ)) (c : Thread nD τ) (SemLoc.dma 24) () 138240
      iprop(pt c scM0_2 g ∗ (hbM0_2.view.loc (c : Thread nD τ) ↦[(slab9 o h).view.set]{fullShare} f))
    ∗ (hbM0_2.view.loc (c : Thread nD τ) ↦[Finset.univ \ (slab9 o h).view.set]{fullShare} f))
/-- The copy of a layer's slab of argument 10 in flight: its buffer whole at `g` and the slab back when waited for; and the
    rest of the argument. -/
abbrev fl10 (c : Dev nD) (o : Fin 3 → ℕ) (h : ∀ a, o a + S1x640x6912.size a ≤ S3x640x6912.size a) (g : HbBuf0 (F := F) c scM0_3) (f : HbBuf0 (F := F) c hbM0_3) : sProp 𝕄 :=
  iprop(Transfers.Flight (countersEmb (U := Pipeline.UD sig nD τ)) (c : Thread nD τ) (SemLoc.dma 25) () 138240
      iprop(pt c scM0_3 g ∗ (hbM0_3.view.loc (c : Thread nD τ) ↦[(slab10 o h).view.set]{fullShare} f))
    ∗ (hbM0_3.view.loc (c : Thread nD τ) ↦[Finset.univ \ (slab10 o h).view.set]{fullShare} f))

/-- While a layer follows, every refill condition holds. -/
theorem cond_of : ∀ k : Fin k0_t1_loop.trips, k.val + 1 < 3 → k0_cond1 k = 1#1 ∧ k0_cond2 k = 1#1 ∧ k0_cond3 k = 1#1 ∧ k0_cond4 k = 1#1 := by decide +kernel
/-- In the last layer no refill condition holds. -/
theorem cond_not : ∀ k : Fin k0_t1_loop.trips, ¬ k.val + 1 < 3 → ¬ k0_cond1 k = 1#1 ∧ ¬ k0_cond2 k = 1#1 ∧ ¬ k0_cond3 k = 1#1 ∧ ¬ k0_cond4 k = 1#1 := by decide +kernel

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)

/-- What a layer's trip writes: the pieces of each output and of the residual stream. -/
structure TripOut (F : FTy → Type) where
  L11 : List (View.Piece (Elt F) S3x12x1x2560 .f32)
  L12 : List (View.Piece (Elt F) S3x12x1x2560 .f32)
  L13 : List (View.Piece (Elt F) S3x12x1x6912 .f32)
  L14 : List (View.Piece (Elt F) S3x12x2560 .i8)
  L15 : List (View.Piece (Elt F) S3x12x2560 .i8)
  L16 : List (View.Piece (Elt F) S3x12x2560 .i8)
  L17 : List (View.Piece (Elt F) S3x12x6912 .i8)
  L18 : List (View.Piece (Elt F) S3x32x12 .f32)
  L24 : List (View.Piece (Elt F) S16x2560 .f32)

/-- The inputs, held whole at their contents. -/
abbrev tripIns (c : Dev nD) (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) : sProp 𝕄 :=
  iprop(pt c arg0 f0 ∗ pt c arg1 f1 ∗ pt c arg2 f2 ∗ pt c arg3 f3 ∗ pt c arg4 f4 ∗ pt c arg5 f5 ∗ pt c arg6 f6)
/-- The outputs, held whole. -/
abbrev tripOuts (c : Dev nD) (f11 : HbBuf0 (F := F) c arg11) (f12 : HbBuf0 (F := F) c arg12) (f13 : HbBuf0 (F := F) c arg13) (f14 : HbBuf0 (F := F) c arg14) (f15 : HbBuf0 (F := F) c arg15) (f16 : HbBuf0 (F := F) c arg16) (f17 : HbBuf0 (F := F) c arg17) (f18 : HbBuf0 (F := F) c arg18) : sProp 𝕄 :=
  iprop(pt c arg11 f11 ∗ pt c arg12 f12 ∗ pt c arg13 f13 ∗ pt c arg14 f14 ∗ pt c arg15 f15 ∗ pt c arg16 f16 ∗ pt c arg17 f17 ∗ pt c arg18 f18)
/-- The scratch whose contents no later layer reads, held whole at anything. -/
abbrev tripScr (c : Dev nD) : sProp 𝕄 :=
  iprop((∃ f, pt c scM0_6 f) ∗ (∃ f, pt c scM0_7 f) ∗ (∃ f, pt c scM0_8 f) ∗ (∃ f, pt c scM0_9 f) ∗ (∃ f, pt c scM0_10 f))
/-- What the buffer of argument 7 holds once layer `o 0`'s slab has landed over `g`. -/
abbrev land7 (c : Dev nD) (o : Fin 3 → ℕ) (h : ∀ a, o a + S1x640x2560.size a ≤ S3x640x2560.size a) (g : HbBuf0 (F := F) c scM0_0) (f : HbBuf0 (F := F) c hbM0_0) : HbBuf0 (F := F) c scM0_0 :=
  (scM0_0).view.writes (Elt F) g [⟨Rect.whole S640x2560, ReadAs.same.apply ((slab7 o h).view.read (Elt F) f)⟩]
/-- What the buffer of argument 8 holds once layer `o 0`'s slab has landed over `g`. -/
abbrev land8 (c : Dev nD) (o : Fin 3 → ℕ) (h : ∀ a, o a + S1x1728x2560.size a ≤ S3x1728x2560.size a) (g : HbBuf0 (F := F) c scM0_1) (f : HbBuf0 (F := F) c hbM0_1) : HbBuf0 (F := F) c scM0_1 :=
  (scM0_1).view.writes (Elt F) g [⟨Rect.unit ![0, 0] S1728x2560.size inb_S1792x2560_S1728x2560_0_0, ReadAs.same.apply ((slab8 o h).view.read (Elt F) f)⟩]
/-- What the buffer of argument 9 holds once layer `o 0`'s slab has landed over `g`. -/
abbrev land9 (c : Dev nD) (o : Fin 3 → ℕ) (h : ∀ a, o a + S1x1728x2560.size a ≤ S3x1728x2560.size a) (g : HbBuf0 (F := F) c scM0_2) (f : HbBuf0 (F := F) c hbM0_2) : HbBuf0 (F := F) c scM0_2 :=
  (scM0_2).view.writes (Elt F) g [⟨Rect.unit ![0, 0] S1728x2560.size inb_S1792x2560_S1728x2560_0_0, ReadAs.same.apply ((slab9 o h).view.read (Elt F) f)⟩]
/-- What the buffer of argument 10 holds once layer `o 0`'s slab has landed over `g`. -/
abbrev land10 (c : Dev nD) (o : Fin 3 → ℕ) (h : ∀ a, o a + S1x640x6912.size a ≤ S3x640x6912.size a) (g : HbBuf0 (F := F) c scM0_3) (f : HbBuf0 (F := F) c hbM0_3) : HbBuf0 (F := F) c scM0_3 :=
  (scM0_3).view.writes (Elt F) g [⟨Rect.whole S640x6912, ReadAs.same.apply ((slab10 o h).view.read (Elt F) f)⟩]

/-- One layer's trip, every layer but the last: what it writes (found by the run), and that it runs, leaving the four weight
    buffers to the next layer's copies in flight. -/
def tripA (c : Dev nD) (k : Fin k0_t1_loop.trips) (v0 : IVec S1x128 32) (v29 : Vec F S3x7 .bf16) (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f19 : HbBuf0 (F := F) c scM0_0) (f20 : HbBuf0 (F := F) c scM0_1) (f21 : HbBuf0 (F := F) c scM0_2) (f22 : HbBuf0 (F := F) c scM0_3) (f24 : HbBuf0 (F := F) c scM0_5) (f28 : HbBuf0 (F := F) c scM0_9) :
    { T : TripOut F // ∀ (hk : k.val + 1 < 3) (f7 : HbBuf0 (F := F) c hbM0_0) (f8 : HbBuf0 (F := F) c hbM0_1) (f9 : HbBuf0 (F := F) c hbM0_2) (f10 : HbBuf0 (F := F) c hbM0_3) (f11 : HbBuf0 (F := F) c arg11) (f12 : HbBuf0 (F := F) c arg12) (f13 : HbBuf0 (F := F) c arg13) (f14 : HbBuf0 (F := F) c arg14) (f15 : HbBuf0 (F := F) c arg15) (f16 : HbBuf0 (F := F) c arg16) (f17 : HbBuf0 (F := F) c arg17) (f18 : HbBuf0 (F := F) c arg18) (f25 : HbBuf0 (F := F) c scM0_6) (f26 : HbBuf0 (F := F) c scM0_7) (f27 : HbBuf0 (F := F) c scM0_8) (f29 : HbBuf0 (F := F) c scM0_10) (o7 : Fin 3 → ℕ) (h7 : ∀ a, o7 a + S1x640x2560.size a ≤ S3x640x2560.size a) (o8 : Fin 3 → ℕ) (h8 : ∀ a, o8 a + S1x1728x2560.size a ≤ S3x1728x2560.size a) (o9 : Fin 3 → ℕ) (h9 : ∀ a, o9 a + S1x1728x2560.size a ≤ S3x1728x2560.size a) (o10 : Fin 3 → ℕ) (h10 : ∀ a, o10 a + S1x640x6912.size a ≤ S3x640x6912.size a) (W : Waits sig Unit) (K : PUnit → sProp 𝕄),
      iprop(tripIns arg0 arg1 arg2 arg3 arg4 arg5 arg6 c f0 f1 f2 f3 f4 f5 f6 ∗ tripOuts arg11 arg12 arg13 arg14 arg15 arg16 arg17 arg18 c f11 f12 f13 f14 f15 f16 f17 f18 ∗ pt c scM0_5 f24 ∗ pt c scM0_6 f25 ∗ pt c scM0_7 f26 ∗ pt c scM0_8 f27 ∗ pt c scM0_9 f28 ∗ pt c scM0_10 f29 ∗ fl7 c o7 h7 f19 f7 ∗ fl8 c o8 h8 f20 f8 ∗ fl9 c o9 h9 f21 f9 ∗ fl10 c o10 h10 f22 f10 ∗ owes (c : Thread nD τ) 0 W
        ∗ (iprop(tripIns arg0 arg1 arg2 arg3 arg4 arg5 arg6 c f0 f1 f2 f3 f4 f5 f6 ∗ tripOuts arg11 arg12 arg13 arg14 arg15 arg16 arg17 arg18 c (arg11.view.writes (Elt F) f11 T.L11) (arg12.view.writes (Elt F) f12 T.L12) (arg13.view.writes (Elt F) f13 T.L13) (arg14.view.writes (Elt F) f14 T.L14) (arg15.view.writes (Elt F) f15 T.L15) (arg16.view.writes (Elt F) f16 T.L16) (arg17.view.writes (Elt F) f17 T.L17) (arg18.view.writes (Elt F) f18 T.L18) ∗ pt c scM0_5 ((scM0_5).view.writes (Elt F) (scM0_5).view.junk T.L24) ∗ tripScr c ∗ fl7 c (k0_off18 k) (k0_off18_inb k (cond_of k hk).1) (land7 c (k0_off18 k) (k0_off18_inb k (cond_of k hk).1) f19 f7) f7 ∗ fl8 c (k0_off35 k) (k0_off35_inb k (cond_of k hk).2.1) (land8 c (k0_off35 k) (k0_off35_inb k (cond_of k hk).2.1) f20 f8) f8 ∗ fl9 c (k0_off50 k) (k0_off50_inb k (cond_of k hk).2.2.1) (land9 c (k0_off50 k) (k0_off50_inb k (cond_of k hk).2.2.1) f21 f9) f9 ∗ fl10 c (k0_off86 k) (k0_off86_inb k (cond_of k hk).2.2.2) (land10 c (k0_off86 k) (k0_off86_inb k (cond_of k hk).2.2.2) f22 f10) f10 ∗ (∃ W', owes (c : Thread nD τ) 0 W')) -∗ K ⟨⟩))
      ⊢ wp frame (wpE (defs₀ (F := F)) Variants.none c none) Set.univ (k0_t1_body arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) v0 v29 k ⟨⟩) K } := by
  refine ⟨⟨?_, ?_, ?_, ?_, ?_, ?_, ?_, ?_, ?_⟩, fun hk f7 f8 f9 f10 f11 f12 f13 f14 f15 f16 f17 f18 f25 f26 f27 f29 o7 h7 o8 h8 o9 h9 o10 h10 W K => ?run⟩
  case run =>
    dsimp only
    have hk' : k.val < 3 := Nat.lt_of_lt_of_le k.isLt k0_t1_abs.2.1
    obtain ⟨hC1, hC2, hC3, hC4⟩ := cond_of k hk
    unfold k0_t1_body
    iintro ⟨⟨H0, H1, H2, H3, H4, H5, H6⟩, ⟨H11, H12, H13, H14, H15, H16, H17, H18⟩, H24, H25, H26, H27, H28, H29, ⟨Hq7, H7⟩, ⟨Hq8, H8⟩, ⟨Hq9, H9⟩, ⟨Hq10, H10⟩, HW, Hk⟩
    sl_exec
    sl_step
    iapply Hk
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H11 H12 H13 H14 H15 H16 H17 H18]
    · isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H24]; · iexact H24
    isplitl [H25 H26 H27 H28 H29]
    · isplitl [H25]; · iexists _; iexact H25
      isplitl [H26]; · iexists _; iexact H26
      isplitl [H27]; · iexists _; iexact H27
      isplitl [H28]; · iexists _; iexact H28
      iexists _; iexact H29
    isplitl [Hq7 H7]
    · isplitl [Hq7]; · iexact Hq7
      iexact H7
    isplitl [Hq8 H8]
    · isplitl [Hq8]; · iexact Hq8
      iexact H8
    isplitl [Hq9 H9]
    · isplitl [Hq9]; · iexact Hq9
      iexact H9
    isplitl [Hq10 H10]
    · isplitl [Hq10]; · iexact Hq10
      iexact H10
    iexists _; iexact HW

/-- The last layer's trip writes what `tripA` names, and leaves the four cells idle. -/
theorem tripB (c : Dev nD) (k : Fin k0_t1_loop.trips) (v0 : IVec S1x128 32) (v29 : Vec F S3x7 .bf16) (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f19 : HbBuf0 (F := F) c scM0_0) (f20 : HbBuf0 (F := F) c scM0_1) (f21 : HbBuf0 (F := F) c scM0_2) (f22 : HbBuf0 (F := F) c scM0_3) (f24 : HbBuf0 (F := F) c scM0_5) (f28 : HbBuf0 (F := F) c scM0_9) : let T := (tripA arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 f19 f20 f21 f22 f24 f28).1;
    ∀ (hk : ¬ k.val + 1 < 3) (f7 : HbBuf0 (F := F) c hbM0_0) (f8 : HbBuf0 (F := F) c hbM0_1) (f9 : HbBuf0 (F := F) c hbM0_2) (f10 : HbBuf0 (F := F) c hbM0_3) (f11 : HbBuf0 (F := F) c arg11) (f12 : HbBuf0 (F := F) c arg12) (f13 : HbBuf0 (F := F) c arg13) (f14 : HbBuf0 (F := F) c arg14) (f15 : HbBuf0 (F := F) c arg15) (f16 : HbBuf0 (F := F) c arg16) (f17 : HbBuf0 (F := F) c arg17) (f18 : HbBuf0 (F := F) c arg18) (f25 : HbBuf0 (F := F) c scM0_6) (f26 : HbBuf0 (F := F) c scM0_7) (f27 : HbBuf0 (F := F) c scM0_8) (f29 : HbBuf0 (F := F) c scM0_10) (o7 : Fin 3 → ℕ) (h7 : ∀ a, o7 a + S1x640x2560.size a ≤ S3x640x2560.size a) (o8 : Fin 3 → ℕ) (h8 : ∀ a, o8 a + S1x1728x2560.size a ≤ S3x1728x2560.size a) (o9 : Fin 3 → ℕ) (h9 : ∀ a, o9 a + S1x1728x2560.size a ≤ S3x1728x2560.size a) (o10 : Fin 3 → ℕ) (h10 : ∀ a, o10 a + S1x640x6912.size a ≤ S3x640x6912.size a) (W : Waits sig Unit) (K : PUnit → sProp 𝕄),
      iprop(tripIns arg0 arg1 arg2 arg3 arg4 arg5 arg6 c f0 f1 f2 f3 f4 f5 f6 ∗ tripOuts arg11 arg12 arg13 arg14 arg15 arg16 arg17 arg18 c f11 f12 f13 f14 f15 f16 f17 f18 ∗ pt c scM0_5 f24 ∗ pt c scM0_6 f25 ∗ pt c scM0_7 f26 ∗ pt c scM0_8 f27 ∗ pt c scM0_9 f28 ∗ pt c scM0_10 f29 ∗ fl7 c o7 h7 f19 f7 ∗ fl8 c o8 h8 f20 f8 ∗ fl9 c o9 h9 f21 f9 ∗ fl10 c o10 h10 f22 f10 ∗ owes (c : Thread nD τ) 0 W
        ∗ (iprop(tripIns arg0 arg1 arg2 arg3 arg4 arg5 arg6 c f0 f1 f2 f3 f4 f5 f6 ∗ tripOuts arg11 arg12 arg13 arg14 arg15 arg16 arg17 arg18 c (arg11.view.writes (Elt F) f11 T.L11) (arg12.view.writes (Elt F) f12 T.L12) (arg13.view.writes (Elt F) f13 T.L13) (arg14.view.writes (Elt F) f14 T.L14) (arg15.view.writes (Elt F) f15 T.L15) (arg16.view.writes (Elt F) f16 T.L16) (arg17.view.writes (Elt F) f17 T.L17) (arg18.view.writes (Elt F) f18 T.L18) ∗ pt c scM0_5 ((scM0_5).view.writes (Elt F) (scM0_5).view.junk T.L24) ∗ tripScr c ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ (∃ f, pt c scM0_0 f) ∗ (∃ f, pt c scM0_1 f) ∗ (∃ f, pt c scM0_2 f) ∗ (∃ f, pt c scM0_3 f) ∗ hbPt0 c hbM0_0 f7 ∗ hbPt0 c hbM0_1 f8 ∗ hbPt0 c hbM0_2 f9 ∗ hbPt0 c hbM0_3 f10 ∗ (∃ W', owes (c : Thread nD τ) 0 W')) -∗ K ⟨⟩))
      ⊢ wp frame (wpE (defs₀ (F := F)) Variants.none c none) Set.univ (k0_t1_body arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) v0 v29 k ⟨⟩) K := by
    intro T hk f7 f8 f9 f10 f11 f12 f13 f14 f15 f16 f17 f18 f25 f26 f27 f29 o7 h7 o8 h8 o9 h9 o10 h10 W K
    have hk' : k.val < 3 := Nat.lt_of_lt_of_le k.isLt k0_t1_abs.2.1
    obtain ⟨hC1, hC2, hC3, hC4⟩ := cond_not k hk
    unfold k0_t1_body
    iintro ⟨⟨H0, H1, H2, H3, H4, H5, H6⟩, ⟨H11, H12, H13, H14, H15, H16, H17, H18⟩, H24, H25, H26, H27, H28, H29, ⟨Hq7, H7⟩, ⟨Hq8, H8⟩, ⟨Hq9, H9⟩, ⟨Hq10, H10⟩, HW, Hk⟩
    sl_exec
    sl_step
    iapply Hk
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H11 H12 H13 H14 H15 H16 H17 H18]
    · isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H24]; · iexact H24
    isplitl [H25 H26 H27 H28 H29]
    · isplitl [H25]; · iexists _; iexact H25
      isplitl [H26]; · iexists _; iexact H26
      isplitl [H27]; · iexists _; iexact H27
      isplitl [H28]; · iexists _; iexact H28
      iexists _; iexact H29
    isplitl [Hq7]; · iexact Hq7
    isplitl [Hq8]; · iexact Hq8
    isplitl [Hq9]; · iexact Hq9
    isplitl [Hq10]; · iexact Hq10
    isplitl [Hq7_dst]; · iexists _; iexact Hq7_dst
    isplitl [Hq8_dst]; · iexists _; iexact Hq8_dst
    isplitl [Hq9_dst]; · iexists _; iexact Hq9_dst
    isplitl [Hq10_dst]; · iexists _; iexact Hq10_dst
    isplitl [H7]; · iexact H7
    isplitl [H8]; · iexact H8
    isplitl [H9]; · iexact H9
    isplitl [H10]; · iexact H10
    iexists _; iexact HW

end Cert.Kernel.Hand
end
-- ==== Proof.BitsBody.lean ====
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import proofs.«01_k».proof.Proof.BitsTrip
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, with the counters the body's own transfers take their tokens from. -/
local notation "𝕄" => MT nD τ sig Unit (Elt F) ℕ (Pipeline.UD sig nD τ) ℕ

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)

/-- The copy of layer `n`'s slab of argument 7 in flight. -/
def busy7 (c : Dev nD) (n : ℕ) (f : HbBuf0 (F := F) c hbM0_0) : sProp 𝕄 :=
  iprop(∃ g, ∃ o, ∃ h, ⌜o = ![n, 0, 0]⌝ ∗ fl7 c o h (land7 c o h g f) f)
/-- Its cell idle, its buffer whole at anything, the argument whole. -/
def idle7 (c : Dev nD) (f : HbBuf0 (F := F) c hbM0_0) : sProp 𝕄 :=
  iprop(semVal ((c : Thread nD τ), SemLoc.dma 22) 0 ∗ (∃ g, pt c scM0_0 g) ∗ hbPt0 c hbM0_0 f)
/-- The copy of layer `n`'s slab of argument 8 in flight. -/
def busy8 (c : Dev nD) (n : ℕ) (f : HbBuf0 (F := F) c hbM0_1) : sProp 𝕄 :=
  iprop(∃ g, ∃ o, ∃ h, ⌜o = ![n, 0, 0]⌝ ∗ fl8 c o h (land8 c o h g f) f)
/-- Its cell idle, its buffer whole at anything, the argument whole. -/
def idle8 (c : Dev nD) (f : HbBuf0 (F := F) c hbM0_1) : sProp 𝕄 :=
  iprop(semVal ((c : Thread nD τ), SemLoc.dma 23) 0 ∗ (∃ g, pt c scM0_1 g) ∗ hbPt0 c hbM0_1 f)
/-- The copy of layer `n`'s slab of argument 9 in flight. -/
def busy9 (c : Dev nD) (n : ℕ) (f : HbBuf0 (F := F) c hbM0_2) : sProp 𝕄 :=
  iprop(∃ g, ∃ o, ∃ h, ⌜o = ![n, 0, 0]⌝ ∗ fl9 c o h (land9 c o h g f) f)
/-- Its cell idle, its buffer whole at anything, the argument whole. -/
def idle9 (c : Dev nD) (f : HbBuf0 (F := F) c hbM0_2) : sProp 𝕄 :=
  iprop(semVal ((c : Thread nD τ), SemLoc.dma 24) 0 ∗ (∃ g, pt c scM0_2 g) ∗ hbPt0 c hbM0_2 f)
/-- The copy of layer `n`'s slab of argument 10 in flight. -/
def busy10 (c : Dev nD) (n : ℕ) (f : HbBuf0 (F := F) c hbM0_3) : sProp 𝕄 :=
  iprop(∃ g, ∃ o, ∃ h, ⌜o = ![n, 0, 0]⌝ ∗ fl10 c o h (land10 c o h g f) f)
/-- Its cell idle, its buffer whole at anything, the argument whole. -/
def idle10 (c : Dev nD) (f : HbBuf0 (F := F) c hbM0_3) : sProp 𝕄 :=
  iprop(semVal ((c : Thread nD τ), SemLoc.dma 25) 0 ∗ (∃ g, pt c scM0_3 g) ∗ hbPt0 c hbM0_3 f)
/-- The four weight cells before layer `n`: its slabs in flight, or nothing after the last layer. -/
def cells (c : Dev nD) (n : ℕ) (f7 : HbBuf0 (F := F) c hbM0_0) (f8 : HbBuf0 (F := F) c hbM0_1) (f9 : HbBuf0 (F := F) c hbM0_2) (f10 : HbBuf0 (F := F) c hbM0_3) : sProp 𝕄 :=
  if n < 3 then iprop(busy7 c n f7 ∗ busy8 c n f8 ∗ busy9 c n f9 ∗ busy10 c n f10) else iprop(idle7 c f7 ∗ idle8 c f8 ∗ idle9 c f9 ∗ idle10 c f10)

/-- Everything the loop holds before layer `n`: the residual stream and the outputs at contents that meet `P n`. -/
def layerInv (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3) (n : ℕ) : sProp 𝕄 :=
  iprop(tripIns arg0 arg1 arg2 arg3 arg4 arg5 arg6 c f0 f1 f2 f3 f4 f5 f6 ∗ (∃ r, ∃ o11, ∃ o12, ∃ o13, ∃ o14, ∃ o15, ∃ o16, ∃ o17, ∃ o18, ⌜P n r o11 o12 o13 o14 o15 o16 o17 o18⌝ ∗ pt c scM0_5 r ∗ tripOuts arg11 arg12 arg13 arg14 arg15 arg16 arg17 arg18 c o11 o12 o13 o14 o15 o16 o17 o18) ∗ tripScr c ∗ cells c n f7 f8 f9 f10 ∗ (∃ W, owes (c : Thread nD τ) 0 W))

/-- What the values of one layer's trip are asked: from `P k` to `P (k + 1)`, whatever the buffers held before. -/
def StepOk (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop) (v0 : IVec S1x128 32) (v29 : Vec F S3x7 .bf16)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3) : Prop :=
  ∀ (k : Fin k0_t1_loop.trips) f28 g7 h7 g8 h8 g9 h9 g10 h10 r o11 o12 o13 o14 o15 o16 o17 o18, P k.val r o11 o12 o13 o14 o15 o16 o17 o18 →
    let T := (tripA arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 (land7 c ![k.val, 0, 0] h7 g7 f7) (land8 c ![k.val, 0, 0] h8 g8 f8) (land9 c ![k.val, 0, 0] h9 g9 f9) (land10 c ![k.val, 0, 0] h10 g10 f10) r f28).1
    P (k.val + 1) (scM0_5.view.writes (Elt F) scM0_5.view.junk T.L24) (arg11.view.writes (Elt F) o11 T.L11) (arg12.view.writes (Elt F) o12 T.L12) (arg13.view.writes (Elt F) o13 T.L13) (arg14.view.writes (Elt F) o14 T.L14) (arg15.view.writes (Elt F) o15 T.L15) (arg16.view.writes (Elt F) o16 T.L16) (arg17.view.writes (Elt F) o17 T.L17) (arg18.view.writes (Elt F) o18 T.L18)

/-- While layers remain, the copies in flight are the next layer's. -/
theorem cells_lt (c : Dev nD) {n : ℕ} (h : n < 3) (f7 : HbBuf0 (F := F) c hbM0_0) (f8 : HbBuf0 (F := F) c hbM0_1) (f9 : HbBuf0 (F := F) c hbM0_2) (f10 : HbBuf0 (F := F) c hbM0_3) : (cells c n f7 f8 f9 f10 : sProp 𝕄) = iprop(busy7 c n f7 ∗ busy8 c n f8 ∗ busy9 c n f9 ∗ busy10 c n f10) := if_pos h
/-- After the last layer no copy is in flight. -/
theorem cells_ge (c : Dev nD) {n : ℕ} (h : ¬ n < 3) (f7 : HbBuf0 (F := F) c hbM0_0) (f8 : HbBuf0 (F := F) c hbM0_1) (f9 : HbBuf0 (F := F) c hbM0_2) (f10 : HbBuf0 (F := F) c hbM0_3) : (cells c n f7 f8 f9 f10 : sProp 𝕄) = iprop(idle7 c f7 ∗ idle8 c f8 ∗ idle9 c f9 ∗ idle10 c f10) := if_neg h

/-- One layer keeps the invariant. -/
theorem layer_step (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop) (v0 : IVec S1x128 32) (v29 : Vec F S3x7 .bf16)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3)
    (hP : StepOk arg0 harg0 arg1 harg1 arg2 harg2 arg3 harg3 arg4 harg4 arg5 harg5 arg6 harg6 arg11 harg11 arg12 harg12 arg13 harg13 arg14 harg14 arg15 harg15 arg16 harg16 arg17 harg17 arg18 harg18 c P v0 v29 f0 f1 f2 f3 f4 f5 f6 f7 f8 f9 f10) (k : Fin k0_t1_loop.trips) :
    (layerInv arg0 arg1 arg2 arg3 arg4 arg5 arg6 arg11 arg12 arg13 arg14 arg15 arg16 arg17 arg18 c P f0 f1 f2 f3 f4 f5 f6 f7 f8 f9 f10 k.val : sProp 𝕄)
      ⊢ wp frame (wpE (defs₀ (F := F)) Variants.none c none) Set.univ (k0_t1_body arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) v0 v29 k ⟨⟩)
          (fun _ => layerInv arg0 arg1 arg2 arg3 arg4 arg5 arg6 arg11 arg12 arg13 arg14 arg15 arg16 arg17 arg18 c P f0 f1 f2 f3 f4 f5 f6 f7 f8 f9 f10 (k.val + 1)) := by
  have hk3 : k.val < 3 := Nat.lt_of_lt_of_le k.isLt k0_t1_abs.2.1
  unfold layerInv
  rw [cells_lt c hk3]
  unfold busy7 busy8 busy9 busy10
  iintro ⟨HI, ⟨%r, %o11, %o12, %o13, %o14, %o15, %o16, %o17, %o18, %hPk, Hr, HO⟩, ⟨⟨%f25, H25⟩, ⟨%f26, H26⟩, ⟨%f27, H27⟩, ⟨%f28, H28⟩, ⟨%f29, H29⟩⟩, ⟨⟨%g7, %o7, %h7, %e7, HF7⟩, ⟨%g8, %o8, %h8, %e8, HF8⟩, ⟨%g9, %o9, %h9, %e9, HF9⟩, ⟨%g10, %o10, %h10, %e10, HF10⟩⟩, ⟨%W, HW⟩⟩
  subst e7 e8 e9 e10
  have hS := hP k f28 g7 h7 g8 h8 g9 h9 g10 h10 r o11 o12 o13 o14 o15 o16 o17 o18 hPk
  by_cases hk : k.val + 1 < 3
  · rw [cells_lt c hk]
    unfold busy7 busy8 busy9 busy10
    iapply ((tripA arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 (land7 c ![k.val, 0, 0] h7 g7 f7) (land8 c ![k.val, 0, 0] h8 g8 f8) (land9 c ![k.val, 0, 0] h9 g9 f9) (land10 c ![k.val, 0, 0] h10 g10 f10) r f28).2 hk f7 f8 f9 f10 o11 o12 o13 o14 o15 o16 o17 o18 f25 f26 f27 f29 _ h7 _ h8 _ h9 _ h10 W _)
    isplitl [HI]; · iexact HI
    isplitl [HO]; · iexact HO
    isplitl [Hr]; · iexact Hr
    isplitl [H25]; · iexact H25
    isplitl [H26]; · iexact H26
    isplitl [H27]; · iexact H27
    isplitl [H28]; · iexact H28
    isplitl [H29]; · iexact H29
    isplitl [HF7]; · iexact HF7
    isplitl [HF8]; · iexact HF8
    isplitl [HF9]; · iexact HF9
    isplitl [HF10]; · iexact HF10
    isplitl [HW]; · iexact HW
    iintro ⟨HI, HO, Hr, HS, HF7, HF8, HF9, HF10, HW⟩
    isplitl [HI]; · iexact HI
    isplitl [Hr HO]
    · iexists _; iexists _, _, _, _, _, _, _, _
      isplitr; · ipureintro; exact hS
      isplitl [Hr]; · iexact Hr
      iexact HO
    isplitl [HS]; · iexact HS
    isplitl [HF7 HF8 HF9 HF10]
    · isplitl [HF7]; · iexists _, _, _; isplitr; · ipureintro; exact k0_off18_eq k
                       iexact HF7
      isplitl [HF8]; · iexists _, _, _; isplitr; · ipureintro; exact k0_off35_eq k
                       iexact HF8
      isplitl [HF9]; · iexists _, _, _; isplitr; · ipureintro; exact k0_off50_eq k
                       iexact HF9
      iexists _, _, _; isplitr; · ipureintro; exact k0_off86_eq k
      iexact HF10
    iexact HW
  · rw [cells_ge c hk]
    unfold idle7 idle8 idle9 idle10
    iapply (tripB arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 (land7 c ![k.val, 0, 0] h7 g7 f7) (land8 c ![k.val, 0, 0] h8 g8 f8) (land9 c ![k.val, 0, 0] h9 g9 f9) (land10 c ![k.val, 0, 0] h10 g10 f10) r f28 hk f7 f8 f9 f10 o11 o12 o13 o14 o15 o16 o17 o18 f25 f26 f27 f29 _ h7 _ h8 _ h9 _ h10 W _)
    isplitl [HI]; · iexact HI
    isplitl [HO]; · iexact HO
    isplitl [Hr]; · iexact Hr
    isplitl [H25]; · iexact H25
    isplitl [H26]; · iexact H26
    isplitl [H27]; · iexact H27
    isplitl [H28]; · iexact H28
    isplitl [H29]; · iexact H29
    isplitl [HF7]; · iexact HF7
    isplitl [HF8]; · iexact HF8
    isplitl [HF9]; · iexact HF9
    isplitl [HF10]; · iexact HF10
    isplitl [HW]; · iexact HW
    iintro ⟨HI, HO, Hr, HS, HQ7, HQ8, HQ9, HQ10, HB7, HB8, HB9, HB10, HH7, HH8, HH9, HH10, HW⟩
    isplitl [HI]; · iexact HI
    isplitl [Hr HO]
    · iexists _; iexists _, _, _, _, _, _, _, _
      isplitr; · ipureintro; exact hS
      isplitl [Hr]; · iexact Hr
      iexact HO
    isplitl [HS]; · iexact HS
    isplitl [HQ7 HQ8 HQ9 HQ10 HB7 HB8 HB9 HB10 HH7 HH8 HH9 HH10]
    · isplitl [HQ7 HB7 HH7]
      · isplitl [HQ7]; · iexact HQ7
        isplitl [HB7]; · iexact HB7
        iexact HH7
      isplitl [HQ8 HB8 HH8]
      · isplitl [HQ8]; · iexact HQ8
        isplitl [HB8]; · iexact HB8
        iexact HH8
      isplitl [HQ9 HB9 HH9]
      · isplitl [HQ9]; · iexact HQ9
        isplitl [HB9]; · iexact HB9
        iexact HH9
      isplitl [HQ10]; · iexact HQ10
      isplitl [HB10]; · iexact HB10
      iexact HH10
    iexact HW

/-- What the residual stream's buffer holds before the first layer: the input in its first twelve rows. -/
def initPieces (c : Dev nD) (f0 : HbBuf0 (F := F) c arg0) : List (View.Piece (Elt F) S16x2560 .f32) :=
  [⟨Rect.unit ![0, 0] S12x2560.size inb_S16x2560_S12x2560_0_0,
      k0_pay1 (k0_pay704 (View.readAt (Elt F) arg0.view (Rect.unit ![0, 0] S12x2560.size inb_S12x2560_S12x2560_0_0).toLoadRect f0))⟩,
    ⟨Rect.unit ![0, 0] S16x2560.size inb_S16x2560_S16x2560_0_0, k0_pay703⟩]
/-- The lane numbers, and the weights' scales as read: what the loop's region takes from before it. -/
abbrev lanes : IVec S1x128 32 := iota .tc S1x128 32 [1] iota_S1x128_d1_w32
/-- The weights' scales, as the body loads them. -/
abbrev scales (c : Dev nD) (f1 : HbBuf0 (F := F) c arg1) : Vec F S3x7 .bf16 :=
  View.readAt (Elt F) arg1.view (Rect.unit ![0, 0] S3x7.size inb_S3x7_S3x7_0_0).toLoadRect f1

/-- THE BODY: from the inputs, the outputs at anything, idle cells and scratch at anything, to outputs meeting `P 3`. -/
theorem body_run (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3) (o11 : HbBuf0 (F := F) c arg11) (o12 : HbBuf0 (F := F) c arg12) (o13 : HbBuf0 (F := F) c arg13) (o14 : HbBuf0 (F := F) c arg14) (o15 : HbBuf0 (F := F) c arg15) (o16 : HbBuf0 (F := F) c arg16) (o17 : HbBuf0 (F := F) c arg17) (o18 : HbBuf0 (F := F) c arg18)
    (hP0 : P 0 (scM0_5.view.writes (Elt F) scM0_5.view.junk (initPieces arg0 c f0)) o11 o12 o13 o14 o15 o16 o17 o18)
    (hP : StepOk arg0 harg0 arg1 harg1 arg2 harg2 arg3 harg3 arg4 harg4 arg5 harg5 arg6 harg6 arg11 harg11 arg12 harg12 arg13 harg13 arg14 harg14 arg15 harg15 arg16 harg16 arg17 harg17 arg18 harg18 c P lanes (scales arg1 c f1) f0 f1 f2 f3 f4 f5 f6 f7 f8 f9 f10) (W : Waits sig Unit) (K : PUnit → sProp 𝕄) :
    iprop(tripIns arg0 arg1 arg2 arg3 arg4 arg5 arg6 c f0 f1 f2 f3 f4 f5 f6 ∗ tripOuts arg11 arg12 arg13 arg14 arg15 arg16 arg17 arg18 c o11 o12 o13 o14 o15 o16 o17 o18 ∗ (∃ r, pt c scM0_5 r) ∗ tripScr c ∗ idle7 c f7 ∗ idle8 c f8 ∗ idle9 c f9 ∗ idle10 c f10 ∗ owes (c : Thread nD τ) 0 W
        ∗ (layerInv arg0 arg1 arg2 arg3 arg4 arg5 arg6 arg11 arg12 arg13 arg14 arg15 arg16 arg17 arg18 c P f0 f1 f2 f3 f4 f5 f6 f7 f8 f9 f10 3 -∗ K ⟨⟩))
      ⊢ wp frame (wpE (defs₀ (F := F)) Variants.none c none) Set.univ (cc0_decode arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _)) K := by
  unfold idle7 idle8 idle9 idle10
  simp only [cc0_decode_eq_skeleton]; unfold cc0_decode_skel
  iintro ⟨⟨H0, H1, H2, H3, H4, H5, H6⟩, ⟨H11, H12, H13, H14, H15, H16, H17, H18⟩, ⟨%f24, H24⟩, ⟨⟨%f25, H25⟩, ⟨%f26, H26⟩, ⟨%f27, H27⟩, ⟨%f28, H28⟩, ⟨%f29, H29⟩⟩, ⟨Hq7, ⟨%f19, H19⟩, H7⟩, ⟨Hq8, ⟨%f20, H20⟩, H8⟩, ⟨Hq9, ⟨%f21, H21⟩, H9⟩, ⟨Hq10, ⟨%f22, H22⟩, H10⟩, HW, Hk⟩
  sl_exec
  sl_for (fun n (_ : Unit) => layerInv arg0 arg1 arg2 arg3 arg4 arg5 arg6 arg11 arg12 arg13 arg14 arg15 arg16 arg17 arg18 c P f0 f1 f2 f3 f4 f5 f6 f7 f8 f9 f10 n) $$ [H0 H1 H2 H3 H4 H5 H6 H11 H12 H13 H14 H15 H16 H17 H18 H24 H25 H26 H27 H28 H29 Hq7 H7 Hq8 H8 Hq9 H9 Hq10 H10 HW]
  case region =>
    intro k _
    exact layer_step arg0 harg0 arg1 harg1 arg2 harg2 arg3 harg3 arg4 harg4 arg5 harg5 arg6 harg6 arg11 harg11 arg12 harg12 arg13 harg13 arg14 harg14 arg15 harg15 arg16 harg16 arg17 harg17 arg18 harg18 c P lanes (scales arg1 c f1) f0 f1 f2 f3 f4 f5 f6 f7 f8 f9 f10 hP k
  · unfold layerInv
    rw [cells_lt c (by decide)]
    unfold busy7 busy8 busy9 busy10
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H24 H11 H12 H13 H14 H15 H16 H17 H18]
    · iexists _; iexists o11, o12, o13, o14, o15, o16, o17, o18
      isplitr; · ipureintro; exact hP0
      isplitl [H24]; · iexact H24
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H25 H26 H27 H28 H29]
    · isplitl [H25]; · iexists _; iexact H25
      isplitl [H26]; · iexists _; iexact H26
      isplitl [H27]; · iexists _; iexact H27
      isplitl [H28]; · iexists _; iexact H28
      iexists _; iexact H29
    isplitl [Hq7 H7 Hq8 H8 Hq9 H9 Hq10 H10]
    · isplitl [Hq7 H7]
      · iexists f19, ![0, 0, 0], inb_S3x640x2560_S1x640x2560_0_0_0; isplitr; · ipureintro; rfl
        isplitl [Hq7]; · iexact Hq7
        iexact H7
      isplitl [Hq8 H8]
      · iexists f20, ![0, 0, 0], inb_S3x1728x2560_S1x1728x2560_0_0_0; isplitr; · ipureintro; rfl
        isplitl [Hq8]; · iexact Hq8
        iexact H8
      isplitl [Hq9 H9]
      · iexists f21, ![0, 0, 0], inb_S3x1728x2560_S1x1728x2560_0_0_0; isplitr; · ipureintro; rfl
        isplitl [Hq9]; · iexact Hq9
        iexact H9
      iexists f22, ![0, 0, 0], inb_S3x640x6912_S1x640x6912_0_0_0; isplitr; · ipureintro; rfl
      isplitl [Hq10]; · iexact Hq10
      iexact H10
    iexists _; iexact HW
  iintro %acc HL
  sl_exec
  sl_step
  iapply Hk
  iexact HL

end Cert.Kernel.Hand
end
-- ==== Proof.BitsFrame.lean ====
module

public import proofs.«01_k».proof.Proof.Gen.Kernel.Launch
public import proofs.«01_k».proof.Proof.Gen.Kernel.Frame
public import proofs.«01_k».proof.Proof.Gen.Kernel.Skeleton
public import proofs.«01_k».proof.Proof.Gen.Kernel.Points
public import proofs.«01_k».proof.Proof.BitsBody
public import Idealize.ShloMosaic.Lib.Pipeline.FrameBody
public import Idealize.ShloMosaic.Lib.Pipeline.DatRel
public import Idealize.ShloMosaic.Lib.Pipeline.ArrRel
public import Idealize.ShloMosaic.Lib.MixedBatch
public import Idealize.ShloMosaic.Lib.Ring
public import Idealize.ShloMosaic.Lib.Tactic
public import Idealize.ShloMosaic.Lib.WordCmp

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, with the counters the body's own transfers take their tokens from. -/
local notation "𝕄" => MT nD τ sig Unit (Elt F) ℕ (Pipeline.UD sig nD τ) ℕ

variable (m : (ℓ : Loc nD τ sig) → Buf (Elt F) ℓ) (ρ : Dev nD → PrngReg)

/-! ## @main up to the region -/

set_option maxHeartbeats 800000 in
/-- @main up to the region: two reshapes, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window holds its block when the body runs. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's operands -/

abbrev ms0_0 (t : Fin cfg0.N) : Memref sig .tc .vmem S12x2560 .bf16 := win0_0.stage (cfg0.slots t 0)
abbrev hs0_0 (t : Fin cfg0.N) : (ms0_0 t).IsWhole := hstage0_0 0
abbrev ms0_1 (t : Fin cfg0.N) : Memref sig .tc .vmem S3x7 .bf16 := win0_1.stage (cfg0.slots t 1)
abbrev hs0_1 (t : Fin cfg0.N) : (ms0_1 t).IsWhole := hstage0_1 0
abbrev ms0_2 (t : Fin cfg0.N) : Memref sig .tc .vmem S3x2560 .f32 := win0_2.stage (cfg0.slots t 2)
abbrev hs0_2 (t : Fin cfg0.N) : (ms0_2 t).IsWhole := hstage0_2 0
abbrev ms0_3 (t : Fin cfg0.N) : Memref sig .tc .vmem S3x2560 .f32 := win0_3.stage (cfg0.slots t 3)
abbrev hs0_3 (t : Fin cfg0.N) : (ms0_3 t).IsWhole := hstage0_3 0
abbrev ms0_4 (t : Fin cfg0.N) : Memref sig .tc .vmem S3x2560 .f32 := win0_4.stage (cfg0.slots t 4)
abbrev hs0_4 (t : Fin cfg0.N) : (ms0_4 t).IsWhole := hstage0_4 0
abbrev ms0_5 (t : Fin cfg0.N) : Memref sig .tc .vmem S3x6912 .f32 := win0_5.stage (cfg0.slots t 5)
abbrev hs0_5 (t : Fin cfg0.N) : (ms0_5 t).IsWhole := hstage0_5 0
abbrev ms0_6 (t : Fin cfg0.N) : Memref sig .tc .vmem S3x12x2560 .f32 := win0_6.stage (cfg0.slots t 6)
abbrev hs0_6 (t : Fin cfg0.N) : (ms0_6 t).IsWhole := hstage0_6 0
abbrev ms0_7 (t : Fin cfg0.N) : Memref sig .tc .vmem S3x12x1x2560 .f32 := win0_7.stage (cfg0.slots t 7)
abbrev hs0_7 (t : Fin cfg0.N) : (ms0_7 t).IsWhole := hstage0_7 0
abbrev ms0_8 (t : Fin cfg0.N) : Memref sig .tc .vmem S3x12x1x2560 .f32 := win0_8.stage (cfg0.slots t 8)
abbrev hs0_8 (t : Fin cfg0.N) : (ms0_8 t).IsWhole := hstage0_8 0
abbrev ms0_9 (t : Fin cfg0.N) : Memref sig .tc .vmem S3x12x1x6912 .f32 := win0_9.stage (cfg0.slots t 9)
abbrev hs0_9 (t : Fin cfg0.N) : (ms0_9 t).IsWhole := hstage0_9 0
abbrev ms0_10 (t : Fin cfg0.N) : Memref sig .tc .vmem S3x12x2560 .i8 := win0_10.stage (cfg0.slots t 10)
abbrev hs0_10 (t : Fin cfg0.N) : (ms0_10 t).IsWhole := hstage0_10 0
abbrev ms0_11 (t : Fin cfg0.N) : Memref sig .tc .vmem S3x12x2560 .i8 := win0_11.stage (cfg0.slots t 11)
abbrev hs0_11 (t : Fin cfg0.N) : (ms0_11 t).IsWhole := hstage0_11 0
abbrev ms0_12 (t : Fin cfg0.N) : Memref sig .tc .vmem S3x12x2560 .i8 := win0_12.stage (cfg0.slots t 12)
abbrev hs0_12 (t : Fin cfg0.N) : (ms0_12 t).IsWhole := hstage0_12 0
abbrev ms0_13 (t : Fin cfg0.N) : Memref sig .tc .vmem S3x12x6912 .i8 := win0_13.stage (cfg0.slots t 13)
abbrev hs0_13 (t : Fin cfg0.N) : (ms0_13 t).IsWhole := hstage0_13 0
abbrev ms0_14 (t : Fin cfg0.N) : Memref sig .tc .vmem S3x32x12 .f32 := win0_14.stage (cfg0.slots t 14)
abbrev hs0_14 (t : Fin cfg0.N) : (ms0_14 t).IsWhole := hstage0_14 0

/-- The four weight cells. -/
abbrev osem0 : Fin 4 → SemLoc sig := fun j => (![SemLoc.dma 22, SemLoc.dma 23, SemLoc.dma 24, SemLoc.dma 25] : Fin 4 → SemLoc sig) j
/-- The kernel's own semaphores are apart from the pipeline's. -/
theorem osem0_facts : Pipeline.OwnSemFacts spec0 osem0 := by decide
/-- The kernel's own semaphores, listed. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0
          ∗ semVal ((c : Thread nD τ), SemLoc.dma 24) 0 ∗ semVal ((c : Thread nD τ), SemLoc.dma 25) 0) := by
  rw [Pipeline.ownSems0_eq_of_list c osem0 [0, 1, 2, 3] (by decide) (by decide)]; rfl
/-- The arguments the body's own copies read. -/
def H0 : Finset (Ref sig .tc) := {main_arg2, main_arg3, main_arg4, main_arg5}
/-- The arrays the body copies itself are none of the pipeline's. -/
theorem H0_sub : H0 ⊆ Pipeline.restRefs sig spec0 := by decide
/-- The ownership of the arrays the body copies, array by array. -/
theorem hbmPts0_eq (c : Dev nD) :
    (bigSep H0 (fun b => ((c : Thread nD τ).loc b) ↦{fullShare} V m c b) : sProp 𝕄)
      = iprop(hbPt0 c hbM0_0 (V m c main_arg2) ∗ hbPt0 c hbM0_1 (V m c main_arg3) ∗ hbPt0 c hbM0_2 (V m c main_arg4)
          ∗ hbPt0 c hbM0_3 (V m c main_arg5)) := by
  rw [BI.bigSep_eq_bigSepL_of_eq [main_arg2, main_arg3, main_arg4, main_arg5] (by decide) (by decide)]; rfl
/-- What the body holds besides the windows: the scratch, the cells at zero, the weights. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d))
          ∗ (∃ r, prngReg c r)
          ∗ iprop(semVal ((c : Thread nD τ), SemLoc.dma 22) 0 ∗ semVal ((c : Thread nD τ), SemLoc.dma 23) 0
              ∗ semVal ((c : Thread nD τ), SemLoc.dma 24) 0 ∗ semVal ((c : Thread nD τ), SemLoc.dma 25) 0)
          ∗ iprop(hbPt0 c hbM0_0 (V m c main_arg2) ∗ hbPt0 c hbM0_1 (V m c main_arg3) ∗ hbPt0 c hbM0_2 (V m c main_arg4)
              ∗ hbPt0 c hbM0_3 (V m c main_arg5))) := by
  rw [Pipeline.ΦD_eq, scopedRest0_eq, ownSems0_list, hbmPts0_eq]
  simp only [scM0_0, scM0_1, scM0_2, scM0_3, scM0_5, scM0_6, scM0_7, scM0_8, scM0_9, scM0_10, owns_whole]; try rfl

/-- The proof data: the arrays as the region finds them, the input windows left as found; the output windows are held to a
    relation apart. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
  Φ _ := Pipeline.ΦD osem0 spec0 H0 (V m) c
  q _ := fullShare
  owed _ := 0
/-- The output windows. -/
abbrev isRes (w : Fin cfg0.W) : Bool := decide (7 ≤ w.val)
/-- The type of a relation on the blocks the body leaves. -/
abbrev RelTy : Type := (w : Fin cfg0.W) → Fin cfg0.N → ((cfg0.win w).block.Idx → Elt F (cfg0.win w).elt) → Prop

/-- A window's array as the region starts is the one launched. -/
theorem A_eq (c : Dev nD) (w : Fin cfg0.W) : (dats m 0 c).A w = V m c (Pipeline.arrRef spec0 w) := by
  dsimp only [dats]
/-- An input window's block is as the body found it. -/
theorem after_eq0 (c : Dev nD) (t : Fin cfg0.N) : (dats m 0 c).after 0 t = iblk m c 0 t := by dsimp only [dats]
/-- An input window's block is as the body found it. -/
theorem after_eq1 (c : Dev nD) (t : Fin cfg0.N) : (dats m 0 c).after 1 t = iblk m c 1 t := by dsimp only [dats]
/-- An input window's block is as the body found it. -/
theorem after_eq2 (c : Dev nD) (t : Fin cfg0.N) : (dats m 0 c).after 2 t = iblk m c 2 t := by dsimp only [dats]
/-- An input window's block is as the body found it. -/
theorem after_eq3 (c : Dev nD) (t : Fin cfg0.N) : (dats m 0 c).after 3 t = iblk m c 3 t := by dsimp only [dats]
/-- An input window's block is as the body found it. -/
theorem after_eq4 (c : Dev nD) (t : Fin cfg0.N) : (dats m 0 c).after 4 t = iblk m c 4 t := by dsimp only [dats]
/-- An input window's block is as the body found it. -/
theorem after_eq5 (c : Dev nD) (t : Fin cfg0.N) : (dats m 0 c).after 5 t = iblk m c 5 t := by dsimp only [dats]
/-- An input window's block is as the body found it. -/
theorem after_eq6 (c : Dev nD) (t : Fin cfg0.N) : (dats m 0 c).after 6 t = iblk m c 6 t := by dsimp only [dats]

/-- What is claimed of the outputs: a relation `Rl` on each output window, and a predicate `P n` on the residual stream and the
    outputs before layer `n` that the first layer finds, that each layer keeps, and that gives `Rl` after the last. -/
structure Values where
  Rl : RelTy (F := F)
  P : (c : Dev nD) → (t : Fin cfg0.N) → ℕ → HbBuf0 (F := F) c scM0_5 → HbBuf0 (F := F) c (ms0_7 t) → HbBuf0 (F := F) c (ms0_8 t) → HbBuf0 (F := F) c (ms0_9 t) → HbBuf0 (F := F) c (ms0_10 t) → HbBuf0 (F := F) c (ms0_11 t) → HbBuf0 (F := F) c (ms0_12 t) → HbBuf0 (F := F) c (ms0_13 t) → HbBuf0 (F := F) c (ms0_14 t) → Prop
  init : ∀ (c : Dev nD) (t : Fin cfg0.N) (f0 : HbBuf0 (F := F) c (ms0_0 t)) (f1 : HbBuf0 (F := F) c (ms0_1 t)) (f2 : HbBuf0 (F := F) c (ms0_2 t)) (f3 : HbBuf0 (F := F) c (ms0_3 t)) (f4 : HbBuf0 (F := F) c (ms0_4 t)) (f5 : HbBuf0 (F := F) c (ms0_5 t)) (f6 : HbBuf0 (F := F) c (ms0_6 t)), (ms0_0 t).view.read (Elt F) f0 = iblk m c 0 t → (ms0_1 t).view.read (Elt F) f1 = iblk m c 1 t → (ms0_2 t).view.read (Elt F) f2 = iblk m c 2 t → (ms0_3 t).view.read (Elt F) f3 = iblk m c 3 t → (ms0_4 t).view.read (Elt F) f4 = iblk m c 4 t → (ms0_5 t).view.read (Elt F) f5 = iblk m c 5 t → (ms0_6 t).view.read (Elt F) f6 = iblk m c 6 t → ∀ (o11 : HbBuf0 (F := F) c (ms0_7 t)) (o12 : HbBuf0 (F := F) c (ms0_8 t)) (o13 : HbBuf0 (F := F) c (ms0_9 t)) (o14 : HbBuf0 (F := F) c (ms0_10 t)) (o15 : HbBuf0 (F := F) c (ms0_11 t)) (o16 : HbBuf0 (F := F) c (ms0_12 t)) (o17 : HbBuf0 (F := F) c (ms0_13 t)) (o18 : HbBuf0 (F := F) c (ms0_14 t)),
    P c t 0 (scM0_5.view.writes (Elt F) scM0_5.view.junk (initPieces (ms0_0 t) c f0)) o11 o12 o13 o14 o15 o16 o17 o18
  step : ∀ (c : Dev nD) (t : Fin cfg0.N) (f0 : HbBuf0 (F := F) c (ms0_0 t)) (f1 : HbBuf0 (F := F) c (ms0_1 t)) (f2 : HbBuf0 (F := F) c (ms0_2 t)) (f3 : HbBuf0 (F := F) c (ms0_3 t)) (f4 : HbBuf0 (F := F) c (ms0_4 t)) (f5 : HbBuf0 (F := F) c (ms0_5 t)) (f6 : HbBuf0 (F := F) c (ms0_6 t)), (ms0_0 t).view.read (Elt F) f0 = iblk m c 0 t → (ms0_1 t).view.read (Elt F) f1 = iblk m c 1 t → (ms0_2 t).view.read (Elt F) f2 = iblk m c 2 t → (ms0_3 t).view.read (Elt F) f3 = iblk m c 3 t → (ms0_4 t).view.read (Elt F) f4 = iblk m c 4 t → (ms0_5 t).view.read (Elt F) f5 = iblk m c 5 t → (ms0_6 t).view.read (Elt F) f6 = iblk m c 6 t →
    StepOk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c (P c t) lanes (scales (ms0_1 t) c f1) f0 f1 f2 f3 f4 f5 f6 (V m c main_arg2) (V m c main_arg3) (V m c main_arg4) (V m c main_arg5)
  fin : ∀ (c : Dev nD) (t : Fin cfg0.N) r (o11 : HbBuf0 (F := F) c (ms0_7 t)) (o12 : HbBuf0 (F := F) c (ms0_8 t)) (o13 : HbBuf0 (F := F) c (ms0_9 t)) (o14 : HbBuf0 (F := F) c (ms0_10 t)) (o15 : HbBuf0 (F := F) c (ms0_11 t)) (o16 : HbBuf0 (F := F) c (ms0_12 t)) (o17 : HbBuf0 (F := F) c (ms0_13 t)) (o18 : HbBuf0 (F := F) c (ms0_14 t)), P c t 3 r o11 o12 o13 o14 o15 o16 o17 o18 →
    Rl 7 t ((ms0_7 t).view.read (Elt F) o11) ∧ Rl 8 t ((ms0_8 t).view.read (Elt F) o12) ∧ Rl 9 t ((ms0_9 t).view.read (Elt F) o13) ∧ Rl 10 t ((ms0_10 t).view.read (Elt F) o14) ∧ Rl 11 t ((ms0_11 t).view.read (Elt F) o15) ∧ Rl 12 t ((ms0_12 t).view.read (Elt F) o16) ∧ Rl 13 t ((ms0_13 t).view.read (Elt F) o17) ∧ Rl 14 t ((ms0_14 t).view.read (Elt F) o18)

variable (vs : Values (F := F) m)

/-- What the body owns as it starts. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel isRes vs.Rl).Finds 7 t Y⌝ ∗ owns (c : Thread nD τ) (ms0_7 t) fullShare Y)
    ∗ (∃ Y, ⌜((dats m 0 c).toRRel isRes vs.Rl).Finds 8 t Y⌝ ∗ owns (c : Thread nD τ) (ms0_8 t) fullShare Y)
    ∗ (∃ Y, ⌜((dats m 0 c).toRRel isRes vs.Rl).Finds 9 t Y⌝ ∗ owns (c : Thread nD τ) (ms0_9 t) fullShare Y)
    ∗ (∃ Y, ⌜((dats m 0 c).toRRel isRes vs.Rl).Finds 10 t Y⌝ ∗ owns (c : Thread nD τ) (ms0_10 t) fullShare Y)
    ∗ (∃ Y, ⌜((dats m 0 c).toRRel isRes vs.Rl).Finds 11 t Y⌝ ∗ owns (c : Thread nD τ) (ms0_11 t) fullShare Y)
    ∗ (∃ Y, ⌜((dats m 0 c).toRRel isRes vs.Rl).Finds 12 t Y⌝ ∗ owns (c : Thread nD τ) (ms0_12 t) fullShare Y)
    ∗ (∃ Y, ⌜((dats m 0 c).toRRel isRes vs.Rl).Finds 13 t Y⌝ ∗ owns (c : Thread nD τ) (ms0_13 t) fullShare Y)
    ∗ (∃ Y, ⌜((dats m 0 c).toRRel isRes vs.Rl).Finds 14 t Y⌝ ∗ owns (c : Thread nD τ) (ms0_14 t) fullShare Y))
/-- What the body owns as it ends. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜vs.Rl 7 t X⌝ ∗ owns (c : Thread nD τ) (ms0_7 t) fullShare X)
    ∗ (∃ X, ⌜vs.Rl 8 t X⌝ ∗ owns (c : Thread nD τ) (ms0_8 t) fullShare X)
    ∗ (∃ X, ⌜vs.Rl 9 t X⌝ ∗ owns (c : Thread nD τ) (ms0_9 t) fullShare X)
    ∗ (∃ X, ⌜vs.Rl 10 t X⌝ ∗ owns (c : Thread nD τ) (ms0_10 t) fullShare X)
    ∗ (∃ X, ⌜vs.Rl 11 t X⌝ ∗ owns (c : Thread nD τ) (ms0_11 t) fullShare X)
    ∗ (∃ X, ⌜vs.Rl 12 t X⌝ ∗ owns (c : Thread nD τ) (ms0_12 t) fullShare X)
    ∗ (∃ X, ⌜vs.Rl 13 t X⌝ ∗ owns (c : Thread nD τ) (ms0_13 t) fullShare X)
    ∗ (∃ X, ⌜vs.Rl 14 t X⌝ ∗ owns (c : Thread nD τ) (ms0_14 t) fullShare X))

/-- The body runs from what it owns at its start to what it owns at its end. -/
theorem sound_body (c : Dev nD) (t : Fin cfg0.N) :
    bodyPre m vs c t ⊢ wp frame (wpE (defs₀ (F := F)) Variants.none c none) Set.univ (bodyAt0 t) (fun _ => bodyPost m vs c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  simp only [after_eq0, after_eq1, after_eq2, after_eq3, after_eq4, after_eq5, after_eq6, before0_0_of m (dats m 0 c) (A_eq m c 0) (after_eq0 m c), before0_1_of m (dats m 0 c) (A_eq m c 1) (after_eq1 m c), before0_2_of m (dats m 0 c) (A_eq m c 2) (after_eq2 m c), before0_3_of m (dats m 0 c) (A_eq m c 3) (after_eq3 m c), before0_4_of m (dats m 0 c) (A_eq m c 4) (after_eq4 m c), before0_5_of m (dats m 0 c) (A_eq m c 5) (after_eq5 m c), before0_6_of m (dats m 0 c) (A_eq m c 6) (after_eq6 m c)]
  unfold Dat.owesAt Pipeline.owesWithin
  rw [show (dats m 0 c).owed t.castSucc = 0 from rfl, show (dats m 0 c).owed t.succ = 0 from rfl]
  unfold owns
  iintro ⟨⟨⟨⟨%d100, %fs0, -, HS0⟩, ⟨%d101, %fs1, -, HS1⟩, ⟨%d102, %fs2, -, HS2⟩, ⟨%d103, %fs3, -, HS3⟩, ⟨%d105, %fs5, -, HS5⟩, ⟨%d106, %fs6, -, HS6⟩, ⟨%d107, %fs7, -, HS7⟩, ⟨%d108, %fs8, -, HS8⟩, ⟨%d109, %fs9, -, HS9⟩, ⟨%d110, %fs10, -, HS10⟩⟩, Hg, ⟨Hq7, Hq8, Hq9, Hq10⟩, ⟨Hh7, Hh8, Hh9, Hh10⟩⟩, ⟨%W, -, HW⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%Y7, %hY7, %o11, -, HO7⟩, ⟨%Y8, %hY8, %o12, -, HO8⟩, ⟨%Y9, %hY9, %o13, -, HO9⟩, ⟨%Y10, %hY10, %o14, -, HO10⟩, ⟨%Y11, %hY11, %o15, -, HO11⟩, ⟨%Y12, %hY12, %o16, -, HO12⟩, ⟨%Y13, %hY13, %o17, -, HO13⟩, ⟨%Y14, %hY14, %o18, -, HO14⟩⟩
  iapply (body_run (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c (vs.P c t) f0 f1 f2 f3 f4 f5 f6 (V m c main_arg2) (V m c main_arg3) (V m c main_arg4) (V m c main_arg5) o11 o12 o13 o14 o15 o16 o17 o18
    (vs.init c t f0 f1 f2 f3 f4 f5 f6 hf0 hf1 hf2 hf3 hf4 hf5 hf6 o11 o12 o13 o14 o15 o16 o17 o18) (vs.step c t f0 f1 f2 f3 f4 f5 f6 hf0 hf1 hf2 hf3 hf4 hf5 hf6) W _)
  unfold idle7 idle8 idle9 idle10
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HO7 HO8 HO9 HO10 HO11 HO12 HO13 HO14]
  · isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    iexact HO14
  isplitl [HS5]; · iexists _; iexact HS5
  isplitl [HS6 HS7 HS8 HS9 HS10]
  · isplitl [HS6]; · iexists _; iexact HS6
    isplitl [HS7]; · iexists _; iexact HS7
    isplitl [HS8]; · iexists _; iexact HS8
    isplitl [HS9]; · iexists _; iexact HS9
    iexists _; iexact HS10
  isplitl [Hq7 Hh7 HS0]
  · isplitl [Hq7]; · iexact Hq7
    isplitl [HS0]; · iexists _; iexact HS0
    iexact Hh7
  isplitl [Hq8 Hh8 HS1]
  · isplitl [Hq8]; · iexact Hq8
    isplitl [HS1]; · iexists _; iexact HS1
    iexact Hh8
  isplitl [Hq9 Hh9 HS2]
  · isplitl [Hq9]; · iexact Hq9
    isplitl [HS2]; · iexists _; iexact HS2
    iexact Hh9
  isplitl [Hq10 Hh10 HS3]
  · isplitl [Hq10]; · iexact Hq10
    isplitl [HS3]; · iexists _; iexact HS3
    iexact Hh10
  isplitl [HW]; · iexact HW
  unfold layerInv
  rw [cells_ge c (by decide)]
  unfold idle7 idle8 idle9 idle10
  iintro ⟨⟨H0, H1, H2, H3, H4, H5, H6⟩, ⟨%r, %e7, %e8, %e9, %e10, %e11, %e12, %e13, %e14, %hP3, HS5, ⟨HO7, HO8, HO9, HO10, HO11, HO12, HO13, HO14⟩⟩, ⟨⟨%f25, HS6⟩, ⟨%f26, HS7⟩, ⟨%f27, HS8⟩, ⟨%f28, HS9⟩, ⟨%f29, HS10⟩⟩, ⟨⟨Hq7, ⟨%f19, HS0⟩, Hh7⟩, ⟨Hq8, ⟨%f20, HS1⟩, Hh8⟩, ⟨Hq9, ⟨%f21, HS2⟩, Hh9⟩, ⟨Hq10, ⟨%f22, HS3⟩, Hh10⟩⟩, ⟨%W', HW'⟩⟩
  obtain ⟨hR7, hR8, hR9, hR10, hR11, hR12, hR13, hR14⟩ := vs.fin c t r e7 e8 e9 e10 e11 e12 e13 e14 hP3
  isplitl [HS0 HS1 HS2 HS3 HS5 HS6 HS7 HS8 HS9 HS10 Hg Hq7 Hq8 Hq9 Hq10 Hh7 Hh8 Hh9 Hh10]
  · isplitl [HS0 HS1 HS2 HS3 HS5 HS6 HS7 HS8 HS9 HS10]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      iexists _, _; isplitr; swap; · iexact HS10
      ipureintro; rfl
    isplitl [Hg]; · iexact Hg
    isplitl [Hq7 Hq8 Hq9 Hq10]
    · isplitl [Hq7]; · iexact Hq7
      isplitl [Hq8]; · iexact Hq8
      isplitl [Hq9]; · iexact Hq9
      iexact Hq10
    isplitl [Hh7]; · iexact Hh7
    isplitl [Hh8]; · iexact Hh8
    isplitl [Hh9]; · iexact Hh9
    iexact Hh10
  isplitl [HW']
  · iexists W'; isplitr; · ipureintro; exact fun _ _ => Or.inl trivial
    iexact HW'
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [HO7]
  · iexists _; isplitr; · ipureintro; exact hR7
    iexists _; isplitr; swap; · iexact HO7
    ipureintro; rfl
  isplitl [HO8]
  · iexists _; isplitr; · ipureintro; exact hR8
    iexists _; isplitr; swap; · iexact HO8
    ipureintro; rfl
  isplitl [HO9]
  · iexists _; isplitr; · ipureintro; exact hR9
    iexists _; isplitr; swap; · iexact HO9
    ipureintro; rfl
  isplitl [HO10]
  · iexists _; isplitr; · ipureintro; exact hR10
    iexists _; isplitr; swap; · iexact HO10
    ipureintro; rfl
  isplitl [HO11]
  · iexists _; isplitr; · ipureintro; exact hR11
    iexists _; isplitr; swap; · iexact HO11
    ipureintro; rfl
  isplitl [HO12]
  · iexists _; isplitr; · ipureintro; exact hR12
    iexists _; isplitr; swap; · iexact HO12
    ipureintro; rfl
  isplitl [HO13]
  · iexists _; isplitr; · ipureintro; exact hR13
    iexists _; isplitr; swap; · iexact HO13
    ipureintro; rfl
  iexists _; isplitr; · ipureintro; exact hR14
  iexists _; isplitr; swap; · iexact HO14
  ipureintro; rfl

/-- The region's procedure is the body at the grid's point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation. -/
theorem body_obligation (c : Dev nD) :
    Pipeline.BodyObligationRel (dats (F := F) m 0 c) (defs₀ (F := F)) Variants.none () Set.univ isRes vs.Rl := fun t => by
  rw [bigSep_W0, bigSep_W0, defs₀_row]
  exact triple_restated (sound_body m vs c t) rfl .rfl fun _ => .rfl

/-! ## The run and the frame -/

/-- The proof data, with what the body leaves as a relation. -/
abbrev rdats (c : Dev nD) : Pipeline.RDat τ (Elt F) Unit ℕ (Pipeline.UD sig nD τ) ℕ cfg0 c := (dats m 0 c).toRRel isRes vs.Rl

set_option backward.isDefEq.respectTransparency.types false in
/-- The run: the input arrays as launched, the output arrays related to `vs.Rl`, every counter at zero. -/
theorem run_main : θ_run defs (onTc (τ := τ) (main (F := F))) (s₀ m ρ) (fun r => Pipeline.RDat.FramePost cfg0 (rdats m vs) (V m) r ∧ r.2.sem = fun _ => 0) :=
  Pipeline.RDat.θ_run_frame_dma (Q' := _) cfgs (0 : Fin 1) launch0 osem0 defs₀ Variants.none (rdats m vs) osem0_facts H0 H0_sub m ρ main
    (hbody := fun c => (body_obligation m vs c).toRRel) (hshare := fun c => (dats m 0 c).share_full fun _ => rfl)
    (howed := fun _ _ => rfl) (V := V m) (hmain := hmain m Variants.none) (hA := A_eq m)
    (hin := fun _ => .rfl) (hout := fun _ => .rfl)

/-- The arguments after the run, off the run's post. -/
theorem args_of {r : PUnit × MemSt nD τ sig (Elt F)} (h : Pipeline.RDat.FramePost cfg0 (rdats m vs) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine ⟨?_, ?_, ?_, ?_, ?_, ?_, ?_, ?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact (h.arr_in c 1 rfl).trans (V_main_arg6 m c)
  · exact (h.arr_in c 2 rfl).trans (V_main_arg7 m c)
  · exact (h.arr_in c 3 rfl).trans (V_main_arg8 m c)
  · exact (h.arr_in c 4 rfl).trans (V_main_arg9 m c)
  · exact (h.arr_in c 5 rfl).trans (V_main_arg10 m c)

/-- No claim of the outputs. -/
def noValues : Values (F := F) m where
  Rl _ _ _ := True
  P _ _ _ _ _ _ _ _ _ _ _ _ := True
  init := by intros; trivial
  step := by intros; unfold StepOk; intros; trivial
  fin := by intros; exact ⟨trivial, trivial, trivial, trivial, trivial, trivial, trivial, trivial⟩

/-- THE FRAME: the program ends, its arguments as launched, every counter at zero. -/
theorem frame_thm : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args_of m (noValues m) h.1, h.2⟩) (run_main m ρ (noValues m))

end Cert.Kernel.Hand
end
-- ==== Proof.IdealLoops.lean ====
/- The three inner loops of the kernel's layer trip (the gate, up and down projections' row blocks): each
   one's invariant at the resource algebra of a body with transfers of its own. The pieces a trip writes are
   found by the run of one symbolic trip; the invariant is the pieces of the trips so far. -/
module

public import proofs.«01_k».proof.Proof.Gen.KernelIdeal.Loops
public import Idealize.ShloMosaic.Lib.Tactic
public import Idealize.ShloMosaic.Lib.Pipeline.FrameBody

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's, with the counters the body's own transfers take their tokens from. -/
local notation "𝕄" => MT nD τ sig Unit (Elt F) ℕ (Pipeline.UD sig nD τ) ℕ

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg7 : Memref sig .tc .hbm S3x640x2560 .i8) (harg7 : arg7.IsWhole) (arg8 : Memref sig .tc .hbm S3x1728x2560 .i8) (harg8 : arg8.IsWhole) (arg9 : Memref sig .tc .hbm S3x1728x2560 .i8) (harg9 : arg9.IsWhole) (arg10 : Memref sig .tc .hbm S3x640x6912 .i8) (harg10 : arg10.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole) (arg19 : Memref sig .tc .vmem S640x2560 .i8) (harg19 : arg19.IsWhole) (arg20 : Memref sig .tc .vmem S1792x2560 .i8) (harg20 : arg20.IsWhole) (arg21 : Memref sig .tc .vmem S1792x2560 .i8) (harg21 : arg21.IsWhole) (arg22 : Memref sig .tc .vmem S640x6912 .i8) (harg22 : arg22.IsWhole) (arg23 : DmaSems sig S11) (arg24 : Memref sig .tc .vmem S16x2560 .f32) (harg24 : arg24.IsWhole) (arg25 : Memref sig .tc .vmem S16x2560 .bf16) (harg25 : arg25.IsWhole) (arg26 : Memref sig .tc .vmem S16x6912 .bf16) (harg26 : arg26.IsWhole) (arg27 : Memref sig .tc .vmem S4x5x16x128 .f32) (harg27 : arg27.IsWhole) (arg28 : Memref sig .tc .vmem S2x4x14x16x128 .f32) (harg28 : arg28.IsWhole) (arg29 : Memref sig .tc .vmem S16x6912 .f32) (harg29 : arg29.IsWhole)

/-! ### `k0_t2_loop`: the invariant -/

/-- One trip's resources: what the region reads (arg20, arg25) at its contents, what it writes
   (arg28) at any. -/
abbrev Trip_k0_t2 (c : Dev nD) (arg20 : Memref sig .tc .vmem S1792x2560 .i8) (arg25 : Memref sig .tc .vmem S16x2560 .bf16) (arg28 : Memref sig .tc .vmem S2x4x14x16x128 .f32) (X_arg20 : BufTy.Contents (Elt F) arg20.view.ty) (X_arg25 : BufTy.Contents (Elt F) arg25.view.ty) (f_arg28 : BufTy.Contents (Elt F) arg28.view.ty) : sProp 𝕄 :=
  iprop((arg20.view.loc (c : Thread nD τ) ↦[arg20.view.set]{fullShare} X_arg20) ∗ (arg25.view.loc (c : Thread nD τ) ↦[arg25.view.set]{fullShare} X_arg25) ∗ (arg28.view.loc (c : Thread nD τ) ↦[arg28.view.set]{fullShare} f_arg28))

set_option sl_exec.squeezeSlice true in
/-- ONE TRIP of `k0_t2_loop` at a symbolic `k`, run by `sl_exec` (its rectangles' offsets closed
   forms of `k`, their geometry linear arithmetic): the pieces it writes into arg28 are the run's
   own finds — the witnesses `sl_close` assigns handing the buffers to the continuation.
   `@[irreducible]`: cited, never unfolded. -/
@[irreducible] def trip_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : Fin k0_t2_loop.trips) :
    { L_arg28 : List (View.Piece (Elt F) S2x4x14x16x128 .f32) // ∀ (E : Set ℕ) (f_arg28 : BufTy.Contents (Elt F) arg28.view.ty),
      Trip_k0_t2 (F := F) c arg20 arg25 arg28 X_arg20 X_arg25 f_arg28
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 k PUnit.unit)
          (fun _ => Trip_k0_t2 (F := F) c arg20 arg25 arg28 X_arg20 X_arg25 (arg28.view.writes (Elt F) f_arg28 L_arg28)) } := by
  have hk : k.val < 7 := Nat.lt_of_lt_of_le k.isLt k0_t2_abs.2.1
  refine ⟨?_, fun E f_arg28 => ?run⟩
  case run =>
    unfold k0_t2_body
    iintro ⟨HR_arg20, HR_arg25, HW_arg28⟩
    sl_exec
    sl_step
    sl_close

/-- The trip's piece lists (plain projections of `trip_…`, for the recursion below to cite without
   its proof). -/
abbrev tripL_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : Fin k0_t2_loop.trips) : List (View.Piece (Elt F) S2x4x14x16x128 .f32) :=
  (trip_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k).1

/-- Trip `k`'s contribution to the state the recursion `pb_k0_t2` below carries (`prev`): its pieces
   in front, per written memref; past the last trip, `prev` itself. -/
@[irreducible] def pb_k0_t2Step (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : ℕ) (prev : List (View.Piece (Elt F) S2x4x14x16x128 .f32)) : List (View.Piece (Elt F) S2x4x14x16x128 .f32) :=
  if h : k < k0_t2_loop.trips then
    (tripL_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 ⟨k, h⟩) ++ prev
  else prev

/-- The pieces of the trips before `k` (last first), per written memref. -/
def pb_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) : ℕ → List (View.Piece (Elt F) S2x4x14x16x128 .f32)
  | 0 => []
  | k + 1 => pb_k0_t2Step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k (pb_k0_t2 𝒱 c bd k0_t1 arg30 v2126 v2132 X_arg20 X_arg25 k)

/-- The loop's next trip, after the trips before. -/
theorem pb_k0_t2_succ (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (k : Fin k0_t2_loop.trips) :
    pb_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 (k.val + 1)
      = (tripL_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k) ++ (pb_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k.val) := by
  rw [pb_k0_t2.eq_2]; unfold pb_k0_t2Step; exact dif_pos k.isLt

/-- THE INVARIANT before trip `k`: arg20, arg25 read at `X_·`; arg28 holding the pieces of the trips
   before `k` written over the contents at loop entry `G_·` (stated `∃ f, … ∗ ⌜f = …⌝`, so that a
   hypothesis of any contents matches and the equation is what is proved). -/
abbrev inv_k0_t2 (𝒱 : Variants) (c : Dev nD) (bd : Option 𝒱.V) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (G_arg28 : BufTy.Contents (Elt F) arg28.view.ty) (k : ℕ) (_u : PUnit) : sProp 𝕄 :=
  iprop((arg20.view.loc (c : Thread nD τ) ↦[arg20.view.set]{fullShare} X_arg20) ∗ (arg25.view.loc (c : Thread nD τ) ↦[arg25.view.set]{fullShare} X_arg25) ∗ (∃ f, (arg28.view.loc (c : Thread nD τ) ↦[arg28.view.set]{fullShare} f) ∗ ⌜f = arg28.view.writes (Elt F) G_arg28 (pb_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k)⌝))

set_option warn.classDefReducibility false in
/-- The loop by its invariant (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (k0_t1 : Fin k0_t1_loop.trips) (arg30 : BitVec 32) (v2126 : FVec F S16x2560 .f32) (v2132 : IVec S12x2560 8) (X_arg20 : BufTy.Contents (Elt F) arg20.view.ty) (X_arg25 : BufTy.Contents (Elt F) arg25.view.ty) (G_arg28 : BufTy.Contents (Elt F) arg28.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 where
  inv := inv_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 G_arg28
  step k acc := by
    iintro ⟨HR_arg20, HR_arg25, ⟨%f_arg28, HW_arg28, %h_arg28⟩⟩
    iapply (wp_wand_r Idealize.ShloMosaic.frame (wpE (defs₀ (F := F)) 𝒱 (c : Thread nD τ) bd) E)
    isplitl [HR_arg20 HR_arg25 HW_arg28]
    · iapply ((trip_k0_t2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k).2 E f_arg28)
      isplitl [HR_arg20]; · iexact HR_arg20
      isplitl [HR_arg25]; · iexact HR_arg25
      iexact HW_arg28
    · iintro %_ ⟨HR_arg20, HR_arg25, HW_arg28⟩
      isplitl [HR_arg20]; · iexact HR_arg20
      isplitl [HR_arg25]; · iexact HR_arg25
      rw [pb_k0_t2_succ]
      iexists _; isplitl [HW_arg28]; · iexact HW_arg28
      ipureintro; rw [h_arg28, ← View.writes_append]

/-! ### `k0_t3_loop`: the invariant -/

/-- One trip's resources: what the region reads (arg21, arg25) at its contents, what it writes
   (arg28) at any. -/
abbrev Trip_k0_t3 (c : Dev nD) (arg21 : Memref sig .tc .vmem S1792x2560 .i8) (arg25 : Memref sig .tc .vmem S16x2560 .bf16) (arg28 : Memref sig .tc .vmem S2x4x14x16x128 .f32) (X_arg21 : BufTy.Contents (Elt F) arg21.view.ty) (X_arg25 : BufTy.Contents (Elt F) arg25.view.ty) (f_arg28 : BufTy.Contents (Elt F) arg28.view.ty) : sProp 𝕄 :=
  iprop((arg21.view.loc (c : Thread nD τ) ↦[arg21.view.set]{fullShare} X_arg21) ∗ (arg25.view.loc (c : Thread nD τ) ↦[arg25.view.set]{fullShare} X_arg25) ∗ (arg28.view.loc (c : Thread nD τ) ↦[arg28.view.set]{fullShare} f_arg28))

set_option sl_exec.squeezeSlice true in
/-- ONE TRIP of `k0_t3_loop` at a symbolic `k`, run by `sl_exec` (its rectangles' offsets closed
   forms of `k`, their geometry linear arithmetic): the pieces it writes into arg28 are the run's
   own finds — the witnesses `sl_close` assigns handing the buffers to the continuation.
   `@[irreducible]`: cited, never unfolded. -/
@[irreducible] def trip_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : Fin k0_t3_loop.trips) :
    { L_arg28 : List (View.Piece (Elt F) S2x4x14x16x128 .f32) // ∀ (E : Set ℕ) (f_arg28 : BufTy.Contents (Elt F) arg28.view.ty),
      Trip_k0_t3 (F := F) c arg21 arg25 arg28 X_arg21 X_arg25 f_arg28
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 k PUnit.unit)
          (fun _ => Trip_k0_t3 (F := F) c arg21 arg25 arg28 X_arg21 X_arg25 (arg28.view.writes (Elt F) f_arg28 L_arg28)) } := by
  have hk : k.val < 7 := Nat.lt_of_lt_of_le k.isLt k0_t3_abs.2.1
  refine ⟨?_, fun E f_arg28 => ?run⟩
  case run =>
    unfold k0_t3_body
    iintro ⟨HR_arg21, HR_arg25, HW_arg28⟩
    sl_exec
    sl_step
    sl_close

/-- The trip's piece lists (plain projections of `trip_…`, for the recursion below to cite without
   its proof). -/
abbrev tripL_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : Fin k0_t3_loop.trips) : List (View.Piece (Elt F) S2x4x14x16x128 .f32) :=
  (trip_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k).1

/-- Trip `k`'s contribution to the state the recursion `pb_k0_t3` below carries (`prev`): its pieces
   in front, per written memref; past the last trip, `prev` itself. -/
@[irreducible] def pb_k0_t3Step (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : ℕ) (prev : List (View.Piece (Elt F) S2x4x14x16x128 .f32)) : List (View.Piece (Elt F) S2x4x14x16x128 .f32) :=
  if h : k < k0_t3_loop.trips then
    (tripL_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 ⟨k, h⟩) ++ prev
  else prev

/-- The pieces of the trips before `k` (last first), per written memref. -/
def pb_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) : ℕ → List (View.Piece (Elt F) S2x4x14x16x128 .f32)
  | 0 => []
  | k + 1 => pb_k0_t3Step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k (pb_k0_t3 𝒱 c bd k0_t1 arg30 v2126 v2132 X_arg21 X_arg25 k)

/-- The loop's next trip, after the trips before. -/
theorem pb_k0_t3_succ (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (k : Fin k0_t3_loop.trips) :
    pb_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 (k.val + 1)
      = (tripL_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k) ++ (pb_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k.val) := by
  rw [pb_k0_t3.eq_2]; unfold pb_k0_t3Step; exact dif_pos k.isLt

/-- THE INVARIANT before trip `k`: arg21, arg25 read at `X_·`; arg28 holding the pieces of the trips
   before `k` written over the contents at loop entry `G_·` (stated `∃ f, … ∗ ⌜f = …⌝`, so that a
   hypothesis of any contents matches and the equation is what is proved). -/
abbrev inv_k0_t3 (𝒱 : Variants) (c : Dev nD) (bd : Option 𝒱.V) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (G_arg28 : BufTy.Contents (Elt F) arg28.view.ty) (k : ℕ) (_u : PUnit) : sProp 𝕄 :=
  iprop((arg21.view.loc (c : Thread nD τ) ↦[arg21.view.set]{fullShare} X_arg21) ∗ (arg25.view.loc (c : Thread nD τ) ↦[arg25.view.set]{fullShare} X_arg25) ∗ (∃ f, (arg28.view.loc (c : Thread nD τ) ↦[arg28.view.set]{fullShare} f) ∗ ⌜f = arg28.view.writes (Elt F) G_arg28 (pb_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k)⌝))

set_option warn.classDefReducibility false in
/-- The loop by its invariant (`@[sl_loop]`: `sl_exec` finds it meeting `k0_t3_loop`,
   fixing `X_· G_·` against the context; after the loop each written memref holds `writes G (pb …
   trips)`). -/
@[sl_loop] def loopInv_k0_t3 (𝒱 : Variants) (c : Dev nD) (bd : Option 𝒱.V) (E : Set ℕ) (k0_t1 : Fin k0_t1_loop.trips) (arg30 : BitVec 32) (v2126 : FVec F S16x2560 .f32) (v2132 : IVec S12x2560 8) (X_arg21 : BufTy.Contents (Elt F) arg21.view.ty) (X_arg25 : BufTy.Contents (Elt F) arg25.view.ty) (G_arg28 : BufTy.Contents (Elt F) arg28.view.ty) :
    LoopInvTy_k0_t3 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2126 v2132 where
  inv := inv_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 G_arg28
  step k acc := by
    iintro ⟨HR_arg21, HR_arg25, ⟨%f_arg28, HW_arg28, %h_arg28⟩⟩
    iapply (wp_wand_r Idealize.ShloMosaic.frame (wpE (defs₀ (F := F)) 𝒱 (c : Thread nD τ) bd) E)
    isplitl [HR_arg21 HR_arg25 HW_arg28]
    · iapply ((trip_k0_t3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k).2 E f_arg28)
      isplitl [HR_arg21]; · iexact HR_arg21
      isplitl [HR_arg25]; · iexact HR_arg25
      iexact HW_arg28
    · iintro %_ ⟨HR_arg21, HR_arg25, HW_arg28⟩
      isplitl [HR_arg21]; · iexact HR_arg21
      isplitl [HR_arg25]; · iexact HR_arg25
      rw [pb_k0_t3_succ]
      iexists _; isplitl [HW_arg28]; · iexact HW_arg28
      ipureintro; rw [h_arg28, ← View.writes_append]

/-! ### `k0_t4_loop`: the invariant -/

/-- One trip's resources: what the region reads (arg22, arg26) at its contents, what it writes
   (arg27) at any. -/
abbrev Trip_k0_t4 (c : Dev nD) (arg22 : Memref sig .tc .vmem S640x6912 .i8) (arg26 : Memref sig .tc .vmem S16x6912 .bf16) (arg27 : Memref sig .tc .vmem S4x5x16x128 .f32) (X_arg22 : BufTy.Contents (Elt F) arg22.view.ty) (X_arg26 : BufTy.Contents (Elt F) arg26.view.ty) (f_arg27 : BufTy.Contents (Elt F) arg27.view.ty) : sProp 𝕄 :=
  iprop((arg22.view.loc (c : Thread nD τ) ↦[arg22.view.set]{fullShare} X_arg22) ∗ (arg26.view.loc (c : Thread nD τ) ↦[arg26.view.set]{fullShare} X_arg26) ∗ (arg27.view.loc (c : Thread nD τ) ↦[arg27.view.set]{fullShare} f_arg27))

/-- ONE TRIP of `k0_t4_loop` at a symbolic `k`, run by `sl_exec` (its rectangles' offsets closed
   forms of `k`, their geometry linear arithmetic): the pieces it writes into arg27 are the run's
   own finds — the witnesses `sl_close` assigns handing the buffers to the continuation.
   `@[irreducible]`: cited, never unfolded. -/
@[irreducible] def trip_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : Fin k0_t4_loop.trips) :
    { L_arg27 : List (View.Piece (Elt F) S4x5x16x128 .f32) // ∀ (E : Set ℕ) (f_arg27 : BufTy.Contents (Elt F) arg27.view.ty),
      Trip_k0_t4 (F := F) c arg22 arg26 arg27 X_arg22 X_arg26 f_arg27
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2468 v2470 k PUnit.unit)
          (fun _ => Trip_k0_t4 (F := F) c arg22 arg26 arg27 X_arg22 X_arg26 (arg27.view.writes (Elt F) f_arg27 L_arg27)) } := by
  have hk : k.val < 5 := Nat.lt_of_lt_of_le k.isLt k0_t4_abs.2.1
  refine ⟨?_, fun E f_arg27 => ?run⟩
  case run =>
    unfold k0_t4_body
    iintro ⟨HR_arg22, HR_arg26, HW_arg27⟩
    sl_exec
    sl_step
    sl_close

/-- The trip's piece lists (plain projections of `trip_…`, for the recursion below to cite without
   its proof). -/
abbrev tripL_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : Fin k0_t4_loop.trips) : List (View.Piece (Elt F) S4x5x16x128 .f32) :=
  (trip_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k).1

/-- Trip `k`'s contribution to the state the recursion `pb_k0_t4` below carries (`prev`): its pieces
   in front, per written memref; past the last trip, `prev` itself. -/
@[irreducible] def pb_k0_t4Step (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : ℕ) (prev : List (View.Piece (Elt F) S4x5x16x128 .f32)) : List (View.Piece (Elt F) S4x5x16x128 .f32) :=
  if h : k < k0_t4_loop.trips then
    (tripL_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 ⟨k, h⟩) ++ prev
  else prev

/-- The pieces of the trips before `k` (last first), per written memref. -/
def pb_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) : ℕ → List (View.Piece (Elt F) S4x5x16x128 .f32)
  | 0 => []
  | k + 1 => pb_k0_t4Step arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k (pb_k0_t4 𝒱 c bd k0_t1 arg30 v2468 v2470 X_arg22 X_arg26 k)

/-- The loop's next trip, after the trips before. -/
theorem pb_k0_t4_succ (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (k : Fin k0_t4_loop.trips) :
    pb_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 (k.val + 1)
      = (tripL_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k) ++ (pb_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k.val) := by
  rw [pb_k0_t4.eq_2]; unfold pb_k0_t4Step; exact dif_pos k.isLt

/-- THE INVARIANT before trip `k`: arg22, arg26 read at `X_·`; arg27 holding the pieces of the trips
   before `k` written over the contents at loop entry `G_·` (stated `∃ f, … ∗ ⌜f = …⌝`, so that a
   hypothesis of any contents matches and the equation is what is proved). -/
abbrev inv_k0_t4 (𝒱 : Variants) (c : Dev nD) (bd : Option 𝒱.V) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (G_arg27 : BufTy.Contents (Elt F) arg27.view.ty) (k : ℕ) (_u : PUnit) : sProp 𝕄 :=
  iprop((arg22.view.loc (c : Thread nD τ) ↦[arg22.view.set]{fullShare} X_arg22) ∗ (arg26.view.loc (c : Thread nD τ) ↦[arg26.view.set]{fullShare} X_arg26) ∗ (∃ f, (arg27.view.loc (c : Thread nD τ) ↦[arg27.view.set]{fullShare} f) ∗ ⌜f = arg27.view.writes (Elt F) G_arg27 (pb_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k)⌝))

set_option warn.classDefReducibility false in
/-- The loop by its invariant (`@[sl_loop]`: `sl_exec` finds it meeting `k0_t4_loop`,
   fixing `X_· G_·` against the context; after the loop each written memref holds `writes G (pb …
   trips)`). -/
@[sl_loop] def loopInv_k0_t4 (𝒱 : Variants) (c : Dev nD) (bd : Option 𝒱.V) (E : Set ℕ) (k0_t1 : Fin k0_t1_loop.trips) (arg30 : BitVec 32) (v2468 : FVec F S16x6912 .f32) (v2470 : FVec F S16 .f32) (X_arg22 : BufTy.Contents (Elt F) arg22.view.ty) (X_arg26 : BufTy.Contents (Elt F) arg26.view.ty) (G_arg27 : BufTy.Contents (Elt F) arg27.view.ty) :
    LoopInvTy_k0_t4 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 k0_t1 arg30 v2468 v2470 where
  inv := inv_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 G_arg27
  step k acc := by
    iintro ⟨HR_arg22, HR_arg26, ⟨%f_arg27, HW_arg27, %h_arg27⟩⟩
    iapply (wp_wand_r Idealize.ShloMosaic.frame (wpE (defs₀ (F := F)) 𝒱 (c : Thread nD τ) bd) E)
    isplitl [HR_arg22 HR_arg26 HW_arg27]
    · iapply ((trip_k0_t4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k).2 E f_arg27)
      isplitl [HR_arg22]; · iexact HR_arg22
      isplitl [HR_arg26]; · iexact HR_arg26
      iexact HW_arg27
    · iintro %_ ⟨HR_arg22, HR_arg26, HW_arg27⟩
      isplitl [HR_arg22]; · iexact HR_arg22
      isplitl [HR_arg26]; · iexact HR_arg26
      rw [pb_k0_t4_succ]
      iexists _; isplitl [HW_arg27]; · iexact HW_arg27
      ipureintro; rw [h_arg27, ← View.writes_append]

end Cert.KernelIdeal.Hand

end
-- ==== Proof.IdealTrip.lean ====
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import proofs.«01_k».proof.Proof.IdealLoops
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, with the counters the body's own transfers take their tokens from. -/
local notation "𝕄" => MT nD τ sig Unit (Elt F) ℕ (Pipeline.UD sig nD τ) ℕ

abbrev scM0_0 : Memref sig .tc .vmem S640x2560 .i8 := Memref.whole cc0_scratch0
abbrev scM0_1 : Memref sig .tc .vmem S1792x2560 .i8 := Memref.whole cc0_scratch1
abbrev scM0_2 : Memref sig .tc .vmem S1792x2560 .i8 := Memref.whole cc0_scratch2
abbrev scM0_3 : Memref sig .tc .vmem S640x6912 .i8 := Memref.whole cc0_scratch3
abbrev scM0_5 : Memref sig .tc .vmem S16x2560 .f32 := Memref.whole cc0_scratch5
abbrev scM0_6 : Memref sig .tc .vmem S16x2560 .bf16 := Memref.whole cc0_scratch6
abbrev scM0_7 : Memref sig .tc .vmem S16x6912 .bf16 := Memref.whole cc0_scratch7
abbrev scM0_8 : Memref sig .tc .vmem S4x5x16x128 .f32 := Memref.whole cc0_scratch8
abbrev scM0_9 : Memref sig .tc .vmem S2x4x14x16x128 .f32 := Memref.whole cc0_scratch9
abbrev scM0_10 : Memref sig .tc .vmem S16x6912 .f32 := Memref.whole cc0_scratch10
abbrev hbM0_0 : Memref sig .tc .hbm S3x640x2560 .i8 := Memref.whole main_arg2
abbrev hbM0_1 : Memref sig .tc .hbm S3x1728x2560 .i8 := Memref.whole main_arg3
abbrev hbM0_2 : Memref sig .tc .hbm S3x1728x2560 .i8 := Memref.whole main_arg4
abbrev hbM0_3 : Memref sig .tc .hbm S3x640x6912 .i8 := Memref.whole main_arg5
/-- The contents of a memref's buffer. -/
abbrev HbBuf0 (c : Dev nD) {sp : Space} {S : Shape} {e : EltTy} (M : Memref sig .tc sp S e) : Type := Buf (Elt F) (M.view.loc (c : Thread nD τ))
/-- The ownership of a memref's buffer with its contents. -/
abbrev hbPt0 (c : Dev nD) {sp : Space} {S : Shape} {e : EltTy} (M : Memref sig .tc sp S e) (f : HbBuf0 (F := F) c M) : sProp 𝕄 :=
  M.view.loc (c : Thread nD τ) ↦{fullShare} f
/-- A buffer of the body's, held whole at contents `f`. -/
abbrev pt (c : Dev nD) {sp : Space} {S : Shape} {e : EltTy} (M : Memref sig .tc sp S e) (f : HbBuf0 (F := F) c M) : sProp 𝕄 :=
  M.view.loc (c : Thread nD τ) ↦[M.view.set]{fullShare} f

/-- Layer `o 0`'s slab of a weight argument, as the kernel's copies name it. -/
abbrev slab7 (o : Fin 3 → ℕ) (h : ∀ a, o a + S1x640x2560.size a ≤ S3x640x2560.size a) : Memref sig .tc .hbm S640x2560 .i8 :=
  (hbM0_0.slice (Rect.unit (s := S3x640x2560) o S1x640x2560.size h) (fun _ => rfl)).squeeze S640x2560 squeezes_S1x640x2560_S640x2560
abbrev slab8 (o : Fin 3 → ℕ) (h : ∀ a, o a + S1x1728x2560.size a ≤ S3x1728x2560.size a) : Memref sig .tc .hbm S1728x2560 .i8 :=
  (hbM0_1.slice (Rect.unit (s := S3x1728x2560) o S1x1728x2560.size h) (fun _ => rfl)).squeeze S1728x2560 squeezes_S1x1728x2560_S1728x2560
abbrev slab9 (o : Fin 3 → ℕ) (h : ∀ a, o a + S1x1728x2560.size a ≤ S3x1728x2560.size a) : Memref sig .tc .hbm S1728x2560 .i8 :=
  (hbM0_2.slice (Rect.unit (s := S3x1728x2560) o S1x1728x2560.size h) (fun _ => rfl)).squeeze S1728x2560 squeezes_S1x1728x2560_S1728x2560
abbrev slab10 (o : Fin 3 → ℕ) (h : ∀ a, o a + S1x640x6912.size a ≤ S3x640x6912.size a) : Memref sig .tc .hbm S640x6912 .i8 :=
  (hbM0_3.slice (Rect.unit (s := S3x640x6912) o S1x640x6912.size h) (fun _ => rfl)).squeeze S640x6912 squeezes_S1x640x6912_S640x6912

/-- The copy of a layer's slab of argument 7 in flight: its buffer whole at `g` and the slab back when waited for; and the
    rest of the argument. -/
abbrev fl7 (c : Dev nD) (o : Fin 3 → ℕ) (h : ∀ a, o a + S1x640x2560.size a ≤ S3x640x2560.size a) (g : HbBuf0 (F := F) c scM0_0) (f : HbBuf0 (F := F) c hbM0_0) : sProp 𝕄 :=
  iprop(Transfers.Flight (countersEmb (U := Pipeline.UD sig nD τ)) (c : Thread nD τ) (SemLoc.dma 22) () 51200
      iprop(pt c scM0_0 g ∗ (hbM0_0.view.loc (c : Thread nD τ) ↦[(slab7 o h).view.set]{fullShare} f))
    ∗ (hbM0_0.view.loc (c : Thread nD τ) ↦[Finset.univ \ (slab7 o h).view.set]{fullShare} f))
/-- The copy of a layer's slab of argument 8 in flight: its buffer whole at `g` and the slab back when waited for; and the
    rest of the argument. -/
abbrev fl8 (c : Dev nD) (o : Fin 3 → ℕ) (h : ∀ a, o a + S1x1728x2560.size a ≤ S3x1728x2560.size a) (g : HbBuf0 (F := F) c scM0_1) (f : HbBuf0 (F := F) c hbM0_1) : sProp 𝕄 :=
  iprop(Transfers.Flight (countersEmb (U := Pipeline.UD sig nD τ)) (c : Thread nD τ) (SemLoc.dma 23) () 138240
      iprop(pt c scM0_1 g ∗ (hbM0_1.view.loc (c : Thread nD τ) ↦[(slab8 o h).view.set]{fullShare} f))
    ∗ (hbM0_1.view.loc (c : Thread nD τ) ↦[Finset.univ \ (slab8 o h).view.set]{fullShare} f))
/-- The copy of a layer's slab of argument 9 in flight: its buffer whole at `g` and the slab back when waited for; and the
    rest of the argument. -/
abbrev fl9 (c : Dev nD) (o : Fin 3 → ℕ) (h : ∀ a, o a + S1x1728x2560.size a ≤ S3x1728x2560.size a) (g : HbBuf0 (F := F) c scM0_2) (f : HbBuf0 (F := F) c hbM0_2) : sProp 𝕄 :=
  iprop(Transfers.Flight (countersEmb (U := Pipeline.UD sig nD τ)) (c : Thread nD τ) (SemLoc.dma 24) () 138240
      iprop(pt c scM0_2 g ∗ (hbM0_2.view.loc (c : Thread nD τ) ↦[(slab9 o h).view.set]{fullShare} f))
    ∗ (hbM0_2.view.loc (c : Thread nD τ) ↦[Finset.univ \ (slab9 o h).view.set]{fullShare} f))
/-- The copy of a layer's slab of argument 10 in flight: its buffer whole at `g` and the slab back when waited for; and the
    rest of the argument. -/
abbrev fl10 (c : Dev nD) (o : Fin 3 → ℕ) (h : ∀ a, o a + S1x640x6912.size a ≤ S3x640x6912.size a) (g : HbBuf0 (F := F) c scM0_3) (f : HbBuf0 (F := F) c hbM0_3) : sProp 𝕄 :=
  iprop(Transfers.Flight (countersEmb (U := Pipeline.UD sig nD τ)) (c : Thread nD τ) (SemLoc.dma 25) () 138240
      iprop(pt c scM0_3 g ∗ (hbM0_3.view.loc (c : Thread nD τ) ↦[(slab10 o h).view.set]{fullShare} f))
    ∗ (hbM0_3.view.loc (c : Thread nD τ) ↦[Finset.univ \ (slab10 o h).view.set]{fullShare} f))

/-- While a layer follows, every refill condition holds. -/
theorem cond_of : ∀ k : Fin k0_t1_loop.trips, k.val + 1 < 3 → k0_cond1 k = 1#1 ∧ k0_cond2 k = 1#1 ∧ k0_cond3 k = 1#1 ∧ k0_cond4 k = 1#1 := by decide +kernel
/-- In the last layer no refill condition holds. -/
theorem cond_not : ∀ k : Fin k0_t1_loop.trips, ¬ k.val + 1 < 3 → ¬ k0_cond1 k = 1#1 ∧ ¬ k0_cond2 k = 1#1 ∧ ¬ k0_cond3 k = 1#1 ∧ ¬ k0_cond4 k = 1#1 := by decide +kernel

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)

/-- What a layer's trip writes: the pieces of each output and of the residual stream. -/
structure TripOut (F : FTy → Type) where
  L11 : List (View.Piece (Elt F) S3x12x1x2560 .f32)
  L12 : List (View.Piece (Elt F) S3x12x1x2560 .f32)
  L13 : List (View.Piece (Elt F) S3x12x1x6912 .f32)
  L14 : List (View.Piece (Elt F) S3x12x2560 .i8)
  L15 : List (View.Piece (Elt F) S3x12x2560 .i8)
  L16 : List (View.Piece (Elt F) S3x12x2560 .i8)
  L17 : List (View.Piece (Elt F) S3x12x6912 .i8)
  L18 : List (View.Piece (Elt F) S3x32x12 .f32)
  L24 : List (View.Piece (Elt F) S16x2560 .f32)

/-- The inputs, held whole at their contents. -/
abbrev tripIns (c : Dev nD) (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) : sProp 𝕄 :=
  iprop(pt c arg0 f0 ∗ pt c arg1 f1 ∗ pt c arg2 f2 ∗ pt c arg3 f3 ∗ pt c arg4 f4 ∗ pt c arg5 f5 ∗ pt c arg6 f6)
/-- The outputs, held whole. -/
abbrev tripOuts (c : Dev nD) (f11 : HbBuf0 (F := F) c arg11) (f12 : HbBuf0 (F := F) c arg12) (f13 : HbBuf0 (F := F) c arg13) (f14 : HbBuf0 (F := F) c arg14) (f15 : HbBuf0 (F := F) c arg15) (f16 : HbBuf0 (F := F) c arg16) (f17 : HbBuf0 (F := F) c arg17) (f18 : HbBuf0 (F := F) c arg18) : sProp 𝕄 :=
  iprop(pt c arg11 f11 ∗ pt c arg12 f12 ∗ pt c arg13 f13 ∗ pt c arg14 f14 ∗ pt c arg15 f15 ∗ pt c arg16 f16 ∗ pt c arg17 f17 ∗ pt c arg18 f18)
/-- The scratch whose contents no later layer reads, held whole at anything. -/
abbrev tripScr (c : Dev nD) : sProp 𝕄 :=
  iprop((∃ f, pt c scM0_6 f) ∗ (∃ f, pt c scM0_7 f) ∗ (∃ f, pt c scM0_8 f) ∗ (∃ f, pt c scM0_9 f) ∗ (∃ f, pt c scM0_10 f))
/-- What the buffer of argument 7 holds once layer `o 0`'s slab has landed over `g`. -/
abbrev land7 (c : Dev nD) (o : Fin 3 → ℕ) (h : ∀ a, o a + S1x640x2560.size a ≤ S3x640x2560.size a) (g : HbBuf0 (F := F) c scM0_0) (f : HbBuf0 (F := F) c hbM0_0) : HbBuf0 (F := F) c scM0_0 :=
  (scM0_0).view.writes (Elt F) g [⟨Rect.whole S640x2560, ReadAs.same.apply ((slab7 o h).view.read (Elt F) f)⟩]
/-- What the buffer of argument 8 holds once layer `o 0`'s slab has landed over `g`. -/
abbrev land8 (c : Dev nD) (o : Fin 3 → ℕ) (h : ∀ a, o a + S1x1728x2560.size a ≤ S3x1728x2560.size a) (g : HbBuf0 (F := F) c scM0_1) (f : HbBuf0 (F := F) c hbM0_1) : HbBuf0 (F := F) c scM0_1 :=
  (scM0_1).view.writes (Elt F) g [⟨Rect.unit ![0, 0] S1728x2560.size inb_S1792x2560_S1728x2560_0_0, ReadAs.same.apply ((slab8 o h).view.read (Elt F) f)⟩]
/-- What the buffer of argument 9 holds once layer `o 0`'s slab has landed over `g`. -/
abbrev land9 (c : Dev nD) (o : Fin 3 → ℕ) (h : ∀ a, o a + S1x1728x2560.size a ≤ S3x1728x2560.size a) (g : HbBuf0 (F := F) c scM0_2) (f : HbBuf0 (F := F) c hbM0_2) : HbBuf0 (F := F) c scM0_2 :=
  (scM0_2).view.writes (Elt F) g [⟨Rect.unit ![0, 0] S1728x2560.size inb_S1792x2560_S1728x2560_0_0, ReadAs.same.apply ((slab9 o h).view.read (Elt F) f)⟩]
/-- What the buffer of argument 10 holds once layer `o 0`'s slab has landed over `g`. -/
abbrev land10 (c : Dev nD) (o : Fin 3 → ℕ) (h : ∀ a, o a + S1x640x6912.size a ≤ S3x640x6912.size a) (g : HbBuf0 (F := F) c scM0_3) (f : HbBuf0 (F := F) c hbM0_3) : HbBuf0 (F := F) c scM0_3 :=
  (scM0_3).view.writes (Elt F) g [⟨Rect.whole S640x6912, ReadAs.same.apply ((slab10 o h).view.read (Elt F) f)⟩]

/-- One layer's trip, every layer but the last: what it writes (found by the run), and that it runs, leaving the four weight
    buffers to the next layer's copies in flight. -/
def tripA (c : Dev nD) (k : Fin k0_t1_loop.trips) (v0 : IVec S1x128 32) (v29 : Vec F S3x7 .bf16) (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f19 : HbBuf0 (F := F) c scM0_0) (f20 : HbBuf0 (F := F) c scM0_1) (f21 : HbBuf0 (F := F) c scM0_2) (f22 : HbBuf0 (F := F) c scM0_3) (f24 : HbBuf0 (F := F) c scM0_5) (f28 : HbBuf0 (F := F) c scM0_9) :
    { T : TripOut F // ∀ (hk : k.val + 1 < 3) (f7 : HbBuf0 (F := F) c hbM0_0) (f8 : HbBuf0 (F := F) c hbM0_1) (f9 : HbBuf0 (F := F) c hbM0_2) (f10 : HbBuf0 (F := F) c hbM0_3) (f11 : HbBuf0 (F := F) c arg11) (f12 : HbBuf0 (F := F) c arg12) (f13 : HbBuf0 (F := F) c arg13) (f14 : HbBuf0 (F := F) c arg14) (f15 : HbBuf0 (F := F) c arg15) (f16 : HbBuf0 (F := F) c arg16) (f17 : HbBuf0 (F := F) c arg17) (f18 : HbBuf0 (F := F) c arg18) (f25 : HbBuf0 (F := F) c scM0_6) (f26 : HbBuf0 (F := F) c scM0_7) (f27 : HbBuf0 (F := F) c scM0_8) (f29 : HbBuf0 (F := F) c scM0_10) (o7 : Fin 3 → ℕ) (h7 : ∀ a, o7 a + S1x640x2560.size a ≤ S3x640x2560.size a) (o8 : Fin 3 → ℕ) (h8 : ∀ a, o8 a + S1x1728x2560.size a ≤ S3x1728x2560.size a) (o9 : Fin 3 → ℕ) (h9 : ∀ a, o9 a + S1x1728x2560.size a ≤ S3x1728x2560.size a) (o10 : Fin 3 → ℕ) (h10 : ∀ a, o10 a + S1x640x6912.size a ≤ S3x640x6912.size a) (W : Waits sig Unit) (K : PUnit → sProp 𝕄),
      iprop(tripIns arg0 arg1 arg2 arg3 arg4 arg5 arg6 c f0 f1 f2 f3 f4 f5 f6 ∗ tripOuts arg11 arg12 arg13 arg14 arg15 arg16 arg17 arg18 c f11 f12 f13 f14 f15 f16 f17 f18 ∗ pt c scM0_5 f24 ∗ pt c scM0_6 f25 ∗ pt c scM0_7 f26 ∗ pt c scM0_8 f27 ∗ pt c scM0_9 f28 ∗ pt c scM0_10 f29 ∗ fl7 c o7 h7 f19 f7 ∗ fl8 c o8 h8 f20 f8 ∗ fl9 c o9 h9 f21 f9 ∗ fl10 c o10 h10 f22 f10 ∗ owes (c : Thread nD τ) 0 W
        ∗ (iprop(tripIns arg0 arg1 arg2 arg3 arg4 arg5 arg6 c f0 f1 f2 f3 f4 f5 f6 ∗ tripOuts arg11 arg12 arg13 arg14 arg15 arg16 arg17 arg18 c (arg11.view.writes (Elt F) f11 T.L11) (arg12.view.writes (Elt F) f12 T.L12) (arg13.view.writes (Elt F) f13 T.L13) (arg14.view.writes (Elt F) f14 T.L14) (arg15.view.writes (Elt F) f15 T.L15) (arg16.view.writes (Elt F) f16 T.L16) (arg17.view.writes (Elt F) f17 T.L17) (arg18.view.writes (Elt F) f18 T.L18) ∗ pt c scM0_5 ((scM0_5).view.writes (Elt F) (scM0_5).view.junk T.L24) ∗ tripScr c ∗ fl7 c (k0_off18 k) (k0_off18_inb k (cond_of k hk).1) (land7 c (k0_off18 k) (k0_off18_inb k (cond_of k hk).1) f19 f7) f7 ∗ fl8 c (k0_off35 k) (k0_off35_inb k (cond_of k hk).2.1) (land8 c (k0_off35 k) (k0_off35_inb k (cond_of k hk).2.1) f20 f8) f8 ∗ fl9 c (k0_off50 k) (k0_off50_inb k (cond_of k hk).2.2.1) (land9 c (k0_off50 k) (k0_off50_inb k (cond_of k hk).2.2.1) f21 f9) f9 ∗ fl10 c (k0_off86 k) (k0_off86_inb k (cond_of k hk).2.2.2) (land10 c (k0_off86 k) (k0_off86_inb k (cond_of k hk).2.2.2) f22 f10) f10 ∗ (∃ W', owes (c : Thread nD τ) 0 W')) -∗ K ⟨⟩))
      ⊢ wp frame (wpE (defs₀ (F := F)) Variants.none c none) Set.univ (k0_t1_body arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) v0 v29 k ⟨⟩) K } := by
  refine ⟨⟨?_, ?_, ?_, ?_, ?_, ?_, ?_, ?_, ?_⟩, fun hk f7 f8 f9 f10 f11 f12 f13 f14 f15 f16 f17 f18 f25 f26 f27 f29 o7 h7 o8 h8 o9 h9 o10 h10 W K => ?run⟩
  case run =>
    dsimp only
    have hk' : k.val < 3 := Nat.lt_of_lt_of_le k.isLt k0_t1_abs.2.1
    obtain ⟨hC1, hC2, hC3, hC4⟩ := cond_of k hk
    unfold k0_t1_body
    iintro ⟨⟨H0, H1, H2, H3, H4, H5, H6⟩, ⟨H11, H12, H13, H14, H15, H16, H17, H18⟩, H24, H25, H26, H27, H28, H29, ⟨Hq7, H7⟩, ⟨Hq8, H8⟩, ⟨Hq9, H9⟩, ⟨Hq10, H10⟩, HW, Hk⟩
    sl_exec
    sl_step
    iapply Hk
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H11 H12 H13 H14 H15 H16 H17 H18]
    · isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H24]; · iexact H24
    isplitl [H25 H26 H27 H28 H29]
    · isplitl [H25]; · iexists _; iexact H25
      isplitl [H26]; · iexists _; iexact H26
      isplitl [H27]; · iexists _; iexact H27
      isplitl [H28]; · iexists _; iexact H28
      iexists _; iexact H29
    isplitl [Hq7 H7]
    · isplitl [Hq7]; · iexact Hq7
      iexact H7
    isplitl [Hq8 H8]
    · isplitl [Hq8]; · iexact Hq8
      iexact H8
    isplitl [Hq9 H9]
    · isplitl [Hq9]; · iexact Hq9
      iexact H9
    isplitl [Hq10 H10]
    · isplitl [Hq10]; · iexact Hq10
      iexact H10
    iexists _; iexact HW

/-- The last layer's trip writes what `tripA` names, and leaves the four cells idle. -/
theorem tripB (c : Dev nD) (k : Fin k0_t1_loop.trips) (v0 : IVec S1x128 32) (v29 : Vec F S3x7 .bf16) (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f19 : HbBuf0 (F := F) c scM0_0) (f20 : HbBuf0 (F := F) c scM0_1) (f21 : HbBuf0 (F := F) c scM0_2) (f22 : HbBuf0 (F := F) c scM0_3) (f24 : HbBuf0 (F := F) c scM0_5) (f28 : HbBuf0 (F := F) c scM0_9) : let T := (tripA arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 f19 f20 f21 f22 f24 f28).1;
    ∀ (hk : ¬ k.val + 1 < 3) (f7 : HbBuf0 (F := F) c hbM0_0) (f8 : HbBuf0 (F := F) c hbM0_1) (f9 : HbBuf0 (F := F) c hbM0_2) (f10 : HbBuf0 (F := F) c hbM0_3) (f11 : HbBuf0 (F := F) c arg11) (f12 : HbBuf0 (F := F) c arg12) (f13 : HbBuf0 (F := F) c arg13) (f14 : HbBuf0 (F := F) c arg14) (f15 : HbBuf0 (F := F) c arg15) (f16 : HbBuf0 (F := F) c arg16) (f17 : HbBuf0 (F := F) c arg17) (f18 : HbBuf0 (F := F) c arg18) (f25 : HbBuf0 (F := F) c scM0_6) (f26 : HbBuf0 (F := F) c scM0_7) (f27 : HbBuf0 (F := F) c scM0_8) (f29 : HbBuf0 (F := F) c scM0_10) (o7 : Fin 3 → ℕ) (h7 : ∀ a, o7 a + S1x640x2560.size a ≤ S3x640x2560.size a) (o8 : Fin 3 → ℕ) (h8 : ∀ a, o8 a + S1x1728x2560.size a ≤ S3x1728x2560.size a) (o9 : Fin 3 → ℕ) (h9 : ∀ a, o9 a + S1x1728x2560.size a ≤ S3x1728x2560.size a) (o10 : Fin 3 → ℕ) (h10 : ∀ a, o10 a + S1x640x6912.size a ≤ S3x640x6912.size a) (W : Waits sig Unit) (K : PUnit → sProp 𝕄),
      iprop(tripIns arg0 arg1 arg2 arg3 arg4 arg5 arg6 c f0 f1 f2 f3 f4 f5 f6 ∗ tripOuts arg11 arg12 arg13 arg14 arg15 arg16 arg17 arg18 c f11 f12 f13 f14 f15 f16 f17 f18 ∗ pt c scM0_5 f24 ∗ pt c scM0_6 f25 ∗ pt c scM0_7 f26 ∗ pt c scM0_8 f27 ∗ pt c scM0_9 f28 ∗ pt c scM0_10 f29 ∗ fl7 c o7 h7 f19 f7 ∗ fl8 c o8 h8 f20 f8 ∗ fl9 c o9 h9 f21 f9 ∗ fl10 c o10 h10 f22 f10 ∗ owes (c : Thread nD τ) 0 W
        ∗ (iprop(tripIns arg0 arg1 arg2 arg3 arg4 arg5 arg6 c f0 f1 f2 f3 f4 f5 f6 ∗ tripOuts arg11 arg12 arg13 arg14 arg15 arg16 arg17 arg18 c (arg11.view.writes (Elt F) f11 T.L11) (arg12.view.writes (Elt F) f12 T.L12) (arg13.view.writes (Elt F) f13 T.L13) (arg14.view.writes (Elt F) f14 T.L14) (arg15.view.writes (Elt F) f15 T.L15) (arg16.view.writes (Elt F) f16 T.L16) (arg17.view.writes (Elt F) f17 T.L17) (arg18.view.writes (Elt F) f18 T.L18) ∗ pt c scM0_5 ((scM0_5).view.writes (Elt F) (scM0_5).view.junk T.L24) ∗ tripScr c ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ (∃ f, pt c scM0_0 f) ∗ (∃ f, pt c scM0_1 f) ∗ (∃ f, pt c scM0_2 f) ∗ (∃ f, pt c scM0_3 f) ∗ hbPt0 c hbM0_0 f7 ∗ hbPt0 c hbM0_1 f8 ∗ hbPt0 c hbM0_2 f9 ∗ hbPt0 c hbM0_3 f10 ∗ (∃ W', owes (c : Thread nD τ) 0 W')) -∗ K ⟨⟩))
      ⊢ wp frame (wpE (defs₀ (F := F)) Variants.none c none) Set.univ (k0_t1_body arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) v0 v29 k ⟨⟩) K := by
    intro T hk f7 f8 f9 f10 f11 f12 f13 f14 f15 f16 f17 f18 f25 f26 f27 f29 o7 h7 o8 h8 o9 h9 o10 h10 W K
    have hk' : k.val < 3 := Nat.lt_of_lt_of_le k.isLt k0_t1_abs.2.1
    obtain ⟨hC1, hC2, hC3, hC4⟩ := cond_not k hk
    unfold k0_t1_body
    iintro ⟨⟨H0, H1, H2, H3, H4, H5, H6⟩, ⟨H11, H12, H13, H14, H15, H16, H17, H18⟩, H24, H25, H26, H27, H28, H29, ⟨Hq7, H7⟩, ⟨Hq8, H8⟩, ⟨Hq9, H9⟩, ⟨Hq10, H10⟩, HW, Hk⟩
    sl_exec
    sl_step
    iapply Hk
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H11 H12 H13 H14 H15 H16 H17 H18]
    · isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H24]; · iexact H24
    isplitl [H25 H26 H27 H28 H29]
    · isplitl [H25]; · iexists _; iexact H25
      isplitl [H26]; · iexists _; iexact H26
      isplitl [H27]; · iexists _; iexact H27
      isplitl [H28]; · iexists _; iexact H28
      iexists _; iexact H29
    isplitl [Hq7]; · iexact Hq7
    isplitl [Hq8]; · iexact Hq8
    isplitl [Hq9]; · iexact Hq9
    isplitl [Hq10]; · iexact Hq10
    isplitl [Hq7_dst]; · iexists _; iexact Hq7_dst
    isplitl [Hq8_dst]; · iexists _; iexact Hq8_dst
    isplitl [Hq9_dst]; · iexists _; iexact Hq9_dst
    isplitl [Hq10_dst]; · iexists _; iexact Hq10_dst
    isplitl [H7]; · iexact H7
    isplitl [H8]; · iexact H8
    isplitl [H9]; · iexact H9
    isplitl [H10]; · iexact H10
    iexists _; iexact HW

end Cert.KernelIdeal.Hand
end
-- ==== Proof.IdealBody.lean ====
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import proofs.«01_k».proof.Proof.IdealTrip
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, with the counters the body's own transfers take their tokens from. -/
local notation "𝕄" => MT nD τ sig Unit (Elt F) ℕ (Pipeline.UD sig nD τ) ℕ

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)

/-- The copy of layer `n`'s slab of argument 7 in flight. -/
def busy7 (c : Dev nD) (n : ℕ) (f : HbBuf0 (F := F) c hbM0_0) : sProp 𝕄 :=
  iprop(∃ g, ∃ o, ∃ h, ⌜o = ![n, 0, 0]⌝ ∗ fl7 c o h (land7 c o h g f) f)
/-- Its cell idle, its buffer whole at anything, the argument whole. -/
def idle7 (c : Dev nD) (f : HbBuf0 (F := F) c hbM0_0) : sProp 𝕄 :=
  iprop(semVal ((c : Thread nD τ), SemLoc.dma 22) 0 ∗ (∃ g, pt c scM0_0 g) ∗ hbPt0 c hbM0_0 f)
/-- The copy of layer `n`'s slab of argument 8 in flight. -/
def busy8 (c : Dev nD) (n : ℕ) (f : HbBuf0 (F := F) c hbM0_1) : sProp 𝕄 :=
  iprop(∃ g, ∃ o, ∃ h, ⌜o = ![n, 0, 0]⌝ ∗ fl8 c o h (land8 c o h g f) f)
/-- Its cell idle, its buffer whole at anything, the argument whole. -/
def idle8 (c : Dev nD) (f : HbBuf0 (F := F) c hbM0_1) : sProp 𝕄 :=
  iprop(semVal ((c : Thread nD τ), SemLoc.dma 23) 0 ∗ (∃ g, pt c scM0_1 g) ∗ hbPt0 c hbM0_1 f)
/-- The copy of layer `n`'s slab of argument 9 in flight. -/
def busy9 (c : Dev nD) (n : ℕ) (f : HbBuf0 (F := F) c hbM0_2) : sProp 𝕄 :=
  iprop(∃ g, ∃ o, ∃ h, ⌜o = ![n, 0, 0]⌝ ∗ fl9 c o h (land9 c o h g f) f)
/-- Its cell idle, its buffer whole at anything, the argument whole. -/
def idle9 (c : Dev nD) (f : HbBuf0 (F := F) c hbM0_2) : sProp 𝕄 :=
  iprop(semVal ((c : Thread nD τ), SemLoc.dma 24) 0 ∗ (∃ g, pt c scM0_2 g) ∗ hbPt0 c hbM0_2 f)
/-- The copy of layer `n`'s slab of argument 10 in flight. -/
def busy10 (c : Dev nD) (n : ℕ) (f : HbBuf0 (F := F) c hbM0_3) : sProp 𝕄 :=
  iprop(∃ g, ∃ o, ∃ h, ⌜o = ![n, 0, 0]⌝ ∗ fl10 c o h (land10 c o h g f) f)
/-- Its cell idle, its buffer whole at anything, the argument whole. -/
def idle10 (c : Dev nD) (f : HbBuf0 (F := F) c hbM0_3) : sProp 𝕄 :=
  iprop(semVal ((c : Thread nD τ), SemLoc.dma 25) 0 ∗ (∃ g, pt c scM0_3 g) ∗ hbPt0 c hbM0_3 f)
/-- The four weight cells before layer `n`: its slabs in flight, or nothing after the last layer. -/
def cells (c : Dev nD) (n : ℕ) (f7 : HbBuf0 (F := F) c hbM0_0) (f8 : HbBuf0 (F := F) c hbM0_1) (f9 : HbBuf0 (F := F) c hbM0_2) (f10 : HbBuf0 (F := F) c hbM0_3) : sProp 𝕄 :=
  if n < 3 then iprop(busy7 c n f7 ∗ busy8 c n f8 ∗ busy9 c n f9 ∗ busy10 c n f10) else iprop(idle7 c f7 ∗ idle8 c f8 ∗ idle9 c f9 ∗ idle10 c f10)

/-- Everything the loop holds before layer `n`: the residual stream and the outputs at contents that meet `P n`. -/
def layerInv (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3) (n : ℕ) : sProp 𝕄 :=
  iprop(tripIns arg0 arg1 arg2 arg3 arg4 arg5 arg6 c f0 f1 f2 f3 f4 f5 f6 ∗ (∃ r, ∃ o11, ∃ o12, ∃ o13, ∃ o14, ∃ o15, ∃ o16, ∃ o17, ∃ o18, ⌜P n r o11 o12 o13 o14 o15 o16 o17 o18⌝ ∗ pt c scM0_5 r ∗ tripOuts arg11 arg12 arg13 arg14 arg15 arg16 arg17 arg18 c o11 o12 o13 o14 o15 o16 o17 o18) ∗ tripScr c ∗ cells c n f7 f8 f9 f10 ∗ (∃ W, owes (c : Thread nD τ) 0 W))

/-- What the values of one layer's trip are asked: from `P k` to `P (k + 1)`, whatever the buffers held before. -/
def StepOk (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop) (v0 : IVec S1x128 32) (v29 : Vec F S3x7 .bf16)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3) : Prop :=
  ∀ (k : Fin k0_t1_loop.trips) f28 g7 h7 g8 h8 g9 h9 g10 h10 r o11 o12 o13 o14 o15 o16 o17 o18, P k.val r o11 o12 o13 o14 o15 o16 o17 o18 →
    let T := (tripA arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 (land7 c ![k.val, 0, 0] h7 g7 f7) (land8 c ![k.val, 0, 0] h8 g8 f8) (land9 c ![k.val, 0, 0] h9 g9 f9) (land10 c ![k.val, 0, 0] h10 g10 f10) r f28).1
    P (k.val + 1) (scM0_5.view.writes (Elt F) scM0_5.view.junk T.L24) (arg11.view.writes (Elt F) o11 T.L11) (arg12.view.writes (Elt F) o12 T.L12) (arg13.view.writes (Elt F) o13 T.L13) (arg14.view.writes (Elt F) o14 T.L14) (arg15.view.writes (Elt F) o15 T.L15) (arg16.view.writes (Elt F) o16 T.L16) (arg17.view.writes (Elt F) o17 T.L17) (arg18.view.writes (Elt F) o18 T.L18)

/-- While layers remain, the copies in flight are the next layer's. -/
theorem cells_lt (c : Dev nD) {n : ℕ} (h : n < 3) (f7 : HbBuf0 (F := F) c hbM0_0) (f8 : HbBuf0 (F := F) c hbM0_1) (f9 : HbBuf0 (F := F) c hbM0_2) (f10 : HbBuf0 (F := F) c hbM0_3) : (cells c n f7 f8 f9 f10 : sProp 𝕄) = iprop(busy7 c n f7 ∗ busy8 c n f8 ∗ busy9 c n f9 ∗ busy10 c n f10) := if_pos h
/-- After the last layer no copy is in flight. -/
theorem cells_ge (c : Dev nD) {n : ℕ} (h : ¬ n < 3) (f7 : HbBuf0 (F := F) c hbM0_0) (f8 : HbBuf0 (F := F) c hbM0_1) (f9 : HbBuf0 (F := F) c hbM0_2) (f10 : HbBuf0 (F := F) c hbM0_3) : (cells c n f7 f8 f9 f10 : sProp 𝕄) = iprop(idle7 c f7 ∗ idle8 c f8 ∗ idle9 c f9 ∗ idle10 c f10) := if_neg h

/-- One layer keeps the invariant. -/
theorem layer_step (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop) (v0 : IVec S1x128 32) (v29 : Vec F S3x7 .bf16)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3)
    (hP : StepOk arg0 harg0 arg1 harg1 arg2 harg2 arg3 harg3 arg4 harg4 arg5 harg5 arg6 harg6 arg11 harg11 arg12 harg12 arg13 harg13 arg14 harg14 arg15 harg15 arg16 harg16 arg17 harg17 arg18 harg18 c P v0 v29 f0 f1 f2 f3 f4 f5 f6 f7 f8 f9 f10) (k : Fin k0_t1_loop.trips) :
    (layerInv arg0 arg1 arg2 arg3 arg4 arg5 arg6 arg11 arg12 arg13 arg14 arg15 arg16 arg17 arg18 c P f0 f1 f2 f3 f4 f5 f6 f7 f8 f9 f10 k.val : sProp 𝕄)
      ⊢ wp frame (wpE (defs₀ (F := F)) Variants.none c none) Set.univ (k0_t1_body arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) v0 v29 k ⟨⟩)
          (fun _ => layerInv arg0 arg1 arg2 arg3 arg4 arg5 arg6 arg11 arg12 arg13 arg14 arg15 arg16 arg17 arg18 c P f0 f1 f2 f3 f4 f5 f6 f7 f8 f9 f10 (k.val + 1)) := by
  have hk3 : k.val < 3 := Nat.lt_of_lt_of_le k.isLt k0_t1_abs.2.1
  unfold layerInv
  rw [cells_lt c hk3]
  unfold busy7 busy8 busy9 busy10
  iintro ⟨HI, ⟨%r, %o11, %o12, %o13, %o14, %o15, %o16, %o17, %o18, %hPk, Hr, HO⟩, ⟨⟨%f25, H25⟩, ⟨%f26, H26⟩, ⟨%f27, H27⟩, ⟨%f28, H28⟩, ⟨%f29, H29⟩⟩, ⟨⟨%g7, %o7, %h7, %e7, HF7⟩, ⟨%g8, %o8, %h8, %e8, HF8⟩, ⟨%g9, %o9, %h9, %e9, HF9⟩, ⟨%g10, %o10, %h10, %e10, HF10⟩⟩, ⟨%W, HW⟩⟩
  subst e7 e8 e9 e10
  have hS := hP k f28 g7 h7 g8 h8 g9 h9 g10 h10 r o11 o12 o13 o14 o15 o16 o17 o18 hPk
  by_cases hk : k.val + 1 < 3
  · rw [cells_lt c hk]
    unfold busy7 busy8 busy9 busy10
    iapply ((tripA arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 (land7 c ![k.val, 0, 0] h7 g7 f7) (land8 c ![k.val, 0, 0] h8 g8 f8) (land9 c ![k.val, 0, 0] h9 g9 f9) (land10 c ![k.val, 0, 0] h10 g10 f10) r f28).2 hk f7 f8 f9 f10 o11 o12 o13 o14 o15 o16 o17 o18 f25 f26 f27 f29 _ h7 _ h8 _ h9 _ h10 W _)
    isplitl [HI]; · iexact HI
    isplitl [HO]; · iexact HO
    isplitl [Hr]; · iexact Hr
    isplitl [H25]; · iexact H25
    isplitl [H26]; · iexact H26
    isplitl [H27]; · iexact H27
    isplitl [H28]; · iexact H28
    isplitl [H29]; · iexact H29
    isplitl [HF7]; · iexact HF7
    isplitl [HF8]; · iexact HF8
    isplitl [HF9]; · iexact HF9
    isplitl [HF10]; · iexact HF10
    isplitl [HW]; · iexact HW
    iintro ⟨HI, HO, Hr, HS, HF7, HF8, HF9, HF10, HW⟩
    isplitl [HI]; · iexact HI
    isplitl [Hr HO]
    · iexists _; iexists _, _, _, _, _, _, _, _
      isplitr; · ipureintro; exact hS
      isplitl [Hr]; · iexact Hr
      iexact HO
    isplitl [HS]; · iexact HS
    isplitl [HF7 HF8 HF9 HF10]
    · isplitl [HF7]; · iexists _, _, _; isplitr; · ipureintro; exact k0_off18_eq k
                       iexact HF7
      isplitl [HF8]; · iexists _, _, _; isplitr; · ipureintro; exact k0_off35_eq k
                       iexact HF8
      isplitl [HF9]; · iexists _, _, _; isplitr; · ipureintro; exact k0_off50_eq k
                       iexact HF9
      iexists _, _, _; isplitr; · ipureintro; exact k0_off86_eq k
      iexact HF10
    iexact HW
  · rw [cells_ge c hk]
    unfold idle7 idle8 idle9 idle10
    iapply (tripB arg0 harg0 arg1 harg1 arg2 harg2 arg3 harg3 arg4 harg4 arg5 harg5 arg6 harg6 arg11 harg11 arg12 harg12 arg13 harg13 arg14 harg14 arg15 harg15 arg16 harg16 arg17 harg17 arg18 harg18 c k v0 v29 f0 f1 f2 f3 f4 f5 f6 (land7 c ![k.val, 0, 0] h7 g7 f7) (land8 c ![k.val, 0, 0] h8 g8 f8) (land9 c ![k.val, 0, 0] h9 g9 f9) (land10 c ![k.val, 0, 0] h10 g10 f10) r f28 hk f7 f8 f9 f10 o11 o12 o13 o14 o15 o16 o17 o18 f25 f26 f27 f29 _ h7 _ h8 _ h9 _ h10 W _)
    isplitl [HI]; · iexact HI
    isplitl [HO]; · iexact HO
    isplitl [Hr]; · iexact Hr
    isplitl [H25]; · iexact H25
    isplitl [H26]; · iexact H26
    isplitl [H27]; · iexact H27
    isplitl [H28]; · iexact H28
    isplitl [H29]; · iexact H29
    isplitl [HF7]; · iexact HF7
    isplitl [HF8]; · iexact HF8
    isplitl [HF9]; · iexact HF9
    isplitl [HF10]; · iexact HF10
    isplitl [HW]; · iexact HW
    iintro ⟨HI, HO, Hr, HS, HQ7, HQ8, HQ9, HQ10, HB7, HB8, HB9, HB10, HH7, HH8, HH9, HH10, HW⟩
    isplitl [HI]; · iexact HI
    isplitl [Hr HO]
    · iexists _; iexists _, _, _, _, _, _, _, _
      isplitr; · ipureintro; exact hS
      isplitl [Hr]; · iexact Hr
      iexact HO
    isplitl [HS]; · iexact HS
    isplitl [HQ7 HQ8 HQ9 HQ10 HB7 HB8 HB9 HB10 HH7 HH8 HH9 HH10]
    · isplitl [HQ7 HB7 HH7]
      · isplitl [HQ7]; · iexact HQ7
        isplitl [HB7]; · iexact HB7
        iexact HH7
      isplitl [HQ8 HB8 HH8]
      · isplitl [HQ8]; · iexact HQ8
        isplitl [HB8]; · iexact HB8
        iexact HH8
      isplitl [HQ9 HB9 HH9]
      · isplitl [HQ9]; · iexact HQ9
        isplitl [HB9]; · iexact HB9
        iexact HH9
      isplitl [HQ10]; · iexact HQ10
      isplitl [HB10]; · iexact HB10
      iexact HH10
    iexact HW

/-- What the residual stream's buffer holds before the first layer: the input in its first twelve rows. -/
def initPieces (c : Dev nD) (f0 : HbBuf0 (F := F) c arg0) : List (View.Piece (Elt F) S16x2560 .f32) :=
  [⟨Rect.unit ![0, 0] S12x2560.size inb_S16x2560_S12x2560_0_0,
      k0_pay1 (k0_pay704 (View.readAt (Elt F) arg0.view (Rect.unit ![0, 0] S12x2560.size inb_S12x2560_S12x2560_0_0).toLoadRect f0))⟩,
    ⟨Rect.unit ![0, 0] S16x2560.size inb_S16x2560_S16x2560_0_0, k0_pay703⟩]
/-- The lane numbers, and the weights' scales as read: what the loop's region takes from before it. -/
abbrev lanes : IVec S1x128 32 := iota .tc S1x128 32 [1] iota_S1x128_d1_w32
/-- The weights' scales, as the body loads them. -/
abbrev scales (c : Dev nD) (f1 : HbBuf0 (F := F) c arg1) : Vec F S3x7 .bf16 :=
  View.readAt (Elt F) arg1.view (Rect.unit ![0, 0] S3x7.size inb_S3x7_S3x7_0_0).toLoadRect f1

/-- THE BODY: from the inputs, the outputs at anything, idle cells and scratch at anything, to outputs meeting `P 3`. -/
theorem body_run (c : Dev nD) (P : ℕ → HbBuf0 (F := F) c scM0_5 → HbBuf0 (F := F) c arg11 → HbBuf0 (F := F) c arg12 → HbBuf0 (F := F) c arg13 → HbBuf0 (F := F) c arg14 → HbBuf0 (F := F) c arg15 → HbBuf0 (F := F) c arg16 → HbBuf0 (F := F) c arg17 → HbBuf0 (F := F) c arg18 → Prop)
    (f0 : HbBuf0 (F := F) c arg0) (f1 : HbBuf0 (F := F) c arg1) (f2 : HbBuf0 (F := F) c arg2) (f3 : HbBuf0 (F := F) c arg3) (f4 : HbBuf0 (F := F) c arg4) (f5 : HbBuf0 (F := F) c arg5) (f6 : HbBuf0 (F := F) c arg6) (f7 : HbBuf0 (F := F) c hbM0_0) (f8 : HbBuf0 (F := F) c hbM0_1) (f9 : HbBuf0 (F := F) c hbM0_2) (f10 : HbBuf0 (F := F) c hbM0_3) (o11 : HbBuf0 (F := F) c arg11) (o12 : HbBuf0 (F := F) c arg12) (o13 : HbBuf0 (F := F) c arg13) (o14 : HbBuf0 (F := F) c arg14) (o15 : HbBuf0 (F := F) c arg15) (o16 : HbBuf0 (F := F) c arg16) (o17 : HbBuf0 (F := F) c arg17) (o18 : HbBuf0 (F := F) c arg18)
    (hP0 : P 0 (scM0_5.view.writes (Elt F) scM0_5.view.junk (initPieces arg0 c f0)) o11 o12 o13 o14 o15 o16 o17 o18)
    (hP : StepOk arg0 harg0 arg1 harg1 arg2 harg2 arg3 harg3 arg4 harg4 arg5 harg5 arg6 harg6 arg11 harg11 arg12 harg12 arg13 harg13 arg14 harg14 arg15 harg15 arg16 harg16 arg17 harg17 arg18 harg18 c P lanes (scales arg1 c f1) f0 f1 f2 f3 f4 f5 f6 f7 f8 f9 f10) (W : Waits sig Unit) (K : PUnit → sProp 𝕄) :
    iprop(tripIns arg0 arg1 arg2 arg3 arg4 arg5 arg6 c f0 f1 f2 f3 f4 f5 f6 ∗ tripOuts arg11 arg12 arg13 arg14 arg15 arg16 arg17 arg18 c o11 o12 o13 o14 o15 o16 o17 o18 ∗ (∃ r, pt c scM0_5 r) ∗ tripScr c ∗ idle7 c f7 ∗ idle8 c f8 ∗ idle9 c f9 ∗ idle10 c f10 ∗ owes (c : Thread nD τ) 0 W
        ∗ (layerInv arg0 arg1 arg2 arg3 arg4 arg5 arg6 arg11 arg12 arg13 arg14 arg15 arg16 arg17 arg18 c P f0 f1 f2 f3 f4 f5 f6 f7 f8 f9 f10 3 -∗ K ⟨⟩))
      ⊢ wp frame (wpE (defs₀ (F := F)) Variants.none c none) Set.univ (cc0_decode arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _)) K := by
  unfold idle7 idle8 idle9 idle10
  simp only [cc0_decode_eq_skeleton]; unfold cc0_decode_skel
  iintro ⟨⟨H0, H1, H2, H3, H4, H5, H6⟩, ⟨H11, H12, H13, H14, H15, H16, H17, H18⟩, ⟨%f24, H24⟩, ⟨⟨%f25, H25⟩, ⟨%f26, H26⟩, ⟨%f27, H27⟩, ⟨%f28, H28⟩, ⟨%f29, H29⟩⟩, ⟨Hq7, ⟨%f19, H19⟩, H7⟩, ⟨Hq8, ⟨%f20, H20⟩, H8⟩, ⟨Hq9, ⟨%f21, H21⟩, H9⟩, ⟨Hq10, ⟨%f22, H22⟩, H10⟩, HW, Hk⟩
  sl_exec
  sl_for (fun n (_ : Unit) => layerInv arg0 arg1 arg2 arg3 arg4 arg5 arg6 arg11 arg12 arg13 arg14 arg15 arg16 arg17 arg18 c P f0 f1 f2 f3 f4 f5 f6 f7 f8 f9 f10 n) $$ [H0 H1 H2 H3 H4 H5 H6 H11 H12 H13 H14 H15 H16 H17 H18 H24 H25 H26 H27 H28 H29 Hq7 H7 Hq8 H8 Hq9 H9 Hq10 H10 HW]
  case region =>
    intro k _
    exact layer_step arg0 harg0 arg1 harg1 arg2 harg2 arg3 harg3 arg4 harg4 arg5 harg5 arg6 harg6 arg11 harg11 arg12 harg12 arg13 harg13 arg14 harg14 arg15 harg15 arg16 harg16 arg17 harg17 arg18 harg18 c P lanes (scales arg1 c f1) f0 f1 f2 f3 f4 f5 f6 f7 f8 f9 f10 hP k
  · unfold layerInv
    rw [cells_lt c (by decide)]
    unfold busy7 busy8 busy9 busy10
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H24 H11 H12 H13 H14 H15 H16 H17 H18]
    · iexists _; iexists o11, o12, o13, o14, o15, o16, o17, o18
      isplitr; · ipureintro; exact hP0
      isplitl [H24]; · iexact H24
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H25 H26 H27 H28 H29]
    · isplitl [H25]; · iexists _; iexact H25
      isplitl [H26]; · iexists _; iexact H26
      isplitl [H27]; · iexists _; iexact H27
      isplitl [H28]; · iexists _; iexact H28
      iexists _; iexact H29
    isplitl [Hq7 H7 Hq8 H8 Hq9 H9 Hq10 H10]
    · isplitl [Hq7 H7]
      · iexists f19, ![0, 0, 0], inb_S3x640x2560_S1x640x2560_0_0_0; isplitr; · ipureintro; rfl
        isplitl [Hq7]; · iexact Hq7
        iexact H7
      isplitl [Hq8 H8]
      · iexists f20, ![0, 0, 0], inb_S3x1728x2560_S1x1728x2560_0_0_0; isplitr; · ipureintro; rfl
        isplitl [Hq8]; · iexact Hq8
        iexact H8
      isplitl [Hq9 H9]
      · iexists f21, ![0, 0, 0], inb_S3x1728x2560_S1x1728x2560_0_0_0; isplitr; · ipureintro; rfl
        isplitl [Hq9]; · iexact Hq9
        iexact H9
      iexists f22, ![0, 0, 0], inb_S3x640x6912_S1x640x6912_0_0_0; isplitr; · ipureintro; rfl
      isplitl [Hq10]; · iexact Hq10
      iexact H10
    iexists _; iexact HW
  iintro %acc HL
  sl_exec
  sl_step
  iapply Hk
  iexact HL

end Cert.KernelIdeal.Hand
end
-- ==== Proof.IdealFrame.lean ====
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import proofs.«01_k».proof.Proof.IdealBody
public import Idealize.ShloMosaic.Lib.Pipeline.FrameBody
public import Idealize.ShloMosaic.Lib.Pipeline.DatRel
public import Idealize.ShloMosaic.Lib.Pipeline.ArrRel
public import Idealize.ShloMosaic.Lib.MixedBatch
public import Idealize.ShloMosaic.Lib.Ring
public import Idealize.ShloMosaic.Lib.Tactic
public import Idealize.ShloMosaic.Lib.WordCmp

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, with the counters the body's own transfers take their tokens from. -/
local notation "𝕄" => MT nD τ sig Unit (Elt F) ℕ (Pipeline.UD sig nD τ) ℕ

variable (m : (ℓ : Loc nD τ sig) → Buf (Elt F) ℓ) (ρ : Dev nD → PrngReg)

/-! ## @main up to the region -/

set_option maxHeartbeats 800000 in
/-- @main up to the region: two reshapes, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An input window holds its block when the body runs. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input window holds its block when the body runs. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's operands -/

abbrev ms0_0 (t : Fin cfg0.N) : Memref sig .tc .vmem S12x2560 .bf16 := win0_0.stage (cfg0.slots t 0)
abbrev hs0_0 (t : Fin cfg0.N) : (ms0_0 t).IsWhole := hstage0_0 0
abbrev ms0_1 (t : Fin cfg0.N) : Memref sig .tc .vmem S3x7 .bf16 := win0_1.stage (cfg0.slots t 1)
abbrev hs0_1 (t : Fin cfg0.N) : (ms0_1 t).IsWhole := hstage0_1 0
abbrev ms0_2 (t : Fin cfg0.N) : Memref sig .tc .vmem S3x2560 .f32 := win0_2.stage (cfg0.slots t 2)
abbrev hs0_2 (t : Fin cfg0.N) : (ms0_2 t).IsWhole := hstage0_2 0
abbrev ms0_3 (t : Fin cfg0.N) : Memref sig .tc .vmem S3x2560 .f32 := win0_3.stage (cfg0.slots t 3)
abbrev hs0_3 (t : Fin cfg0.N) : (ms0_3 t).IsWhole := hstage0_3 0
abbrev ms0_4 (t : Fin cfg0.N) : Memref sig .tc .vmem S3x2560 .f32 := win0_4.stage (cfg0.slots t 4)
abbrev hs0_4 (t : Fin cfg0.N) : (ms0_4 t).IsWhole := hstage0_4 0
abbrev ms0_5 (t : Fin cfg0.N) : Memref sig .tc .vmem S3x6912 .f32 := win0_5.stage (cfg0.slots t 5)
abbrev hs0_5 (t : Fin cfg0.N) : (ms0_5 t).IsWhole := hstage0_5 0
abbrev ms0_6 (t : Fin cfg0.N) : Memref sig .tc .vmem S3x12x2560 .f32 := win0_6.stage (cfg0.slots t 6)
abbrev hs0_6 (t : Fin cfg0.N) : (ms0_6 t).IsWhole := hstage0_6 0
abbrev ms0_7 (t : Fin cfg0.N) : Memref sig .tc .vmem S3x12x1x2560 .f32 := win0_7.stage (cfg0.slots t 7)
abbrev hs0_7 (t : Fin cfg0.N) : (ms0_7 t).IsWhole := hstage0_7 0
abbrev ms0_8 (t : Fin cfg0.N) : Memref sig .tc .vmem S3x12x1x2560 .f32 := win0_8.stage (cfg0.slots t 8)
abbrev hs0_8 (t : Fin cfg0.N) : (ms0_8 t).IsWhole := hstage0_8 0
abbrev ms0_9 (t : Fin cfg0.N) : Memref sig .tc .vmem S3x12x1x6912 .f32 := win0_9.stage (cfg0.slots t 9)
abbrev hs0_9 (t : Fin cfg0.N) : (ms0_9 t).IsWhole := hstage0_9 0
abbrev ms0_10 (t : Fin cfg0.N) : Memref sig .tc .vmem S3x12x2560 .i8 := win0_10.stage (cfg0.slots t 10)
abbrev hs0_10 (t : Fin cfg0.N) : (ms0_10 t).IsWhole := hstage0_10 0
abbrev ms0_11 (t : Fin cfg0.N) : Memref sig .tc .vmem S3x12x2560 .i8 := win0_11.stage (cfg0.slots t 11)
abbrev hs0_11 (t : Fin cfg0.N) : (ms0_11 t).IsWhole := hstage0_11 0
abbrev ms0_12 (t : Fin cfg0.N) : Memref sig .tc .vmem S3x12x2560 .i8 := win0_12.stage (cfg0.slots t 12)
abbrev hs0_12 (t : Fin cfg0.N) : (ms0_12 t).IsWhole := hstage0_12 0
abbrev ms0_13 (t : Fin cfg0.N) : Memref sig .tc .vmem S3x12x6912 .i8 := win0_13.stage (cfg0.slots t 13)
abbrev hs0_13 (t : Fin cfg0.N) : (ms0_13 t).IsWhole := hstage0_13 0
abbrev ms0_14 (t : Fin cfg0.N) : Memref sig .tc .vmem S3x32x12 .f32 := win0_14.stage (cfg0.slots t 14)
abbrev hs0_14 (t : Fin cfg0.N) : (ms0_14 t).IsWhole := hstage0_14 0

/-- The four weight cells. -/
abbrev osem0 : Fin 4 → SemLoc sig := fun j => (![SemLoc.dma 22, SemLoc.dma 23, SemLoc.dma 24, SemLoc.dma 25] : Fin 4 → SemLoc sig) j
/-- The kernel's own semaphores are apart from the pipeline's. -/
theorem osem0_facts : Pipeline.OwnSemFacts spec0 osem0 := by decide
/-- The kernel's own semaphores, listed. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0
          ∗ semVal ((c : Thread nD τ), SemLoc.dma 24) 0 ∗ semVal ((c : Thread nD τ), SemLoc.dma 25) 0) := by
  rw [Pipeline.ownSems0_eq_of_list c osem0 [0, 1, 2, 3] (by decide) (by decide)]; rfl
/-- The arguments the body's own copies read. -/
def H0 : Finset (Ref sig .tc) := {main_arg2, main_arg3, main_arg4, main_arg5}
/-- The arrays the body copies itself are none of the pipeline's. -/
theorem H0_sub : H0 ⊆ Pipeline.restRefs sig spec0 := by decide
/-- The ownership of the arrays the body copies, array by array. -/
theorem hbmPts0_eq (c : Dev nD) :
    (bigSep H0 (fun b => ((c : Thread nD τ).loc b) ↦{fullShare} V m c b) : sProp 𝕄)
      = iprop(hbPt0 c hbM0_0 (V m c main_arg2) ∗ hbPt0 c hbM0_1 (V m c main_arg3) ∗ hbPt0 c hbM0_2 (V m c main_arg4)
          ∗ hbPt0 c hbM0_3 (V m c main_arg5)) := by
  rw [BI.bigSep_eq_bigSepL_of_eq [main_arg2, main_arg3, main_arg4, main_arg5] (by decide) (by decide)]; rfl
/-- What the body holds besides the windows: the scratch, the cells at zero, the weights. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d))
          ∗ (∃ r, prngReg c r)
          ∗ iprop(semVal ((c : Thread nD τ), SemLoc.dma 22) 0 ∗ semVal ((c : Thread nD τ), SemLoc.dma 23) 0
              ∗ semVal ((c : Thread nD τ), SemLoc.dma 24) 0 ∗ semVal ((c : Thread nD τ), SemLoc.dma 25) 0)
          ∗ iprop(hbPt0 c hbM0_0 (V m c main_arg2) ∗ hbPt0 c hbM0_1 (V m c main_arg3) ∗ hbPt0 c hbM0_2 (V m c main_arg4)
              ∗ hbPt0 c hbM0_3 (V m c main_arg5))) := by
  rw [Pipeline.ΦD_eq, scopedRest0_eq, ownSems0_list, hbmPts0_eq]
  simp only [scM0_0, scM0_1, scM0_2, scM0_3, scM0_5, scM0_6, scM0_7, scM0_8, scM0_9, scM0_10, owns_whole]; try rfl

/-- The proof data: the arrays as the region finds them, the input windows left as found; the output windows are held to a
    relation apart. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
  Φ _ := Pipeline.ΦD osem0 spec0 H0 (V m) c
  q _ := fullShare
  owed _ := 0
/-- The output windows. -/
abbrev isRes (w : Fin cfg0.W) : Bool := decide (7 ≤ w.val)
/-- The type of a relation on the blocks the body leaves. -/
abbrev RelTy : Type := (w : Fin cfg0.W) → Fin cfg0.N → ((cfg0.win w).block.Idx → Elt F (cfg0.win w).elt) → Prop

/-- A window's array as the region starts is the one launched. -/
theorem A_eq (c : Dev nD) (w : Fin cfg0.W) : (dats m 0 c).A w = V m c (Pipeline.arrRef spec0 w) := by
  dsimp only [dats]
/-- An input window's block is as the body found it. -/
theorem after_eq0 (c : Dev nD) (t : Fin cfg0.N) : (dats m 0 c).after 0 t = iblk m c 0 t := by dsimp only [dats]
/-- An input window's block is as the body found it. -/
theorem after_eq1 (c : Dev nD) (t : Fin cfg0.N) : (dats m 0 c).after 1 t = iblk m c 1 t := by dsimp only [dats]
/-- An input window's block is as the body found it. -/
theorem after_eq2 (c : Dev nD) (t : Fin cfg0.N) : (dats m 0 c).after 2 t = iblk m c 2 t := by dsimp only [dats]
/-- An input window's block is as the body found it. -/
theorem after_eq3 (c : Dev nD) (t : Fin cfg0.N) : (dats m 0 c).after 3 t = iblk m c 3 t := by dsimp only [dats]
/-- An input window's block is as the body found it. -/
theorem after_eq4 (c : Dev nD) (t : Fin cfg0.N) : (dats m 0 c).after 4 t = iblk m c 4 t := by dsimp only [dats]
/-- An input window's block is as the body found it. -/
theorem after_eq5 (c : Dev nD) (t : Fin cfg0.N) : (dats m 0 c).after 5 t = iblk m c 5 t := by dsimp only [dats]
/-- An input window's block is as the body found it. -/
theorem after_eq6 (c : Dev nD) (t : Fin cfg0.N) : (dats m 0 c).after 6 t = iblk m c 6 t := by dsimp only [dats]

/-- What is claimed of the outputs: a relation `Rl` on each output window, and a predicate `P n` on the residual stream and the
    outputs before layer `n` that the first layer finds, that each layer keeps, and that gives `Rl` after the last. -/
structure Values where
  Rl : RelTy (F := F)
  P : (c : Dev nD) → (t : Fin cfg0.N) → ℕ → HbBuf0 (F := F) c scM0_5 → HbBuf0 (F := F) c (ms0_7 t) → HbBuf0 (F := F) c (ms0_8 t) → HbBuf0 (F := F) c (ms0_9 t) → HbBuf0 (F := F) c (ms0_10 t) → HbBuf0 (F := F) c (ms0_11 t) → HbBuf0 (F := F) c (ms0_12 t) → HbBuf0 (F := F) c (ms0_13 t) → HbBuf0 (F := F) c (ms0_14 t) → Prop
  init : ∀ (c : Dev nD) (t : Fin cfg0.N) (f0 : HbBuf0 (F := F) c (ms0_0 t)) (f1 : HbBuf0 (F := F) c (ms0_1 t)) (f2 : HbBuf0 (F := F) c (ms0_2 t)) (f3 : HbBuf0 (F := F) c (ms0_3 t)) (f4 : HbBuf0 (F := F) c (ms0_4 t)) (f5 : HbBuf0 (F := F) c (ms0_5 t)) (f6 : HbBuf0 (F := F) c (ms0_6 t)), (ms0_0 t).view.read (Elt F) f0 = iblk m c 0 t → (ms0_1 t).view.read (Elt F) f1 = iblk m c 1 t → (ms0_2 t).view.read (Elt F) f2 = iblk m c 2 t → (ms0_3 t).view.read (Elt F) f3 = iblk m c 3 t → (ms0_4 t).view.read (Elt F) f4 = iblk m c 4 t → (ms0_5 t).view.read (Elt F) f5 = iblk m c 5 t → (ms0_6 t).view.read (Elt F) f6 = iblk m c 6 t → ∀ (o11 : HbBuf0 (F := F) c (ms0_7 t)) (o12 : HbBuf0 (F := F) c (ms0_8 t)) (o13 : HbBuf0 (F := F) c (ms0_9 t)) (o14 : HbBuf0 (F := F) c (ms0_10 t)) (o15 : HbBuf0 (F := F) c (ms0_11 t)) (o16 : HbBuf0 (F := F) c (ms0_12 t)) (o17 : HbBuf0 (F := F) c (ms0_13 t)) (o18 : HbBuf0 (F := F) c (ms0_14 t)),
    P c t 0 (scM0_5.view.writes (Elt F) scM0_5.view.junk (initPieces (ms0_0 t) c f0)) o11 o12 o13 o14 o15 o16 o17 o18
  step : ∀ (c : Dev nD) (t : Fin cfg0.N) (f0 : HbBuf0 (F := F) c (ms0_0 t)) (f1 : HbBuf0 (F := F) c (ms0_1 t)) (f2 : HbBuf0 (F := F) c (ms0_2 t)) (f3 : HbBuf0 (F := F) c (ms0_3 t)) (f4 : HbBuf0 (F := F) c (ms0_4 t)) (f5 : HbBuf0 (F := F) c (ms0_5 t)) (f6 : HbBuf0 (F := F) c (ms0_6 t)), (ms0_0 t).view.read (Elt F) f0 = iblk m c 0 t → (ms0_1 t).view.read (Elt F) f1 = iblk m c 1 t → (ms0_2 t).view.read (Elt F) f2 = iblk m c 2 t → (ms0_3 t).view.read (Elt F) f3 = iblk m c 3 t → (ms0_4 t).view.read (Elt F) f4 = iblk m c 4 t → (ms0_5 t).view.read (Elt F) f5 = iblk m c 5 t → (ms0_6 t).view.read (Elt F) f6 = iblk m c 6 t →
    StepOk (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c (P c t) lanes (scales (ms0_1 t) c f1) f0 f1 f2 f3 f4 f5 f6 (V m c main_arg2) (V m c main_arg3) (V m c main_arg4) (V m c main_arg5)
  fin : ∀ (c : Dev nD) (t : Fin cfg0.N) r (o11 : HbBuf0 (F := F) c (ms0_7 t)) (o12 : HbBuf0 (F := F) c (ms0_8 t)) (o13 : HbBuf0 (F := F) c (ms0_9 t)) (o14 : HbBuf0 (F := F) c (ms0_10 t)) (o15 : HbBuf0 (F := F) c (ms0_11 t)) (o16 : HbBuf0 (F := F) c (ms0_12 t)) (o17 : HbBuf0 (F := F) c (ms0_13 t)) (o18 : HbBuf0 (F := F) c (ms0_14 t)), P c t 3 r o11 o12 o13 o14 o15 o16 o17 o18 →
    Rl 7 t ((ms0_7 t).view.read (Elt F) o11) ∧ Rl 8 t ((ms0_8 t).view.read (Elt F) o12) ∧ Rl 9 t ((ms0_9 t).view.read (Elt F) o13) ∧ Rl 10 t ((ms0_10 t).view.read (Elt F) o14) ∧ Rl 11 t ((ms0_11 t).view.read (Elt F) o15) ∧ Rl 12 t ((ms0_12 t).view.read (Elt F) o16) ∧ Rl 13 t ((ms0_13 t).view.read (Elt F) o17) ∧ Rl 14 t ((ms0_14 t).view.read (Elt F) o18)

variable (vs : Values (F := F) m)

/-- What the body owns as it starts. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel isRes vs.Rl).Finds 7 t Y⌝ ∗ owns (c : Thread nD τ) (ms0_7 t) fullShare Y)
    ∗ (∃ Y, ⌜((dats m 0 c).toRRel isRes vs.Rl).Finds 8 t Y⌝ ∗ owns (c : Thread nD τ) (ms0_8 t) fullShare Y)
    ∗ (∃ Y, ⌜((dats m 0 c).toRRel isRes vs.Rl).Finds 9 t Y⌝ ∗ owns (c : Thread nD τ) (ms0_9 t) fullShare Y)
    ∗ (∃ Y, ⌜((dats m 0 c).toRRel isRes vs.Rl).Finds 10 t Y⌝ ∗ owns (c : Thread nD τ) (ms0_10 t) fullShare Y)
    ∗ (∃ Y, ⌜((dats m 0 c).toRRel isRes vs.Rl).Finds 11 t Y⌝ ∗ owns (c : Thread nD τ) (ms0_11 t) fullShare Y)
    ∗ (∃ Y, ⌜((dats m 0 c).toRRel isRes vs.Rl).Finds 12 t Y⌝ ∗ owns (c : Thread nD τ) (ms0_12 t) fullShare Y)
    ∗ (∃ Y, ⌜((dats m 0 c).toRRel isRes vs.Rl).Finds 13 t Y⌝ ∗ owns (c : Thread nD τ) (ms0_13 t) fullShare Y)
    ∗ (∃ Y, ⌜((dats m 0 c).toRRel isRes vs.Rl).Finds 14 t Y⌝ ∗ owns (c : Thread nD τ) (ms0_14 t) fullShare Y))
/-- What the body owns as it ends. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜vs.Rl 7 t X⌝ ∗ owns (c : Thread nD τ) (ms0_7 t) fullShare X)
    ∗ (∃ X, ⌜vs.Rl 8 t X⌝ ∗ owns (c : Thread nD τ) (ms0_8 t) fullShare X)
    ∗ (∃ X, ⌜vs.Rl 9 t X⌝ ∗ owns (c : Thread nD τ) (ms0_9 t) fullShare X)
    ∗ (∃ X, ⌜vs.Rl 10 t X⌝ ∗ owns (c : Thread nD τ) (ms0_10 t) fullShare X)
    ∗ (∃ X, ⌜vs.Rl 11 t X⌝ ∗ owns (c : Thread nD τ) (ms0_11 t) fullShare X)
    ∗ (∃ X, ⌜vs.Rl 12 t X⌝ ∗ owns (c : Thread nD τ) (ms0_12 t) fullShare X)
    ∗ (∃ X, ⌜vs.Rl 13 t X⌝ ∗ owns (c : Thread nD τ) (ms0_13 t) fullShare X)
    ∗ (∃ X, ⌜vs.Rl 14 t X⌝ ∗ owns (c : Thread nD τ) (ms0_14 t) fullShare X))

/-- The body runs from what it owns at its start to what it owns at its end. -/
theorem sound_body (c : Dev nD) (t : Fin cfg0.N) :
    bodyPre m vs c t ⊢ wp frame (wpE (defs₀ (F := F)) Variants.none c none) Set.univ (bodyAt0 t) (fun _ => bodyPost m vs c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  simp only [after_eq0, after_eq1, after_eq2, after_eq3, after_eq4, after_eq5, after_eq6, before0_0_of m (dats m 0 c) (A_eq m c 0) (after_eq0 m c), before0_1_of m (dats m 0 c) (A_eq m c 1) (after_eq1 m c), before0_2_of m (dats m 0 c) (A_eq m c 2) (after_eq2 m c), before0_3_of m (dats m 0 c) (A_eq m c 3) (after_eq3 m c), before0_4_of m (dats m 0 c) (A_eq m c 4) (after_eq4 m c), before0_5_of m (dats m 0 c) (A_eq m c 5) (after_eq5 m c), before0_6_of m (dats m 0 c) (A_eq m c 6) (after_eq6 m c)]
  unfold Dat.owesAt Pipeline.owesWithin
  rw [show (dats m 0 c).owed t.castSucc = 0 from rfl, show (dats m 0 c).owed t.succ = 0 from rfl]
  unfold owns
  iintro ⟨⟨⟨⟨%d100, %fs0, -, HS0⟩, ⟨%d101, %fs1, -, HS1⟩, ⟨%d102, %fs2, -, HS2⟩, ⟨%d103, %fs3, -, HS3⟩, ⟨%d105, %fs5, -, HS5⟩, ⟨%d106, %fs6, -, HS6⟩, ⟨%d107, %fs7, -, HS7⟩, ⟨%d108, %fs8, -, HS8⟩, ⟨%d109, %fs9, -, HS9⟩, ⟨%d110, %fs10, -, HS10⟩⟩, Hg, ⟨Hq7, Hq8, Hq9, Hq10⟩, ⟨Hh7, Hh8, Hh9, Hh10⟩⟩, ⟨%W, -, HW⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%Y7, %hY7, %o11, -, HO7⟩, ⟨%Y8, %hY8, %o12, -, HO8⟩, ⟨%Y9, %hY9, %o13, -, HO9⟩, ⟨%Y10, %hY10, %o14, -, HO10⟩, ⟨%Y11, %hY11, %o15, -, HO11⟩, ⟨%Y12, %hY12, %o16, -, HO12⟩, ⟨%Y13, %hY13, %o17, -, HO13⟩, ⟨%Y14, %hY14, %o18, -, HO14⟩⟩
  iapply (body_run (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c (vs.P c t) f0 f1 f2 f3 f4 f5 f6 (V m c main_arg2) (V m c main_arg3) (V m c main_arg4) (V m c main_arg5) o11 o12 o13 o14 o15 o16 o17 o18
    (vs.init c t f0 f1 f2 f3 f4 f5 f6 hf0 hf1 hf2 hf3 hf4 hf5 hf6 o11 o12 o13 o14 o15 o16 o17 o18) (vs.step c t f0 f1 f2 f3 f4 f5 f6 hf0 hf1 hf2 hf3 hf4 hf5 hf6) W _)
  unfold idle7 idle8 idle9 idle10
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HO7 HO8 HO9 HO10 HO11 HO12 HO13 HO14]
  · isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    iexact HO14
  isplitl [HS5]; · iexists _; iexact HS5
  isplitl [HS6 HS7 HS8 HS9 HS10]
  · isplitl [HS6]; · iexists _; iexact HS6
    isplitl [HS7]; · iexists _; iexact HS7
    isplitl [HS8]; · iexists _; iexact HS8
    isplitl [HS9]; · iexists _; iexact HS9
    iexists _; iexact HS10
  isplitl [Hq7 Hh7 HS0]
  · isplitl [Hq7]; · iexact Hq7
    isplitl [HS0]; · iexists _; iexact HS0
    iexact Hh7
  isplitl [Hq8 Hh8 HS1]
  · isplitl [Hq8]; · iexact Hq8
    isplitl [HS1]; · iexists _; iexact HS1
    iexact Hh8
  isplitl [Hq9 Hh9 HS2]
  · isplitl [Hq9]; · iexact Hq9
    isplitl [HS2]; · iexists _; iexact HS2
    iexact Hh9
  isplitl [Hq10 Hh10 HS3]
  · isplitl [Hq10]; · iexact Hq10
    isplitl [HS3]; · iexists _; iexact HS3
    iexact Hh10
  isplitl [HW]; · iexact HW
  unfold layerInv
  rw [cells_ge c (by decide)]
  unfold idle7 idle8 idle9 idle10
  iintro ⟨⟨H0, H1, H2, H3, H4, H5, H6⟩, ⟨%r, %e7, %e8, %e9, %e10, %e11, %e12, %e13, %e14, %hP3, HS5, ⟨HO7, HO8, HO9, HO10, HO11, HO12, HO13, HO14⟩⟩, ⟨⟨%f25, HS6⟩, ⟨%f26, HS7⟩, ⟨%f27, HS8⟩, ⟨%f28, HS9⟩, ⟨%f29, HS10⟩⟩, ⟨⟨Hq7, ⟨%f19, HS0⟩, Hh7⟩, ⟨Hq8, ⟨%f20, HS1⟩, Hh8⟩, ⟨Hq9, ⟨%f21, HS2⟩, Hh9⟩, ⟨Hq10, ⟨%f22, HS3⟩, Hh10⟩⟩, ⟨%W', HW'⟩⟩
  obtain ⟨hR7, hR8, hR9, hR10, hR11, hR12, hR13, hR14⟩ := vs.fin c t r e7 e8 e9 e10 e11 e12 e13 e14 hP3
  isplitl [HS0 HS1 HS2 HS3 HS5 HS6 HS7 HS8 HS9 HS10 Hg Hq7 Hq8 Hq9 Hq10 Hh7 Hh8 Hh9 Hh10]
  · isplitl [HS0 HS1 HS2 HS3 HS5 HS6 HS7 HS8 HS9 HS10]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      iexists _, _; isplitr; swap; · iexact HS10
      ipureintro; rfl
    isplitl [Hg]; · iexact Hg
    isplitl [Hq7 Hq8 Hq9 Hq10]
    · isplitl [Hq7]; · iexact Hq7
      isplitl [Hq8]; · iexact Hq8
      isplitl [Hq9]; · iexact Hq9
      iexact Hq10
    isplitl [Hh7]; · iexact Hh7
    isplitl [Hh8]; · iexact Hh8
    isplitl [Hh9]; · iexact Hh9
    iexact Hh10
  isplitl [HW']
  · iexists W'; isplitr; · ipureintro; exact fun _ _ => Or.inl trivial
    iexact HW'
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [HO7]
  · iexists _; isplitr; · ipureintro; exact hR7
    iexists _; isplitr; swap; · iexact HO7
    ipureintro; rfl
  isplitl [HO8]
  · iexists _; isplitr; · ipureintro; exact hR8
    iexists _; isplitr; swap; · iexact HO8
    ipureintro; rfl
  isplitl [HO9]
  · iexists _; isplitr; · ipureintro; exact hR9
    iexists _; isplitr; swap; · iexact HO9
    ipureintro; rfl
  isplitl [HO10]
  · iexists _; isplitr; · ipureintro; exact hR10
    iexists _; isplitr; swap; · iexact HO10
    ipureintro; rfl
  isplitl [HO11]
  · iexists _; isplitr; · ipureintro; exact hR11
    iexists _; isplitr; swap; · iexact HO11
    ipureintro; rfl
  isplitl [HO12]
  · iexists _; isplitr; · ipureintro; exact hR12
    iexists _; isplitr; swap; · iexact HO12
    ipureintro; rfl
  isplitl [HO13]
  · iexists _; isplitr; · ipureintro; exact hR13
    iexists _; isplitr; swap; · iexact HO13
    ipureintro; rfl
  iexists _; isplitr; · ipureintro; exact hR14
  iexists _; isplitr; swap; · iexact HO14
  ipureintro; rfl

/-- The region's procedure is the body at the grid's point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation. -/
theorem body_obligation (c : Dev nD) :
    Pipeline.BodyObligationRel (dats (F := F) m 0 c) (defs₀ (F := F)) Variants.none () Set.univ isRes vs.Rl := fun t => by
  rw [bigSep_W0, bigSep_W0, defs₀_row]
  exact triple_restated (sound_body m vs c t) rfl .rfl fun _ => .rfl

/-! ## The run and the frame -/

/-- The proof data, with what the body leaves as a relation. -/
abbrev rdats (c : Dev nD) : Pipeline.RDat τ (Elt F) Unit ℕ (Pipeline.UD sig nD τ) ℕ cfg0 c := (dats m 0 c).toRRel isRes vs.Rl

set_option backward.isDefEq.respectTransparency.types false in
/-- The run: the input arrays as launched, the output arrays related to `vs.Rl`, every counter at zero. -/
theorem run_main : θ_run defs (onTc (τ := τ) (main (F := F))) (s₀ m ρ) (fun r => Pipeline.RDat.FramePost cfg0 (rdats m vs) (V m) r ∧ r.2.sem = fun _ => 0) :=
  Pipeline.RDat.θ_run_frame_dma (Q' := _) cfgs (0 : Fin 1) launch0 osem0 defs₀ Variants.none (rdats m vs) osem0_facts H0 H0_sub m ρ main
    (hbody := fun c => (body_obligation m vs c).toRRel) (hshare := fun c => (dats m 0 c).share_full fun _ => rfl)
    (howed := fun _ _ => rfl) (V := V m) (hmain := hmain m Variants.none) (hA := A_eq m)
    (hin := fun _ => .rfl) (hout := fun _ => .rfl)

/-- The arguments after the run, off the run's post. -/
theorem args_of {r : PUnit × MemSt nD τ sig (Elt F)} (h : Pipeline.RDat.FramePost cfg0 (rdats m vs) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine ⟨?_, ?_, ?_, ?_, ?_, ?_, ?_, ?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact (h.arr_in c 1 rfl).trans (V_main_arg6 m c)
  · exact (h.arr_in c 2 rfl).trans (V_main_arg7 m c)
  · exact (h.arr_in c 3 rfl).trans (V_main_arg8 m c)
  · exact (h.arr_in c 4 rfl).trans (V_main_arg9 m c)
  · exact (h.arr_in c 5 rfl).trans (V_main_arg10 m c)

/-- No claim of the outputs. -/
def noValues : Values (F := F) m where
  Rl _ _ _ := True
  P _ _ _ _ _ _ _ _ _ _ _ _ := True
  init := by intros; trivial
  step := by intros; unfold StepOk; intros; trivial
  fin := by intros; exact ⟨trivial, trivial, trivial, trivial, trivial, trivial, trivial, trivial⟩

/-- THE FRAME: the program ends, its arguments as launched, every counter at zero. -/
theorem frame_thm : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args_of m (noValues m) h.1, h.2⟩) (run_main m ρ (noValues m))

end Cert.KernelIdeal.Hand
end
-- ==== Proof.Spec.lean ====
/- The mathematics both programs compute, one batch row at a time, over the extended reals: the norm, the
   eight-bit quantiser, the product with the two-bit weights, and the three layers that chain them. -/
module

public import Idealize.ShloMosaic.Lib.Pointwise
public import Idealize.ShloMosaic.PureOps.Ideal

@[expose] public section

noncomputable section

namespace Cert.Spec

open Idealize.ShloMosaic

/-- A row divided by its root mean square (`N` the row's length), scaled by the gains `g`. -/
def nrm {n : ℕ} (N : EReal) (v g : Fin n → EReal) (i : Fin n) : EReal :=
  Ideal.div (v i) (Ideal.sqrt (Ideal.div (∑ x, v x * v x) N + Ideal.ofBits .f32 925353388#32)) * g i

/-- The largest magnitude of a row. -/
def amax {n : ℕ} (v : Fin n → EReal) : EReal :=
  Finset.fold max (Ideal.ofBits .f32 4286578688#32) (fun x => FloatOps.absf (F := Ideal) (φ := .f32) (v x)) Finset.univ

/-- The quantiser's scale: the largest magnitude over 127, one for a row of zeros. -/
def scl {n : ℕ} (v : Fin n → EReal) : EReal :=
  if amax v = 0 then 1 else Ideal.div (amax v) (Ideal.ofBits .f32 1123942400#32)

/-- The quantiser's code, as a number: the row over its scale, rounded to even and clipped to ±127. -/
def cod {n : ℕ} (v : Fin n → EReal) (i : Fin n) : EReal :=
  min (((127#32).toInt : ℝ) : EReal) (max (((4294967169#32).toInt : ℝ) : EReal)
    (Ideal.liftRound Ideal.roundHalfEven (Ideal.div (v i) (scl v))))

/-- The code as the byte it is stored in. -/
def byt {n : ℕ} (v : Fin n → EReal) (i : Fin n) : BitVec 8 := Ideal.fptosi 8 (cod v i)

/-- The two bits at place `i` of a packed byte. -/
def two (i : ℕ) (b : BitVec 8) : ℕ := b.toNat / 4 ^ i % 4

/-- A row of codes times the two-bit weights: output `o` is row `o % R` of the packed weights at bit pair
    `o / R`, each weight its two bits less one. -/
def lin {R K M : ℕ} (hR : 0 < R) (c : Fin K → EReal) (w : Fin R → Fin K → BitVec 8) (o : Fin M) : EReal :=
  ∑ t, c t * (((two (o.val / R) (w ⟨o.val % R, Nat.mod_lt _ hR⟩ t) : ℝ) - 1 : ℝ) : EReal)

/-- A code lies between -127 and 127 and is a whole number. -/
theorem cod_int {n : ℕ} (v : Fin n → EReal) (i : Fin n) :
    ∃ z : ℤ, -127 ≤ z ∧ z ≤ 127 ∧ cod v i = ((z : ℝ) : EReal) := by
  unfold cod
  have h1 : (127#32).toInt = 127 := by decide
  have h2 : (4294967169#32).toInt = -127 := by decide
  rw [h1, h2]
  have hmono : Monotone fun z : ℤ => ((z : ℝ) : EReal) := fun a b hab => by
    exact EReal.coe_le_coe_iff.2 (Int.cast_le.2 hab)
  have hmax : ∀ a b : ℤ, (((max a b : ℤ) : ℝ) : EReal) = max ((a : ℝ) : EReal) ((b : ℝ) : EReal) := fun a b => hmono.map_max
  have hmin : ∀ a b : ℤ, (((min a b : ℤ) : ℝ) : EReal) = min ((a : ℝ) : EReal) ((b : ℝ) : EReal) := fun a b => hmono.map_min
  generalize Ideal.div (v i) (scl v) = y
  induction y using EReal.rec with
  | bot =>
    refine ⟨-127, by norm_num, by norm_num, ?_⟩
    show min (((127 : ℤ) : ℝ) : EReal) (max (((-127 : ℤ) : ℝ) : EReal) ⊥) = _
    rw [max_eq_left bot_le, ← hmin]
    rfl
  | top =>
    refine ⟨127, by norm_num, by norm_num, ?_⟩
    show min (((127 : ℤ) : ℝ) : EReal) (max (((-127 : ℤ) : ℝ) : EReal) ⊤) = _
    rw [max_eq_right le_top, min_eq_left le_top]
  | coe r =>
    refine ⟨min 127 (max (-127) (Ideal.roundHalfEven r)), by omega, by omega, ?_⟩
    show min (((127 : ℤ) : ℝ) : EReal) (max (((-127 : ℤ) : ℝ) : EReal) ((Ideal.roundHalfEven r : ℝ) : EReal)) = _
    rw [← hmax, ← hmin]

/-- A code is a real number. -/
theorem cod_real {n : ℕ} (v : Fin n → EReal) (i : Fin n) : ∃ z : ℝ, cod v i = (z : EReal) :=
  let ⟨z, _, _, h⟩ := cod_int v i; ⟨z, h⟩

/-- The stored byte is the code. -/
theorem byt_toInt {n : ℕ} (v : Fin n → EReal) (i : Fin n) : (((byt v i).toInt : ℝ) : EReal) = cod v i := by
  obtain ⟨z, h1, h2, h⟩ := cod_int v i
  unfold byt
  rw [h]
  have e : Ideal.fptosi 8 ((z : ℝ) : EReal) = BitVec.ofInt 8 z := by
    rw [Ideal.fptosi, Ideal.toIntClamped_coe]
    congr 1
    rw [Int.floor_intCast, Int.ceil_intCast, ite_self]
    norm_num
    omega
  rw [e, BitVec.toInt_ofInt]
  congr 2
  have : z.bmod (2 ^ 8) = z := Int.bmod_eq_of_le (by omega) (by omega)
  rw [this]

/-- One layer's weights, scales, gains and attention output. -/
structure Layer where
  /-- The packed output-projection weights. -/
  wo : Fin 640 → Fin 2560 → BitVec 8
  /-- The packed gate weights. -/
  wg : Fin 1728 → Fin 2560 → BitVec 8
  /-- The packed up weights. -/
  wu : Fin 1728 → Fin 2560 → BitVec 8
  /-- The packed down weights. -/
  wd : Fin 640 → Fin 6912 → BitVec 8
  /-- The weights' scales. -/
  sc : Fin 7 → EReal
  /-- The input norm's gains. -/
  gi : Fin 2560 → EReal
  /-- The attention sub-norm's gains. -/
  ga : Fin 2560 → EReal
  /-- The post-attention norm's gains. -/
  gp : Fin 2560 → EReal
  /-- The feed-forward sub-norm's gains. -/
  gf : Fin 6912 → EReal
  /-- The attention output. -/
  at' : Fin 12 → Fin 2560 → EReal

namespace Layer

variable (y : Layer)

/-- The input's normed row. -/
abbrev n1 (r : Fin 2560 → EReal) : Fin 2560 → EReal := nrm (Ideal.ofBits .f32 1159725056#32) r y.gi
/-- The attention output's normed row. -/
abbrev n2 (b : Fin 12) : Fin 2560 → EReal := nrm (Ideal.ofBits .f32 1159725056#32) (y.at' b) y.ga
/-- The stream after attention: the stream plus the output projection. -/
def mid (b : Fin 12) (r : Fin 2560 → EReal) (o : Fin 2560) : EReal :=
  r o + lin (R := 640) (by decide) (cod (y.n2 b)) y.wo o * (scl (y.n2 b) * y.sc 3)
/-- The middle stream's normed row. -/
abbrev n3 (m : Fin 2560 → EReal) : Fin 2560 → EReal := nrm (Ideal.ofBits .f32 1159725056#32) m y.gp
/-- The feed-forward block's hidden row: the gate clipped below at zero, squared, times the up projection. -/
def hid (m : Fin 2560 → EReal) (o : Fin 6912) : EReal :=
  max (lin (R := 1728) (by decide) (cod (y.n3 m)) y.wg o * (scl (y.n3 m) * y.sc 4)) (Ideal.ofBits .f32 0#32)
    * max (lin (R := 1728) (by decide) (cod (y.n3 m)) y.wg o * (scl (y.n3 m) * y.sc 4)) (Ideal.ofBits .f32 0#32)
    * (lin (R := 1728) (by decide) (cod (y.n3 m)) y.wu o * (scl (y.n3 m) * y.sc 5))
/-- The hidden row, normed. -/
abbrev n4 (h : Fin 6912 → EReal) : Fin 6912 → EReal := nrm (Ideal.ofBits .f32 1171783680#32) h y.gf
/-- The layer's output row: the middle stream plus the down projection. -/
def out (m : Fin 2560 → EReal) (h : Fin 6912 → EReal) (o : Fin 2560) : EReal :=
  m o + lin (R := 640) (by decide) (cod (y.n4 h)) y.wd o * (scl (y.n4 h) * y.sc 6)
/-- One layer's step of a row of the stream. -/
def step (b : Fin 12) (r : Fin 2560 → EReal) : Fin 2560 → EReal :=
  y.out (y.mid b r) (y.hid (y.mid b r))

end Layer

/-- The stream's row `b` entering layer `n`. -/
def stream (lay : Fin 3 → Layer) (x : Fin 12 → Fin 2560 → EReal) (b : Fin 12) : ℕ → Fin 2560 → EReal
  | 0 => x b
  | n + 1 => if h : n < 3 then (lay ⟨n, h⟩).step b (stream lay x b n) else stream lay x b n

/-- A finite sum of reals, as an extended real. -/
theorem coe_sum {n : ℕ} (f : Fin n → ℝ) : ((∑ t, f t : ℝ) : EReal) = ∑ t, ((f t : ℝ) : EReal) :=
  map_sum (⟨⟨fun z : ℝ => (z : EReal), rfl⟩, fun _ _ => rfl⟩ : ℝ →+ EReal) f Finset.univ

/-- The codes times the raw two bits, less the codes' sum, is the codes times the two bits less one. -/
theorem sub_sum {n : ℕ} (a : Fin n → EReal) (c : Fin n → ℝ) (h : ∀ t, ∃ z : ℝ, a t = (z : EReal)) :
    (∑ t, a t * ((c t : ℝ) : EReal)) - ∑ t, a t = ∑ t, a t * ((c t - 1 : ℝ) : EReal) := by
  choose z hz using h
  simp only [hz, ← EReal.coe_mul]
  rw [← coe_sum, ← coe_sum, ← coe_sum, ← EReal.coe_sub]
  congr 1
  rw [← Finset.sum_sub_distrib]
  exact Finset.sum_congr rfl fun t _ => by ring

/-- The two bits of a byte as the kernel masks them out of it. -/
theorem two_mask (i : Fin 4) (b : BitVec 8) :
    (((b >>> (2 * i.val)) &&& 3#8).toInt : ℝ) = (two i.val b : ℝ) := by
  have : ∀ i : Fin 4, ∀ b : BitVec 8, ((b >>> (2 * i.val)) &&& 3#8).toInt = (two i.val b : ℤ) := by decide +kernel
  rw [this i b, Int.cast_natCast]

/-- The two bits of a byte, less one, as the byte widened, shifted, masked and decremented. -/
theorem two_wide (i : Fin 4) (b : BitVec 8) :
    (((((b.setWidth 32).sshiftRight (2 * i.val)) &&& 3#32) - 1#32).toInt : ℝ) = (two i.val b : ℝ) - 1 := by
  have : ∀ i : Fin 4, ∀ b : BitVec 8, ((((b.setWidth 32).sshiftRight (2 * i.val)) &&& 3#32) - 1#32).toInt = (two i.val b : ℤ) - 1 := by
    decide +kernel
  rw [this i b, Int.cast_sub, Int.cast_natCast, Int.cast_one]

end Cert.Spec
-- ==== Proof.IdealBlock.lean ====
/- The kernel's row block of a projection over the extended reals: the packed bytes' four bit pairs laid out as
   matrices, ten (or more) chunks of 256 codes each multiplied in and added up, the codes' sum taken off. -/
module

public import proofs.«01_k».proof.Proof.IdealLoops
public import proofs.«01_k».proof.Proof.Spec
public import Idealize.ShloMosaic.Lib.MatmulPlain
public import Idealize.ShloMosaic.Lib.Pointwise
public import Idealize.ShloMosaic.Lib.Pipeline.ValueKit
public import Idealize.ShloMosaic.Lib.BitcastFour

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Bit pair `i` of every byte of a packed block, transposed. -/
def plane (i : ℕ) (w : Vec F S128x256 .i8) : FVec F S256x128 .bf16 :=
  sitofp .bf16 (bitcast S256x128 8 (andi (shrui (bitcast S64x128 32 (transpose S256x128 [1, 0] w transposes_S128x256_p1_0_S256x128)
    bitcasts_S256x128_w8_S64x128_w32) (broadcast S64x128 (BitVec.ofNat 32 (2 * i)))) (broadcast S64x128 50529027#32))
    bitcasts_S64x128_w32_S256x128_w8)

/-- Bit pairs `2h` and `2h + 1` side by side. -/
def pair (h : ℕ) (w : Vec F S128x256 .i8) : FVec F S256x256 .bf16 :=
  concatenate S256x256 1 [⟨S256x128, plane (F := F) (2 * h) w⟩, ⟨S256x128, plane (F := F) (2 * h + 1) w⟩]
    concatenates_S256x128_S256x128_S256x256_d1

/-- The products of the first `n + 1` chunks of codes with their blocks, added up from the left. -/
def chunks (h : ℕ) (a : ℕ → Vec F S16x256 .bf16) (w : ℕ → Vec F S128x256 .i8) : ℕ → FVec F S16x256 .f32
  | 0 => matmul dot_S16x256_S256x256_S16x256_1_0_0_1_n_n none (a 0) (pair h (w 0)) (constant S16x256 .f32 0x00000000#32)
  | n + 1 => addf (chunks h a w n)
      (matmul dot_S16x256_S256x256_S16x256_1_0_0_1_n_n none (a (n + 1)) (pair h (w (n + 1))) (constant S16x256 .f32 0x00000000#32))

/-- Half `e` of the added products, less the codes' sum: one bit pair's outputs of a row block. -/
def blockOut (h : ℕ) (o : Fin 2 → ℕ) (ho : S16x256.Slices o S16x128) (acc : FVec F S16x256 .f32) (s : FVec F S16x1 .f32) : FVec F S16x128 .f32 :=
  subf (extractStridedSlice S16x128 o acc ho) (broadcastTo S16x128 s broadcasts_S16x1_S16x128)

/-- Words read back as bytes: bit `q` of byte row `t` is bit `8 (t % 4) + q` of word row `t / 4`. -/
theorem bytes_getLsbD (X : IVec S64x128 32) (t : Fin 256) (x : Fin 128) (q : ℕ) (hq : q < 8) :
    (bitcast S256x128 8 X bitcasts_S64x128_w32_S256x128_w8 (ix2 t x)).getLsbD q
      = (X (ix2 (⟨t.val / 4, by omega⟩ : Fin 64) x)).getLsbD (8 * (t.val % 4) + q) := by
  rw [bitcast_getLsbD _ _ _ q hq (by decide)]
  have hr : Shape.row S256x128 (ix2 t x) = t.val := rfl
  have e1 : (Shape.row S256x128 (ix2 t x) * 8 + q) / 32 = t.val / 4 := by rw [hr]; omega
  have e2 : (Shape.row S256x128 (ix2 t x) * 8 + q) % 32 = 8 * (t.val % 4) + q := by rw [hr]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The mask `0x03030303` keeps the two low bits of every byte. -/
theorem mask_getLsbD (r q : ℕ) (hr : r < 4) (hq : q < 8) : (50529027#32 : BitVec 32).getLsbD (8 * r + q) = decide (q < 2) := by
  interval_cases r <;> interval_cases q <;> rfl

/-- A bit pair read at an entry: the two bits of the transposed byte. -/
theorem plane_at (i : Fin 4) (w : Vec Ideal S128x256 .i8) (t : Fin 256) (x : Fin 128) :
    plane (F := Ideal) i.val w (ix2 t x) = (((Spec.two i.val (w (ix2 x t)) : ℕ) : ℝ) : EReal) := by
  rw [← Spec.two_mask]
  unfold plane
  show (((bitcast S256x128 8 _ _ (ix2 t x) : BitVec 8).toInt : ℝ) : EReal) = _
  congr 3
  apply BitVec.eq_of_getLsbD_eq
  intro q hq
  rw [bytes_getLsbD _ t x q hq]
  show (IntOp.andi (IntOp.shrui .vector _ (BitVec.ofNat 32 (2 * i.val))) 50529027#32).getLsbD _ = _
  have hi : (BitVec.ofNat 32 (2 * i.val)).toNat = 2 * i.val := by
    rw [BitVec.toNat_ofNat]; omega
  unfold IntOp.andi IntOp.shrui
  rw [if_pos (by rw [hi]; omega), BitVec.getLsbD_and, mask_getLsbD _ _ (by omega) hq, BitVec.getLsbD_and]
  have h3 : (3#8 : BitVec 8).getLsbD q = decide (q < 2) := by interval_cases q <;> rfl
  rw [h3]
  by_cases h2 : q < 2
  · rw [BitVec.ushiftRight_eq', hi, BitVec.getLsbD_ushiftRight, BitVec.getLsbD_ushiftRight]
    have hb := bitcast_8_32_getLsbD_ix2 (transpose (α := BitVec 8) S256x128 [1, 0] w transposes_S128x256_p1_0_S256x128)
      bitcasts_S256x128_w8_S64x128_w32 ⟨t.val / 4, by omega⟩ x (2 * i.val + (8 * (t.val % 4) + q)) (by omega) t
      (by show t.val = 4 * (t.val / 4) + (2 * i.val + (8 * (t.val % 4) + q)) / 8; omega)
    have hb' := hb
    change (bitcast S64x128 32 _ bitcasts_S256x128_w8_S64x128_w32 (ix2 ⟨t.val / 4, _⟩ x)).getLsbD _ = _ at hb'
    refine congrArg (· && decide (q < 2)) (hb'.trans ?_)
    have e : (2 * i.val + (8 * (t.val % 4) + q)) % 8 = 2 * i.val + q := by omega
    rw [e]
    have ht : transpose S256x128 [1, 0] w transposes_S128x256_p1_0_S256x128 (ix2 t x) = w (ix2 x t) := by pointwise
    exact congrArg (fun z : BitVec 8 => z.getLsbD (2 * i.val + q)) ht
  · simp [h2]

/-- Two bit pairs side by side, read at an entry. -/
theorem pair_at (h : Fin 2) (w : Vec Ideal S128x256 .i8) (t : Fin 256) (x : Fin 128) (e : Fin 2) (x' : Fin 256)
    (hx : x'.val = 128 * e.val + x.val) :
    pair (F := Ideal) h.val w (ix2 t x') = (((Spec.two (2 * h.val + e.val) (w (ix2 x t)) : ℕ) : ℝ) : EReal) := by
  pointwise [pair]
  match e with
  | 0 =>
    have hx0 : x'.val = x.val := by rw [hx]; simp
    rw [dif_pos (by omega)]
    exact (congrArg (fun z => plane (F := Ideal) (2 * h.val) w (ix2 t z)) (Fin.ext hx0)).trans (plane_at ⟨2 * h.val, by omega⟩ w t x)
  | 1 =>
    have hx1 : x'.val = 128 + x.val := by rw [hx]; simp
    rw [dif_neg (by omega)]
    exact (congrArg (fun z => plane (F := Ideal) (2 * h.val + 1) w (ix2 t z)) (Fin.ext (by show x'.val - 128 = x.val; omega))).trans
      (plane_at ⟨2 * h.val + 1, by omega⟩ w t x)

/-- The added products read at an entry: the codes of the chunks so far times the two bits of their blocks' bytes. -/
theorem chunks_at (h : Fin 2) (a : ℕ → Vec Ideal S16x256 .bf16) (w : ℕ → Vec Ideal S128x256 .i8) (r : Fin 16) (x : Fin 128)
    (e : Fin 2) (x' : Fin 256) (hx : x'.val = 128 * e.val + x.val) : ∀ n : ℕ,
    chunks (F := Ideal) h.val a w n (ix2 r x')
      = ∑ s ∈ Finset.range (n + 1), ∑ t : Fin 256, a s (ix2 r t) * (((Spec.two (2 * h.val + e.val) (w s (ix2 x t)) : ℕ) : ℝ) : EReal)
  | 0 => by
    rw [Finset.sum_range_one]
    unfold chunks
    pointwise
    exact Finset.sum_congr rfl fun t _ => by rw [pair_at h _ t x e x' hx]
  | n + 1 => by
    rw [Finset.sum_range_succ, ← chunks_at h a w r x e x' hx n]
    show chunks (F := Ideal) h.val a w n (ix2 r x') + matmul _ none (a (n + 1)) _ _ (ix2 r x') = _
    congr 1
    pointwise
    exact Finset.sum_congr rfl fun t _ => by rw [pair_at h _ t x e x' hx]

/-- The codes of a row times one bit pair of a row of bytes. -/
def raw {K : ℕ} (a : Fin K → EReal) (w : Fin K → BitVec 8) (j : ℕ) : EReal := ∑ c, a c * (((Spec.two j (w c) : ℕ) : ℝ) : EReal)

/-- A sum over chunks of 256 is the sum over all. -/
theorem sum_chunks (f : ℕ → EReal) : ∀ n : ℕ, ∑ s ∈ Finset.range n, ∑ t : Fin 256, f (256 * s + t.val) = ∑ c ∈ Finset.range (256 * n), f c
  | 0 => by simp
  | n + 1 => by
    rw [Finset.sum_range_succ, sum_chunks f n, show 256 * (n + 1) = 256 * n + 256 by ring, Finset.sum_range_add]
    congr 1

/-- The added products of all chunks, read at an entry: one bit pair's whole product. -/
theorem chunks_raw {K : ℕ} (h : Fin 2) (a : ℕ → Vec Ideal S16x256 .bf16) (w : ℕ → Vec Ideal S128x256 .i8) (r : Fin 16) (x : Fin 128)
    (e : Fin 2) (x' : Fin 256) (hx : x'.val = 128 * e.val + x.val) (n : ℕ) (hK : 256 * (n + 1) = K)
    (A : Fin K → EReal) (W : Fin K → BitVec 8)
    (hA : ∀ s t (hs : 256 * s + t.val < K), a s (ix2 r t) = A ⟨256 * s + t.val, hs⟩)
    (hW : ∀ s t (hs : 256 * s + t.val < K), w s (ix2 x t) = W ⟨256 * s + t.val, hs⟩) :
    chunks (F := Ideal) h.val a w n (ix2 r x') = raw A W (2 * h.val + e.val) := by
  rw [chunks_at h a w r x e x' hx n]
  let f : ℕ → EReal := fun c => if hc : c < K then A ⟨c, hc⟩ * (((Spec.two (2 * h.val + e.val) (W ⟨c, hc⟩) : ℕ) : ℝ) : EReal) else 0
  have e1 : ∀ s ∈ Finset.range (n + 1), (∑ t : Fin 256, a s (ix2 r t) * (((Spec.two (2 * h.val + e.val) (w s (ix2 x t)) : ℕ) : ℝ) : EReal))
      = ∑ t : Fin 256, f (256 * s + t.val) := by
    intro s hs
    have hs' : s < n + 1 := Finset.mem_range.mp hs
    refine Finset.sum_congr rfl fun t _ => ?_
    have hlt : 256 * s + t.val < K := by have := t.isLt; omega
    simp only [f, dif_pos hlt]
    rw [hA s t hlt, hW s t hlt]
  rw [Finset.sum_congr rfl e1, sum_chunks f (n + 1), hK, Finset.sum_range]
  exact Finset.sum_congr rfl fun c _ => by simp only [f, dif_pos c.isLt]

/-- A row block's output read at an entry. -/
theorem blockOut_at (h e : Fin 2) (o : Fin 2 → ℕ) (ho : S16x256.Slices o S16x128) (he : o = ![0, 128 * e.val])
    (acc : FVec Ideal S16x256 .f32) (s : FVec Ideal S16x1 .f32) (r : Fin 16) (x : Fin 128) :
    blockOut (F := Ideal) h.val o ho acc s (ix2 r x)
      = acc (ix2 r ⟨128 * e.val + x.val, by omega⟩) - s (ix2 r 0) := by
  subst he
  pointwise [blockOut]

/-- A chunk of a matrix of codes, or of a packed weight: a read of the matrix at the chunk's place. -/
theorem readAt_ix2 {sg : RefSig} {κ : Kind} {sp : Space} {M K m k : ℕ} {e : EltTy} (v : View sg κ sp ⟨2, ![M, K]⟩ e) (off : Fin 2 → ℕ)
    (hin : ∀ a, off a + (![m, k] : Fin 2 → ℕ) a ≤ (![M, K] : Fin 2 → ℕ) a) (p q : ℕ) (hoff : off = ![p, q]) (X : v.ty.Contents (Elt Ideal))
    (x : Fin m) (t : Fin k) (hx : p + x.val < M) (ht : q + t.val < K) :
    v.readAt (Elt Ideal) (Rect.unit (s := ⟨2, ![M, K]⟩) off ![m, k] hin).toLoadRect X (ix2 x t)
      = v.read (Elt Ideal) X (ix2 ⟨p + x.val, hx⟩ ⟨q + t.val, ht⟩) := by
  subst hoff
  show v.read (Elt Ideal) X _ = _
  congr 1
  funext a
  match a with
  | ⟨0, _⟩ => exact Fin.ext (by show p + 1 * x.val = p + x.val; omega)
  | ⟨1, _⟩ => exact Fin.ext (by show q + 1 * t.val = q + t.val; omega)

end Cert.KernelIdeal.Hand
-- ==== Proof.IdealRows.lean ====
/- The gate, up and down loops' row blocks over the extended reals: every piece a trip stores is one
   function of the place it is stored at: the codes times that place's bit pair, less the codes' sum. -/
module

public import proofs.«01_k».proof.Proof.IdealBlock

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- Chunk `s` of the matrix of codes the gate and up projections read. -/
def codeChunk {sp : Space} (m : Memref sig .tc sp S16x2560 .bf16) (X : BufTy.Contents (Elt Ideal) m.view.ty) (s : ℕ) : Vec Ideal S16x256 .bf16 :=
  if h : s < 10 then m.view.readAt (Elt Ideal) (Rect.unit (s := S16x2560) ![0, 256 * s] S16x256.size
    (fun a => match a with
      | ⟨0, _⟩ => (by decide : 0 + 16 ≤ 16)
      | ⟨1, _⟩ => (by omega : 256 * s + 256 ≤ 2560))).toLoadRect X else fun _ => 0

/-- A chunk of codes read at an entry. -/
theorem codeChunk_at {sp : Space} (m : Memref sig .tc sp S16x2560 .bf16) (X : BufTy.Contents (Elt Ideal) m.view.ty) (s : ℕ) (r : Fin 16)
    (t : Fin 256) (hs : 256 * s + t.val < 2560) :
    codeChunk m X s (ix2 r t) = m.view.read (Elt Ideal) X (ix2 r ⟨256 * s + t.val, hs⟩) := by
  unfold codeChunk
  rw [dif_pos (by omega : s < 10)]
  refine (readAt_ix2 m.view _ _ 0 (256 * s) rfl X r t (by omega) hs).trans ?_
  congr 2
  exact Fin.ext (Nat.zero_add _)

/-- Chunk `s` of row block `u` of trip `k` of the gate's packed weight. -/
def gateChunk {sp : Space} (m : Memref sig .tc sp S1792x2560 .i8) (X : BufTy.Contents (Elt Ideal) m.view.ty) (k : Fin k0_t2_loop.trips) (u : Fin 2) :
    ℕ → Vec Ideal S128x256 .i8
  | 0 => m.view.readAt (Elt Ideal) (Rect.unit (s := S1792x2560) (k0_off21 k (BitVec.ofNat 32 u.val)) S128x256.size (k0_off21_inb k u)).toLoadRect X
  | 1 => m.view.readAt (Elt Ideal) (Rect.unit (s := S1792x2560) (k0_off22 k (BitVec.ofNat 32 u.val)) S128x256.size (k0_off22_inb k u)).toLoadRect X
  | 2 => m.view.readAt (Elt Ideal) (Rect.unit (s := S1792x2560) (k0_off23 k (BitVec.ofNat 32 u.val)) S128x256.size (k0_off23_inb k u)).toLoadRect X
  | 3 => m.view.readAt (Elt Ideal) (Rect.unit (s := S1792x2560) (k0_off24 k (BitVec.ofNat 32 u.val)) S128x256.size (k0_off24_inb k u)).toLoadRect X
  | 4 => m.view.readAt (Elt Ideal) (Rect.unit (s := S1792x2560) (k0_off25 k (BitVec.ofNat 32 u.val)) S128x256.size (k0_off25_inb k u)).toLoadRect X
  | 5 => m.view.readAt (Elt Ideal) (Rect.unit (s := S1792x2560) (k0_off26 k (BitVec.ofNat 32 u.val)) S128x256.size (k0_off26_inb k u)).toLoadRect X
  | 6 => m.view.readAt (Elt Ideal) (Rect.unit (s := S1792x2560) (k0_off27 k (BitVec.ofNat 32 u.val)) S128x256.size (k0_off27_inb k u)).toLoadRect X
  | 7 => m.view.readAt (Elt Ideal) (Rect.unit (s := S1792x2560) (k0_off28 k (BitVec.ofNat 32 u.val)) S128x256.size (k0_off28_inb k u)).toLoadRect X
  | 8 => m.view.readAt (Elt Ideal) (Rect.unit (s := S1792x2560) (k0_off29 k (BitVec.ofNat 32 u.val)) S128x256.size (k0_off29_inb k u)).toLoadRect X
  | 9 => m.view.readAt (Elt Ideal) (Rect.unit (s := S1792x2560) (k0_off30 k (BitVec.ofNat 32 u.val)) S128x256.size (k0_off30_inb k u)).toLoadRect X
  | _ => fun _ => 0

/-- Chunk `s` of row block `u` of trip `k` of the up projection's packed weight. -/
def upChunk {sp : Space} (m : Memref sig .tc sp S1792x2560 .i8) (X : BufTy.Contents (Elt Ideal) m.view.ty) (k : Fin k0_t3_loop.trips) (u : Fin 2) :
    ℕ → Vec Ideal S128x256 .i8
  | 0 => m.view.readAt (Elt Ideal) (Rect.unit (s := S1792x2560) (k0_off36 k (BitVec.ofNat 32 u.val)) S128x256.size (k0_off36_inb k u)).toLoadRect X
  | 1 => m.view.readAt (Elt Ideal) (Rect.unit (s := S1792x2560) (k0_off37 k (BitVec.ofNat 32 u.val)) S128x256.size (k0_off37_inb k u)).toLoadRect X
  | 2 => m.view.readAt (Elt Ideal) (Rect.unit (s := S1792x2560) (k0_off38 k (BitVec.ofNat 32 u.val)) S128x256.size (k0_off38_inb k u)).toLoadRect X
  | 3 => m.view.readAt (Elt Ideal) (Rect.unit (s := S1792x2560) (k0_off39 k (BitVec.ofNat 32 u.val)) S128x256.size (k0_off39_inb k u)).toLoadRect X
  | 4 => m.view.readAt (Elt Ideal) (Rect.unit (s := S1792x2560) (k0_off40 k (BitVec.ofNat 32 u.val)) S128x256.size (k0_off40_inb k u)).toLoadRect X
  | 5 => m.view.readAt (Elt Ideal) (Rect.unit (s := S1792x2560) (k0_off41 k (BitVec.ofNat 32 u.val)) S128x256.size (k0_off41_inb k u)).toLoadRect X
  | 6 => m.view.readAt (Elt Ideal) (Rect.unit (s := S1792x2560) (k0_off42 k (BitVec.ofNat 32 u.val)) S128x256.size (k0_off42_inb k u)).toLoadRect X
  | 7 => m.view.readAt (Elt Ideal) (Rect.unit (s := S1792x2560) (k0_off43 k (BitVec.ofNat 32 u.val)) S128x256.size (k0_off43_inb k u)).toLoadRect X
  | 8 => m.view.readAt (Elt Ideal) (Rect.unit (s := S1792x2560) (k0_off44 k (BitVec.ofNat 32 u.val)) S128x256.size (k0_off44_inb k u)).toLoadRect X
  | 9 => m.view.readAt (Elt Ideal) (Rect.unit (s := S1792x2560) (k0_off45 k (BitVec.ofNat 32 u.val)) S128x256.size (k0_off45_inb k u)).toLoadRect X
  | _ => fun _ => 0

/-- A trip number is below the trips' number. -/
theorem row_lt {k : ℕ} (hk : k < 7) {u : Fin 2} (x : Fin 128) : 256 * k + 128 * u.val + x.val < 1792 := by
  have := u.isLt; have := x.isLt; omega

/-- A chunk of the gate's weight read at an entry. -/
theorem gateChunk_at {sp : Space} (m : Memref sig .tc sp S1792x2560 .i8) (X : BufTy.Contents (Elt Ideal) m.view.ty) (k : Fin k0_t2_loop.trips) (u : Fin 2)
    (s : ℕ) (x : Fin 128) (t : Fin 256) (hs : 256 * s + t.val < 2560) (hr : 256 * k.val + 128 * u.val + x.val < 1792) :
    gateChunk m X k u s (ix2 x t) = m.view.read (Elt Ideal) X (ix2 ⟨256 * k.val + 128 * u.val + x.val, hr⟩ ⟨256 * s + t.val, hs⟩) := by
  have hs' : s < 10 := by omega
  match s, hs' with
  | 0, _ => exact readAt_ix2 m.view _ (k0_off21_inb k u) (256 * k.val + 128 * u.val) 0 (k0_off21_eq k u) X x t hr hs
  | 1, _ => exact readAt_ix2 m.view _ (k0_off22_inb k u) (256 * k.val + 128 * u.val) 256 (k0_off22_eq k u) X x t hr hs
  | 2, _ => exact readAt_ix2 m.view _ (k0_off23_inb k u) (256 * k.val + 128 * u.val) 512 (k0_off23_eq k u) X x t hr hs
  | 3, _ => exact readAt_ix2 m.view _ (k0_off24_inb k u) (256 * k.val + 128 * u.val) 768 (k0_off24_eq k u) X x t hr hs
  | 4, _ => exact readAt_ix2 m.view _ (k0_off25_inb k u) (256 * k.val + 128 * u.val) 1024 (k0_off25_eq k u) X x t hr hs
  | 5, _ => exact readAt_ix2 m.view _ (k0_off26_inb k u) (256 * k.val + 128 * u.val) 1280 (k0_off26_eq k u) X x t hr hs
  | 6, _ => exact readAt_ix2 m.view _ (k0_off27_inb k u) (256 * k.val + 128 * u.val) 1536 (k0_off27_eq k u) X x t hr hs
  | 7, _ => exact readAt_ix2 m.view _ (k0_off28_inb k u) (256 * k.val + 128 * u.val) 1792 (k0_off28_eq k u) X x t hr hs
  | 8, _ => exact readAt_ix2 m.view _ (k0_off29_inb k u) (256 * k.val + 128 * u.val) 2048 (k0_off29_eq k u) X x t hr hs
  | 9, _ => exact readAt_ix2 m.view _ (k0_off30_inb k u) (256 * k.val + 128 * u.val) 2304 (k0_off30_eq k u) X x t hr hs

/-- A chunk of the up projection's weight read at an entry. -/
theorem upChunk_at {sp : Space} (m : Memref sig .tc sp S1792x2560 .i8) (X : BufTy.Contents (Elt Ideal) m.view.ty) (k : Fin k0_t3_loop.trips) (u : Fin 2)
    (s : ℕ) (x : Fin 128) (t : Fin 256) (hs : 256 * s + t.val < 2560) (hr : 256 * k.val + 128 * u.val + x.val < 1792) :
    upChunk m X k u s (ix2 x t) = m.view.read (Elt Ideal) X (ix2 ⟨256 * k.val + 128 * u.val + x.val, hr⟩ ⟨256 * s + t.val, hs⟩) := by
  have hs' : s < 10 := by omega
  match s, hs' with
  | 0, _ => exact readAt_ix2 m.view _ (k0_off36_inb k u) (256 * k.val + 128 * u.val) 0 (k0_off36_eq k u) X x t hr hs
  | 1, _ => exact readAt_ix2 m.view _ (k0_off37_inb k u) (256 * k.val + 128 * u.val) 256 (k0_off37_eq k u) X x t hr hs
  | 2, _ => exact readAt_ix2 m.view _ (k0_off38_inb k u) (256 * k.val + 128 * u.val) 512 (k0_off38_eq k u) X x t hr hs
  | 3, _ => exact readAt_ix2 m.view _ (k0_off39_inb k u) (256 * k.val + 128 * u.val) 768 (k0_off39_eq k u) X x t hr hs
  | 4, _ => exact readAt_ix2 m.view _ (k0_off40_inb k u) (256 * k.val + 128 * u.val) 1024 (k0_off40_eq k u) X x t hr hs
  | 5, _ => exact readAt_ix2 m.view _ (k0_off41_inb k u) (256 * k.val + 128 * u.val) 1280 (k0_off41_eq k u) X x t hr hs
  | 6, _ => exact readAt_ix2 m.view _ (k0_off42_inb k u) (256 * k.val + 128 * u.val) 1536 (k0_off42_eq k u) X x t hr hs
  | 7, _ => exact readAt_ix2 m.view _ (k0_off43_inb k u) (256 * k.val + 128 * u.val) 1792 (k0_off43_eq k u) X x t hr hs
  | 8, _ => exact readAt_ix2 m.view _ (k0_off44_inb k u) (256 * k.val + 128 * u.val) 2048 (k0_off44_eq k u) X x t hr hs
  | 9, _ => exact readAt_ix2 m.view _ (k0_off45_inb k u) (256 * k.val + 128 * u.val) 2304 (k0_off45_eq k u) X x t hr hs

/-- What the gate and up projections leave in their buffer, at a place: slot 0 the gate's, slot 1 the up projection's. -/
def slotsOf (A : Vec Ideal S16x2560 .bf16) (W0 W1 : Vec Ideal S1792x2560 .i8) (S : Fin 16 → EReal) : S2x4x14x16x128.Idx → EReal :=
  fun j => raw (fun c : Fin 2560 => A (ix2 (j 3) c))
    (fun c => (if (j 0).val = 0 then W0 else W1) (ix2 ⟨128 * (j 2).val + (j 4).val, by
      have h2 : (j 2).val < 14 := (j 2).isLt; have h4 : (j 4).val < 128 := (j 4).isLt; omega⟩ c)) (j 1).val - S (j 3)

/-- A stored block of one slot agrees with a function of the place where its entries do. -/
theorem slot_piece (G : S2x4x14x16x128.Idx → EReal) (sl : Fin 2) (osl : Fin 5 → ℕ) (hosl : osl = ![sl.val, 0, 0, 0, 0])
    (off : Fin 4 → ℕ) (j : Fin 4) (n : Fin 14) (hoff : off = ![j.val, n.val, 0, 0])
    (X : FVec Ideal S16x128 .f32) (hval : ∀ r x, X (ix2 r x) = G (ix5 sl j n r x))
    (hin : ∀ a, osl a + S1x4x14x16x128.size a ≤ S2x4x14x16x128.size a) (hin' : ∀ a, off a + S1x1x16x128.size a ≤ S4x14x16x128.size a)
    (h0 : (![1, 4, 14, 16, 128] : Fin 5 → ℕ) 0 = 1) (hs : ∀ i : Fin 4, (![1, 4, 14, 16, 128] : Fin 5 → ℕ) i.succ = S4x14x16x128.size i)
    (h1 : ∀ a, (Rect.unit (s := S2x4x14x16x128) osl S1x4x14x16x128.size hin).stride a = 1)
    (hR : ((Rect.unit (s := S4x14x16x128) off S1x1x16x128.size hin').consLift ![1, 4, 14, 16, 128] h0 hs).shape.numel = S1x1x16x128.numel)
    (pay : FVec Ideal S1x1x16x128 .f32) (hpay : pay = shapeCast S1x1x16x128 X shapeCasts_S16x128_S1x1x16x128) :
    ∀ x, Rect.payAlong (r := Rect.unit (s := S4x14x16x128) off S1x1x16x128.size hin') hR pay x
      = G (((Rect.unit (s := S2x4x14x16x128) osl S1x4x14x16x128.size hin).within
          ((Rect.unit (s := S4x14x16x128) off S1x1x16x128.size hin').consLift ![1, 4, 14, 16, 128] h0 hs) h1).emb x) := by
  subst hosl hoff hpay
  intro x
  have l0 : (x 0).val < 1 := (x 0).isLt
  have l1 : (x 1).val < 1 := (x 1).isLt
  have l2 : (x 2).val < 1 := (x 2).isLt
  have l3 : (x 3).val < 16 := (x 3).isLt
  have l4 : (x 4).val < 128 := (x 4).isLt
  rw [Rect.payAlong_consLift (r := Rect.unit (s := S4x14x16x128) ![j.val, n.val, 0, 0] S1x1x16x128.size hin') ![1, 4, 14, 16, 128] h0 hs _ hR x
    (Idealize.ShloMosaic.ix4 (0 : Fin 1) (0 : Fin 1) (⟨(x 3).val, l3⟩ : Fin 16) (⟨(x 4).val, l4⟩ : Fin 128)) (fun i => by
      match i with
      | ⟨0, _⟩ => show 0 = (x 1).val; omega
      | ⟨1, _⟩ => show 0 = (x 2).val; omega
      | ⟨2, _⟩ => rfl
      | ⟨3, _⟩ => rfl)]
  have e : shapeCast S1x1x16x128 X shapeCasts_S16x128_S1x1x16x128
      (Idealize.ShloMosaic.ix4 (0 : Fin 1) (0 : Fin 1) (⟨(x 3).val, l3⟩ : Fin 16) (⟨(x 4).val, l4⟩ : Fin 128))
      = X (ix2 ⟨(x 3).val, l3⟩ ⟨(x 4).val, l4⟩) := by pointwise
  refine e.trans ((hval _ _).trans (congrArg G ?_))
  funext a
  refine Fin.ext ?_
  match a with
  | ⟨0, _⟩ => show sl.val = (sl.val + 0) + 1 * (x 0).val; omega
  | ⟨1, _⟩ => show j.val = (0 + j.val) + 1 * (x 1).val; omega
  | ⟨2, _⟩ => show n.val = (0 + n.val) + 1 * (x 2).val; omega
  | ⟨3, _⟩ => show (x 3).val = (0 + 0) + 1 * (x 3).val; omega
  | ⟨4, _⟩ => show (x 4).val = (0 + 0) + 1 * (x 4).val; omega

/-- A stored block of one slot covers its own places. -/
theorem slot_mem (sl : Fin 2) (osl : Fin 5 → ℕ) (hosl : osl = ![sl.val, 0, 0, 0, 0])
    (off : Fin 4 → ℕ) (j : Fin 4) (n : Fin 14) (hoff : off = ![j.val, n.val, 0, 0]) (r : Fin 16) (x : Fin 128)
    (hin : ∀ a, osl a + S1x4x14x16x128.size a ≤ S2x4x14x16x128.size a) (hin' : ∀ a, off a + S1x1x16x128.size a ≤ S4x14x16x128.size a)
    (h0 : (![1, 4, 14, 16, 128] : Fin 5 → ℕ) 0 = 1) (hs : ∀ i : Fin 4, (![1, 4, 14, 16, 128] : Fin 5 → ℕ) i.succ = S4x14x16x128.size i)
    (h1 : ∀ a, (Rect.unit (s := S2x4x14x16x128) osl S1x4x14x16x128.size hin).stride a = 1) :
    Idealize.ShloMosaic.ix5 sl j n r x ∈ ((Rect.unit (s := S2x4x14x16x128) osl S1x4x14x16x128.size hin).within
          ((Rect.unit (s := S4x14x16x128) off S1x1x16x128.size hin').consLift ![1, 4, 14, 16, 128] h0 hs) h1).set := by
  subst hosl hoff
  rw [LoadRect.mem_set]
  intro a
  match a with
  | ⟨0, _⟩ => exact ⟨0, Nat.one_pos, by show sl.val = (sl.val + 0) + 1 * 0; omega⟩
  | ⟨1, _⟩ => exact ⟨0, Nat.one_pos, by show j.val = (0 + j.val) + 1 * 0; omega⟩
  | ⟨2, _⟩ => exact ⟨0, Nat.one_pos, by show n.val = (0 + n.val) + 1 * 0; omega⟩
  | ⟨3, _⟩ => exact ⟨r.val, r.isLt, by show r.val = (0 + 0) + 1 * r.val; omega⟩
  | ⟨4, _⟩ => exact ⟨x.val, x.isLt, by show x.val = (0 + 0) + 1 * x.val; omega⟩

/-- One bit pair's block, as the sum over all codes. -/
theorem block_raw {K : ℕ} (h e : Fin 2) (o : Fin 2 → ℕ) (ho : S16x256.Slices o S16x128) (he : o = ![0, 128 * e.val]) (a : ℕ → Vec Ideal S16x256 .bf16)
    (w : ℕ → Vec Ideal S128x256 .i8) (n : ℕ) (hK : 256 * (n + 1) = K) (s : FVec Ideal S16x1 .f32) (r : Fin 16) (x : Fin 128)
    (A : Fin K → EReal) (W : Fin K → BitVec 8)
    (hA : ∀ s t (hs : 256 * s + t.val < K), a s (ix2 r t) = A ⟨256 * s + t.val, hs⟩)
    (hW : ∀ s t (hs : 256 * s + t.val < K), w s (ix2 x t) = W ⟨256 * s + t.val, hs⟩) :
    blockOut (F := Ideal) h.val o ho (chunks (F := Ideal) h.val a w n) s (ix2 r x) = raw A W (2 * h.val + e.val) - s (ix2 r 0) := by
  rw [blockOut_at h e o ho he]
  exact congrArg (· - _) (chunks_raw h a w r x e _ rfl n hK A W hA hW)

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg7 : Memref sig .tc .hbm S3x640x2560 .i8) (harg7 : arg7.IsWhole) (arg8 : Memref sig .tc .hbm S3x1728x2560 .i8) (harg8 : arg8.IsWhole) (arg9 : Memref sig .tc .hbm S3x1728x2560 .i8) (harg9 : arg9.IsWhole) (arg10 : Memref sig .tc .hbm S3x640x6912 .i8) (harg10 : arg10.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole) (arg19 : Memref sig .tc .vmem S640x2560 .i8) (harg19 : arg19.IsWhole) (arg20 : Memref sig .tc .vmem S1792x2560 .i8) (harg20 : arg20.IsWhole) (arg21 : Memref sig .tc .vmem S1792x2560 .i8) (harg21 : arg21.IsWhole) (arg22 : Memref sig .tc .vmem S640x6912 .i8) (harg22 : arg22.IsWhole) (arg23 : DmaSems sig S11) (arg24 : Memref sig .tc .vmem S16x2560 .f32) (harg24 : arg24.IsWhole) (arg25 : Memref sig .tc .vmem S16x2560 .bf16) (harg25 : arg25.IsWhole) (arg26 : Memref sig .tc .vmem S16x6912 .bf16) (harg26 : arg26.IsWhole) (arg27 : Memref sig .tc .vmem S4x5x16x128 .f32) (harg27 : arg27.IsWhole) (arg28 : Memref sig .tc .vmem S2x4x14x16x128 .f32) (harg28 : arg28.IsWhole) (arg29 : Memref sig .tc .vmem S16x6912 .f32) (harg29 : arg29.IsWhole)

/-- Every piece a trip of the gate's loop stores is one function of its place. -/
theorem t2_pieces (W1 : Vec Ideal S1792x2560 .i8) (𝒱 : Variants) (c : Dev nD) (bd : Option 𝒱.V) (k0_t1 : Fin k0_t1_loop.trips) (arg30 : BitVec 32) (v2126 : FVec Ideal S16x2560 .f32) (v2132 : IVec S12x2560 8)
    (X_arg20 : BufTy.Contents (Elt Ideal) arg20.view.ty) (X_arg25 : BufTy.Contents (Elt Ideal) arg25.view.ty) (k : Fin k0_t2_loop.trips) :
    ∀ p ∈ tripL_k0_t2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k,
      ∀ x, p.2 x = slotsOf (arg25.view.read (Elt Ideal) X_arg25) (arg20.view.read (Elt Ideal) X_arg20) W1 (fun r => k0_pay576 v2126 (ix2 r 0)) (p.1.emb x) := by
  unfold tripL_k0_t2 trip_k0_t2
  have hk : k.val < 7 := Nat.lt_of_lt_of_le k.isLt k0_t2_abs.2.1
  have hv (u h e : Fin 2) (j : Fin 4) (hj : 2 * h.val + e.val = j.val) (n : Fin 14) (hn : n.val = 2 * k.val + u.val)
      (o : Fin 2 → ℕ) (ho : S16x256.Slices o S16x128) (he : o = ![0, 128 * e.val]) (r : Fin 16) (x : Fin 128) :
      blockOut (F := Ideal) h.val o ho (chunks (F := Ideal) h.val (codeChunk arg25 X_arg25) (gateChunk arg20 X_arg20 k u) 9) (k0_pay576 v2126) (ix2 r x)
        = slotsOf (arg25.view.read (Elt Ideal) X_arg25) (arg20.view.read (Elt Ideal) X_arg20) W1 (fun r => k0_pay576 v2126 (ix2 r 0)) (ix5 (0 : Fin 2) j n r x) := by
    have hr : 256 * k.val + 128 * u.val + x.val < 1792 := row_lt hk x
    rw [block_raw (K := 2560) h e o ho he _ _ 9 rfl _ r x (fun c => arg25.view.read (Elt Ideal) X_arg25 (ix2 r c))
      (fun c => arg20.view.read (Elt Ideal) X_arg20 (ix2 ⟨256 * k.val + 128 * u.val + x.val, hr⟩ c))
      (fun s t hs => codeChunk_at arg25 X_arg25 s r t hs) (fun s t hs => gateChunk_at arg20 X_arg20 k u s x t hs hr), hj]
    refine congrArg (· - _) (congrArg (fun w => raw _ w j.val) (funext fun c => ?_))
    show _ = arg20.view.read (Elt Ideal) X_arg20 _
    congr 2
    exact Fin.ext (by show 256 * k.val + 128 * u.val + x.val = 128 * n.val + x.val; omega)
  dsimp only
  refine List.forall_mem_cons.mpr ⟨slot_piece _ 0 _ rfl _ 3 ⟨2 * k.val + 1, by omega⟩ (k0_off34_eq k 1) _ (hv 1 1 1 3 rfl _ rfl ![0, 128] slices_S16x256_o0_128_S16x128 rfl) _ _ _ _ (fun _ => rfl) _ _ rfl, ?_⟩
  refine List.forall_mem_cons.mpr ⟨slot_piece _ 0 _ rfl _ 2 ⟨2 * k.val + 1, by omega⟩ (k0_off33_eq k 1) _ (hv 1 1 0 2 rfl _ rfl ![0, 0] slices_S16x256_o0_0_S16x128 rfl) _ _ _ _ (fun _ => rfl) _ _ rfl, ?_⟩
  refine List.forall_mem_cons.mpr ⟨slot_piece _ 0 _ rfl _ 1 ⟨2 * k.val + 1, by omega⟩ (k0_off32_eq k 1) _ (hv 1 0 1 1 rfl _ rfl ![0, 128] slices_S16x256_o0_128_S16x128 rfl) _ _ _ _ (fun _ => rfl) _ _ rfl, ?_⟩
  refine List.forall_mem_cons.mpr ⟨slot_piece _ 0 _ rfl _ 0 ⟨2 * k.val + 1, by omega⟩ (k0_off31_eq k 1) _ (hv 1 0 0 0 rfl _ rfl ![0, 0] slices_S16x256_o0_0_S16x128 rfl) _ _ _ _ (fun _ => rfl) _ _ rfl, ?_⟩
  refine List.forall_mem_cons.mpr ⟨slot_piece _ 0 _ rfl _ 3 ⟨2 * k.val + 0, by omega⟩ (k0_off34_eq k 0) _ (hv 0 1 1 3 rfl _ rfl ![0, 128] slices_S16x256_o0_128_S16x128 rfl) _ _ _ _ (fun _ => rfl) _ _ rfl, ?_⟩
  refine List.forall_mem_cons.mpr ⟨slot_piece _ 0 _ rfl _ 2 ⟨2 * k.val + 0, by omega⟩ (k0_off33_eq k 0) _ (hv 0 1 0 2 rfl _ rfl ![0, 0] slices_S16x256_o0_0_S16x128 rfl) _ _ _ _ (fun _ => rfl) _ _ rfl, ?_⟩
  refine List.forall_mem_cons.mpr ⟨slot_piece _ 0 _ rfl _ 1 ⟨2 * k.val + 0, by omega⟩ (k0_off32_eq k 0) _ (hv 0 0 1 1 rfl _ rfl ![0, 128] slices_S16x256_o0_128_S16x128 rfl) _ _ _ _ (fun _ => rfl) _ _ rfl, ?_⟩
  refine List.forall_mem_cons.mpr ⟨slot_piece _ 0 _ rfl _ 0 ⟨2 * k.val + 0, by omega⟩ (k0_off31_eq k 0) _ (hv 0 0 0 0 rfl _ rfl ![0, 0] slices_S16x256_o0_0_S16x128 rfl) _ _ _ _ (fun _ => rfl) _ _ rfl, ?_⟩
  exact fun p hp => absurd hp List.not_mem_nil
/-- Every piece a trip of the up projection's loop stores is one function of its place. -/
theorem t3_pieces (W0 : Vec Ideal S1792x2560 .i8) (𝒱 : Variants) (c : Dev nD) (bd : Option 𝒱.V) (k0_t1 : Fin k0_t1_loop.trips) (arg30 : BitVec 32) (v2126 : FVec Ideal S16x2560 .f32) (v2132 : IVec S12x2560 8)
    (X_arg21 : BufTy.Contents (Elt Ideal) arg21.view.ty) (X_arg25 : BufTy.Contents (Elt Ideal) arg25.view.ty) (k : Fin k0_t3_loop.trips) :
    ∀ p ∈ tripL_k0_t3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k,
      ∀ x, p.2 x = slotsOf (arg25.view.read (Elt Ideal) X_arg25) W0 (arg21.view.read (Elt Ideal) X_arg21) (fun r => k0_pay576 v2126 (ix2 r 0)) (p.1.emb x) := by
  unfold tripL_k0_t3 trip_k0_t3
  have hk : k.val < 7 := Nat.lt_of_lt_of_le k.isLt k0_t3_abs.2.1
  have hv (u h e : Fin 2) (j : Fin 4) (hj : 2 * h.val + e.val = j.val) (n : Fin 14) (hn : n.val = 2 * k.val + u.val)
      (o : Fin 2 → ℕ) (ho : S16x256.Slices o S16x128) (he : o = ![0, 128 * e.val]) (r : Fin 16) (x : Fin 128) :
      blockOut (F := Ideal) h.val o ho (chunks (F := Ideal) h.val (codeChunk arg25 X_arg25) (upChunk arg21 X_arg21 k u) 9) (k0_pay576 v2126) (ix2 r x)
        = slotsOf (arg25.view.read (Elt Ideal) X_arg25) W0 (arg21.view.read (Elt Ideal) X_arg21) (fun r => k0_pay576 v2126 (ix2 r 0)) (ix5 (1 : Fin 2) j n r x) := by
    have hr : 256 * k.val + 128 * u.val + x.val < 1792 := row_lt hk x
    rw [block_raw (K := 2560) h e o ho he _ _ 9 rfl _ r x (fun c => arg25.view.read (Elt Ideal) X_arg25 (ix2 r c))
      (fun c => arg21.view.read (Elt Ideal) X_arg21 (ix2 ⟨256 * k.val + 128 * u.val + x.val, hr⟩ c))
      (fun s t hs => codeChunk_at arg25 X_arg25 s r t hs) (fun s t hs => upChunk_at arg21 X_arg21 k u s x t hs hr), hj]
    refine congrArg (· - _) (congrArg (fun w => raw _ w j.val) (funext fun c => ?_))
    show _ = arg21.view.read (Elt Ideal) X_arg21 _
    congr 2
    exact Fin.ext (by show 256 * k.val + 128 * u.val + x.val = 128 * n.val + x.val; omega)
  dsimp only
  refine List.forall_mem_cons.mpr ⟨slot_piece _ 1 _ rfl _ 3 ⟨2 * k.val + 1, by omega⟩ (k0_off49_eq k 1) _ (hv 1 1 1 3 rfl _ rfl ![0, 128] slices_S16x256_o0_128_S16x128 rfl) _ _ _ _ (fun _ => rfl) _ _ rfl, ?_⟩
  refine List.forall_mem_cons.mpr ⟨slot_piece _ 1 _ rfl _ 2 ⟨2 * k.val + 1, by omega⟩ (k0_off48_eq k 1) _ (hv 1 1 0 2 rfl _ rfl ![0, 0] slices_S16x256_o0_0_S16x128 rfl) _ _ _ _ (fun _ => rfl) _ _ rfl, ?_⟩
  refine List.forall_mem_cons.mpr ⟨slot_piece _ 1 _ rfl _ 1 ⟨2 * k.val + 1, by omega⟩ (k0_off47_eq k 1) _ (hv 1 0 1 1 rfl _ rfl ![0, 128] slices_S16x256_o0_128_S16x128 rfl) _ _ _ _ (fun _ => rfl) _ _ rfl, ?_⟩
  refine List.forall_mem_cons.mpr ⟨slot_piece _ 1 _ rfl _ 0 ⟨2 * k.val + 1, by omega⟩ (k0_off46_eq k 1) _ (hv 1 0 0 0 rfl _ rfl ![0, 0] slices_S16x256_o0_0_S16x128 rfl) _ _ _ _ (fun _ => rfl) _ _ rfl, ?_⟩
  refine List.forall_mem_cons.mpr ⟨slot_piece _ 1 _ rfl _ 3 ⟨2 * k.val + 0, by omega⟩ (k0_off49_eq k 0) _ (hv 0 1 1 3 rfl _ rfl ![0, 128] slices_S16x256_o0_128_S16x128 rfl) _ _ _ _ (fun _ => rfl) _ _ rfl, ?_⟩
  refine List.forall_mem_cons.mpr ⟨slot_piece _ 1 _ rfl _ 2 ⟨2 * k.val + 0, by omega⟩ (k0_off48_eq k 0) _ (hv 0 1 0 2 rfl _ rfl ![0, 0] slices_S16x256_o0_0_S16x128 rfl) _ _ _ _ (fun _ => rfl) _ _ rfl, ?_⟩
  refine List.forall_mem_cons.mpr ⟨slot_piece _ 1 _ rfl _ 1 ⟨2 * k.val + 0, by omega⟩ (k0_off47_eq k 0) _ (hv 0 0 1 1 rfl _ rfl ![0, 128] slices_S16x256_o0_128_S16x128 rfl) _ _ _ _ (fun _ => rfl) _ _ rfl, ?_⟩
  refine List.forall_mem_cons.mpr ⟨slot_piece _ 1 _ rfl _ 0 ⟨2 * k.val + 0, by omega⟩ (k0_off46_eq k 0) _ (hv 0 0 0 0 rfl _ rfl ![0, 0] slices_S16x256_o0_0_S16x128 rfl) _ _ _ _ (fun _ => rfl) _ _ rfl, ?_⟩
  exact fun p hp => absurd hp List.not_mem_nil

/-- The pieces of a trip of the gate's loop cover its row blocks. -/
theorem t2_cover (𝒱 : Variants) (c : Dev nD) (bd : Option 𝒱.V) (k0_t1 : Fin k0_t1_loop.trips) (arg30 : BitVec 32) (v2126 : FVec Ideal S16x2560 .f32) (v2132 : IVec S12x2560 8)
    (X_arg20 : BufTy.Contents (Elt Ideal) arg20.view.ty) (X_arg25 : BufTy.Contents (Elt Ideal) arg25.view.ty) (k : Fin k0_t2_loop.trips) (u : Fin 2) (j : Fin 4) (r : Fin 16) (x : Fin 128) (h : 2 * k.val + u.val < 14) :
    ∃ p ∈ tripL_k0_t2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k,
      Idealize.ShloMosaic.ix5 (0 : Fin 2) j (⟨2 * k.val + u.val, h⟩ : Fin 14) r x ∈ p.1.set := by
  unfold tripL_k0_t2 trip_k0_t2
  have hk : k.val < 7 := Nat.lt_of_lt_of_le k.isLt k0_t2_abs.2.1
  dsimp only
  match u, j with
  | 1, 3 => exact ⟨_, List.mem_of_getElem? (i := 0) rfl, slot_mem 0 _ rfl _ 3 ⟨2 * k.val + 1, by omega⟩ (k0_off34_eq k 1) r x _ _ _ _ (fun _ => rfl)⟩
  | 1, 2 => exact ⟨_, List.mem_of_getElem? (i := 1) rfl, slot_mem 0 _ rfl _ 2 ⟨2 * k.val + 1, by omega⟩ (k0_off33_eq k 1) r x _ _ _ _ (fun _ => rfl)⟩
  | 1, 1 => exact ⟨_, List.mem_of_getElem? (i := 2) rfl, slot_mem 0 _ rfl _ 1 ⟨2 * k.val + 1, by omega⟩ (k0_off32_eq k 1) r x _ _ _ _ (fun _ => rfl)⟩
  | 1, 0 => exact ⟨_, List.mem_of_getElem? (i := 3) rfl, slot_mem 0 _ rfl _ 0 ⟨2 * k.val + 1, by omega⟩ (k0_off31_eq k 1) r x _ _ _ _ (fun _ => rfl)⟩
  | 0, 3 => exact ⟨_, List.mem_of_getElem? (i := 4) rfl, slot_mem 0 _ rfl _ 3 ⟨2 * k.val + 0, by omega⟩ (k0_off34_eq k 0) r x _ _ _ _ (fun _ => rfl)⟩
  | 0, 2 => exact ⟨_, List.mem_of_getElem? (i := 5) rfl, slot_mem 0 _ rfl _ 2 ⟨2 * k.val + 0, by omega⟩ (k0_off33_eq k 0) r x _ _ _ _ (fun _ => rfl)⟩
  | 0, 1 => exact ⟨_, List.mem_of_getElem? (i := 6) rfl, slot_mem 0 _ rfl _ 1 ⟨2 * k.val + 0, by omega⟩ (k0_off32_eq k 0) r x _ _ _ _ (fun _ => rfl)⟩
  | 0, 0 => exact ⟨_, List.mem_of_getElem? (i := 7) rfl, slot_mem 0 _ rfl _ 0 ⟨2 * k.val + 0, by omega⟩ (k0_off31_eq k 0) r x _ _ _ _ (fun _ => rfl)⟩

/-- All pieces of the gate's loop: each is one function of its place, and the row blocks so far are covered. -/
theorem t2_all (W1 : Vec Ideal S1792x2560 .i8) (𝒱 : Variants) (c : Dev nD) (bd : Option 𝒱.V) (k0_t1 : Fin k0_t1_loop.trips) (arg30 : BitVec 32) (v2126 : FVec Ideal S16x2560 .f32) (v2132 : IVec S12x2560 8)
    (X_arg20 : BufTy.Contents (Elt Ideal) arg20.view.ty) (X_arg25 : BufTy.Contents (Elt Ideal) arg25.view.ty) : ∀ n : ℕ, n ≤ k0_t2_loop.trips →
    (∀ p ∈ pb_k0_t2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 n,
      ∀ x, p.2 x = slotsOf (arg25.view.read (Elt Ideal) X_arg25) (arg20.view.read (Elt Ideal) X_arg20) W1 (fun r => k0_pay576 v2126 (ix2 r 0)) (p.1.emb x))
    ∧ ∀ (j : Fin 4) (b : Fin 14) (r : Fin 16) (x : Fin 128), b.val < 2 * n →
      ∃ p ∈ pb_k0_t2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 n, Idealize.ShloMosaic.ix5 (0 : Fin 2) j b r x ∈ p.1.set
  | 0, _ => ⟨fun p hp => absurd hp List.not_mem_nil, fun _ _ _ _ h => absurd h (by omega)⟩
  | n + 1, hn => by
    have ih := t2_all W1 𝒱 c bd k0_t1 arg30 v2126 v2132 X_arg20 X_arg25 n (by omega)
    have e := pb_k0_t2_succ (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 ⟨n, hn⟩
    refine ⟨fun p hp => ?_, fun j b r x hb => ?_⟩
    · rw [e] at hp
      rcases List.mem_append.mp hp with h | h
      · exact t2_pieces arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 W1 𝒱 c bd k0_t1 arg30 v2126 v2132 X_arg20 X_arg25 ⟨n, hn⟩ p h
      · exact ih.1 p h
    · rw [e]
      by_cases hb' : b.val < 2 * n
      · obtain ⟨p, hp, hm⟩ := ih.2 j b r x hb'
        exact ⟨p, List.mem_append_right _ hp, hm⟩
      · obtain ⟨p, hp, hm⟩ := t2_cover arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 ⟨n, hn⟩ ⟨b.val - 2 * n, by omega⟩ j r x
          (by show 2 * n + (b.val - 2 * n) < 14; have := b.isLt; omega)
        refine ⟨p, List.mem_append_left _ hp, ?_⟩
        have eb : (⟨2 * n + (b.val - 2 * n), by have := b.isLt; omega⟩ : Fin 14) = b := Fin.ext (by show 2 * n + (b.val - 2 * n) = b.val; omega)
        rw [eb] at hm
        exact hm

/-- The pieces of a trip of the up projection's loop cover its row blocks. -/
theorem t3_cover (𝒱 : Variants) (c : Dev nD) (bd : Option 𝒱.V) (k0_t1 : Fin k0_t1_loop.trips) (arg30 : BitVec 32) (v2126 : FVec Ideal S16x2560 .f32) (v2132 : IVec S12x2560 8)
    (X_arg21 : BufTy.Contents (Elt Ideal) arg21.view.ty) (X_arg25 : BufTy.Contents (Elt Ideal) arg25.view.ty) (k : Fin k0_t3_loop.trips) (u : Fin 2) (j : Fin 4) (r : Fin 16) (x : Fin 128) (h : 2 * k.val + u.val < 14) :
    ∃ p ∈ tripL_k0_t3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k,
      Idealize.ShloMosaic.ix5 (1 : Fin 2) j (⟨2 * k.val + u.val, h⟩ : Fin 14) r x ∈ p.1.set := by
  unfold tripL_k0_t3 trip_k0_t3
  have hk : k.val < 7 := Nat.lt_of_lt_of_le k.isLt k0_t3_abs.2.1
  dsimp only
  match u, j with
  | 1, 3 => exact ⟨_, List.mem_of_getElem? (i := 0) rfl, slot_mem 1 _ rfl _ 3 ⟨2 * k.val + 1, by omega⟩ (k0_off49_eq k 1) r x _ _ _ _ (fun _ => rfl)⟩
  | 1, 2 => exact ⟨_, List.mem_of_getElem? (i := 1) rfl, slot_mem 1 _ rfl _ 2 ⟨2 * k.val + 1, by omega⟩ (k0_off48_eq k 1) r x _ _ _ _ (fun _ => rfl)⟩
  | 1, 1 => exact ⟨_, List.mem_of_getElem? (i := 2) rfl, slot_mem 1 _ rfl _ 1 ⟨2 * k.val + 1, by omega⟩ (k0_off47_eq k 1) r x _ _ _ _ (fun _ => rfl)⟩
  | 1, 0 => exact ⟨_, List.mem_of_getElem? (i := 3) rfl, slot_mem 1 _ rfl _ 0 ⟨2 * k.val + 1, by omega⟩ (k0_off46_eq k 1) r x _ _ _ _ (fun _ => rfl)⟩
  | 0, 3 => exact ⟨_, List.mem_of_getElem? (i := 4) rfl, slot_mem 1 _ rfl _ 3 ⟨2 * k.val + 0, by omega⟩ (k0_off49_eq k 0) r x _ _ _ _ (fun _ => rfl)⟩
  | 0, 2 => exact ⟨_, List.mem_of_getElem? (i := 5) rfl, slot_mem 1 _ rfl _ 2 ⟨2 * k.val + 0, by omega⟩ (k0_off48_eq k 0) r x _ _ _ _ (fun _ => rfl)⟩
  | 0, 1 => exact ⟨_, List.mem_of_getElem? (i := 6) rfl, slot_mem 1 _ rfl _ 1 ⟨2 * k.val + 0, by omega⟩ (k0_off47_eq k 0) r x _ _ _ _ (fun _ => rfl)⟩
  | 0, 0 => exact ⟨_, List.mem_of_getElem? (i := 7) rfl, slot_mem 1 _ rfl _ 0 ⟨2 * k.val + 0, by omega⟩ (k0_off46_eq k 0) r x _ _ _ _ (fun _ => rfl)⟩

/-- All pieces of the up projection's loop: each is one function of its place, and the row blocks so far are covered. -/
theorem t3_all (W0 : Vec Ideal S1792x2560 .i8) (𝒱 : Variants) (c : Dev nD) (bd : Option 𝒱.V) (k0_t1 : Fin k0_t1_loop.trips) (arg30 : BitVec 32) (v2126 : FVec Ideal S16x2560 .f32) (v2132 : IVec S12x2560 8)
    (X_arg21 : BufTy.Contents (Elt Ideal) arg21.view.ty) (X_arg25 : BufTy.Contents (Elt Ideal) arg25.view.ty) : ∀ n : ℕ, n ≤ k0_t3_loop.trips →
    (∀ p ∈ pb_k0_t3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 n,
      ∀ x, p.2 x = slotsOf (arg25.view.read (Elt Ideal) X_arg25) W0 (arg21.view.read (Elt Ideal) X_arg21) (fun r => k0_pay576 v2126 (ix2 r 0)) (p.1.emb x))
    ∧ ∀ (j : Fin 4) (b : Fin 14) (r : Fin 16) (x : Fin 128), b.val < 2 * n →
      ∃ p ∈ pb_k0_t3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 n, Idealize.ShloMosaic.ix5 (1 : Fin 2) j b r x ∈ p.1.set
  | 0, _ => ⟨fun p hp => absurd hp List.not_mem_nil, fun _ _ _ _ h => absurd h (by omega)⟩
  | n + 1, hn => by
    have ih := t3_all W0 𝒱 c bd k0_t1 arg30 v2126 v2132 X_arg21 X_arg25 n (by omega)
    have e := pb_k0_t3_succ (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 ⟨n, hn⟩
    refine ⟨fun p hp => ?_, fun j b r x hb => ?_⟩
    · rw [e] at hp
      rcases List.mem_append.mp hp with h | h
      · exact t3_pieces arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 W0 𝒱 c bd k0_t1 arg30 v2126 v2132 X_arg21 X_arg25 ⟨n, hn⟩ p h
      · exact ih.1 p h
    · rw [e]
      by_cases hb' : b.val < 2 * n
      · obtain ⟨p, hp, hm⟩ := ih.2 j b r x hb'
        exact ⟨p, List.mem_append_right _ hp, hm⟩
      · obtain ⟨p, hp, hm⟩ := t3_cover arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 ⟨n, hn⟩ ⟨b.val - 2 * n, by omega⟩ j r x
          (by show 2 * n + (b.val - 2 * n) < 14; have := b.isLt; omega)
        refine ⟨p, List.mem_append_left _ hp, ?_⟩
        have eb : (⟨2 * n + (b.val - 2 * n), by have := b.isLt; omega⟩ : Fin 14) = b := Fin.ext (by show 2 * n + (b.val - 2 * n) = b.val; omega)
        rw [eb] at hm
        exact hm

/-- The buffer of the gate and up projections after both loops. -/
theorem slots_read (𝒱 : Variants) (c : Dev nD) (bd : Option 𝒱.V) (k0_t1 : Fin k0_t1_loop.trips) (arg30 : BitVec 32) (v2126 : FVec Ideal S16x2560 .f32) (v2132 : IVec S12x2560 8)
    (X_arg20 : BufTy.Contents (Elt Ideal) arg20.view.ty) (X_arg21 : BufTy.Contents (Elt Ideal) arg21.view.ty) (X_arg25 : BufTy.Contents (Elt Ideal) arg25.view.ty)
    (f : BufTy.Contents (Elt Ideal) arg28.view.ty) :
    arg28.view.read (Elt Ideal) (arg28.view.writes (Elt Ideal) f
      (pb_k0_t3 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg21 X_arg25 k0_t3_loop.trips
        ++ pb_k0_t2 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2126 v2132 X_arg20 X_arg25 k0_t2_loop.trips))
      = slotsOf (arg25.view.read (Elt Ideal) X_arg25) (arg20.view.read (Elt Ideal) X_arg20) (arg21.view.read (Elt Ideal) X_arg21)
          (fun r => k0_pay576 v2126 (ix2 r 0)) := by
  have a2 := t2_all arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 (arg21.view.read (Elt Ideal) X_arg21) 𝒱 c bd k0_t1 arg30 v2126 v2132 X_arg20 X_arg25 k0_t2_loop.trips le_rfl
  have a3 := t3_all arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 (arg20.view.read (Elt Ideal) X_arg20) 𝒱 c bd k0_t1 arg30 v2126 v2132 X_arg21 X_arg25 k0_t3_loop.trips le_rfl
  have n2 : k0_t2_loop.trips = 7 := by decide +kernel
  have n3 : k0_t3_loop.trips = 7 := by decide +kernel
  funext y
  refine View.read_writes_apply_of_pieces arg28.view _ _ _ (fun p hp => ?_) y ?_
  · rcases List.mem_append.mp hp with h | h
    · exact a3.1 p h
    · exact a2.1 p h
  · have l0 : (y 0).val < 2 := (y 0).isLt
    have l2 : (y 2).val < 14 := (y 2).isLt
    by_cases h0 : (y 0).val = 0
    · obtain ⟨p, hp, hm⟩ := a2.2 (y 1) (y 2) (y 3) (y 4) (by omega)
      refine ⟨p, List.mem_append_right _ hp, ?_⟩
      have ey : Idealize.ShloMosaic.ix5 (0 : Fin 2) (y 1) (y 2) (y 3) (y 4) = y := by
        funext a
        match a with
        | ⟨0, _⟩ => exact Fin.ext h0.symm
        | ⟨1, _⟩ | ⟨2, _⟩ | ⟨3, _⟩ | ⟨4, _⟩ => rfl
      rw [← ey]; exact hm
    · obtain ⟨p, hp, hm⟩ := a3.2 (y 1) (y 2) (y 3) (y 4) (by omega)
      refine ⟨p, List.mem_append_left _ hp, ?_⟩
      have ey : Idealize.ShloMosaic.ix5 (1 : Fin 2) (y 1) (y 2) (y 3) (y 4) = y := by
        funext a
        match a with
        | ⟨0, _⟩ => exact Fin.ext (by show 1 = (y 0).val; omega)
        | ⟨1, _⟩ | ⟨2, _⟩ | ⟨3, _⟩ | ⟨4, _⟩ => rfl
      rw [← ey]; exact hm

end Cert.KernelIdeal.Hand
-- ==== Proof.IdealDown.lean ====
/- The down loop's row blocks over the extended reals, and the buffer the output and down projections share:
   every piece stored is one function of the place it is stored at. -/
module

public import proofs.«01_k».proof.Proof.IdealRows

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- Chunk `s` of the matrix of codes the down projection reads. -/
def codeChunk4 {sp : Space} (m : Memref sig .tc sp S16x6912 .bf16) (X : BufTy.Contents (Elt Ideal) m.view.ty) (s : ℕ) : Vec Ideal S16x256 .bf16 :=
  if h : s < 27 then m.view.readAt (Elt Ideal) (Rect.unit (s := S16x6912) ![0, 256 * s] S16x256.size
    (fun a => match a with
      | ⟨0, _⟩ => (by decide : 0 + 16 ≤ 16)
      | ⟨1, _⟩ => (by omega : 256 * s + 256 ≤ 6912))).toLoadRect X else fun _ => 0

/-- A chunk of the down projection's codes read at an entry. -/
theorem codeChunk4_at {sp : Space} (m : Memref sig .tc sp S16x6912 .bf16) (X : BufTy.Contents (Elt Ideal) m.view.ty) (s : ℕ) (r : Fin 16)
    (t : Fin 256) (hs : 256 * s + t.val < 6912) :
    codeChunk4 m X s (ix2 r t) = m.view.read (Elt Ideal) X (ix2 r ⟨256 * s + t.val, hs⟩) := by
  unfold codeChunk4
  rw [dif_pos (by omega : s < 27)]
  refine (readAt_ix2 m.view _ _ 0 (256 * s) rfl X r t (by omega) hs).trans ?_
  congr 2
  exact Fin.ext (Nat.zero_add _)

/-- Chunk `s` of row block `k` of the down projection's packed weight. -/
def downChunk {sp : Space} (m : Memref sig .tc sp S640x6912 .i8) (X : BufTy.Contents (Elt Ideal) m.view.ty) (k : Fin k0_t4_loop.trips) :
    ℕ → Vec Ideal S128x256 .i8
  | 0 => m.view.readAt (Elt Ideal) (Rect.unit (s := S640x6912) (k0_off55 k) S128x256.size (k0_off55_inb k)).toLoadRect X
  | 1 => m.view.readAt (Elt Ideal) (Rect.unit (s := S640x6912) (k0_off56 k) S128x256.size (k0_off56_inb k)).toLoadRect X
  | 2 => m.view.readAt (Elt Ideal) (Rect.unit (s := S640x6912) (k0_off57 k) S128x256.size (k0_off57_inb k)).toLoadRect X
  | 3 => m.view.readAt (Elt Ideal) (Rect.unit (s := S640x6912) (k0_off58 k) S128x256.size (k0_off58_inb k)).toLoadRect X
  | 4 => m.view.readAt (Elt Ideal) (Rect.unit (s := S640x6912) (k0_off59 k) S128x256.size (k0_off59_inb k)).toLoadRect X
  | 5 => m.view.readAt (Elt Ideal) (Rect.unit (s := S640x6912) (k0_off60 k) S128x256.size (k0_off60_inb k)).toLoadRect X
  | 6 => m.view.readAt (Elt Ideal) (Rect.unit (s := S640x6912) (k0_off61 k) S128x256.size (k0_off61_inb k)).toLoadRect X
  | 7 => m.view.readAt (Elt Ideal) (Rect.unit (s := S640x6912) (k0_off62 k) S128x256.size (k0_off62_inb k)).toLoadRect X
  | 8 => m.view.readAt (Elt Ideal) (Rect.unit (s := S640x6912) (k0_off63 k) S128x256.size (k0_off63_inb k)).toLoadRect X
  | 9 => m.view.readAt (Elt Ideal) (Rect.unit (s := S640x6912) (k0_off64 k) S128x256.size (k0_off64_inb k)).toLoadRect X
  | 10 => m.view.readAt (Elt Ideal) (Rect.unit (s := S640x6912) (k0_off65 k) S128x256.size (k0_off65_inb k)).toLoadRect X
  | 11 => m.view.readAt (Elt Ideal) (Rect.unit (s := S640x6912) (k0_off66 k) S128x256.size (k0_off66_inb k)).toLoadRect X
  | 12 => m.view.readAt (Elt Ideal) (Rect.unit (s := S640x6912) (k0_off67 k) S128x256.size (k0_off67_inb k)).toLoadRect X
  | 13 => m.view.readAt (Elt Ideal) (Rect.unit (s := S640x6912) (k0_off68 k) S128x256.size (k0_off68_inb k)).toLoadRect X
  | 14 => m.view.readAt (Elt Ideal) (Rect.unit (s := S640x6912) (k0_off69 k) S128x256.size (k0_off69_inb k)).toLoadRect X
  | 15 => m.view.readAt (Elt Ideal) (Rect.unit (s := S640x6912) (k0_off70 k) S128x256.size (k0_off70_inb k)).toLoadRect X
  | 16 => m.view.readAt (Elt Ideal) (Rect.unit (s := S640x6912) (k0_off71 k) S128x256.size (k0_off71_inb k)).toLoadRect X
  | 17 => m.view.readAt (Elt Ideal) (Rect.unit (s := S640x6912) (k0_off72 k) S128x256.size (k0_off72_inb k)).toLoadRect X
  | 18 => m.view.readAt (Elt Ideal) (Rect.unit (s := S640x6912) (k0_off73 k) S128x256.size (k0_off73_inb k)).toLoadRect X
  | 19 => m.view.readAt (Elt Ideal) (Rect.unit (s := S640x6912) (k0_off74 k) S128x256.size (k0_off74_inb k)).toLoadRect X
  | 20 => m.view.readAt (Elt Ideal) (Rect.unit (s := S640x6912) (k0_off75 k) S128x256.size (k0_off75_inb k)).toLoadRect X
  | 21 => m.view.readAt (Elt Ideal) (Rect.unit (s := S640x6912) (k0_off76 k) S128x256.size (k0_off76_inb k)).toLoadRect X
  | 22 => m.view.readAt (Elt Ideal) (Rect.unit (s := S640x6912) (k0_off77 k) S128x256.size (k0_off77_inb k)).toLoadRect X
  | 23 => m.view.readAt (Elt Ideal) (Rect.unit (s := S640x6912) (k0_off78 k) S128x256.size (k0_off78_inb k)).toLoadRect X
  | 24 => m.view.readAt (Elt Ideal) (Rect.unit (s := S640x6912) (k0_off79 k) S128x256.size (k0_off79_inb k)).toLoadRect X
  | 25 => m.view.readAt (Elt Ideal) (Rect.unit (s := S640x6912) (k0_off80 k) S128x256.size (k0_off80_inb k)).toLoadRect X
  | 26 => m.view.readAt (Elt Ideal) (Rect.unit (s := S640x6912) (k0_off81 k) S128x256.size (k0_off81_inb k)).toLoadRect X
  | _ => fun _ => 0

/-- A chunk of the down projection's weight read at an entry. -/
theorem downChunk_at {sp : Space} (m : Memref sig .tc sp S640x6912 .i8) (X : BufTy.Contents (Elt Ideal) m.view.ty) (k : Fin k0_t4_loop.trips)
    (s : ℕ) (x : Fin 128) (t : Fin 256) (hs : 256 * s + t.val < 6912) (hr : 128 * k.val + x.val < 640) :
    downChunk m X k s (ix2 x t) = m.view.read (Elt Ideal) X (ix2 ⟨128 * k.val + x.val, hr⟩ ⟨256 * s + t.val, hs⟩) := by
  have hs' : s < 27 := by omega
  match s, hs' with
  | 0, _ => exact readAt_ix2 m.view _ (k0_off55_inb k) (128 * k.val) 0 (k0_off55_eq k) X x t hr hs
  | 1, _ => exact readAt_ix2 m.view _ (k0_off56_inb k) (128 * k.val) 256 (k0_off56_eq k) X x t hr hs
  | 2, _ => exact readAt_ix2 m.view _ (k0_off57_inb k) (128 * k.val) 512 (k0_off57_eq k) X x t hr hs
  | 3, _ => exact readAt_ix2 m.view _ (k0_off58_inb k) (128 * k.val) 768 (k0_off58_eq k) X x t hr hs
  | 4, _ => exact readAt_ix2 m.view _ (k0_off59_inb k) (128 * k.val) 1024 (k0_off59_eq k) X x t hr hs
  | 5, _ => exact readAt_ix2 m.view _ (k0_off60_inb k) (128 * k.val) 1280 (k0_off60_eq k) X x t hr hs
  | 6, _ => exact readAt_ix2 m.view _ (k0_off61_inb k) (128 * k.val) 1536 (k0_off61_eq k) X x t hr hs
  | 7, _ => exact readAt_ix2 m.view _ (k0_off62_inb k) (128 * k.val) 1792 (k0_off62_eq k) X x t hr hs
  | 8, _ => exact readAt_ix2 m.view _ (k0_off63_inb k) (128 * k.val) 2048 (k0_off63_eq k) X x t hr hs
  | 9, _ => exact readAt_ix2 m.view _ (k0_off64_inb k) (128 * k.val) 2304 (k0_off64_eq k) X x t hr hs
  | 10, _ => exact readAt_ix2 m.view _ (k0_off65_inb k) (128 * k.val) 2560 (k0_off65_eq k) X x t hr hs
  | 11, _ => exact readAt_ix2 m.view _ (k0_off66_inb k) (128 * k.val) 2816 (k0_off66_eq k) X x t hr hs
  | 12, _ => exact readAt_ix2 m.view _ (k0_off67_inb k) (128 * k.val) 3072 (k0_off67_eq k) X x t hr hs
  | 13, _ => exact readAt_ix2 m.view _ (k0_off68_inb k) (128 * k.val) 3328 (k0_off68_eq k) X x t hr hs
  | 14, _ => exact readAt_ix2 m.view _ (k0_off69_inb k) (128 * k.val) 3584 (k0_off69_eq k) X x t hr hs
  | 15, _ => exact readAt_ix2 m.view _ (k0_off70_inb k) (128 * k.val) 3840 (k0_off70_eq k) X x t hr hs
  | 16, _ => exact readAt_ix2 m.view _ (k0_off71_inb k) (128 * k.val) 4096 (k0_off71_eq k) X x t hr hs
  | 17, _ => exact readAt_ix2 m.view _ (k0_off72_inb k) (128 * k.val) 4352 (k0_off72_eq k) X x t hr hs
  | 18, _ => exact readAt_ix2 m.view _ (k0_off73_inb k) (128 * k.val) 4608 (k0_off73_eq k) X x t hr hs
  | 19, _ => exact readAt_ix2 m.view _ (k0_off74_inb k) (128 * k.val) 4864 (k0_off74_eq k) X x t hr hs
  | 20, _ => exact readAt_ix2 m.view _ (k0_off75_inb k) (128 * k.val) 5120 (k0_off75_eq k) X x t hr hs
  | 21, _ => exact readAt_ix2 m.view _ (k0_off76_inb k) (128 * k.val) 5376 (k0_off76_eq k) X x t hr hs
  | 22, _ => exact readAt_ix2 m.view _ (k0_off77_inb k) (128 * k.val) 5632 (k0_off77_eq k) X x t hr hs
  | 23, _ => exact readAt_ix2 m.view _ (k0_off78_inb k) (128 * k.val) 5888 (k0_off78_eq k) X x t hr hs
  | 24, _ => exact readAt_ix2 m.view _ (k0_off79_inb k) (128 * k.val) 6144 (k0_off79_eq k) X x t hr hs
  | 25, _ => exact readAt_ix2 m.view _ (k0_off80_inb k) (128 * k.val) 6400 (k0_off80_eq k) X x t hr hs
  | 26, _ => exact readAt_ix2 m.view _ (k0_off81_inb k) (128 * k.val) 6656 (k0_off81_eq k) X x t hr hs
  | n + 27, h => exact absurd h (by omega)

/-- What a projection of 640 packed rows leaves in its buffer, at a place. -/
def rowsOf {K : ℕ} (A : Fin 16 → Fin K → EReal) (W : Fin 640 → Fin K → BitVec 8) (S : Fin 16 → EReal) : S4x5x16x128.Idx → EReal :=
  fun j => raw (A (j 2)) (W ⟨128 * (j 1).val + (j 3).val, by
      have h1 : (j 1).val < 5 := (j 1).isLt; have h3 : (j 3).val < 128 := (j 3).isLt; omega⟩) (j 0).val - S (j 2)

/-- A stored block agrees with a function of the place where its entries do. -/
theorem rows_piece (G : S4x5x16x128.Idx → EReal) (off : Fin 4 → ℕ) (j : Fin 4) (n : Fin 5) (hoff : off = ![j.val, n.val, 0, 0])
    (X : FVec Ideal S16x128 .f32) (hval : ∀ r x, X (ix2 r x) = G (Idealize.ShloMosaic.ix4 j n r x))
    (hin : ∀ a, off a + S1x1x16x128.size a ≤ S4x5x16x128.size a)
    (pay : FVec Ideal S1x1x16x128 .f32) (hpay : pay = shapeCast S1x1x16x128 X shapeCasts_S16x128_S1x1x16x128) :
    ∀ x, pay x = G ((Rect.unit (s := S4x5x16x128) off S1x1x16x128.size hin).emb x) := by
  subst hoff hpay
  intro x
  have l0 : (x 0).val < 1 := (x 0).isLt
  have l1 : (x 1).val < 1 := (x 1).isLt
  have l2 : (x 2).val < 16 := (x 2).isLt
  have l3 : (x 3).val < 128 := (x 3).isLt
  have ex : x = Idealize.ShloMosaic.ix4 (0 : Fin 1) (0 : Fin 1) (⟨(x 2).val, l2⟩ : Fin 16) (⟨(x 3).val, l3⟩ : Fin 128) := by
    funext a
    match a with
    | ⟨0, _⟩ => exact Fin.ext (by show (x 0).val = 0; omega)
    | ⟨1, _⟩ => exact Fin.ext (by show (x 1).val = 0; omega)
    | ⟨2, _⟩ | ⟨3, _⟩ => rfl
  have e : shapeCast S1x1x16x128 X shapeCasts_S16x128_S1x1x16x128
      (Idealize.ShloMosaic.ix4 (0 : Fin 1) (0 : Fin 1) (⟨(x 2).val, l2⟩ : Fin 16) (⟨(x 3).val, l3⟩ : Fin 128))
      = X (ix2 ⟨(x 2).val, l2⟩ ⟨(x 3).val, l3⟩) := by pointwise
  refine ((congrArg _ ex).trans e).trans ((hval _ _).trans (congrArg G ?_))
  funext a
  refine Fin.ext ?_
  match a with
  | ⟨0, _⟩ => show j.val = j.val + 1 * (x 0).val; omega
  | ⟨1, _⟩ => show n.val = n.val + 1 * (x 1).val; omega
  | ⟨2, _⟩ => show (x 2).val = 0 + 1 * (x 2).val; omega
  | ⟨3, _⟩ => show (x 3).val = 0 + 1 * (x 3).val; omega

/-- A stored block covers its own places. -/
theorem rows_mem (off : Fin 4 → ℕ) (j : Fin 4) (n : Fin 5) (hoff : off = ![j.val, n.val, 0, 0]) (r : Fin 16) (x : Fin 128)
    (hin : ∀ a, off a + S1x1x16x128.size a ≤ S4x5x16x128.size a) :
    Idealize.ShloMosaic.ix4 j n r x ∈ (Rect.unit (s := S4x5x16x128) off S1x1x16x128.size hin).set := by
  subst hoff
  rw [LoadRect.mem_set]
  intro a
  match a with
  | ⟨0, _⟩ => exact ⟨0, Nat.one_pos, by show j.val = j.val + 1 * 0; omega⟩
  | ⟨1, _⟩ => exact ⟨0, Nat.one_pos, by show n.val = n.val + 1 * 0; omega⟩
  | ⟨2, _⟩ => exact ⟨r.val, r.isLt, by show r.val = 0 + 1 * r.val; omega⟩
  | ⟨3, _⟩ => exact ⟨x.val, x.isLt, by show x.val = 0 + 1 * x.val; omega⟩

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg7 : Memref sig .tc .hbm S3x640x2560 .i8) (harg7 : arg7.IsWhole) (arg8 : Memref sig .tc .hbm S3x1728x2560 .i8) (harg8 : arg8.IsWhole) (arg9 : Memref sig .tc .hbm S3x1728x2560 .i8) (harg9 : arg9.IsWhole) (arg10 : Memref sig .tc .hbm S3x640x6912 .i8) (harg10 : arg10.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole) (arg19 : Memref sig .tc .vmem S640x2560 .i8) (harg19 : arg19.IsWhole) (arg20 : Memref sig .tc .vmem S1792x2560 .i8) (harg20 : arg20.IsWhole) (arg21 : Memref sig .tc .vmem S1792x2560 .i8) (harg21 : arg21.IsWhole) (arg22 : Memref sig .tc .vmem S640x6912 .i8) (harg22 : arg22.IsWhole) (arg23 : DmaSems sig S11) (arg24 : Memref sig .tc .vmem S16x2560 .f32) (harg24 : arg24.IsWhole) (arg25 : Memref sig .tc .vmem S16x2560 .bf16) (harg25 : arg25.IsWhole) (arg26 : Memref sig .tc .vmem S16x6912 .bf16) (harg26 : arg26.IsWhole) (arg27 : Memref sig .tc .vmem S4x5x16x128 .f32) (harg27 : arg27.IsWhole) (arg28 : Memref sig .tc .vmem S2x4x14x16x128 .f32) (harg28 : arg28.IsWhole) (arg29 : Memref sig .tc .vmem S16x6912 .f32) (harg29 : arg29.IsWhole)

/-- Every piece a trip of the down loop stores is one function of its place. -/
theorem t4_pieces (𝒱 : Variants) (c : Dev nD) (bd : Option 𝒱.V) (k0_t1 : Fin k0_t1_loop.trips) (arg30 : BitVec 32) (v2468 : FVec Ideal S16x6912 .f32) (v2470 : FVec Ideal S16 .f32)
    (X_arg22 : BufTy.Contents (Elt Ideal) arg22.view.ty) (X_arg26 : BufTy.Contents (Elt Ideal) arg26.view.ty) (k : Fin k0_t4_loop.trips) :
    ∀ p ∈ tripL_k0_t4 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k, ∀ x, p.2 x = rowsOf (fun r c => arg26.view.read (Elt Ideal) X_arg26 (ix2 r c)) (fun o c => arg22.view.read (Elt Ideal) X_arg22 (ix2 o c)) (fun r => k0_pay674 v2468 v2470 (ix2 r 0)) (p.1.emb x) := by
  unfold tripL_k0_t4 trip_k0_t4
  have hk : k.val < 5 := Nat.lt_of_lt_of_le k.isLt k0_t4_abs.2.1
  have hv (h e : Fin 2) (j : Fin 4) (hj : 2 * h.val + e.val = j.val) (n : Fin 5) (hn : n.val = k.val)
      (o : Fin 2 → ℕ) (ho : S16x256.Slices o S16x128) (he : o = ![0, 128 * e.val]) (r : Fin 16) (x : Fin 128) :
      blockOut (F := Ideal) h.val o ho (chunks (F := Ideal) h.val (codeChunk4 arg26 X_arg26) (downChunk arg22 X_arg22 k) 26) (k0_pay674 v2468 v2470) (ix2 r x)
        = rowsOf (fun r c => arg26.view.read (Elt Ideal) X_arg26 (ix2 r c)) (fun o c => arg22.view.read (Elt Ideal) X_arg22 (ix2 o c)) (fun r => k0_pay674 v2468 v2470 (ix2 r 0)) (Idealize.ShloMosaic.ix4 j n r x) := by
    have hr : 128 * k.val + x.val < 640 := by have := x.isLt; omega
    rw [block_raw (K := 6912) h e o ho he _ _ 26 rfl _ r x (fun c => arg26.view.read (Elt Ideal) X_arg26 (ix2 r c))
      (fun c => arg22.view.read (Elt Ideal) X_arg22 (ix2 ⟨128 * k.val + x.val, hr⟩ c))
      (fun s t hs => codeChunk4_at arg26 X_arg26 s r t hs) (fun s t hs => downChunk_at arg22 X_arg22 k s x t hs hr), hj]
    refine congrArg (· - _) (congrArg (fun w => raw _ w j.val) (funext fun c => ?_))
    show _ = arg22.view.read (Elt Ideal) X_arg22 _
    congr 2
    exact Fin.ext (by show 128 * k.val + x.val = 128 * n.val + x.val; omega)
  dsimp only
  refine List.forall_mem_cons.mpr ⟨rows_piece _ _ 3 ⟨k.val, by omega⟩ (k0_off85_eq k) _ (hv 1 1 3 rfl ⟨k.val, by omega⟩ rfl ![0, 128] slices_S16x256_o0_128_S16x128 rfl) (k0_off85_inb k) _ rfl, ?_⟩
  refine List.forall_mem_cons.mpr ⟨rows_piece _ _ 2 ⟨k.val, by omega⟩ (k0_off84_eq k) _ (hv 1 0 2 rfl ⟨k.val, by omega⟩ rfl ![0, 0] slices_S16x256_o0_0_S16x128 rfl) (k0_off84_inb k) _ rfl, ?_⟩
  refine List.forall_mem_cons.mpr ⟨rows_piece _ _ 1 ⟨k.val, by omega⟩ (k0_off83_eq k) _ (hv 0 1 1 rfl ⟨k.val, by omega⟩ rfl ![0, 128] slices_S16x256_o0_128_S16x128 rfl) (k0_off83_inb k) _ rfl, ?_⟩
  refine List.forall_mem_cons.mpr ⟨rows_piece _ _ 0 ⟨k.val, by omega⟩ (k0_off82_eq k) _ (hv 0 0 0 rfl ⟨k.val, by omega⟩ rfl ![0, 0] slices_S16x256_o0_0_S16x128 rfl) (k0_off82_inb k) _ rfl, ?_⟩
  exact fun p hp => absurd hp List.not_mem_nil

/-- The pieces of a trip of the down loop cover its row block. -/
theorem t4_cover (𝒱 : Variants) (c : Dev nD) (bd : Option 𝒱.V) (k0_t1 : Fin k0_t1_loop.trips) (arg30 : BitVec 32) (v2468 : FVec Ideal S16x6912 .f32) (v2470 : FVec Ideal S16 .f32)
    (X_arg22 : BufTy.Contents (Elt Ideal) arg22.view.ty) (X_arg26 : BufTy.Contents (Elt Ideal) arg26.view.ty) (k : Fin k0_t4_loop.trips) (j : Fin 4) (r : Fin 16) (x : Fin 128) (h : k.val < 5) :
    ∃ p ∈ tripL_k0_t4 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k, Idealize.ShloMosaic.ix4 j (⟨k.val, h⟩ : Fin 5) r x ∈ p.1.set := by
  unfold tripL_k0_t4 trip_k0_t4
  dsimp only
  match j with
  | 3 => exact ⟨_, List.mem_of_getElem? (i := 0) rfl, rows_mem _ 3 ⟨k.val, by omega⟩ (k0_off85_eq k) r x (k0_off85_inb k)⟩
  | 2 => exact ⟨_, List.mem_of_getElem? (i := 1) rfl, rows_mem _ 2 ⟨k.val, by omega⟩ (k0_off84_eq k) r x (k0_off84_inb k)⟩
  | 1 => exact ⟨_, List.mem_of_getElem? (i := 2) rfl, rows_mem _ 1 ⟨k.val, by omega⟩ (k0_off83_eq k) r x (k0_off83_inb k)⟩
  | 0 => exact ⟨_, List.mem_of_getElem? (i := 3) rfl, rows_mem _ 0 ⟨k.val, by omega⟩ (k0_off82_eq k) r x (k0_off82_inb k)⟩

/-- All pieces of the down loop: each is one function of its place, and the row blocks so far are covered. -/
theorem t4_all (𝒱 : Variants) (c : Dev nD) (bd : Option 𝒱.V) (k0_t1 : Fin k0_t1_loop.trips) (arg30 : BitVec 32) (v2468 : FVec Ideal S16x6912 .f32) (v2470 : FVec Ideal S16 .f32)
    (X_arg22 : BufTy.Contents (Elt Ideal) arg22.view.ty) (X_arg26 : BufTy.Contents (Elt Ideal) arg26.view.ty) : ∀ n : ℕ, n ≤ k0_t4_loop.trips →
    (∀ p ∈ pb_k0_t4 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 n, ∀ x, p.2 x = rowsOf (fun r c => arg26.view.read (Elt Ideal) X_arg26 (ix2 r c)) (fun o c => arg22.view.read (Elt Ideal) X_arg22 (ix2 o c)) (fun r => k0_pay674 v2468 v2470 (ix2 r 0)) (p.1.emb x))
    ∧ ∀ (j : Fin 4) (b : Fin 5) (r : Fin 16) (x : Fin 128), b.val < n →
      ∃ p ∈ pb_k0_t4 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 n, Idealize.ShloMosaic.ix4 j b r x ∈ p.1.set
  | 0, _ => ⟨fun p hp => absurd hp List.not_mem_nil, fun _ _ _ _ h => absurd h (by omega)⟩
  | n + 1, hn => by
    have ih := t4_all 𝒱 c bd k0_t1 arg30 v2468 v2470 X_arg22 X_arg26 n (by omega)
    have e := pb_k0_t4_succ (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 ⟨n, hn⟩
    refine ⟨fun p hp => ?_, fun j b r x hb => ?_⟩
    · rw [e] at hp
      rcases List.mem_append.mp hp with h | h
      · exact t4_pieces arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 ⟨n, hn⟩ p h
      · exact ih.1 p h
    · rw [e]
      by_cases hb' : b.val < n
      · obtain ⟨p, hp, hm⟩ := ih.2 j b r x hb'
        exact ⟨p, List.mem_append_right _ hp, hm⟩
      · have hbn : n = b.val := by omega
        subst hbn
        obtain ⟨p, hp, hm⟩ := t4_cover arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 ⟨b.val, hn⟩ j r x b.isLt
        exact ⟨p, List.mem_append_left _ hp, hm⟩

/-- The down projection's buffer after its loop. -/
theorem rows_read (𝒱 : Variants) (c : Dev nD) (bd : Option 𝒱.V) (k0_t1 : Fin k0_t1_loop.trips) (arg30 : BitVec 32) (v2468 : FVec Ideal S16x6912 .f32) (v2470 : FVec Ideal S16 .f32)
    (X_arg22 : BufTy.Contents (Elt Ideal) arg22.view.ty) (X_arg26 : BufTy.Contents (Elt Ideal) arg26.view.ty) (f : BufTy.Contents (Elt Ideal) arg27.view.ty) :
    arg27.view.read (Elt Ideal) (arg27.view.writes (Elt Ideal) f (pb_k0_t4 (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k0_t4_loop.trips)) = rowsOf (fun r c => arg26.view.read (Elt Ideal) X_arg26 (ix2 r c)) (fun o c => arg22.view.read (Elt Ideal) X_arg22 (ix2 o c)) (fun r => k0_pay674 v2468 v2470 (ix2 r 0)) := by
  have a4 := t4_all arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 harg24 arg25 harg25 arg26 harg26 arg27 harg27 arg28 harg28 arg29 harg29 𝒱 c bd k0_t1 arg30 v2468 v2470 X_arg22 X_arg26 k0_t4_loop.trips le_rfl
  have n4 : k0_t4_loop.trips = 5 := by decide +kernel
  funext y
  refine View.read_writes_apply_of_pieces arg27.view _ _ _ (fun p hp => a4.1 p hp) y ?_
  have l1 : (y 1).val < 5 := (y 1).isLt
  obtain ⟨p, hp, hm⟩ := a4.2 (y 0) (y 1) (y 2) (y 3) (by omega)
  exact ⟨p, hp, (funext fun a => by match a with | ⟨0, _⟩ | ⟨1, _⟩ | ⟨2, _⟩ | ⟨3, _⟩ => rfl : Idealize.ShloMosaic.ix4 (y 0) (y 1) (y 2) (y 3) = y) ▸ hm⟩

end Cert.KernelIdeal.Hand
-- ==== Proof.IdealQuant.lean ====
/- The kernel's norm and quantiser over the extended reals, row by row: the normed row, its scale, its codes. -/
module

public import proofs.«01_k».proof.Proof.IdealDown

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- Row `r` of a matrix. -/
abbrev rowOf {M K : ℕ} (v : (⟨2, ![M, K]⟩ : Shape).Idx → EReal) (r : Fin M) : Fin K → EReal := fun i => v (ix2 r i)

/-- The normed rows of 2560. -/
theorem norm_at (v : Vec Ideal S16x2560 .f32) (g : Vec Ideal S1x2560 .f32) (r : Fin 16) (i : Fin 2560) :
    k0_pay303 v g (ix2 r i) = Spec.nrm (Ideal.ofBits .f32 1159725056#32) (rowOf v r) (rowOf g 0) i := by
  pointwise [k0_pay303]
  rfl

/-- The rows' scales. -/
theorem scale_at (v : Vec Ideal S16x2560 .f32) (g : Vec Ideal S1x2560 .f32) (r : Fin 16) :
    k0_pay304 v g (ix2 r 0) = Spec.scl (Spec.nrm (Ideal.ofBits .f32 1159725056#32) (rowOf v r) (rowOf g 0)) := by
  pointwise [k0_pay304]
  simp only [norm_at]
  rfl

/-- The rows' codes. -/
theorem codes_at (v : Vec Ideal S16x2560 .f32) (g : Vec Ideal S1x2560 .f32) (r : Fin 16) (i : Fin 2560) :
    k0_pay305 v g (ix2 r i) = Spec.cod (Spec.nrm (Ideal.ofBits .f32 1159725056#32) (rowOf v r) (rowOf g 0)) i := by
  pointwise [k0_pay305]
  simp only [norm_at, scale_at]
  rfl

/-- The normed rows of 6912. -/
theorem norm4_at (v : Vec Ideal S16x6912 .f32) (g : Vec Ideal S1x6912 .f32) (r : Fin 16) (i : Fin 6912) :
    k0_pay668 v g (ix2 r i) = Spec.nrm (Ideal.ofBits .f32 1171783680#32) (rowOf v r) (rowOf g 0) i := by
  pointwise [k0_pay668]
  rfl

/-- The scales of the rows of 6912. -/
theorem scale4_at (v : Vec Ideal S16x6912 .f32) (g : Vec Ideal S1x6912 .f32) (r : Fin 16) :
    k0_pay670 (k0_pay669 v g) (ix2 r 0) = Spec.scl (Spec.nrm (Ideal.ofBits .f32 1171783680#32) (rowOf v r) (rowOf g 0)) := by
  pointwise [k0_pay670, k0_pay669]
  simp only [norm4_at]
  rfl

/-- The codes of the rows of 6912. -/
theorem codes4_at (v : Vec Ideal S16x6912 .f32) (g : Vec Ideal S1x6912 .f32) (r : Fin 16) (i : Fin 6912) :
    k0_pay671 (k0_pay668 v g) (k0_pay669 v g) (ix2 r i) = Spec.cod (Spec.nrm (Ideal.ofBits .f32 1171783680#32) (rowOf v r) (rowOf g 0)) i := by
  pointwise [k0_pay671]
  simp only [norm4_at, scale4_at]
  rfl

/-- The sum of a row's codes. -/
theorem asum_at (v : FVec Ideal S16x2560 .f32) (r : Fin 16) : k0_pay576 v (ix2 r 0) = ∑ i, rowOf v r i := by
  pointwise [k0_pay576]

/-- The sum of a row's codes, of a row of 6912. -/
theorem asum4_at (v : FVec Ideal S16x6912 .f32) (w : FVec Ideal S16 .f32) (r : Fin 16) : k0_pay674 v w (ix2 r 0) = ∑ i, rowOf (k0_pay671 v w) r i := by
  pointwise [k0_pay674]

/-- A product with the raw bit pairs less the codes' sum is the product with the bit pairs less one. -/
theorem raw_sub {K R M : ℕ} (hR : 0 < R) (v : Fin K → EReal) (w : Fin R → Fin K → BitVec 8) (o : Fin M) :
    raw (Spec.cod v) (w ⟨o.val % R, Nat.mod_lt _ hR⟩) (o.val / R) - ∑ i, Spec.cod v i = Spec.lin hR (Spec.cod v) w o := by
  unfold raw Spec.lin
  exact Spec.sub_sum _ _ fun t => Spec.cod_real v t

/-- The first twelve rows of a stream above four rows of zeros. -/
abbrev padRows (v : Vec Ideal S1x12x2560 .f32) : FVec Ideal S16x2560 .f32 :=
  concatenate S16x2560 0 [⟨S12x2560, shapeCast S12x2560 v shapeCasts_S1x12x2560_S12x2560⟩,
    ⟨S4x2560, broadcast S4x2560 (Scalar.ofBits (F := Ideal) .f32 0x00000000#32)⟩] concatenates_S12x2560_S4x2560_S16x2560_d0

/-- The attention output's norm is the stream's norm at the padded rows. -/
theorem norm2_eq (v : Vec Ideal S1x12x2560 .f32) (g : Vec Ideal S1x2560 .f32) : k0_pay309 v g = k0_pay303 (padRows v) g := rfl
/-- The attention output's scale is the stream's scale at the padded rows. -/
theorem scale2_eq (v : Vec Ideal S1x12x2560 .f32) (g : Vec Ideal S1x2560 .f32) : k0_pay310 v g = k0_pay304 (padRows v) g := rfl
/-- The attention output's codes are the stream's codes at the padded rows. -/
theorem codes2_eq (v : Vec Ideal S1x12x2560 .f32) (g : Vec Ideal S1x2560 .f32) : k0_pay313 (k0_pay311 v g) k0_pay312 = k0_pay305 (padRows v) g := rfl
/-- The third norm is the first one's term. -/
theorem norm3_eq (v : Vec Ideal S16x2560 .f32) (g : Vec Ideal S1x2560 .f32) : k0_pay570 v g = k0_pay303 v g := rfl
/-- The third scale is the first one's term. -/
theorem scale3_eq (v : Vec Ideal S16x2560 .f32) (g : Vec Ideal S1x2560 .f32) : k0_pay571 v g = k0_pay304 v g := rfl
/-- The third codes are the first ones' term. -/
theorem codes3_eq (v : Vec Ideal S16x2560 .f32) (g : Vec Ideal S1x2560 .f32) : k0_pay572 v g = k0_pay305 v g := rfl

/-- A row of the padded stream that is one of the stream's. -/
theorem padRows_at (v : Vec Ideal S1x12x2560 .f32) (b : Fin 12) (r : Fin 16) (hr : r.val = b.val) :
    rowOf (padRows v) r = fun i => v (Idealize.ShloMosaic.ix3 (0 : Fin 1) b i) := by
  funext i
  show padRows v (ix2 r i) = _
  pointwise [padRows]
  rw [dif_pos (by omega)]
  congr 2
  exact Fin.ext hr

end Cert.KernelIdeal.Hand
-- ==== Proof.IdealMid.lean ====
/- The kernel's output projection and middle stream over the extended reals, row by row. -/
module

public import proofs.«01_k».proof.Proof.IdealQuant
public import proofs.«01_k».proof.Proof.IdealTrip

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

/-- A buffer whose last write was of all of it reads as what was written. -/
theorem read_cons_whole {sg : RefSig} {κ : Kind} {sp : Space} {M K : ℕ} {e : EltTy} (v : View sg κ sp ⟨2, ![M, K]⟩ e) (f : v.ty.Contents (Elt Ideal))
    (hin : ∀ a, (![0, 0] : Fin 2 → ℕ) a + (![M, K] : Fin 2 → ℕ) a ≤ (![M, K] : Fin 2 → ℕ) a) (w : (⟨2, ![M, K]⟩ : Shape).Idx → Elt Ideal e)
    (L : List (View.Piece (Elt Ideal) ⟨2, ![M, K]⟩ e)) :
    v.read (Elt Ideal) (v.writes (Elt Ideal) f (⟨Rect.unit (s := ⟨2, ![M, K]⟩) ![0, 0] ![M, K] hin, w⟩ :: L)) = w := by
  funext y
  have ey : (Rect.unit (s := ⟨2, ![M, K]⟩) ![0, 0] ![M, K] hin).emb y = y := by
    funext a
    match a with
    | ⟨0, _⟩ => exact Fin.ext (by show 0 + 1 * (y 0).val = (y 0).val; omega)
    | ⟨1, _⟩ => exact Fin.ext (by show 0 + 1 * (y 1).val = (y 1).val; omega)
  have := View.read_writes_cons_emb v f (Rect.unit (s := ⟨2, ![M, K]⟩) ![0, 0] ![M, K] hin) w L y
  rw [ey] at this
  exact this

/-- Chunk `s` of row block `n` of the output projection's packed weight. -/
def outChunk {sp : Space} (m : Memref sig .tc sp S640x2560 .i8) (X : BufTy.Contents (Elt Ideal) m.view.ty) (n s : ℕ) : Vec Ideal S128x256 .i8 :=
  if h : n < 5 ∧ s < 10 then m.view.readAt (Elt Ideal) (Rect.unit (s := S640x2560) ![128 * n, 256 * s] S128x256.size
    (fun a => match a with
      | ⟨0, _⟩ => (by omega : 128 * n + 128 ≤ 640)
      | ⟨1, _⟩ => (by omega : 256 * s + 256 ≤ 2560))).toLoadRect X else fun _ => 0

/-- A chunk of the output projection's weight read at an entry. -/
theorem outChunk_at {sp : Space} (m : Memref sig .tc sp S640x2560 .i8) (X : BufTy.Contents (Elt Ideal) m.view.ty) (n s : ℕ) (hn : n < 5) (x : Fin 128)
    (t : Fin 256) (hs : 256 * s + t.val < 2560) (hr : 128 * n + x.val < 640) :
    outChunk m X n s (ix2 x t) = m.view.read (Elt Ideal) X (ix2 ⟨128 * n + x.val, hr⟩ ⟨256 * s + t.val, hs⟩) := by
  unfold outChunk
  rw [dif_pos (by omega : n < 5 ∧ s < 10)]
  exact readAt_ix2 m.view _ _ (128 * n) (256 * s) rfl X x t hr hs

/-- A block's place is inside the buffer of blocks. -/
theorem rows_inb {j n : ℕ} (hj : j < 4) (hn : n < 5) (a : Fin 4) : (![j, n, 0, 0] : Fin 4 → ℕ) a + S1x1x16x128.size a ≤ S4x5x16x128.size a := by
  fin_cases a
  · show j + 1 ≤ 4; omega
  · show n + 1 ≤ 5; omega
  · show 0 + 16 ≤ 16; omega
  · show 0 + 128 ≤ 128; omega

/-- A stored block agrees with a function of the place where its entries do; the place given by numbers. -/
theorem rows_piece' (G : S4x5x16x128.Idx → EReal) (j n : ℕ) (hj : j < 4) (hn : n < 5)
    (X : FVec Ideal S16x128 .f32) (hval : ∀ r x, X (ix2 r x) = G (Idealize.ShloMosaic.ix4 (⟨j, hj⟩ : Fin 4) (⟨n, hn⟩ : Fin 5) r x))
    (pay : FVec Ideal S1x1x16x128 .f32) (hpay : pay = shapeCast S1x1x16x128 X shapeCasts_S16x128_S1x1x16x128) :
    ∀ x, pay x = G ((Rect.unit (s := S4x5x16x128) ![j, n, 0, 0] S1x1x16x128.size (rows_inb hj hn)).emb x) :=
  rows_piece G ![j, n, 0, 0] ⟨j, hj⟩ ⟨n, hn⟩ rfl X hval _ pay hpay

/-- A block read back from the buffer of blocks. -/
theorem rows_back {sp : Space} (v : View sig .tc sp S4x5x16x128 .f32) (X : v.ty.Contents (Elt Ideal)) (G : S4x5x16x128.Idx → EReal) (hG : v.read (Elt Ideal) X = G) (j n : ℕ)
    (hj : j < 4) (hn : n < 5) (r : Fin 16) (x : Fin 128) :
    shapeCast S16x128 (v.readAt (Elt Ideal) (Rect.unit (s := S4x5x16x128) ![j, n, 0, 0] S1x1x16x128.size (rows_inb hj hn)).toLoadRect X : Vec Ideal S1x1x16x128 .f32) shapeCasts_S1x1x16x128_S16x128 (ix2 r x)
      = G (Idealize.ShloMosaic.ix4 (⟨j, hj⟩ : Fin 4) (⟨n, hn⟩ : Fin 5) r x) := by
  subst hG
  have e (w : Vec Ideal S1x1x16x128 .f32) : shapeCast S16x128 w shapeCasts_S1x1x16x128_S16x128 (ix2 r x) = w (Idealize.ShloMosaic.ix4 (0 : Fin 1) (0 : Fin 1) r x) := by
    pointwise
  refine (e _).trans ?_
  exact congrArg (v.read (Elt Ideal) X) (funext fun a => Fin.ext (by
    match a with
    | ⟨0, _⟩ => show j + 1 * 0 = j; omega
    | ⟨1, _⟩ => show n + 1 * 0 = n; omega
    | ⟨2, _⟩ => show 0 + 1 * r.val = r.val; omega
    | ⟨3, _⟩ => show 0 + 1 * x.val = x.val; omega))

/-- Equal blocks set side by side, read at a column: the block that holds the column. -/
theorem cat_at {α : Type} {N K M : ℕ} (hK : 0 < K) (f : Fin N → ((⟨2, ![16, K]⟩ : Shape).Idx → α))
    (h : Shape.Concatenates ((List.ofFn fun n : Fin N => (⟨⟨2, ![16, K]⟩, f n⟩ : (s : Shape) × (s.Idx → α))).map (·.1)) ⟨2, ![16, M]⟩ 1) (r : Fin 16) (o : Fin M)
    (ho : o.val / K < N) :
    concatenate ⟨2, ![16, M]⟩ 1 (List.ofFn fun n : Fin N => (⟨⟨2, ![16, K]⟩, f n⟩ : (s : Shape) × (s.Idx → α))) h (ix2 r o)
      = f ⟨o.val / K, ho⟩ (ix2 r ⟨o.val % K, Nat.mod_lt _ hK⟩) :=
  concatenate_ofFn_apply 1 f h rfl K rfl (ix2 r o) ⟨o.val / K, ho⟩ rfl (ix2 r ⟨o.val % K, Nat.mod_lt _ hK⟩) rfl (fun b hb => by
    match b with
    | ⟨0, _⟩ => rfl
    | ⟨1, _⟩ => exact absurd rfl hb)

/-- The first of the two streams of a layer, one entry: the row before plus the scaled block that holds the column. -/
theorem mid_at (s : FVec Ideal S16x1 .f32) (v : Vec Ideal S16x2560 .f32) (g : Fin 20 → Vec Ideal S1x1x16x128 .f32) (r : Fin 16) (o : Fin 2560) :
    k0_pay566 s v (k0_pay555 (g 0)) (k0_pay555 (g 1)) (k0_pay555 (g 2)) (k0_pay555 (g 3)) (k0_pay555 (g 4)) (k0_pay555 (g 5)) (k0_pay555 (g 6))
      (k0_pay555 (g 7)) (k0_pay555 (g 8)) (k0_pay555 (g 9)) (k0_pay555 (g 10)) (g 11) (g 12) (g 13) (g 14) (g 15) (g 16) (g 17) (g 18) (g 19) (ix2 r o)
      = v (ix2 r o) + shapeCast S16x128 (g ⟨o.val / 128, by have := o.isLt; omega⟩) shapeCasts_S1x1x16x128_S16x128
          (ix2 r (⟨o.val % 128, Nat.mod_lt _ (by decide)⟩ : Fin 128)) * s (ix2 r 0) := by
  have key : ∀ (f : Fin 20 → FVec Ideal S16x128 .f32), concatenate S16x2560 1 [⟨S16x128, f 0⟩, ⟨S16x128, f 1⟩, ⟨S16x128, f 2⟩, ⟨S16x128, f 3⟩, ⟨S16x128, f 4⟩, ⟨S16x128, f 5⟩,
      ⟨S16x128, f 6⟩, ⟨S16x128, f 7⟩, ⟨S16x128, f 8⟩, ⟨S16x128, f 9⟩, ⟨S16x128, f 10⟩, ⟨S16x128, f 11⟩, ⟨S16x128, f 12⟩, ⟨S16x128, f 13⟩, ⟨S16x128, f 14⟩, ⟨S16x128, f 15⟩,
      ⟨S16x128, f 16⟩, ⟨S16x128, f 17⟩, ⟨S16x128, f 18⟩, ⟨S16x128, f 19⟩]
      concatenates_S16x128_S16x128_S16x128_S16x128_S16x128_S16x128_S16x128_S16x128_S16x128_S16x128_S16x128_S16x128_S16x128_S16x128_S16x128_S16x128_S16x128_S16x128_S16x128_S16x128_S16x2560_d1 (ix2 r o)
      = f ⟨o.val / 128, by have := o.isLt; omega⟩ (ix2 r (⟨o.val % 128, Nat.mod_lt _ (by decide)⟩ : Fin 128)) := by
    intro f
    exact cat_at (by decide) f concatenates_S16x128_S16x128_S16x128_S16x128_S16x128_S16x128_S16x128_S16x128_S16x128_S16x128_S16x128_S16x128_S16x128_S16x128_S16x128_S16x128_S16x128_S16x128_S16x128_S16x128_S16x2560_d1 r o _
  have e (w : FVec Ideal S16x2560 .f32) : addf v (mulf w (broadcastTo S16x2560 s broadcasts_S16x1_S16x2560)) (ix2 r o)
      = v (ix2 r o) + w (ix2 r o) * s (ix2 r 0) := by
    pointwise
  exact (e _).trans (congrArg (fun z => v (ix2 r o) + z * s (ix2 r 0)) (key fun t => shapeCast S16x128 (g t) shapeCasts_S1x1x16x128_S16x128))

/-- A half of a product of 256 columns is a slice of it. -/
theorem half_slices (j : ℕ) : S16x256.Slices ![0, 128 * (j % 2)] S16x128 := by
  have h : j % 2 < 2 := Nat.mod_lt _ (by decide)
  interval_cases h' : j % 2
  · exact slices_S16x256_o0_0_S16x128
  · exact slices_S16x256_o0_128_S16x128

variable (arg2 arg3 : Memref sig .tc .vmem S3x2560 .f32) (arg4 : Memref sig .tc .vmem S3x2560 .f32) (arg6 : Memref sig .tc .vmem S3x12x2560 .f32)
  (c : Dev nD) (k : Fin k0_t1_loop.trips) (v29 : Vec Ideal S3x7 .bf16) (f2 : HbBuf0 (F := Ideal) c arg2) (f3 : HbBuf0 (F := Ideal) c arg3) (f4 : HbBuf0 (F := Ideal) c arg4)
  (f6 : HbBuf0 (F := Ideal) c arg6) (f19 : HbBuf0 (F := Ideal) c scM0_0) (f24 : HbBuf0 (F := Ideal) c scM0_5)

/-- The attention output's block of this layer, padded; and the gains' row. -/
abbrev attnRows : FVec Ideal S16x2560 .f32 :=
  padRows (View.readAt (Elt Ideal) arg6.view (Rect.unit (s := S3x12x2560) (k0_off2 k) S1x12x2560.size (k0_off2_inb k)).toLoadRect f6)
abbrev gainRow (arg : Memref sig .tc .vmem S3x2560 .f32) (f : HbBuf0 (F := Ideal) c arg) : Vec Ideal S1x2560 .f32 :=
  View.readAt (Elt Ideal) arg.view (Rect.unit (s := S3x2560) (k0_off1 k) S1x2560.size (k0_off1_inb k)).toLoadRect f
/-- The codes the output projection takes, as its buffer holds them. -/
abbrev codes2 : FVec Ideal S16x2560 .f32 := k0_pay305 (attnRows arg6 c k f6) (gainRow c k arg3 f3)

/-- The buffer of codes during the output projection. -/
theorem act2_read : scM0_6.view.read (Elt Ideal) (scM0_6.view.writes (Elt Ideal) scM0_6.view.junk (tripA.sl.H25_2 arg2 arg3 arg6 c k f2 f3 f6 f24))
    = codes2 arg3 arg6 c k f3 f6 := by
  refine (read_cons_whole scM0_6.view _ _ _ _).trans ?_
  funext y
  obtain ⟨r, i, rfl⟩ : ∃ r i, y = ix2 r i := ⟨y 0, y 1, (funext fun a => by match a with | ⟨0, _⟩ | ⟨1, _⟩ => rfl)⟩
  pointwise [k0_pay314]
  rfl

/-- Every block the output projection stores is one function of its place. -/
theorem out_pieces : ∀ p ∈ tripA.sl.H27_20 arg2 arg3 arg6 c k f2 f3 f6 f19 f24, ∀ x,
    p.2 x = rowsOf (fun r i => codes2 arg3 arg6 c k f3 f6 (ix2 r i)) (fun o i => scM0_0.view.read (Elt Ideal) f19 (ix2 o i))
      (fun r => ∑ i, codes2 arg3 arg6 c k f3 f6 (ix2 r i)) (p.1.emb x) := by
  have hv (j n : ℕ) (hj : j < 4) (hn : n < 5) (r : Fin 16) (x : Fin 128) :
      blockOut (F := Ideal) (j / 2) ![0, 128 * (j % 2)] (half_slices j) (chunks (F := Ideal) (j / 2)
        (codeChunk scM0_6 (scM0_6.view.writes (Elt Ideal) scM0_6.view.junk (tripA.sl.H25_2 arg2 arg3 arg6 c k f2 f3 f6 f24))) (outChunk scM0_0 f19 n) 9)
          (tripA.sl.r_6 arg3 arg6 c k f3 f6) (ix2 r x)
        = rowsOf (fun r i => codes2 arg3 arg6 c k f3 f6 (ix2 r i)) (fun o i => scM0_0.view.read (Elt Ideal) f19 (ix2 o i))
      (fun r => ∑ i, codes2 arg3 arg6 c k f3 f6 (ix2 r i)) (Idealize.ShloMosaic.ix4 (⟨j, hj⟩ : Fin 4) (⟨n, hn⟩ : Fin 5) r x) := by
    have hr : 128 * n + x.val < 640 := by have := x.isLt; omega
    have hb := block_raw (K := 2560) ⟨j / 2, by omega⟩ ⟨j % 2, by omega⟩ ![0, 128 * (j % 2)] (half_slices j) rfl
      (codeChunk scM0_6 (scM0_6.view.writes (Elt Ideal) scM0_6.view.junk (tripA.sl.H25_2 arg2 arg3 arg6 c k f2 f3 f6 f24))) (outChunk scM0_0 f19 n) 9 rfl
      (tripA.sl.r_6 arg3 arg6 c k f3 f6) r x
      (fun i => codes2 arg3 arg6 c k f3 f6 (ix2 r i))
      (fun i => scM0_0.view.read (Elt Ideal) f19 (ix2 ⟨128 * n + x.val, hr⟩ i))
      (fun s t hs => by rw [codeChunk_at scM0_6 _ s r t hs, act2_read])
      (fun s t hs => outChunk_at scM0_0 f19 n s hn x t hs hr)
    refine hb.trans ?_
    have hjj : 2 * (j / 2) + j % 2 = j := by omega
    have ha : tripA.sl.r_6 arg3 arg6 c k f3 f6 (ix2 r 0) = ∑ i, codes2 arg3 arg6 c k f3 f6 (ix2 r i) := asum_at _ r
    rw [ha]
    show raw _ _ (2 * (j / 2) + j % 2) - _ = _
    rw [hjj]
    rfl
  unfold tripA.sl.H27_20
  refine List.forall_mem_cons.mpr ⟨rows_piece' _ 3 4 (by decide) (by decide) _ (hv 3 4 (by decide) (by decide)) _ rfl, ?_⟩
  refine List.forall_mem_cons.mpr ⟨rows_piece' _ 2 4 (by decide) (by decide) _ (hv 2 4 (by decide) (by decide)) _ rfl, ?_⟩
  refine List.forall_mem_cons.mpr ⟨rows_piece' _ 1 4 (by decide) (by decide) _ (hv 1 4 (by decide) (by decide)) _ rfl, ?_⟩
  refine List.forall_mem_cons.mpr ⟨rows_piece' _ 0 4 (by decide) (by decide) _ (hv 0 4 (by decide) (by decide)) _ rfl, ?_⟩
  refine List.forall_mem_cons.mpr ⟨rows_piece' _ 3 3 (by decide) (by decide) _ (hv 3 3 (by decide) (by decide)) _ rfl, ?_⟩
  refine List.forall_mem_cons.mpr ⟨rows_piece' _ 2 3 (by decide) (by decide) _ (hv 2 3 (by decide) (by decide)) _ rfl, ?_⟩
  refine List.forall_mem_cons.mpr ⟨rows_piece' _ 1 3 (by decide) (by decide) _ (hv 1 3 (by decide) (by decide)) _ rfl, ?_⟩
  refine List.forall_mem_cons.mpr ⟨rows_piece' _ 0 3 (by decide) (by decide) _ (hv 0 3 (by decide) (by decide)) _ rfl, ?_⟩
  refine List.forall_mem_cons.mpr ⟨rows_piece' _ 3 2 (by decide) (by decide) _ (hv 3 2 (by decide) (by decide)) _ rfl, ?_⟩
  refine List.forall_mem_cons.mpr ⟨rows_piece' _ 2 2 (by decide) (by decide) _ (hv 2 2 (by decide) (by decide)) _ rfl, ?_⟩
  refine List.forall_mem_cons.mpr ⟨rows_piece' _ 1 2 (by decide) (by decide) _ (hv 1 2 (by decide) (by decide)) _ rfl, ?_⟩
  refine List.forall_mem_cons.mpr ⟨rows_piece' _ 0 2 (by decide) (by decide) _ (hv 0 2 (by decide) (by decide)) _ rfl, ?_⟩
  refine List.forall_mem_cons.mpr ⟨rows_piece' _ 3 1 (by decide) (by decide) _ (hv 3 1 (by decide) (by decide)) _ rfl, ?_⟩
  refine List.forall_mem_cons.mpr ⟨rows_piece' _ 2 1 (by decide) (by decide) _ (hv 2 1 (by decide) (by decide)) _ rfl, ?_⟩
  refine List.forall_mem_cons.mpr ⟨rows_piece' _ 1 1 (by decide) (by decide) _ (hv 1 1 (by decide) (by decide)) _ rfl, ?_⟩
  refine List.forall_mem_cons.mpr ⟨rows_piece' _ 0 1 (by decide) (by decide) _ (hv 0 1 (by decide) (by decide)) _ rfl, ?_⟩
  refine List.forall_mem_cons.mpr ⟨rows_piece' _ 3 0 (by decide) (by decide) _ (hv 3 0 (by decide) (by decide)) _ rfl, ?_⟩
  refine List.forall_mem_cons.mpr ⟨rows_piece' _ 2 0 (by decide) (by decide) _ (hv 2 0 (by decide) (by decide)) _ rfl, ?_⟩
  refine List.forall_mem_cons.mpr ⟨rows_piece' _ 1 0 (by decide) (by decide) _ (hv 1 0 (by decide) (by decide)) _ rfl, ?_⟩
  refine List.forall_mem_cons.mpr ⟨rows_piece' _ 0 0 (by decide) (by decide) _ (hv 0 0 (by decide) (by decide)) _ rfl, ?_⟩
  exact fun p hp => absurd hp List.not_mem_nil

/-- The output projection's blocks cover its buffer. -/
theorem out_cover (y : S4x5x16x128.Idx) : ∃ p ∈ tripA.sl.H27_20 arg2 arg3 arg6 c k f2 f3 f6 f19 f24, y ∈ p.1.set := by
  obtain ⟨j, n, r, x, rfl⟩ : ∃ j n r x, y = Idealize.ShloMosaic.ix4 j n r x :=
    ⟨y 0, y 1, y 2, y 3, (funext fun a => by match a with | ⟨0, _⟩ | ⟨1, _⟩ | ⟨2, _⟩ | ⟨3, _⟩ => rfl)⟩
  have hlen : ∀ (j : Fin 4) (n : Fin 5), ∃ p, (tripA.sl.H27_20 (F := Ideal) arg2 arg3 arg6 c k f2 f3 f6 f19 f24)[4 * (4 - n.val) + (3 - j.val)]? = some p
      ∧ ∃ hin, p.1 = Rect.unit (s := S4x5x16x128) ![j.val, n.val, 0, 0] S1x1x16x128.size hin := by
    intro j n
    fin_cases j <;> fin_cases n <;> exact ⟨_, rfl, rows_inb (by decide) (by decide), rfl⟩
  obtain ⟨p, hp, hin, e⟩ := hlen j n
  exact ⟨p, List.mem_of_getElem? hp, e ▸ rows_mem _ j n rfl r x hin⟩

/-- The output projection's buffer, once every block is stored. -/
theorem out_read : scM0_8.view.read (Elt Ideal) (scM0_8.view.writes (Elt Ideal) scM0_8.view.junk (tripA.sl.H27_20 arg2 arg3 arg6 c k f2 f3 f6 f19 f24))
    = rowsOf (fun r i => codes2 arg3 arg6 c k f3 f6 (ix2 r i)) (fun o i => scM0_0.view.read (Elt Ideal) f19 (ix2 o i))
      (fun r => ∑ i, codes2 arg3 arg6 c k f3 f6 (ix2 r i)) :=
  funext fun y => View.read_writes_apply_of_pieces scM0_8.view _ _ _ (out_pieces arg2 arg3 arg6 c k f2 f3 f6 f19 f24) y (out_cover arg2 arg3 arg6 c k f2 f3 f6 f19 f24 y)

/-- The scales' row the trip picks out of the table is the table's row of that layer. -/
theorem scales_at (n : Fin 7) : k0_pay302 (k0_pay2 v29) 0#32 1#32 k (ix2 0 n) = v29 (ix2 ⟨k.val, k.isLt⟩ n) := by
  pointwise [k0_pay302, k0_pay2]
  have hb : ∀ x k : Fin 3, IntOp.cmpi CmpIPredicate.eq (BitVec.ofNat 32 x.val) (Scf.iv 0#32 1#32 k.val) = if x = k then 1#1 else 0#1 := by
    decide
  have e (x : Fin 3) : Scalar.select (IntOp.cmpi CmpIPredicate.eq (BitVec.ofNat 32 x.val) (Scf.iv 0#32 1#32 k.val)) (v29 (ix2 x n)) 0
      = if x = (⟨k.val, k.isLt⟩ : Fin 3) then v29 (ix2 x n) else 0 := by
    rw [hb x ⟨k.val, k.isLt⟩]
    by_cases h : x = (⟨k.val, k.isLt⟩ : Fin 3)
    · rw [if_pos h, if_pos h]; rfl
    · rw [if_neg h, if_neg h]; rfl
  refine (Finset.sum_congr rfl fun x _ => e x).trans ?_
  rw [Finset.sum_ite_eq' Finset.univ (⟨k.val, k.isLt⟩ : Fin 3) fun x => v29 (ix2 x n), if_pos (Finset.mem_univ _)]
  rfl

/-- The blocks of a projection read at a column of its result. -/
theorem rowsOf_at {K : ℕ} (A : Fin 16 → Fin K → EReal) (W : Fin 640 → Fin K → BitVec 8) (S : Fin 16 → EReal) (r : Fin 16) (o : Fin 2560)
    (h0 : o.val / 128 / 5 < 4) (h1 : o.val / 128 % 5 < 5) (h2 : o.val % 128 < 128) :
    rowsOf A W S (Idealize.ShloMosaic.ix4 (⟨o.val / 128 / 5, h0⟩ : Fin 4) (⟨o.val / 128 % 5, h1⟩ : Fin 5) r (⟨o.val % 128, h2⟩ : Fin 128))
      = raw (A r) (W ⟨o.val % 640, Nat.mod_lt _ (by decide)⟩) (o.val / 640) - S r := by
  have e0 : o.val / 128 / 5 = o.val / 640 := by omega
  have e1 : 128 * (o.val / 128 % 5) + o.val % 128 = o.val % 640 := by omega
  have key (p q p' q' : ℕ) (hp : p < 640) (hp' : p' < 640) (ep : p = p') (eq : q = q') :
      raw (A r) (W ⟨p, hp⟩) q - S r = raw (A r) (W ⟨p', hp'⟩) q' - S r := by subst ep; subst eq; rfl
  exact key _ _ _ _ _ _ e1 e0

/-- The kernel's middle stream on rows below twelve is the specification's. -/
theorem mid_row (b : Fin 12) (r : Fin 16) (hr : r.val = b.val) (y : Spec.Layer)
    (hwo : y.wo = fun o i => scM0_0.view.read (Elt Ideal) f19 (ix2 o i)) (hsc : y.sc 3 = v29 (ix2 ⟨k.val, k.isLt⟩ 3))
    (hga : y.ga = rowOf (gainRow c k arg3 f3) 0)
    (hat : y.at' b = fun i => View.readAt (Elt Ideal) arg6.view (Rect.unit (s := S3x12x2560) (k0_off2 k) S1x12x2560.size (k0_off2_inb k)).toLoadRect f6
      (Idealize.ShloMosaic.ix3 (0 : Fin 1) b i)) (o : Fin 2560) :
    tripA.sl.r_183 arg2 arg3 arg6 c k v29 f2 f3 f6 f19 f24 (ix2 r o) = y.mid b (rowOf (tripA.sl.r_181 c f24) r) o := by
  have hn : Spec.nrm (Ideal.ofBits .f32 1159725056#32) (rowOf (attnRows arg6 c k f6) r) (rowOf (gainRow c k arg3 f3) 0) = y.n2 b := by
    rw [padRows_at _ b r hr, ← hat, ← hga]
  have hc : (fun i => codes2 arg3 arg6 c k f3 f6 (ix2 r i)) = Spec.cod (y.n2 b) := by
    funext i
    rw [← hn]
    exact codes_at _ _ r i
  have hm := mid_at (tripA.sl.r_180 arg3 arg6 c k v29 f3 f6) (tripA.sl.r_181 c f24)
    (fun t => scM0_8.view.readAt (Elt Ideal) (Rect.unit (s := S4x5x16x128) ![t.val / 5, t.val % 5, 0, 0] S1x1x16x128.size
      (rows_inb (by omega) (by omega))).toLoadRect (scM0_8.view.writes (Elt Ideal) scM0_8.view.junk (tripA.sl.H27_20 arg2 arg3 arg6 c k f2 f3 f6 f19 f24))) r o
  refine (show _ = _ from hm).trans ?_
  clear hm
  have hs : tripA.sl.r_180 arg3 arg6 c k v29 f3 f6 (ix2 r 0) = Spec.scl (y.n2 b) * y.sc 3 := by
    have e (p : FVec Ideal S1x7 .f32) (q : FVec Ideal S16x1 .f32) : k0_pay554 p q (ix2 r 0) = q (ix2 r 0) * p (ix2 0 3) := by
      pointwise [k0_pay554]
    refine (e (tripA.sl.r k v29) (tripA.sl.r_4 arg3 arg6 c k f3 f6)).trans ?_
    exact congrArg₂ (· * ·) ((scale_at (attnRows arg6 c k f6) (gainRow c k arg3 f3) r).trans (congrArg Spec.scl hn)) ((scales_at k v29 3).trans hsc.symm)
  have e3 : ∑ i, codes2 arg3 arg6 c k f3 f6 (ix2 r i) = ∑ i, Spec.cod (y.n2 b) i :=
    Finset.sum_congr rfl fun i _ => congrFun hc i
  have e4 : raw (fun i => codes2 arg3 arg6 c k f3 f6 (ix2 r i)) (fun i => scM0_0.view.read (Elt Ideal) f19 (ix2 ⟨o.val % 640, Nat.mod_lt _ (by decide)⟩ i)) (o.val / 640)
      - ∑ i, codes2 arg3 arg6 c k f3 f6 (ix2 r i) = Spec.lin (R := 640) (by decide) (Spec.cod (y.n2 b)) y.wo o := by
    rw [e3, hc, ← raw_sub (R := 640) (by decide) (y.n2 b) y.wo o, hwo]
  have e5 := (rows_back scM0_8.view _ _ (out_read arg2 arg3 arg6 c k f2 f3 f6 f19 f24) (o.val / 128 / 5) (o.val / 128 % 5) (by omega) (by omega) r
    ⟨o.val % 128, Nat.mod_lt _ (by decide)⟩).trans ((rowsOf_at _ _ _ r o _ _ _).trans e4)
  exact congrArg₂ (fun a b => rowOf (tripA.sl.r_181 c f24) r o + a * b) e5 hs

end Cert.KernelIdeal.Hand
-- ==== Proof.IdealHid.lean ====
/- The kernel's hidden row over the extended reals. -/
module

public import proofs.«01_k».proof.Proof.IdealMid
public import proofs.«01_k».proof.Proof.IdealDown

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

/-- A block's place is inside the buffer of the gate's and up's blocks. -/
theorem slot_inb {sl j n : ℕ} (hs : sl < 2) (hj : j < 4) (hn : n < 14) (a : Fin 5) :
    (![sl, j, n, 0, 0] : Fin 5 → ℕ) a + S1x1x1x16x128.size a ≤ S2x4x14x16x128.size a := by
  fin_cases a
  · show sl + 1 ≤ 2; omega
  · show j + 1 ≤ 4; omega
  · show n + 1 ≤ 14; omega
  · show 0 + 16 ≤ 16; omega
  · show 0 + 128 ≤ 128; omega

/-- A block read back from the buffer of the gate's and up's blocks. -/
theorem slot_back {sp : Space} (v : View sig .tc sp S2x4x14x16x128 .f32) (X : v.ty.Contents (Elt Ideal)) (G : S2x4x14x16x128.Idx → EReal)
    (hG : v.read (Elt Ideal) X = G) (sl j n : ℕ) (hs : sl < 2) (hj : j < 4) (hn : n < 14) (r : Fin 16) (x : Fin 128) :
    shapeCast S16x128 (v.readAt (Elt Ideal) (Rect.unit (s := S2x4x14x16x128) ![sl, j, n, 0, 0] S1x1x1x16x128.size (slot_inb hs hj hn)).toLoadRect X : Vec Ideal S1x1x1x16x128 .f32)
        shapeCasts_S1x1x1x16x128_S16x128 (ix2 r x)
      = G (Idealize.ShloMosaic.ix5 (⟨sl, hs⟩ : Fin 2) (⟨j, hj⟩ : Fin 4) (⟨n, hn⟩ : Fin 14) r x) := by
  subst hG
  have e (w : Vec Ideal S1x1x1x16x128 .f32) : shapeCast S16x128 w shapeCasts_S1x1x1x16x128_S16x128 (ix2 r x)
      = w (Idealize.ShloMosaic.ix5 (0 : Fin 1) (0 : Fin 1) (0 : Fin 1) r x) := by
    pointwise
  refine (e _).trans ?_
  exact congrArg (v.read (Elt Ideal) X) (funext fun a => Fin.ext (by
    match a with
    | ⟨0, _⟩ => show sl + 1 * 0 = sl; omega
    | ⟨1, _⟩ => show j + 1 * 0 = j; omega
    | ⟨2, _⟩ => show n + 1 * 0 = n; omega
    | ⟨3, _⟩ => show 0 + 1 * r.val = r.val; omega
    | ⟨4, _⟩ => show 0 + 1 * x.val = x.val; omega))

/-- A quarter's place is inside the hidden buffer. -/
theorem quarter_inb {j : ℕ} (hj : j < 4) (a : Fin 2) : (![0, 1728 * j] : Fin 2 → ℕ) a + S16x1728.size a ≤ S16x6912.size a := by
  fin_cases a
  · show 0 + 16 ≤ 16; omega
  · show 1728 * j + 1728 ≤ 6912; omega

/-- Fourteen blocks side by side, the columns past 1728 cut off, scaled by rows: a quarter of the gate's or the up's projection. -/
def quarter (s : FVec Ideal S16x1 .f32) (f : Fin 14 → FVec Ideal S16x128 .f32) : FVec Ideal S16x1728 .f32 :=
  mulf (extractStridedSlice S16x1728 ![0, 0] (concatenate S16x1792 1 [⟨S16x128, f 0⟩, ⟨S16x128, f 1⟩, ⟨S16x128, f 2⟩, ⟨S16x128, f 3⟩, ⟨S16x128, f 4⟩,
    ⟨S16x128, f 5⟩, ⟨S16x128, f 6⟩, ⟨S16x128, f 7⟩, ⟨S16x128, f 8⟩, ⟨S16x128, f 9⟩, ⟨S16x128, f 10⟩, ⟨S16x128, f 11⟩, ⟨S16x128, f 12⟩, ⟨S16x128, f 13⟩]
    concatenates_S16x128_S16x128_S16x128_S16x128_S16x128_S16x128_S16x128_S16x128_S16x128_S16x128_S16x128_S16x128_S16x128_S16x128_S16x1792_d1)
    slices_S16x1792_o0_0_S16x1728) (broadcastTo S16x1728 s broadcasts_S16x1_S16x1728)

/-- A quarter of a projection at an entry. -/
theorem quarter_at (s : FVec Ideal S16x1 .f32) (f : Fin 14 → FVec Ideal S16x128 .f32) (r : Fin 16) (q : Fin 1728) :
    quarter s f (ix2 r q) = f ⟨q.val / 128, by have := q.isLt; omega⟩ (ix2 r (⟨q.val % 128, Nat.mod_lt _ (by decide)⟩ : Fin 128)) * s (ix2 r 0) := by
  have hq : q.val < 1792 := by have := q.isLt; omega
  have e (w : FVec Ideal S16x1792 .f32) : mulf (extractStridedSlice S16x1728 ![0, 0] w slices_S16x1792_o0_0_S16x1728) (broadcastTo S16x1728 s broadcasts_S16x1_S16x1728) (ix2 r q)
      = w (ix2 r (⟨q.val, hq⟩ : Fin 1792)) * s (ix2 r 0) := by
    pointwise
  refine (e _).trans (congrArg (fun z => z * s (ix2 r 0)) ?_)
  exact cat_at (by decide) f concatenates_S16x128_S16x128_S16x128_S16x128_S16x128_S16x128_S16x128_S16x128_S16x128_S16x128_S16x128_S16x128_S16x128_S16x128_S16x1792_d1 r (⟨q.val, hq⟩ : Fin 1792) _

/-- The gate clipped below at zero, squared, times the up projection. -/
def squareTimes (g u : FVec Ideal S16x1728 .f32) : FVec Ideal S16x1728 .f32 :=
  shapeCast S16x1728 (mulf (mulf (maximumf g (broadcast S16x1728 (Scalar.ofBits (F := Ideal) .f32 0x00000000#32))) (maximumf g (broadcast S16x1728 (Scalar.ofBits (F := Ideal) .f32 0x00000000#32)))) u)
    shapeCasts_S16x1728_S16x1728

/-- The hidden quarter at an entry. -/
theorem squareTimes_at (g u : FVec Ideal S16x1728 .f32) (r : Fin 16) (q : Fin 1728) :
    squareTimes g u (ix2 r q) = max (g (ix2 r q)) (Ideal.ofBits .f32 0#32) * max (g (ix2 r q)) (Ideal.ofBits .f32 0#32) * u (ix2 r q) := by
  unfold squareTimes
  pointwise

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)
variable (c : Dev nD) (k : Fin k0_t1_loop.trips) (v29 : Vec Ideal S3x7 .bf16) (f2 : HbBuf0 (F := Ideal) c arg2) (f3 : HbBuf0 (F := Ideal) c arg3) (f4 : HbBuf0 (F := Ideal) c arg4) (f5 : HbBuf0 (F := Ideal) c arg5)
  (f6 : HbBuf0 (F := Ideal) c arg6) (f19 : HbBuf0 (F := Ideal) c scM0_0) (f20 : HbBuf0 (F := Ideal) c scM0_1) (f21 : HbBuf0 (F := Ideal) c scM0_2) (f22 : HbBuf0 (F := Ideal) c scM0_3)
  (f24 : HbBuf0 (F := Ideal) c scM0_5) (f28 : HbBuf0 (F := Ideal) c scM0_9)

/-- The middle stream, and the codes made of it, as the trip holds them. -/
abbrev mid3 : FVec Ideal S16x2560 .f32 := tripA.sl.r_183 arg2 arg3 arg6 c k v29 f2 f3 f6 f19 f24
abbrev codes3 : FVec Ideal S16x2560 .f32 := k0_pay305 (mid3 arg2 arg3 arg6 c k v29 f2 f3 f6 f19 f24) (gainRow c k arg4 f4)

/-- The buffer of codes during the gate and up projections. -/
theorem act3_read : scM0_6.view.read (Elt Ideal) (scM0_6.view.writes (Elt Ideal) scM0_6.view.junk (tripA.sl.H25_3 arg2 arg3 arg4 arg6 c k v29 f2 f3 f4 f6 f19 f24))
    = codes3 arg2 arg3 arg4 arg6 c k v29 f2 f3 f4 f6 f19 f24 := by
  refine (read_cons_whole scM0_6.view _ _ _ _).trans ?_
  funext y
  obtain ⟨r, i, rfl⟩ : ∃ r i, y = ix2 r i := ⟨y 0, y 1, (funext fun a => by match a with | ⟨0, _⟩ | ⟨1, _⟩ => rfl)⟩
  have e (v : FVec Ideal S16x2560 .f32) (g : Vec Ideal S1x2560 .f32) : k0_pay573 v g (ix2 r i) = k0_pay305 v g (ix2 r i) := by
    rw [← codes3_eq]
    unfold k0_pay573
    generalize k0_pay572 v g = w
    pointwise
  exact e _ _

/-- The contents of the buffer of the gate's and up's blocks after both loops. -/
abbrev slotX : BufTy.Contents (Elt Ideal) scM0_9.view.ty :=
  scM0_9.view.writes (Elt Ideal) f28
      (pb_k0_t3 (F := Ideal) arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) Variants.none c none k (tripA.sl.arg30 k) (tripA.sl.r_186 arg2 arg3 arg4 arg6 c k v29 f2 f3 f4 f6 f19 f24) (tripA.sl.r_187 arg2 arg3 arg4 arg6 c k v29 f2 f3 f4 f6 f19 f24) f21
          (scM0_6.view.writes (Elt Ideal) scM0_6.view.junk (tripA.sl.H25_3 arg2 arg3 arg4 arg6 c k v29 f2 f3 f4 f6 f19 f24)) k0_t3_loop.trips
        ++ pb_k0_t2 (F := Ideal) arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) Variants.none c none k (tripA.sl.arg30 k) (tripA.sl.r_186 arg2 arg3 arg4 arg6 c k v29 f2 f3 f4 f6 f19 f24) (tripA.sl.r_187 arg2 arg3 arg4 arg6 c k v29 f2 f3 f4 f6 f19 f24) f20
          (scM0_6.view.writes (Elt Ideal) scM0_6.view.junk (tripA.sl.H25_3 arg2 arg3 arg4 arg6 c k v29 f2 f3 f4 f6 f19 f24)) k0_t2_loop.trips)

/-- What that buffer reads as. -/
theorem slotX_read : scM0_9.view.read (Elt Ideal) (slotX arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28)
    = slotsOf (codes3 arg2 arg3 arg4 arg6 c k v29 f2 f3 f4 f6 f19 f24) (scM0_1.view.read (Elt Ideal) f20) (scM0_2.view.read (Elt Ideal) f21)
        (fun r => ∑ i, codes3 arg2 arg3 arg4 arg6 c k v29 f2 f3 f4 f6 f19 f24 (ix2 r i)) := by
  have h := slots_read arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) Variants.none c none k (tripA.sl.arg30 k) (tripA.sl.r_186 arg2 arg3 arg4 arg6 c k v29 f2 f3 f4 f6 f19 f24) (tripA.sl.r_187 arg2 arg3 arg4 arg6 c k v29 f2 f3 f4 f6 f19 f24) f20 f21
    (scM0_6.view.writes (Elt Ideal) scM0_6.view.junk (tripA.sl.H25_3 arg2 arg3 arg4 arg6 c k v29 f2 f3 f4 f6 f19 f24)) f28
  rw [act3_read] at h
  refine h.trans ?_
  have hs : (fun r => k0_pay576 (tripA.sl.r_186 arg2 arg3 arg4 arg6 c k v29 f2 f3 f4 f6 f19 f24) (ix2 r 0)) = (fun r => ∑ i, codes3 arg2 arg3 arg4 arg6 c k v29 f2 f3 f4 f6 f19 f24 (ix2 r i)) :=
    funext fun r => asum_at _ r
  exact congrArg (slotsOf _ _ _) hs

/-- One block of the gate (`sl = 0`) or of the up projection (`sl = 1`), read back. -/
abbrev slotB (sl j : ℕ) (hs : sl < 2) (hj : j < 4) (n : Fin 14) : FVec Ideal S16x128 .f32 :=
  shapeCast S16x128 (scM0_9.view.readAt (Elt Ideal) (Rect.unit (s := S2x4x14x16x128) ![sl, j, n.val, 0, 0] S1x1x1x16x128.size (slot_inb hs hj n.isLt)).toLoadRect
    (slotX arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28) : Vec Ideal S1x1x1x16x128 .f32) shapeCasts_S1x1x1x16x128_S16x128

/-- The trip's layer, as the specification takes it: the feed-forward block's part. -/
structure FeedHolds (y : Spec.Layer) : Prop where
  wg : y.wg = fun o i => scM0_1.view.read (Elt Ideal) f20 (ix2 (⟨o.val, by have := o.isLt; omega⟩ : Fin 1792) i)
  wu : y.wu = fun o i => scM0_2.view.read (Elt Ideal) f21 (ix2 (⟨o.val, by have := o.isLt; omega⟩ : Fin 1792) i)
  wd : y.wd = fun o i => scM0_3.view.read (Elt Ideal) f22 (ix2 o i)
  sc : ∀ n, y.sc n = v29 (ix2 ⟨k.val, k.isLt⟩ n)
  gp : y.gp = rowOf (gainRow c k arg4 f4) 0
  gf : y.gf = rowOf (View.readAt (Elt Ideal) arg5.view (Rect.unit (s := S3x6912) (k0_off52 k) S1x6912.size (k0_off52_inb k)).toLoadRect f5 : Vec Ideal S1x6912 .f32) 0

variable {arg4 arg5 c k v29 f4 f5 f20 f21 f22} {y : Spec.Layer} (hy : FeedHolds arg4 arg5 c k v29 f4 f5 f20 f21 f22 y)
include hy

/-- The codes of the middle stream are the specification's. -/
theorem codes3_at (r : Fin 16) : (fun i => codes3 arg2 arg3 arg4 arg6 c k v29 f2 f3 f4 f6 f19 f24 (ix2 r i)) = Spec.cod (y.n3 (rowOf (mid3 arg2 arg3 arg6 c k v29 f2 f3 f6 f19 f24) r)) := by
  funext i
  refine (codes_at _ _ r i).trans ?_
  rw [← hy.gp]

/-- A block of the gate's or the up's projection at an entry: the specification's product with the packed weight. -/
theorem slotB_at (sl j : ℕ) (hs : sl < 2) (hj : j < 4) (r : Fin 16) (q : Fin 1728) (w : Fin 1728 → Fin 2560 → BitVec 8)
    (hw : w = if sl = 0 then y.wg else y.wu) :
    slotB arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28 sl j hs hj ⟨q.val / 128, by have := q.isLt; omega⟩ (ix2 r (⟨q.val % 128, Nat.mod_lt _ (by decide)⟩ : Fin 128))
      = Spec.lin (R := 1728) (by decide) (Spec.cod (y.n3 (rowOf (mid3 arg2 arg3 arg6 c k v29 f2 f3 f6 f19 f24) r))) w
          (⟨1728 * j + q.val, by have := q.isLt; omega⟩ : Fin 6912) := by
  have hq : q.val < 1792 := by have := q.isLt; omega
  refine (slot_back scM0_9.view _ _ (slotX_read arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28) sl j (q.val / 128) hs hj (by have := q.isLt; omega) r _).trans ?_
  have key (p : ℕ) (hp : p < 1792) (ep : p = q.val) :
      raw (fun i => codes3 arg2 arg3 arg4 arg6 c k v29 f2 f3 f4 f6 f19 f24 (ix2 r i)) (fun i => (if sl = 0 then scM0_1.view.read (Elt Ideal) f20 else scM0_2.view.read (Elt Ideal) f21) (ix2 (⟨p, hp⟩ : Fin 1792) i)) j
        - ∑ i, codes3 arg2 arg3 arg4 arg6 c k v29 f2 f3 f4 f6 f19 f24 (ix2 r i)
      = raw (fun i => codes3 arg2 arg3 arg4 arg6 c k v29 f2 f3 f4 f6 f19 f24 (ix2 r i)) (w q) j - ∑ i, codes3 arg2 arg3 arg4 arg6 c k v29 f2 f3 f4 f6 f19 f24 (ix2 r i) := by
    subst ep
    have : (fun i => (if sl = 0 then scM0_1.view.read (Elt Ideal) f20 else scM0_2.view.read (Elt Ideal) f21) (ix2 (⟨q.val, hp⟩ : Fin 1792) i)) = w q := by
      rw [hw]
      by_cases h : sl = 0
      · rw [if_pos h, if_pos h, hy.wg]
      · rw [if_neg h, if_neg h, hy.wu]
    rw [this]
  refine (key (128 * (q.val / 128) + q.val % 128) (by omega) (by omega)).trans ?_
  have hc := codes3_at arg2 arg3 arg6 f2 f3 f6 f19 f24 hy r
  have e3 : ∑ i, codes3 arg2 arg3 arg4 arg6 c k v29 f2 f3 f4 f6 f19 f24 (ix2 r i) = ∑ i, Spec.cod (y.n3 (rowOf (mid3 arg2 arg3 arg6 c k v29 f2 f3 f6 f19 f24) r)) i :=
    Finset.sum_congr rfl fun i _ => congrFun hc i
  rw [e3, hc, ← raw_sub (R := 1728) (by decide) _ w]
  have e4 : (1728 * j + q.val) % 1728 = q.val := by have := q.isLt; omega
  have e5 : (1728 * j + q.val) / 1728 = j := by have := q.isLt; omega
  have key2 (p d : ℕ) (hp : p < 1728) (ep : p = q.val) (ed : d = j) (a : Fin 2560 → EReal) (t : EReal) : raw a (w q) j - t = raw a (w ⟨p, hp⟩) d - t := by
    subst ep; subst ed; rfl
  exact key2 _ _ _ e4 e5 _ _

/-- A quarter of the hidden row, from the blocks: the specification's. -/
theorem hid_quarter (j : ℕ) (hj : j < 4) (r : Fin 16) (q : Fin 1728) :
    squareTimes (quarter (tripA.sl.r_188 arg2 arg3 arg4 arg6 c k v29 f2 f3 f4 f6 f19 f24) (slotB arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28 0 j (by decide) hj))
      (quarter (tripA.sl.r_189 arg2 arg3 arg4 arg6 c k v29 f2 f3 f4 f6 f19 f24) (slotB arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28 1 j (by decide) hj)) (ix2 r q)
      = y.hid (rowOf (mid3 arg2 arg3 arg6 c k v29 f2 f3 f6 f19 f24) r) (⟨1728 * j + q.val, by have := q.isLt; omega⟩ : Fin 6912) := by
  have hn : Spec.scl (Spec.nrm (Ideal.ofBits .f32 1159725056#32) (rowOf (mid3 arg2 arg3 arg6 c k v29 f2 f3 f6 f19 f24) r) (rowOf (gainRow c k arg4 f4) 0))
      = Spec.scl (y.n3 (rowOf (mid3 arg2 arg3 arg6 c k v29 f2 f3 f6 f19 f24) r)) := by rw [← hy.gp]
  have s4 : tripA.sl.r_188 arg2 arg3 arg4 arg6 c k v29 f2 f3 f4 f6 f19 f24 (ix2 r 0) = Spec.scl (y.n3 (rowOf (mid3 arg2 arg3 arg6 c k v29 f2 f3 f6 f19 f24) r)) * y.sc 4 := by
    have e (p : FVec Ideal S1x7 .f32) (q : FVec Ideal S16x1 .f32) : k0_pay581 p q (ix2 r 0) = q (ix2 r 0) * p (ix2 0 4) := by
      pointwise [k0_pay581]
    refine (e (tripA.sl.r k v29) (tripA.sl.r_185 arg2 arg3 arg4 arg6 c k v29 f2 f3 f4 f6 f19 f24)).trans ?_
    exact congrArg₂ (· * ·) ((scale_at (mid3 arg2 arg3 arg6 c k v29 f2 f3 f6 f19 f24) (gainRow c k arg4 f4) r).trans hn) ((scales_at k v29 4).trans (hy.sc 4).symm)
  have s5 : tripA.sl.r_189 arg2 arg3 arg4 arg6 c k v29 f2 f3 f4 f6 f19 f24 (ix2 r 0) = Spec.scl (y.n3 (rowOf (mid3 arg2 arg3 arg6 c k v29 f2 f3 f6 f19 f24) r)) * y.sc 5 := by
    have e (p : FVec Ideal S1x7 .f32) (q : FVec Ideal S16x1 .f32) : k0_pay582 p q (ix2 r 0) = q (ix2 r 0) * p (ix2 0 5) := by
      pointwise [k0_pay582]
    refine (e (tripA.sl.r k v29) (tripA.sl.r_185 arg2 arg3 arg4 arg6 c k v29 f2 f3 f4 f6 f19 f24)).trans ?_
    exact congrArg₂ (· * ·) ((scale_at (mid3 arg2 arg3 arg6 c k v29 f2 f3 f6 f19 f24) (gainRow c k arg4 f4) r).trans hn) ((scales_at k v29 5).trans (hy.sc 5).symm)
  rw [squareTimes_at, quarter_at, quarter_at, s4, s5,
    slotB_at arg0 harg0 arg1 harg1 arg2 harg2 arg3 harg3 harg4 harg5 arg6 harg6 arg11 harg11 arg12 harg12 arg13 harg13 arg14 harg14 arg15 harg15 arg16 harg16 arg17 harg17 arg18 harg18 f2 f3 f6 f19 f24 f28 hy 0 j (by decide) hj r q y.wg rfl, slotB_at arg0 harg0 arg1 harg1 arg2 harg2 arg3 harg3 harg4 harg5 arg6 harg6 arg11 harg11 arg12 harg12 arg13 harg13 arg14 harg14 arg15 harg15 arg16 harg16 arg17 harg17 arg18 harg18 f2 f3 f6 f19 f24 f28 hy 1 j (by decide) hj r q y.wu rfl]
  rfl

/-- The hidden buffer reads as the specification's hidden rows of the middle stream's rows. -/
theorem hid_read : scM0_10.view.read (Elt Ideal) (scM0_10.view.writes (Elt Ideal) scM0_10.view.junk (tripA.sl.H29_4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28))
    = fun z : S16x6912.Idx => y.hid (rowOf (mid3 arg2 arg3 arg6 c k v29 f2 f3 f6 f19 f24) (z 0)) (z 1) := by
  have piece (j : ℕ) (hj : j < 4) (pay : S16x1728.Idx → EReal)
      (hpay : pay = squareTimes (quarter (tripA.sl.r_188 arg2 arg3 arg4 arg6 c k v29 f2 f3 f4 f6 f19 f24) (slotB arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28 0 j (by decide) hj))
      (quarter (tripA.sl.r_189 arg2 arg3 arg4 arg6 c k v29 f2 f3 f4 f6 f19 f24) (slotB arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28 1 j (by decide) hj))) :
      ∀ x, pay x = (fun z : S16x6912.Idx => y.hid (rowOf (mid3 arg2 arg3 arg6 c k v29 f2 f3 f6 f19 f24) (z 0)) (z 1))
        ((Rect.unit (s := S16x6912) ![0, 1728 * j] S16x1728.size (quarter_inb hj)).emb x) := by
    intro x
    obtain ⟨r, q, rfl⟩ : ∃ r q, x = ix2 r q := ⟨x 0, x 1, (funext fun a => by match a with | ⟨0, _⟩ | ⟨1, _⟩ => rfl)⟩
    rw [hpay]
    refine (hid_quarter arg0 harg0 arg1 harg1 arg2 harg2 arg3 harg3 harg4 harg5 arg6 harg6 arg11 harg11 arg12 harg12 arg13 harg13 arg14 harg14 arg15 harg15 arg16 harg16 arg17 harg17 arg18 harg18 f2 f3 f6 f19 f24 f28 hy j hj r q).trans ?_
    have e0 : (Rect.unit (s := S16x6912) ![0, 1728 * j] S16x1728.size (quarter_inb hj)).emb (ix2 r q) 0 = r := Fin.ext (by show 0 + 1 * r.val = r.val; omega)
    have e1 : (Rect.unit (s := S16x6912) ![0, 1728 * j] S16x1728.size (quarter_inb hj)).emb (ix2 r q) 1 = (⟨1728 * j + q.val, by have := q.isLt; omega⟩ : Fin 6912) :=
      Fin.ext (by show 1728 * j + 1 * q.val = 1728 * j + q.val; omega)
    show _ = y.hid (rowOf _ ((Rect.unit (s := S16x6912) ![0, 1728 * j] S16x1728.size (quarter_inb hj)).emb (ix2 r q) 0)) ((Rect.unit (s := S16x6912) ![0, 1728 * j] S16x1728.size (quarter_inb hj)).emb (ix2 r q) 1)
    rw [e0, e1]
    rfl
  funext z
  refine View.read_writes_apply_of_pieces (Val := Elt Ideal) scM0_10.view _ (fun z : S16x6912.Idx => y.hid (rowOf (mid3 arg2 arg3 arg6 c k v29 f2 f3 f6 f19 f24) (z 0)) (z 1)) _ ?_ z ?_
  · unfold tripA.sl.H29_4
    refine List.forall_mem_cons.mpr ⟨piece 3 (by decide) _ rfl, ?_⟩
    refine List.forall_mem_cons.mpr ⟨piece 2 (by decide) _ rfl, ?_⟩
    refine List.forall_mem_cons.mpr ⟨piece 1 (by decide) _ rfl, ?_⟩
    refine List.forall_mem_cons.mpr ⟨piece 0 (by decide) _ rfl, ?_⟩
    exact fun p hp => absurd hp List.not_mem_nil
  · obtain ⟨r, o, rfl⟩ : ∃ (r : Fin 16) (o : Fin 6912), z = ix2 r o := ⟨z 0, z 1, (funext fun a => by match a with | ⟨0, _⟩ | ⟨1, _⟩ => rfl)⟩
    have hlen : ∀ j : Fin 4, ∃ p, (tripA.sl.H29_4 (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28)[3 - j.val]? = some p
        ∧ ∃ hin, p.1 = Rect.unit (s := S16x6912) ![0, 1728 * j.val] S16x1728.size hin := by
      intro j
      have hin := quarter_inb j.isLt
      fin_cases j <;> exact ⟨_, rfl, hin, rfl⟩
    obtain ⟨p, hp, hin, e⟩ := hlen ⟨o.val / 1728, by have := o.isLt; omega⟩
    refine ⟨p, List.mem_of_getElem? hp, ?_⟩
    rw [e, LoadRect.mem_set]
    intro a
    match a with
    | ⟨0, _⟩ => exact ⟨r.val, r.isLt, by show r.val = 0 + 1 * r.val; omega⟩
    | ⟨1, _⟩ => exact ⟨o.val % 1728, Nat.mod_lt _ (by decide), by show o.val = 1728 * (o.val / 1728) + 1 * (o.val % 1728); omega⟩

end Cert.KernelIdeal.Hand
-- ==== Proof.SpecArrays.lean ====
/- The eight results the specification gives, entry by entry. -/
module

public import proofs.«01_k».proof.Proof.Spec

@[expose] public section

noncomputable section

namespace Cert.Spec

open Idealize.ShloMosaic

variable (lay : Fin 3 → Layer) (x : Fin 12 → Fin 2560 → EReal)

/-- The stream after each layer. -/
def residA (l : Fin 3) (b : Fin 12) (o : Fin 2560) : EReal := stream lay x b (l.val + 1) o
/-- The stream between attention and the feed-forward block. -/
def midA (l : Fin 3) (b : Fin 12) : Fin 2560 → EReal := (lay l).mid b (stream lay x b l.val)
/-- The hidden rows. -/
def hidA (l : Fin 3) (b : Fin 12) : Fin 6912 → EReal := (lay l).hid (midA lay x l b)
/-- The codes of the input's normed rows. -/
def codesA (l : Fin 3) (b : Fin 12) (o : Fin 2560) : BitVec 8 := byt ((lay l).n1 (stream lay x b l.val)) o
/-- The codes of the attention output's normed rows. -/
def codesB (l : Fin 3) (b : Fin 12) (o : Fin 2560) : BitVec 8 := byt ((lay l).n2 b) o
/-- The codes of the middle stream's normed rows. -/
def codesC (l : Fin 3) (b : Fin 12) (o : Fin 2560) : BitVec 8 := byt ((lay l).n3 (midA lay x l b)) o
/-- The codes of the hidden rows, normed. -/
def codesD (l : Fin 3) (b : Fin 12) (o : Fin 6912) : BitVec 8 := byt ((lay l).n4 (hidA lay x l b)) o
/-- Four scales in the first four rows of a table, zeros below. -/
def stat (a₀ a₁ a₂ a₃ : EReal) (j : ℕ) : EReal := if j = 3 then a₃ else if j = 2 then a₂ else if j = 1 then a₁ else if j = 0 then a₀ else 0
/-- The rows' four scales. -/
def statA (l : Fin 3) (j : Fin 32) (b : Fin 12) : EReal :=
  stat (scl ((lay l).n1 (stream lay x b l.val))) (scl ((lay l).n2 b)) (scl ((lay l).n3 (midA lay x l b))) (scl ((lay l).n4 (hidA lay x l b))) j.val

/-- The stream after a layer is one step of it. -/
theorem stream_succ (l : Fin 3) (b : Fin 12) : stream lay x b (l.val + 1) = (lay l).step b (stream lay x b l.val) := by
  show (if h : l.val < 3 then _ else _) = _
  rw [dif_pos l.isLt]

end Cert.Spec
-- ==== Proof.IdealOut.lean ====
/- The kernel's results of one layer over the extended reals. -/
module

public import proofs.«01_k».proof.Proof.IdealHid
public import proofs.«01_k».proof.Proof.IdealBody
public import proofs.«01_k».proof.Proof.SpecArrays

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

/-- The first twelve rows of a stream, as a layer's block of the results. -/
theorem top_rows (v : FVec Ideal S16x2560 .f32) (b : Fin 12) (r : Fin 16) (hr : r.val = b.val) (o : Fin 2560) :
    (shapeCast S1x12x1x2560 (extractStridedSlice S12x2560 ![0, 0] v slices_S16x2560_o0_0_S12x2560) shapeCasts_S12x2560_S1x12x1x2560 : FVec Ideal S1x12x1x2560 .f32)
      (Idealize.ShloMosaic.ix4 (0 : Fin 1) b (0 : Fin 1) o) = v (ix2 r o) := by
  have e : (⟨b.val, by have := b.isLt; omega⟩ : Fin 16) = r := Fin.ext hr.symm
  rw [← e]
  pointwise

/-- The first twelve rows of the hidden rows, as a layer's block of the results. -/
theorem top_wide (v : FVec Ideal S16x6912 .f32) (b : Fin 12) (r : Fin 16) (hr : r.val = b.val) (o : Fin 6912) :
    k0_pay667 v (Idealize.ShloMosaic.ix4 (0 : Fin 1) b (0 : Fin 1) o) = v (ix2 r o) := by
  have e : (⟨b.val, by have := b.isLt; omega⟩ : Fin 16) = r := Fin.ext hr.symm
  rw [← e]
  pointwise [k0_pay667]

/-- The first twelve rows of the codes, as bytes. -/
theorem top_codes (v : FVec Ideal S16x2560 .f32) (b : Fin 12) (r : Fin 16) (hr : r.val = b.val) (o : Fin 2560) :
    k0_pay308 v (Idealize.ShloMosaic.ix3 (0 : Fin 1) b o) = Ideal.fptosi 8 (v (ix2 r o)) := by
  have e : (⟨b.val, by have := b.isLt; omega⟩ : Fin 16) = r := Fin.ext hr.symm
  rw [← e]
  pointwise [k0_pay308]
  rfl

/-- The first twelve rows of the hidden rows' codes, as bytes. -/
theorem top_wide_codes (v : FVec Ideal S16x6912 .f32) (b : Fin 12) (r : Fin 16) (hr : r.val = b.val) (o : Fin 6912) :
    (shapeCast S1x12x6912 (fptosi 8 (extractStridedSlice S12x6912 ![0, 0] v slices_S16x6912_o0_0_S12x6912) : IVec S12x6912 8) shapeCasts_S12x6912_S1x12x6912 : IVec S1x12x6912 8)
      (Idealize.ShloMosaic.ix3 (0 : Fin 1) b o) = Ideal.fptosi 8 (v (ix2 r o)) := by
  have e : (⟨b.val, by have := b.isLt; omega⟩ : Fin 16) = r := Fin.ext hr.symm
  rw [← e]
  pointwise
  rfl

/-- The table of scales: the four columns of scales as its first four rows, zeros below. -/
theorem table_at (a₀ a₁ a₂ a₃ : FVec Ideal S16x1 .f32) (j : Fin 32) (b : Fin 12) (r : Fin 16) (hr : r.val = b.val) :
    k0_pay3 (k0_pay700 lanes a₀ a₁ a₂) (k0_pay701 lanes) (k0_pay702 a₃) (Idealize.ShloMosaic.ix3 (0 : Fin 1) j b)
      = Spec.stat (a₀ (ix2 r 0)) (a₁ (ix2 r 0)) (a₂ (ix2 r 0)) (a₃ (ix2 r 0)) j.val := by
  have e : (⟨b.val, by have := b.isLt; omega⟩ : Fin 16) = r := Fin.ext hr.symm
  rw [← e]
  pointwise [k0_pay3, k0_pay700, k0_pay701, k0_pay702]
  fin_cases j <;> rfl

/-- A whole two-axis buffer loaded at the origin is what it reads as. -/
theorem load_whole {sg : RefSig} {κ : Kind} {sp : Space} {M K : ℕ} {e : EltTy} (v : View sg κ sp ⟨2, ![M, K]⟩ e) (X : v.ty.Contents (Elt Ideal))
    (hin : ∀ a, (![0, 0] : Fin 2 → ℕ) a + (![M, K] : Fin 2 → ℕ) a ≤ (![M, K] : Fin 2 → ℕ) a) :
    v.readAt (Elt Ideal) (Rect.unit (s := ⟨2, ![M, K]⟩) ![0, 0] ![M, K] hin).toLoadRect X = v.read (Elt Ideal) X := by
  funext z
  obtain ⟨r, i, rfl⟩ : ∃ r i, z = ix2 r i := ⟨z 0, z 1, (funext fun a => by match a with | ⟨0, _⟩ | ⟨1, _⟩ => rfl)⟩
  refine (readAt_ix2 v _ hin 0 0 rfl X r i (by omega) (by omega)).trans ?_
  exact congrArg (v.read (Elt Ideal) X) (funext fun a => by
    match a with
    | ⟨0, _⟩ => exact Fin.ext (Nat.zero_add _)
    | ⟨1, _⟩ => exact Fin.ext (Nat.zero_add _))

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)
variable (c : Dev nD) (k : Fin k0_t1_loop.trips) (v29 : Vec Ideal S3x7 .bf16) (f0 : HbBuf0 (F := Ideal) c arg0) (f1 : HbBuf0 (F := Ideal) c arg1) (f2 : HbBuf0 (F := Ideal) c arg2) (f3 : HbBuf0 (F := Ideal) c arg3) (f4 : HbBuf0 (F := Ideal) c arg4) (f5 : HbBuf0 (F := Ideal) c arg5)
  (f6 : HbBuf0 (F := Ideal) c arg6) (f19 : HbBuf0 (F := Ideal) c scM0_0) (f20 : HbBuf0 (F := Ideal) c scM0_1) (f21 : HbBuf0 (F := Ideal) c scM0_2) (f22 : HbBuf0 (F := Ideal) c scM0_3)
  (f24 : HbBuf0 (F := Ideal) c scM0_5) (f28 : HbBuf0 (F := Ideal) c scM0_9)

/-- The trip's layer, as the specification takes it. -/
structure LayerHolds (y : Spec.Layer) : Prop extends FeedHolds arg4 arg5 c k v29 f4 f5 f20 f21 f22 y where
  wo : y.wo = fun o i => scM0_0.view.read (Elt Ideal) f19 (ix2 o i)
  gi : y.gi = rowOf (gainRow c k arg2 f2) 0
  ga : y.ga = rowOf (gainRow c k arg3 f3) 0
  at' : ∀ b, y.at' b = fun i => View.readAt (Elt Ideal) arg6.view (Rect.unit (s := S3x12x2560) (k0_off2 k) S1x12x2560.size (k0_off2_inb k)).toLoadRect f6
      (Idealize.ShloMosaic.ix3 (0 : Fin 1) b i)

/-- The hidden row's codes as the trip holds them. -/
abbrev codes4 : FVec Ideal S16x6912 .f32 := k0_pay671 (tripA.sl.r_219 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (tripA.sl.r_220 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28)

/-- The contents of the down projection's buffer after its loop. -/
abbrev downX : BufTy.Contents (Elt Ideal) scM0_8.view.ty :=
  scM0_8.view.writes (Elt Ideal) scM0_8.view.junk
      (pb_k0_t4 (F := Ideal) arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) Variants.none c none k (tripA.sl.arg30 k) (tripA.sl.r_219 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (tripA.sl.r_220 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) f22
          (scM0_7.view.writes (Elt Ideal) scM0_7.view.junk (tripA.sl.H26_1 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28)) k0_t4_loop.trips
        ++ tripA.sl.H27_20 arg2 arg3 arg6 c k f2 f3 f6 f19 f24)

/-- The stream after the layer, as the trip holds it. -/
def outRows : FVec Ideal S16x2560 .f32 :=
  let g : Fin 20 → Vec Ideal S1x1x16x128 .f32 := fun t => scM0_8.view.readAt (Elt Ideal) (Rect.unit (s := S4x5x16x128) ![t.val / 5, t.val % 5, 0, 0] S1x1x16x128.size
      (rows_inb (by omega) (by omega))).toLoadRect (downX arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28)
  k0_pay566 (tripA.sl.r_222 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (tripA.sl.v2511 arg2 arg3 arg6 c k v29 f2 f3 f6 f19 f24)
    (k0_pay555 (g 0)) (k0_pay555 (g 1)) (k0_pay555 (g 2)) (k0_pay555 (g 3)) (k0_pay555 (g 4)) (k0_pay555 (g 5)) (k0_pay555 (g 6))
      (k0_pay555 (g 7)) (k0_pay555 (g 8)) (k0_pay555 (g 9)) (k0_pay555 (g 10)) (g 11) (g 12) (g 13) (g 14) (g 15) (g 16) (g 17) (g 18) (g 19)

variable (y : Spec.Layer) (hy : LayerHolds arg2 arg3 arg4 arg5 arg6 c k v29 f2 f3 f4 f5 f6 f19 f20 f21 f22 y)
  (s : Fin 12 → Fin 2560 → EReal) (b : Fin 12) (r : Fin 16) (hr : r.val = b.val) (hs : rowOf (scM0_5.view.read (Elt Ideal) f24) r = s b)
include hy hr hs

/-- The stream's row the trip starts from. -/
theorem start_row : rowOf (tripA.sl.r_181 c f24) r = s b := by
  rw [← hs]
  exact congrArg (fun v => rowOf v r) (load_whole scM0_5.view f24 _)

/-- The middle stream's row. -/
theorem mid_is : rowOf (mid3 arg2 arg3 arg6 c k v29 f2 f3 f6 f19 f24) r = y.mid b (s b) := by
  funext o
  refine (mid_row arg2 arg3 arg6 c k v29 f2 f3 f6 f19 f24 b r hr y hy.wo (hy.sc 3) hy.ga (hy.at' b) o).trans ?_
  rw [start_row (y := y) (hy := hy) (hr := hr) (hs := hs)]

/-- The hidden row. -/
theorem hid_is : rowOf (tripA.sl.v2449 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28) r = y.hid (y.mid b (s b)) := by
  funext o
  have h := congrFun ((load_whole scM0_10.view (scM0_10.view.writes (Elt Ideal) scM0_10.view.junk (tripA.sl.H29_4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28))
    inb_S16x6912_S16x6912_0_0).trans (hid_read arg0 harg0 arg1 harg1 arg2 harg2 arg3 harg3 harg4 harg5 arg6 harg6 arg11 harg11 arg12 harg12 arg13 harg13 arg14 harg14 arg15 harg15 arg16 harg16 arg17 harg17 arg18 harg18 f2 f3 f6 f19 f24 f28 hy.toFeedHolds)) (ix2 r o)
  refine (show _ = _ from h).trans ?_
  rw [← mid_is (y := y) (hy := hy) (hr := hr) (hs := hs)]
  rfl

omit hy hr hs in
/-- The buffer of codes during the down projection. -/
theorem act4_read : scM0_7.view.read (Elt Ideal) (scM0_7.view.writes (Elt Ideal) scM0_7.view.junk (tripA.sl.H26_1 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28))
    = codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 := by
  refine (read_cons_whole scM0_7.view _ _ _ _).trans ?_
  funext y
  obtain ⟨r, i, rfl⟩ : ∃ r i, y = ix2 r i := ⟨y 0, y 1, (funext fun a => by match a with | ⟨0, _⟩ | ⟨1, _⟩ => rfl)⟩
  have e (v : FVec Ideal S16x6912 .f32) (g : FVec Ideal S16 .f32) : k0_pay672 v g (ix2 r i) = k0_pay671 v g (ix2 r i) := by
    unfold k0_pay672
    generalize k0_pay671 v g = w
    pointwise
  exact e _ _

/-- The hidden row's codes. -/
theorem codes4_is : (fun i => codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i)) = Spec.cod (y.n4 (y.hid (y.mid b (s b)))) := by
  funext i
  refine (codes4_at _ _ r i).trans ?_
  rw [hid_is (y := y) (hy := hy) (hr := hr) (hs := hs), ← hy.gf]

/-- The hidden row's scale. -/
theorem scale4_is : tripA.sl.r_221 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r 0) = Spec.scl (y.n4 (y.hid (y.mid b (s b)))) := by
  refine (scale4_at _ _ r).trans ?_
  rw [hid_is (y := y) (hy := hy) (hr := hr) (hs := hs), ← hy.gf]

omit hy hr hs in
/-- What that buffer reads as. -/
theorem downX_read : scM0_8.view.read (Elt Ideal) (downX arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28)
    = rowsOf (fun r i => codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i)) (fun o i => scM0_3.view.read (Elt Ideal) f22 (ix2 o i))
        (fun r => ∑ i, codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i)) := by
  have h := rows_read arg0 harg0 arg1 harg1 arg2 harg2 arg3 harg3 arg4 harg4 arg5 harg5 arg6 harg6 hbM0_0 (Memref.isWhole_whole _) hbM0_1 (Memref.isWhole_whole _) hbM0_2 (Memref.isWhole_whole _) hbM0_3 (Memref.isWhole_whole _) arg11 harg11 arg12 harg12 arg13 harg13 arg14 harg14 arg15 harg15 arg16 harg16 arg17 harg17 arg18 harg18 scM0_0 (Memref.isWhole_whole _) scM0_1 (Memref.isWhole_whole _) scM0_2 (Memref.isWhole_whole _) scM0_3 (Memref.isWhole_whole _) cc0_scratch4 scM0_5 (Memref.isWhole_whole _) scM0_6 (Memref.isWhole_whole _) scM0_7 (Memref.isWhole_whole _) scM0_8 (Memref.isWhole_whole _) scM0_9 (Memref.isWhole_whole _) scM0_10 (Memref.isWhole_whole _) Variants.none c none k (tripA.sl.arg30 k) (tripA.sl.r_219 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (tripA.sl.r_220 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) f22
    (scM0_7.view.writes (Elt Ideal) scM0_7.view.junk (tripA.sl.H26_1 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28))
    (scM0_8.view.writes (Elt Ideal) scM0_8.view.junk (tripA.sl.H27_20 arg2 arg3 arg6 c k f2 f3 f6 f19 f24))
  rw [act4_read, ← View.writes_append] at h
  refine h.trans ?_
  have e : (fun r => k0_pay674 (tripA.sl.r_219 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (tripA.sl.r_220 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (ix2 r 0))
      = (fun r => ∑ i, codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i)) := funext fun r => asum4_at _ _ r
  exact congrArg (rowsOf _ _) e

/-- The stream's row after the layer. -/
theorem out_is : rowOf (outRows arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28) r = y.step b (s b) := by
  funext o
  have hm := mid_at (tripA.sl.r_222 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) (tripA.sl.v2511 arg2 arg3 arg6 c k v29 f2 f3 f6 f19 f24)
    (fun t => scM0_8.view.readAt (Elt Ideal) (Rect.unit (s := S4x5x16x128) ![t.val / 5, t.val % 5, 0, 0] S1x1x16x128.size
      (rows_inb (by omega) (by omega))).toLoadRect (downX arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28)) r o
  refine (show _ = _ from hm).trans ?_
  have h0 : tripA.sl.v2511 arg2 arg3 arg6 c k v29 f2 f3 f6 f19 f24 (ix2 r o) = y.mid b (s b) o := by
    rw [← mid_is (y := y) (hy := hy) (hr := hr) (hs := hs)]
    have h := congrFun ((load_whole scM0_5.view (scM0_5.view.writes (Elt Ideal) scM0_5.view.junk (tripA.sl.H24_1 arg2 arg3 arg6 c k v29 f2 f3 f6 f19 f24))
      inb_S16x2560_S16x2560_0_0).trans (read_cons_whole scM0_5.view _ _ _ _)) (ix2 r o)
    refine (show _ = _ from h).trans ?_
    have e (v : FVec Ideal S16x2560 .f32) : k0_pay569 v (ix2 r o) = v (ix2 r o) := by
      pointwise [k0_pay569]
    exact e _
  have h1 : tripA.sl.r_222 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r 0) = Spec.scl (y.n4 (y.hid (y.mid b (s b)))) * y.sc 6 := by
    have e (p : FVec Ideal S1x7 .f32) (q : FVec Ideal S16x1 .f32) : k0_pay678 p q (ix2 r 0) = q (ix2 r 0) * p (ix2 0 6) := by
      pointwise [k0_pay678]
    refine (e (tripA.sl.r k v29) (tripA.sl.r_221 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28)).trans ?_
    exact congrArg₂ (· * ·) (scale4_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs) ((scales_at k v29 6).trans (hy.sc 6).symm)
  have hc := codes4_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs
  have e3 : ∑ i, codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i) = ∑ i, Spec.cod (y.n4 (y.hid (y.mid b (s b)))) i :=
    Finset.sum_congr rfl fun i _ => congrFun hc i
  have e4 : raw (fun i => codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i)) (fun i => scM0_3.view.read (Elt Ideal) f22 (ix2 ⟨o.val % 640, Nat.mod_lt _ (by decide)⟩ i)) (o.val / 640)
      - ∑ i, codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28 (ix2 r i) = Spec.lin (R := 640) (by decide) (Spec.cod (y.n4 (y.hid (y.mid b (s b))))) y.wd o := by
    rw [e3, hc, ← raw_sub (R := 640) (by decide) (y.n4 (y.hid (y.mid b (s b)))) y.wd o, hy.wd]
  have e5 := (rows_back scM0_8.view _ _ (downX_read arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28) (o.val / 128 / 5) (o.val / 128 % 5) (by omega) (by omega) r
    ⟨o.val % 128, Nat.mod_lt _ (by decide)⟩).trans ((rowsOf_at _ _ _ r o _ _ _).trans e4)
  exact congr (congrArg (fun a b => a + b) h0) (congrArg₂ (fun a b => a * b) e5 h1)

omit hy hr hs in
/-- The trip's write to the first result. -/
theorem trip_resid : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L11 = [⟨Rect.unit (s := S3x12x1x2560) (k0_off19 k) S1x12x1x2560.size (k0_off19_inb k),
    (shapeCast S1x12x1x2560 (extractStridedSlice S12x2560 ![0, 0] (outRows arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28) slices_S16x2560_o0_0_S12x2560) shapeCasts_S12x2560_S1x12x1x2560 : FVec Ideal S1x12x1x2560 .f32)⟩] := rfl

omit hy hr hs in
/-- The trip's write to the second result. -/
theorem trip_mid : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L12 = [⟨Rect.unit (s := S3x12x1x2560) (k0_off19 k) S1x12x1x2560.size (k0_off19_inb k),
    (shapeCast S1x12x1x2560 (extractStridedSlice S12x2560 ![0, 0] (mid3 arg2 arg3 arg6 c k v29 f2 f3 f6 f19 f24) slices_S16x2560_o0_0_S12x2560) shapeCasts_S12x2560_S1x12x1x2560 : FVec Ideal S1x12x1x2560 .f32)⟩] := rfl

omit hy hr hs in
/-- The trip's write to the third result. -/
theorem trip_hid : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L13 = [⟨Rect.unit (s := S3x12x1x6912) (k0_off51 k) S1x12x1x6912.size (k0_off51_inb k),
    k0_pay667 (tripA.sl.v2449 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f6 f19 f20 f21 f24 f28)⟩] := rfl

/-- The codes of the trip's input rows. -/
abbrev codes1 (arg2 : Memref sig .tc .vmem S3x2560 .f32) (c : Dev nD) (k : Fin k0_t1_loop.trips) (f2 : HbBuf0 (F := Ideal) c arg2) (f24 : HbBuf0 (F := Ideal) c scM0_5) : FVec Ideal S16x2560 .f32 :=
  k0_pay305 (tripA.sl.r_181 c f24) (gainRow c k arg2 f2)

omit hy hr hs in
/-- The trip's write to the fourth result. -/
theorem trip_c1 : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L14 = [⟨Rect.unit (s := S3x12x2560) (k0_off2 k) S1x12x2560.size (k0_off2_inb k),
    k0_pay308 (codes1 arg2 c k f2 f24)⟩] := rfl

omit hy hr hs in
/-- The trip's write to the fifth result. -/
theorem trip_c2 : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L15 = [⟨Rect.unit (s := S3x12x2560) (k0_off2 k) S1x12x2560.size (k0_off2_inb k),
    k0_pay308 (codes2 arg3 arg6 c k f3 f6)⟩] := rfl

omit hy hr hs in
/-- The trip's write to the sixth result. -/
theorem trip_c3 : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L16 = [⟨Rect.unit (s := S3x12x2560) (k0_off2 k) S1x12x2560.size (k0_off2_inb k),
    k0_pay308 (codes3 arg2 arg3 arg4 arg6 c k v29 f2 f3 f4 f6 f19 f24)⟩] := rfl

omit hy hr hs in
/-- The trip's write to the seventh result. -/
theorem trip_c4 : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L17 = [⟨Rect.unit (s := S3x12x6912) (k0_off53 k) S1x12x6912.size (k0_off53_inb k),
    (shapeCast S1x12x6912 (fptosi 8 (extractStridedSlice S12x6912 ![0, 0] (codes4 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28) slices_S16x6912_o0_0_S12x6912) : IVec S12x6912 8) shapeCasts_S12x6912_S1x12x6912 : IVec S1x12x6912 8)⟩] := rfl

omit hy hr hs in
/-- The trip's write to the eighth result. -/
theorem trip_stat : (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L18 = [⟨Rect.unit (s := S3x32x12) (k0_off87 k) S1x32x12.size (k0_off87_inb k),
    k0_pay3 (k0_pay700 lanes (k0_pay304 (tripA.sl.r_181 c f24) (gainRow c k arg2 f2)) (tripA.sl.r_4 arg3 arg6 c k f3 f6) (k0_pay571 (mid3 arg2 arg3 arg6 c k v29 f2 f3 f6 f19 f24) (gainRow c k arg4 f4))) (k0_pay701 lanes)
      (k0_pay702 (tripA.sl.r_221 arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f24 f28))⟩] := rfl

omit hy hr hs in
/-- The trip's write to the stream. -/
theorem trip_stream : scM0_5.view.read (Elt Ideal) (scM0_5.view.writes (Elt Ideal) scM0_5.view.junk (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L24)
    = outRows arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 := by
  refine (read_cons_whole scM0_5.view _ _ _ _).trans ?_
  funext y
  have e (v : FVec Ideal S16x2560 .f32) : (shapeCast S16x2560 v shapeCasts_S16x2560_S16x2560 : FVec Ideal S16x2560 .f32) y = v y := by
    obtain ⟨r, i, rfl⟩ : ∃ r i, y = ix2 r i := ⟨y 0, y 1, (funext fun a => by match a with | ⟨0, _⟩ | ⟨1, _⟩ => rfl)⟩
    pointwise
  exact e (outRows arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28)

end Cert.KernelIdeal.Hand
-- ==== Proof.SpecWhole.lean ====
/- The specification's layers and results read off whole arrays. -/
module

public import proofs.«01_k».proof.Proof.SpecArrays

@[expose] public section

noncomputable section

namespace Cert.Spec

open Idealize.ShloMosaic

/-- The ten arrays the layers are made of. -/
structure Arrays where
  /-- The attention output. -/
  at' : (⟨4, ![3, 12, 1, 2560]⟩ : Shape).Idx → EReal
  /-- The packed output-projection weights. -/
  wo : (⟨3, ![3, 640, 2560]⟩ : Shape).Idx → BitVec 8
  /-- The packed gate weights. -/
  wg : (⟨3, ![3, 1728, 2560]⟩ : Shape).Idx → BitVec 8
  /-- The packed up weights. -/
  wu : (⟨3, ![3, 1728, 2560]⟩ : Shape).Idx → BitVec 8
  /-- The packed down weights. -/
  wd : (⟨3, ![3, 640, 6912]⟩ : Shape).Idx → BitVec 8
  /-- The weights' scales. -/
  sc : (⟨2, ![3, 7]⟩ : Shape).Idx → EReal
  /-- The input norm's gains. -/
  gi : (⟨2, ![3, 2560]⟩ : Shape).Idx → EReal
  /-- The attention sub-norm's gains. -/
  ga : (⟨2, ![3, 2560]⟩ : Shape).Idx → EReal
  /-- The post-attention norm's gains. -/
  gp : (⟨2, ![3, 2560]⟩ : Shape).Idx → EReal
  /-- The feed-forward sub-norm's gains. -/
  gf : (⟨2, ![3, 6912]⟩ : Shape).Idx → EReal

/-- One layer of the arrays. -/
def Arrays.lay (A : Arrays) (l : Fin 3) : Layer where
  wo o i := A.wo (ix3 l o i)
  wg o i := A.wg (ix3 l o i)
  wu o i := A.wu (ix3 l o i)
  wd o i := A.wd (ix3 l o i)
  sc n := A.sc (ix2 l n)
  gi i := A.gi (ix2 l i)
  ga i := A.ga (ix2 l i)
  gp i := A.gp (ix2 l i)
  gf i := A.gf (ix2 l i)
  at' b i := A.at' (ix4 l b (0 : Fin 1) i)

/-- The input rows. -/
def rowsIn (x : (⟨3, ![12, 1, 2560]⟩ : Shape).Idx → EReal) (b : Fin 12) (i : Fin 2560) : EReal := x (ix3 b (0 : Fin 1) i)

end Cert.Spec
-- ==== Proof.IdealLand.lean ====
/- What the weights' buffers, the results' buffers and the input blocks read as. -/
module

public import proofs.«01_k».proof.Proof.IdealOut
public import proofs.«01_k».proof.Proof.IdealFrame
public import proofs.«01_k».proof.Proof.SpecWhole
public import Idealize.ShloMosaic.Lib.WritesUnit
public import Idealize.ShloMosaic.Lib.Pipeline.Value

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

/-- A layer's block stored into a four-axis result: that layer's entries are the block's, the others keep theirs. -/
theorem layer4 {sg : RefSig} {κ : Kind} {sp : Space} {B N : ℕ} {e : EltTy} (v : View sg κ sp ⟨4, ![3, B, 1, N]⟩ e) (f : v.ty.Contents (Elt Ideal)) (k : Fin 3)
    (off : Fin 4 → ℕ) (hoff : off = ![k.val, 0, 0, 0]) (hin : ∀ a, off a + (![1, B, 1, N] : Fin 4 → ℕ) a ≤ (![3, B, 1, N] : Fin 4 → ℕ) a)
    (w : (⟨4, ![1, B, 1, N]⟩ : Shape).Idx → Elt Ideal e) (l : Fin 3) (b : Fin B) (o : Fin N) :
    v.read (Elt Ideal) (v.writes (Elt Ideal) f [⟨Rect.unit (s := ⟨4, ![3, B, 1, N]⟩) off ![1, B, 1, N] hin, w⟩]) (Idealize.ShloMosaic.ix4 l b (0 : Fin 1) o)
      = if l = k then w (Idealize.ShloMosaic.ix4 (0 : Fin 1) b (0 : Fin 1) o) else v.read (Elt Ideal) f (Idealize.ShloMosaic.ix4 l b (0 : Fin 1) o) := by
  by_cases h : l = k
  · subst h
    rw [if_pos rfl]
    exact View.read_writes_cons_unit_of_mem v f hin w [] _ (Idealize.ShloMosaic.ix4 (0 : Fin 1) b (0 : Fin 1) o) hoff (fun a => by
      match a with
      | ⟨0, _⟩ => rfl
      | ⟨1, _⟩ => exact (Nat.zero_add _).symm
      | ⟨2, _⟩ => rfl
      | ⟨3, _⟩ => exact (Nat.zero_add _).symm)
  · rw [if_neg h]
    exact View.read_writes_cons_unit_of_not_mem v f hin w [] _ hoff ⟨0, by show (4 : ℕ) > 0; decide⟩ (by
      have hne : l.val ≠ k.val := fun e => h (Fin.ext e)
      show l.val < k.val ∨ k.val + 1 ≤ l.val
      omega)

/-- A layer's block stored into a three-axis result. -/
theorem layer3 {sg : RefSig} {κ : Kind} {sp : Space} {B N : ℕ} {e : EltTy} (v : View sg κ sp ⟨3, ![3, B, N]⟩ e) (f : v.ty.Contents (Elt Ideal)) (k : Fin 3)
    (off : Fin 3 → ℕ) (hoff : off = ![k.val, 0, 0]) (hin : ∀ a, off a + (![1, B, N] : Fin 3 → ℕ) a ≤ (![3, B, N] : Fin 3 → ℕ) a)
    (w : (⟨3, ![1, B, N]⟩ : Shape).Idx → Elt Ideal e) (l : Fin 3) (b : Fin B) (o : Fin N) :
    v.read (Elt Ideal) (v.writes (Elt Ideal) f [⟨Rect.unit (s := ⟨3, ![3, B, N]⟩) off ![1, B, N] hin, w⟩]) (Idealize.ShloMosaic.ix3 l b o)
      = if l = k then w (Idealize.ShloMosaic.ix3 (0 : Fin 1) b o) else v.read (Elt Ideal) f (Idealize.ShloMosaic.ix3 l b o) := by
  by_cases h : l = k
  · subst h
    rw [if_pos rfl]
    exact View.read_writes_cons_unit_of_mem v f hin w [] _ (Idealize.ShloMosaic.ix3 (0 : Fin 1) b o) hoff (fun a => by
      match a with
      | ⟨0, _⟩ => rfl
      | ⟨1, _⟩ => exact (Nat.zero_add _).symm
      | ⟨2, _⟩ => exact (Nat.zero_add _).symm)
  · rw [if_neg h]
    exact View.read_writes_cons_unit_of_not_mem v f hin w [] _ hoff ⟨0, by show (3 : ℕ) > 0; decide⟩ (by
      have hne : l.val ≠ k.val := fun e => h (Fin.ext e)
      show l.val < k.val ∨ k.val + 1 ≤ l.val
      omega)

/-- A load of one layer of a three-axis buffer. -/
theorem readAt_ix3 {sg : RefSig} {κ : Kind} {sp : Space} {L M K : ℕ} {e : EltTy} (v : View sg κ sp ⟨3, ![L, M, K]⟩ e) (off : Fin 3 → ℕ) (k : Fin L)
    (hoff : off = ![k.val, 0, 0]) (hin : ∀ a, off a + (![1, M, K] : Fin 3 → ℕ) a ≤ (![L, M, K] : Fin 3 → ℕ) a) (X : v.ty.Contents (Elt Ideal))
    (x : Fin M) (t : Fin K) :
    v.readAt (Elt Ideal) (Rect.unit (s := ⟨3, ![L, M, K]⟩) off ![1, M, K] hin).toLoadRect X (Idealize.ShloMosaic.ix3 (0 : Fin 1) x t)
      = v.read (Elt Ideal) X (Idealize.ShloMosaic.ix3 k x t) := by
  subst hoff
  show v.read (Elt Ideal) X _ = _
  congr 1
  funext a
  match a with
  | ⟨0, _⟩ => exact Fin.ext (by show k.val + 1 * 0 = k.val; omega)
  | ⟨1, _⟩ => exact Fin.ext (by show 0 + 1 * x.val = x.val; omega)
  | ⟨2, _⟩ => exact Fin.ext (by show 0 + 1 * t.val = t.val; omega)

/-- One layer's slab of a weight argument. -/
theorem slab_read {sg : RefSig} {κ : Kind} {sp : Space} {R C : ℕ} {e : EltTy} (M : Memref sg κ sp ⟨3, ![3, R, C]⟩ e) (k : Fin 3)
    (h : ∀ a, (![k.val, 0, 0] : Fin 3 → ℕ) a + (![1, R, C] : Fin 3 → ℕ) a ≤ (![3, R, C] : Fin 3 → ℕ) a)
    (hq : (⟨3, ![1, R, C]⟩ : Shape).Squeezes ⟨2, ![R, C]⟩) (hc : (⟨3, ![1, R, C]⟩ : Shape).ShapeCasts ⟨2, ![R, C]⟩) (f : M.view.ty.Contents (Elt Ideal)) (o : Fin R) (i : Fin C)
    (hw : ∀ w : (⟨3, ![1, R, C]⟩ : Shape).Idx → Elt Ideal e, shapeCast ⟨2, ![R, C]⟩ w hc (ix2 o i) = w (Idealize.ShloMosaic.ix3 (0 : Fin 1) o i)) :
    ((M.slice (Rect.unit (s := ⟨3, ![3, R, C]⟩) ![k.val, 0, 0] ![1, R, C] h) (fun _ => rfl)).squeeze ⟨2, ![R, C]⟩ hq).view.read (Elt Ideal) f (ix2 o i)
      = M.view.read (Elt Ideal) f (Idealize.ShloMosaic.ix3 k o i) := by
  refine (congrFun (Memref.read_squeeze_slice M (Rect.unit (s := ⟨3, ![3, R, C]⟩) ![k.val, 0, 0] ![1, R, C] h) (fun _ => rfl) hq hc f) (ix2 o i)).trans ?_
  refine (hw _).trans ?_
  exact readAt_ix3 M.view _ k rfl h f o i

variable (c : Dev nD)

/-- The output projection's buffer once a layer's slab has landed. -/
theorem land7_read (k : Fin 3) (h : ∀ a, (![k.val, 0, 0] : Fin 3 → ℕ) a + S1x640x2560.size a ≤ S3x640x2560.size a) (g : HbBuf0 (F := Ideal) c scM0_0) (f : HbBuf0 (F := Ideal) c hbM0_0)
    (o : Fin 640) (i : Fin 2560) : scM0_0.view.read (Elt Ideal) (land7 c ![k.val, 0, 0] h g f) (ix2 o i) = hbM0_0.view.read (Elt Ideal) f (Idealize.ShloMosaic.ix3 k o i) := by
  have e := View.read_writes_cons_emb scM0_0.view g (Rect.whole S640x2560) (ReadAs.same.apply ((slab7 ![k.val, 0, 0] h).view.read (Elt Ideal) f)) [] (ix2 o i)
  rw [Rect.emb_whole_apply] at e
  exact e.trans (slab_read hbM0_0 k h _ (by decide) f o i (fun w => by pointwise))

/-- The down projection's buffer once a layer's slab has landed. -/
theorem land10_read (k : Fin 3) (h : ∀ a, (![k.val, 0, 0] : Fin 3 → ℕ) a + S1x640x6912.size a ≤ S3x640x6912.size a) (g : HbBuf0 (F := Ideal) c scM0_3) (f : HbBuf0 (F := Ideal) c hbM0_3)
    (o : Fin 640) (i : Fin 6912) : scM0_3.view.read (Elt Ideal) (land10 c ![k.val, 0, 0] h g f) (ix2 o i) = hbM0_3.view.read (Elt Ideal) f (Idealize.ShloMosaic.ix3 k o i) := by
  have e := View.read_writes_cons_emb scM0_3.view g (Rect.whole S640x6912) (ReadAs.same.apply ((slab10 ![k.val, 0, 0] h).view.read (Elt Ideal) f)) [] (ix2 o i)
  rw [Rect.emb_whole_apply] at e
  exact e.trans (slab_read hbM0_3 k h _ (by decide) f o i (fun w => by pointwise))

/-- The gate weights' buffer once a layer's slab has landed, on the slab's rows. -/
theorem land8_read (k : Fin 3) (h : ∀ a, (![k.val, 0, 0] : Fin 3 → ℕ) a + S1x1728x2560.size a ≤ S3x1728x2560.size a) (g : HbBuf0 (F := Ideal) c scM0_1) (f : HbBuf0 (F := Ideal) c hbM0_1)
    (o : Fin 1728) (i : Fin 2560) (ho : o.val < 1792) : scM0_1.view.read (Elt Ideal) (land8 c ![k.val, 0, 0] h g f) (ix2 (⟨o.val, ho⟩ : Fin 1792) i) = hbM0_1.view.read (Elt Ideal) f (Idealize.ShloMosaic.ix3 k o i) :=
  (View.read_writes_cons_unit_of_mem scM0_1.view g inb_S1792x2560_S1728x2560_0_0 (ReadAs.same.apply ((slab8 ![k.val, 0, 0] h).view.read (Elt Ideal) f)) []
    (ix2 (⟨o.val, ho⟩ : Fin 1792) i) (ix2 o i) rfl (fun a => by
      match a with
      | ⟨0, _⟩ => exact (Nat.zero_add _).symm
      | ⟨1, _⟩ => exact (Nat.zero_add _).symm)).trans (slab_read hbM0_1 k h _ (by decide) f o i (fun w => by pointwise))

/-- The up weights' buffer once a layer's slab has landed, on the slab's rows. -/
theorem land9_read (k : Fin 3) (h : ∀ a, (![k.val, 0, 0] : Fin 3 → ℕ) a + S1x1728x2560.size a ≤ S3x1728x2560.size a) (g : HbBuf0 (F := Ideal) c scM0_2) (f : HbBuf0 (F := Ideal) c hbM0_2)
    (o : Fin 1728) (i : Fin 2560) (ho : o.val < 1792) : scM0_2.view.read (Elt Ideal) (land9 c ![k.val, 0, 0] h g f) (ix2 (⟨o.val, ho⟩ : Fin 1792) i) = hbM0_2.view.read (Elt Ideal) f (Idealize.ShloMosaic.ix3 k o i) :=
  (View.read_writes_cons_unit_of_mem scM0_2.view g inb_S1792x2560_S1728x2560_0_0 (ReadAs.same.apply ((slab9 ![k.val, 0, 0] h).view.read (Elt Ideal) f)) []
    (ix2 (⟨o.val, ho⟩ : Fin 1792) i) (ix2 o i) rfl (fun a => by
      match a with
      | ⟨0, _⟩ => exact (Nat.zero_add _).symm
      | ⟨1, _⟩ => exact (Nat.zero_add _).symm)).trans (slab_read hbM0_2 k h _ (by decide) f o i (fun w => by pointwise))

variable (m : (ℓ : Loc nD τ sig) → Buf (Elt Ideal) ℓ) (t : Fin cfg0.N)

/-- Window 0 has one block, at the origin. -/
theorem block_index0 : ∀ (t : Fin cfg0.N) (a : Fin 2), win0_0.index t a = 0 := (by decide +kernel : ∀ (t : Fin grid0.N) (a : Fin 2), win0_0.index t a = 0)
/-- The input rows, as the first window stages them. -/
theorem block_x (b : Fin 12) (i : Fin 2560) : iblk m c 0 t (ix2 b i) = m ((c.tc).loc main_arg0) (Idealize.ShloMosaic.ix3 b (0 : Fin 1) i) := by
  blk_ext! [iblk, V, block_index0 t]
/-- Window 1 has one block, at the origin. -/
theorem block_index1 : ∀ (t : Fin cfg0.N) (a : Fin 2), win0_1.index t a = 0 := (by decide +kernel : ∀ (t : Fin grid0.N) (a : Fin 2), win0_1.index t a = 0)
/-- The weights' scales, as the second window stages them. -/
theorem block_scales (z : S3x7.Idx) : iblk m c 1 t z = m ((c.tc).loc main_arg6) z := by
  blk_ext! [iblk, V, block_index1 t]
/-- Window 2 has one block, at the origin. -/
theorem block_index2 : ∀ (t : Fin cfg0.N) (a : Fin 2), win0_2.index t a = 0 := (by decide +kernel : ∀ (t : Fin grid0.N) (a : Fin 2), win0_2.index t a = 0)
/-- The input norm's gains, as the third window stages them. -/
theorem block_gi (z : S3x2560.Idx) : iblk m c 2 t z = m ((c.tc).loc main_arg7) z := by
  blk_ext! [iblk, V, block_index2 t]
/-- Window 3 has one block, at the origin. -/
theorem block_index3 : ∀ (t : Fin cfg0.N) (a : Fin 2), win0_3.index t a = 0 := (by decide +kernel : ∀ (t : Fin grid0.N) (a : Fin 2), win0_3.index t a = 0)
/-- The attention sub-norm's gains, as the fourth window stages them. -/
theorem block_ga (z : S3x2560.Idx) : iblk m c 3 t z = m ((c.tc).loc main_arg8) z := by
  blk_ext! [iblk, V, block_index3 t]
/-- Window 4 has one block, at the origin. -/
theorem block_index4 : ∀ (t : Fin cfg0.N) (a : Fin 2), win0_4.index t a = 0 := (by decide +kernel : ∀ (t : Fin grid0.N) (a : Fin 2), win0_4.index t a = 0)
/-- The post-attention norm's gains, as the fifth window stages them. -/
theorem block_gp (z : S3x2560.Idx) : iblk m c 4 t z = m ((c.tc).loc main_arg9) z := by
  blk_ext! [iblk, V, block_index4 t]
/-- Window 5 has one block, at the origin. -/
theorem block_index5 : ∀ (t : Fin cfg0.N) (a : Fin 2), win0_5.index t a = 0 := (by decide +kernel : ∀ (t : Fin grid0.N) (a : Fin 2), win0_5.index t a = 0)
/-- The feed-forward sub-norm's gains, as the sixth window stages them. -/
theorem block_gf (z : S3x6912.Idx) : iblk m c 5 t z = m ((c.tc).loc main_arg10) z := by
  blk_ext! [iblk, V, block_index5 t]
/-- Window 6 has one block, at the origin. -/
theorem block_index6 : ∀ (t : Fin cfg0.N) (a : Fin 3), win0_6.index t a = 0 := (by decide +kernel : ∀ (t : Fin grid0.N) (a : Fin 3), win0_6.index t a = 0)
/-- The attention output, as the seventh window stages it. -/
theorem block_at (l : Fin 3) (b : Fin 12) (i : Fin 2560) : iblk m c 6 t (Idealize.ShloMosaic.ix3 l b i) = m ((c.tc).loc main_arg1) (Idealize.ShloMosaic.ix4 l b (0 : Fin 1) i) := by
  blk_ext! [iblk, V, block_index6 t]

end Cert.KernelIdeal.Hand
-- ==== Proof.IdealTripOut.lean ====
/- What one layer leaves in the results' buffers, over the extended reals. -/
module

public import proofs.«01_k».proof.Proof.IdealLand

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic

variable (arg0 : Memref sig .tc .vmem S12x2560 .bf16) (harg0 : arg0.IsWhole) (arg1 : Memref sig .tc .vmem S3x7 .bf16) (harg1 : arg1.IsWhole) (arg2 : Memref sig .tc .vmem S3x2560 .f32) (harg2 : arg2.IsWhole) (arg3 : Memref sig .tc .vmem S3x2560 .f32) (harg3 : arg3.IsWhole) (arg4 : Memref sig .tc .vmem S3x2560 .f32) (harg4 : arg4.IsWhole) (arg5 : Memref sig .tc .vmem S3x6912 .f32) (harg5 : arg5.IsWhole) (arg6 : Memref sig .tc .vmem S3x12x2560 .f32) (harg6 : arg6.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)
variable (c : Dev nD) (k : Fin k0_t1_loop.trips) (v29 : Vec Ideal S3x7 .bf16) (f0 : HbBuf0 (F := Ideal) c arg0) (f1 : HbBuf0 (F := Ideal) c arg1) (f2 : HbBuf0 (F := Ideal) c arg2) (f3 : HbBuf0 (F := Ideal) c arg3) (f4 : HbBuf0 (F := Ideal) c arg4) (f5 : HbBuf0 (F := Ideal) c arg5)
  (f6 : HbBuf0 (F := Ideal) c arg6) (f19 : HbBuf0 (F := Ideal) c scM0_0) (f20 : HbBuf0 (F := Ideal) c scM0_1) (f21 : HbBuf0 (F := Ideal) c scM0_2) (f22 : HbBuf0 (F := Ideal) c scM0_3)
  (f24 : HbBuf0 (F := Ideal) c scM0_5) (f28 : HbBuf0 (F := Ideal) c scM0_9)

variable (y : Spec.Layer) (hy : LayerHolds arg2 arg3 arg4 arg5 arg6 c k v29 f2 f3 f4 f5 f6 f19 f20 f21 f22 y)
  (s : Fin 12 → Fin 2560 → EReal) (b : Fin 12) (r : Fin 16) (hr : r.val = b.val) (hs : rowOf (scM0_5.view.read (Elt Ideal) f24) r = s b)
include hy hr hs

/-- The normed input row, as the trip forms it. -/
theorem norm1_is : Spec.nrm (Ideal.ofBits .f32 1159725056#32) (rowOf (tripA.sl.r_181 c f24) r) (rowOf (gainRow c k arg2 f2) 0) = y.n1 (s b) := by
  rw [← hy.gi, ← start_row (y := y) (hy := hy) (hr := hr) (hs := hs)]

/-- The normed attention row, as the trip forms it. -/
theorem norm2_is : Spec.nrm (Ideal.ofBits .f32 1159725056#32) (rowOf (attnRows arg6 c k f6) r) (rowOf (gainRow c k arg3 f3) 0) = y.n2 b := by
  rw [padRows_at _ b r hr, ← hy.at' b, ← hy.ga]

/-- The normed middle row, as the trip forms it. -/
theorem norm3_is : Spec.nrm (Ideal.ofBits .f32 1159725056#32) (rowOf (mid3 arg2 arg3 arg6 c k v29 f2 f3 f6 f19 f24) r) (rowOf (gainRow c k arg4 f4) 0) = y.n3 (y.mid b (s b)) := by
  rw [mid_is (y := y) (hy := hy) (hr := hr) (hs := hs), ← hy.gp]

/-- The stream's row the trip leaves. -/
theorem stream_is : rowOf (scM0_5.view.read (Elt Ideal) (scM0_5.view.writes (Elt Ideal) scM0_5.view.junk (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L24)) r = y.step b (s b) := by
  rw [trip_stream]
  exact out_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs

/-- The first result after the trip. -/
theorem resid_after (o11 : HbBuf0 (F := Ideal) c arg11) (l : Fin 3) (o : Fin 2560) :
    arg11.view.read (Elt Ideal) (arg11.view.writes (Elt Ideal) o11 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L11) (Idealize.ShloMosaic.ix4 l b (0 : Fin 1) o)
      = if l = ⟨k.val, k.isLt⟩ then y.step b (s b) o else arg11.view.read (Elt Ideal) o11 (Idealize.ShloMosaic.ix4 l b (0 : Fin 1) o) := by
  have h := congrFun (out_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs) o
  rw [trip_resid]
  generalize outRows arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 = w at h ⊢
  refine (layer4 arg11.view o11 ⟨k.val, k.isLt⟩ (k0_off19 k) (k0_off19_eq k) _ _ l b o).trans ?_
  refine congrArg (fun z => if l = ⟨k.val, k.isLt⟩ then z else _) ?_
  exact (top_rows w b r hr o).trans h

/-- The second result after the trip. -/
theorem mid_after (o12 : HbBuf0 (F := Ideal) c arg12) (l : Fin 3) (o : Fin 2560) :
    arg12.view.read (Elt Ideal) (arg12.view.writes (Elt Ideal) o12 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L12) (Idealize.ShloMosaic.ix4 l b (0 : Fin 1) o)
      = if l = ⟨k.val, k.isLt⟩ then y.mid b (s b) o else arg12.view.read (Elt Ideal) o12 (Idealize.ShloMosaic.ix4 l b (0 : Fin 1) o) := by
  rw [trip_mid]
  refine (layer4 arg12.view o12 ⟨k.val, k.isLt⟩ (k0_off19 k) (k0_off19_eq k) _ _ l b o).trans ?_
  refine congrArg (fun z => if l = ⟨k.val, k.isLt⟩ then z else _) ?_
  exact (top_rows _ b r hr o).trans (congrFun (mid_is (y := y) (hy := hy) (hr := hr) (hs := hs)) o)

/-- The third result after the trip. -/
theorem hid_after (o13 : HbBuf0 (F := Ideal) c arg13) (l : Fin 3) (o : Fin 6912) :
    arg13.view.read (Elt Ideal) (arg13.view.writes (Elt Ideal) o13 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L13) (Idealize.ShloMosaic.ix4 l b (0 : Fin 1) o)
      = if l = ⟨k.val, k.isLt⟩ then y.hid (y.mid b (s b)) o else arg13.view.read (Elt Ideal) o13 (Idealize.ShloMosaic.ix4 l b (0 : Fin 1) o) := by
  rw [trip_hid]
  refine (layer4 arg13.view o13 ⟨k.val, k.isLt⟩ (k0_off51 k) (k0_off51_eq k) _ _ l b o).trans ?_
  refine congrArg (fun z => if l = ⟨k.val, k.isLt⟩ then z else _) ?_
  exact (top_wide _ b r hr o).trans (congrFun (hid_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs) o)

/-- The fourth result after the trip. -/
theorem c1_after (o14 : HbBuf0 (F := Ideal) c arg14) (l : Fin 3) (o : Fin 2560) :
    arg14.view.read (Elt Ideal) (arg14.view.writes (Elt Ideal) o14 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L14) (Idealize.ShloMosaic.ix3 l b o)
      = if l = ⟨k.val, k.isLt⟩ then Spec.byt (y.n1 (s b)) o else arg14.view.read (Elt Ideal) o14 (Idealize.ShloMosaic.ix3 l b o) := by
  rw [trip_c1]
  refine (layer3 arg14.view o14 ⟨k.val, k.isLt⟩ (k0_off2 k) (k0_off2_eq k) _ _ l b o).trans ?_
  refine congrArg (fun z => if l = ⟨k.val, k.isLt⟩ then z else _) ?_
  refine (top_codes _ b r hr o).trans (congrArg (Ideal.fptosi 8) ((codes_at _ _ r o).trans ?_))
  rw [norm1_is (y := y) (hy := hy) (hr := hr) (hs := hs)]

/-- The fifth result after the trip. -/
theorem c2_after (o15 : HbBuf0 (F := Ideal) c arg15) (l : Fin 3) (o : Fin 2560) :
    arg15.view.read (Elt Ideal) (arg15.view.writes (Elt Ideal) o15 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L15) (Idealize.ShloMosaic.ix3 l b o)
      = if l = ⟨k.val, k.isLt⟩ then Spec.byt (y.n2 b) o else arg15.view.read (Elt Ideal) o15 (Idealize.ShloMosaic.ix3 l b o) := by
  rw [trip_c2]
  refine (layer3 arg15.view o15 ⟨k.val, k.isLt⟩ (k0_off2 k) (k0_off2_eq k) _ _ l b o).trans ?_
  refine congrArg (fun z => if l = ⟨k.val, k.isLt⟩ then z else _) ?_
  refine (top_codes _ b r hr o).trans (congrArg (Ideal.fptosi 8) ((codes_at _ _ r o).trans ?_))
  rw [norm2_is (y := y) (hy := hy) (hr := hr) (hs := hs)]

/-- The sixth result after the trip. -/
theorem c3_after (o16 : HbBuf0 (F := Ideal) c arg16) (l : Fin 3) (o : Fin 2560) :
    arg16.view.read (Elt Ideal) (arg16.view.writes (Elt Ideal) o16 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L16) (Idealize.ShloMosaic.ix3 l b o)
      = if l = ⟨k.val, k.isLt⟩ then Spec.byt (y.n3 (y.mid b (s b))) o else arg16.view.read (Elt Ideal) o16 (Idealize.ShloMosaic.ix3 l b o) := by
  rw [trip_c3]
  refine (layer3 arg16.view o16 ⟨k.val, k.isLt⟩ (k0_off2 k) (k0_off2_eq k) _ _ l b o).trans ?_
  refine congrArg (fun z => if l = ⟨k.val, k.isLt⟩ then z else _) ?_
  refine (top_codes _ b r hr o).trans (congrArg (Ideal.fptosi 8) ((codes_at _ _ r o).trans ?_))
  rw [norm3_is (y := y) (hy := hy) (hr := hr) (hs := hs)]

/-- The seventh result after the trip. -/
theorem c4_after (o17 : HbBuf0 (F := Ideal) c arg17) (l : Fin 3) (o : Fin 6912) :
    arg17.view.read (Elt Ideal) (arg17.view.writes (Elt Ideal) o17 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L17) (Idealize.ShloMosaic.ix3 l b o)
      = if l = ⟨k.val, k.isLt⟩ then Spec.byt (y.n4 (y.hid (y.mid b (s b)))) o else arg17.view.read (Elt Ideal) o17 (Idealize.ShloMosaic.ix3 l b o) := by
  rw [trip_c4]
  refine (layer3 arg17.view o17 ⟨k.val, k.isLt⟩ (k0_off53 k) (k0_off53_eq k) _ _ l b o).trans ?_
  refine congrArg (fun z => if l = ⟨k.val, k.isLt⟩ then z else _) ?_
  exact (top_wide_codes _ b r hr o).trans (congrArg (Ideal.fptosi 8) (congrFun (codes4_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs) o))

/-- The eighth result after the trip. -/
theorem stat_after (o18 : HbBuf0 (F := Ideal) c arg18) (l : Fin 3) (j : Fin 32) :
    arg18.view.read (Elt Ideal) (arg18.view.writes (Elt Ideal) o18 (tripA (F := Ideal) arg0 harg0 arg1 harg1 arg2 harg2 arg3 harg3 arg4 harg4 arg5 harg5 arg6 harg6 arg11 harg11 arg12 harg12 arg13 harg13 arg14 harg14 arg15 harg15 arg16 harg16 arg17 harg17 arg18 harg18 c k lanes v29 f0 f1 f2 f3 f4 f5 f6 f19 f20 f21 f22 f24 f28).1.L18) (Idealize.ShloMosaic.ix3 l j b)
      = if l = ⟨k.val, k.isLt⟩ then Spec.stat (Spec.scl (y.n1 (s b))) (Spec.scl (y.n2 b)) (Spec.scl (y.n3 (y.mid b (s b)))) (Spec.scl (y.n4 (y.hid (y.mid b (s b))))) j.val
        else arg18.view.read (Elt Ideal) o18 (Idealize.ShloMosaic.ix3 l j b) := by
  rw [trip_stat]
  refine (layer3 arg18.view o18 ⟨k.val, k.isLt⟩ (k0_off87 k) (k0_off87_eq k) _ _ l j b).trans ?_
  refine congrArg (fun z => if l = ⟨k.val, k.isLt⟩ then z else _) ?_
  refine (table_at _ _ _ _ j b r hr).trans ?_
  have h1 := (scale_at (tripA.sl.r_181 c f24) (gainRow c k arg2 f2) r).trans (congrArg Spec.scl (norm1_is (y := y) (hy := hy) (hr := hr) (hs := hs)))
  have h2 : tripA.sl.r_4 arg3 arg6 c k f3 f6 (ix2 r 0) = _ := (scale_at (attnRows arg6 c k f6) (gainRow c k arg3 f3) r).trans (congrArg Spec.scl (norm2_is (y := y) (hy := hy) (hr := hr) (hs := hs)))
  have h3 : k0_pay571 (mid3 arg2 arg3 arg6 c k v29 f2 f3 f6 f19 f24) (gainRow c k arg4 f4) (ix2 r 0) = _ :=
    (scale_at (mid3 arg2 arg3 arg6 c k v29 f2 f3 f6 f19 f24) (gainRow c k arg4 f4) r).trans (congrArg Spec.scl (norm3_is (y := y) (hy := hy) (hr := hr) (hs := hs)))
  have h4 := scale4_is arg0 harg0 arg1 harg1 arg2 harg2 arg3 harg3 arg4 harg4 arg5 harg5 arg6 harg6 arg11 harg11 arg12 harg12 arg13 harg13 arg14 harg14 arg15 harg15 arg16 harg16 arg17 harg17 arg18 harg18 c k v29 f2 f3 f4 f5 f6 f19 f20 f21 f22 f24 f28 y hy s b r hr hs
  rw [h1, h2, h3, h4]

end Cert.KernelIdeal.Hand
-- ==== Proof.IdealVals.lean ====
/- The kernel's values over the extended reals: every layer leaves the specification's entries. -/
module

public import proofs.«01_k».proof.Proof.IdealTripOut

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The arrays the layers are made of, as launched. -/
def arrs (c : Dev nD) : Spec.Arrays where
  at' z := m ((c.tc).loc main_arg1) z
  wo z := m ((c.tc).loc main_arg2) z
  wg z := m ((c.tc).loc main_arg3) z
  wu z := m ((c.tc).loc main_arg4) z
  wd z := m ((c.tc).loc main_arg5) z
  sc z := m ((c.tc).loc main_arg6) z
  gi z := m ((c.tc).loc main_arg7) z
  ga z := m ((c.tc).loc main_arg8) z
  gp z := m ((c.tc).loc main_arg9) z
  gf z := m ((c.tc).loc main_arg10) z
/-- The layers, as launched. -/
abbrev lays (c : Dev nD) : Fin 3 → Spec.Layer := (arrs m c).lay
/-- The input rows, as launched. -/
abbrev ins (c : Dev nD) : Fin 12 → Fin 2560 → EReal := Spec.rowsIn fun z => m ((c.tc).loc main_arg0) z

/-- A layer's row of gains, as the trip loads it. -/
theorem gain_at (c : Dev nD) (k : Fin k0_t1_loop.trips) (arg : Memref sig .tc .vmem S3x2560 .f32) (f : HbBuf0 (F := Ideal) c arg) (i : Fin 2560) :
    gainRow c k arg f (ix2 0 i) = arg.view.read (Elt Ideal) f (ix2 (⟨k.val, k.isLt⟩ : Fin 3) i) := by
  refine (readAt_ix2 arg.view (k0_off1 k) (k0_off1_inb k) k.val 0 (k0_off1_eq k) f 0 i (by have := k.isLt; show k.val + 0 < 3; exact this) (by have := i.isLt; omega)).trans ?_
  exact congrArg (arg.view.read (Elt Ideal) f) (funext fun a => by
    match a with
    | ⟨0, _⟩ => rfl
    | ⟨1, _⟩ => exact Fin.ext (Nat.zero_add _))

variable (c : Dev nD) (t : Fin cfg0.N)

/-- The trip's layer is the arrays' layer of that number. -/
theorem layer_holds (k : Fin k0_t1_loop.trips) (f1 : HbBuf0 (F := Ideal) c (ms0_1 t)) (f2 : HbBuf0 (F := Ideal) c (ms0_2 t)) (f3 : HbBuf0 (F := Ideal) c (ms0_3 t)) (f4 : HbBuf0 (F := Ideal) c (ms0_4 t))
    (f5 : HbBuf0 (F := Ideal) c (ms0_5 t)) (f6 : HbBuf0 (F := Ideal) c (ms0_6 t))
    (h1 : (ms0_1 t).view.read (Elt Ideal) f1 = iblk m c 1 t) (h2 : (ms0_2 t).view.read (Elt Ideal) f2 = iblk m c 2 t) (h3 : (ms0_3 t).view.read (Elt Ideal) f3 = iblk m c 3 t)
    (h4 : (ms0_4 t).view.read (Elt Ideal) f4 = iblk m c 4 t) (h5 : (ms0_5 t).view.read (Elt Ideal) f5 = iblk m c 5 t) (h6 : (ms0_6 t).view.read (Elt Ideal) f6 = iblk m c 6 t)
    (g7 : HbBuf0 (F := Ideal) c scM0_0) (h7 : ∀ a, (![k.val, 0, 0] : Fin 3 → ℕ) a + S1x640x2560.size a ≤ S3x640x2560.size a)
    (g8 : HbBuf0 (F := Ideal) c scM0_1) (h8 : ∀ a, (![k.val, 0, 0] : Fin 3 → ℕ) a + S1x1728x2560.size a ≤ S3x1728x2560.size a)
    (g9 : HbBuf0 (F := Ideal) c scM0_2) (h9 : ∀ a, (![k.val, 0, 0] : Fin 3 → ℕ) a + S1x1728x2560.size a ≤ S3x1728x2560.size a)
    (g10 : HbBuf0 (F := Ideal) c scM0_3) (h10 : ∀ a, (![k.val, 0, 0] : Fin 3 → ℕ) a + S1x640x6912.size a ≤ S3x640x6912.size a) :
    LayerHolds (ms0_2 t) (ms0_3 t) (ms0_4 t) (ms0_5 t) (ms0_6 t) c k (scales (ms0_1 t) c f1) f2 f3 f4 f5 f6 (land7 c ![k.val, 0, 0] h7 g7 (V m c main_arg2)) (land8 c ![k.val, 0, 0] h8 g8 (V m c main_arg3))
      (land9 c ![k.val, 0, 0] h9 g9 (V m c main_arg4)) (land10 c ![k.val, 0, 0] h10 g10 (V m c main_arg5)) (lays m c ⟨k.val, k.isLt⟩) where
  wo := by
    funext o i
    refine ((land7_read c ⟨k.val, k.isLt⟩ h7 g7 _ o i).trans ?_).symm
    rw [V_main_arg2]; rfl
  wg := by
    funext o i
    refine ((land8_read c ⟨k.val, k.isLt⟩ h8 g8 _ o i _).trans ?_).symm
    rw [V_main_arg3]; rfl
  wu := by
    funext o i
    refine ((land9_read c ⟨k.val, k.isLt⟩ h9 g9 _ o i _).trans ?_).symm
    rw [V_main_arg4]; rfl
  wd := by
    funext o i
    refine ((land10_read c ⟨k.val, k.isLt⟩ h10 g10 _ o i).trans ?_).symm
    rw [V_main_arg5]; rfl
  sc n := by
    refine ((congrFun (load_whole (ms0_1 t).view f1 _) _).trans ?_).symm
    rw [h1]; exact block_scales c m t _
  gi := by
    funext i
    refine ((gain_at c k (ms0_2 t) f2 i).trans ?_).symm
    rw [h2]; exact block_gi c m t _
  ga := by
    funext i
    refine ((gain_at c k (ms0_3 t) f3 i).trans ?_).symm
    rw [h3]; exact block_ga c m t _
  gp := by
    funext i
    refine ((gain_at c k (ms0_4 t) f4 i).trans ?_).symm
    rw [h4]; exact block_gp c m t _
  gf := by
    funext i
    refine ((readAt_ix2 (ms0_5 t).view (k0_off52 k) (k0_off52_inb k) k.val 0 (k0_off52_eq k) f5 0 i (by have := k.isLt; show k.val + 0 < 3; exact this) (by have := i.isLt; omega)).trans ?_).symm
    rw [h5]
    refine (block_gf c m t _).trans ?_
    exact congrArg (m ((c.tc).loc main_arg10)) (funext fun a => by
      match a with
      | ⟨0, _⟩ => rfl
      | ⟨1, _⟩ => exact Fin.ext (Nat.zero_add _))
  at' b := by
    funext i
    refine ((readAt_ix3 (ms0_6 t).view (k0_off2 k) ⟨k.val, k.isLt⟩ (k0_off2_eq k) _ f6 b i).trans ?_).symm
    rw [h6]; exact block_at c m t _ _ _

/-- What is known before layer `n`: the stream's rows, and the results on the layers done. -/
structure Done (n : ℕ) (r : HbBuf0 (F := Ideal) c scM0_5) (o11 : HbBuf0 (F := Ideal) c (ms0_7 t)) (o12 : HbBuf0 (F := Ideal) c (ms0_8 t)) (o13 : HbBuf0 (F := Ideal) c (ms0_9 t)) (o14 : HbBuf0 (F := Ideal) c (ms0_10 t)) (o15 : HbBuf0 (F := Ideal) c (ms0_11 t)) (o16 : HbBuf0 (F := Ideal) c (ms0_12 t)) (o17 : HbBuf0 (F := Ideal) c (ms0_13 t)) (o18 : HbBuf0 (F := Ideal) c (ms0_14 t)) : Prop where
  stream : ∀ (b : Fin 12) (x : Fin 16), x.val = b.val → rowOf (scM0_5.view.read (Elt Ideal) r) x = Spec.stream (lays m c) (ins m c) b n
  resid : ∀ l : Fin 3, l.val < n → ∀ (b : Fin 12) (o : Fin 2560), (ms0_7 t).view.read (Elt Ideal) o11 (Idealize.ShloMosaic.ix4 l b (0 : Fin 1) o) = Spec.residA (lays m c) (ins m c) l b o
  mid : ∀ l : Fin 3, l.val < n → ∀ (b : Fin 12) (o : Fin 2560), (ms0_8 t).view.read (Elt Ideal) o12 (Idealize.ShloMosaic.ix4 l b (0 : Fin 1) o) = Spec.midA (lays m c) (ins m c) l b o
  hid : ∀ l : Fin 3, l.val < n → ∀ (b : Fin 12) (o : Fin 6912), (ms0_9 t).view.read (Elt Ideal) o13 (Idealize.ShloMosaic.ix4 l b (0 : Fin 1) o) = Spec.hidA (lays m c) (ins m c) l b o
  c1 : ∀ l : Fin 3, l.val < n → ∀ (b : Fin 12) (o : Fin 2560), (ms0_10 t).view.read (Elt Ideal) o14 (Idealize.ShloMosaic.ix3 l b o) = Spec.codesA (lays m c) (ins m c) l b o
  c2 : ∀ l : Fin 3, l.val < n → ∀ (b : Fin 12) (o : Fin 2560), (ms0_11 t).view.read (Elt Ideal) o15 (Idealize.ShloMosaic.ix3 l b o) = Spec.codesB (lays m c) l b o
  c3 : ∀ l : Fin 3, l.val < n → ∀ (b : Fin 12) (o : Fin 2560), (ms0_12 t).view.read (Elt Ideal) o16 (Idealize.ShloMosaic.ix3 l b o) = Spec.codesC (lays m c) (ins m c) l b o
  c4 : ∀ l : Fin 3, l.val < n → ∀ (b : Fin 12) (o : Fin 6912), (ms0_13 t).view.read (Elt Ideal) o17 (Idealize.ShloMosaic.ix3 l b o) = Spec.codesD (lays m c) (ins m c) l b o
  stat : ∀ l : Fin 3, l.val < n → ∀ (j : Fin 32) (b : Fin 12), (ms0_14 t).view.read (Elt Ideal) o18 (Idealize.ShloMosaic.ix3 l j b) = Spec.statA (lays m c) (ins m c) l j b

/-- The stream's buffer before the first layer. -/
theorem start_is (f0 : HbBuf0 (F := Ideal) c (ms0_0 t)) (h0 : (ms0_0 t).view.read (Elt Ideal) f0 = iblk m c 0 t) (b : Fin 12) (x : Fin 16) (hx : x.val = b.val) :
    rowOf (scM0_5.view.read (Elt Ideal) (scM0_5.view.writes (Elt Ideal) scM0_5.view.junk (initPieces (ms0_0 t) c f0))) x = ins m c b := by
  funext i
  refine (View.read_writes_cons_unit_of_mem scM0_5.view _ inb_S16x2560_S12x2560_0_0 _ _ (ix2 x i) (ix2 b i) rfl (fun a => by
    match a with
    | ⟨0, _⟩ => exact hx.trans (Nat.zero_add _).symm
    | ⟨1, _⟩ => exact (Nat.zero_add _).symm)).trans ?_
  have e (w : Vec Ideal S12x2560 .bf16) : k0_pay1 (k0_pay704 w) (ix2 b i) = w (ix2 b i) := by
    pointwise [k0_pay1, k0_pay704]
  refine (e _).trans ?_
  refine (congrFun (load_whole (ms0_0 t).view f0 _) (ix2 b i)).trans ?_
  rw [h0]
  exact block_x c m t b i

/-- A result's entries on the layers up to this one, from this layer's and the earlier ones'. -/
theorem up_to {α : Type} (k : Fin k0_t1_loop.trips) (l : Fin 3) (hl : l.val < k.val + 1) (a a' : α) (g : Fin 3 → α) (x : α)
    (hx : x = if l = ⟨k.val, k.isLt⟩ then a else a') (ha : a = g ⟨k.val, k.isLt⟩) (ha' : l.val < k.val → a' = g l) : x = g l := by
  rw [hx]
  by_cases h : l = ⟨k.val, k.isLt⟩
  · rw [if_pos h, h, ha]
  · rw [if_neg h]
    exact ha' (by
      have : l.val ≠ k.val := fun e => h (Fin.ext e)
      omega)

/-- The whole results, window by window; an input window's is its block. -/
def wholeOf (w : Fin cfg0.W) (t : Fin cfg0.N) : (cfg0.win w).block.Idx → Elt Ideal (cfg0.win w).elt := match w with
  | ⟨0, _⟩ => iblk m 0 0 t
  | ⟨1, _⟩ => iblk m 0 1 t
  | ⟨2, _⟩ => iblk m 0 2 t
  | ⟨3, _⟩ => iblk m 0 3 t
  | ⟨4, _⟩ => iblk m 0 4 t
  | ⟨5, _⟩ => iblk m 0 5 t
  | ⟨6, _⟩ => iblk m 0 6 t
  | ⟨7, _⟩ => fun z => Spec.residA (lays m 0) (ins m 0) (z 0) (z 1) (z 3)
  | ⟨8, _⟩ => fun z => Spec.midA (lays m 0) (ins m 0) (z 0) (z 1) (z 3)
  | ⟨9, _⟩ => fun z => Spec.hidA (lays m 0) (ins m 0) (z 0) (z 1) (z 3)
  | ⟨10, _⟩ => fun z => Spec.codesA (lays m 0) (ins m 0) (z 0) (z 1) (z 2)
  | ⟨11, _⟩ => fun z => Spec.codesB (lays m 0) (z 0) (z 1) (z 2)
  | ⟨12, _⟩ => fun z => Spec.codesC (lays m 0) (ins m 0) (z 0) (z 1) (z 2)
  | ⟨13, _⟩ => fun z => Spec.codesD (lays m 0) (ins m 0) (z 0) (z 1) (z 2)
  | ⟨14, _⟩ => fun z => Spec.statA (lays m 0) (ins m 0) (z 0) (z 1) (z 2)

/-- The values claimed of the kernel's run. -/
def values : Values (F := Ideal) m where
  Rl w t X := X = wholeOf m w t
  P c t n r := Done m c t n r
  init c t f0 f1 f2 f3 f4 f5 f6 h0 h1 h2 h3 h4 h5 h6 o11 o12 o13 o14 o15 o16 o17 o18 := by
    constructor
    · exact fun b x hx => start_is m c t f0 h0 b x hx
    all_goals exact fun l hl => absurd hl (Nat.not_lt_zero _)
  step c t f0 f1 f2 f3 f4 f5 f6 h0 h1 h2 h3 h4 h5 h6 := by
    intro k f28 g7 h7 g8 h8 g9 h9 g10 h10 r o11 o12 o13 o14 o15 o16 o17 o18 hP
    have hy := layer_holds m c t k f1 f2 f3 f4 f5 f6 h1 h2 h3 h4 h5 h6 g7 h7 g8 h8 g9 h9 g10 h10
    have hs : ∀ b : Fin 12, rowOf (scM0_5.view.read (Elt Ideal) r) ⟨b.val, by have := b.isLt; omega⟩ = Spec.stream (lays m c) (ins m c) b k.val :=
      fun b => hP.stream b _ rfl
    have hn := fun b => Spec.stream_succ (lays m c) (ins m c) ⟨k.val, k.isLt⟩ b
    constructor
    · intro b x hx
      refine (stream_is (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b x hx (hP.stream b x hx)).trans (hn b).symm
    · intro l hl b o
      exact up_to k l hl _ _ (fun l => Spec.residA (lays m c) (ins m c) l b o) _ (resid_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o11 l o) (congrFun (hn b) o).symm (fun h => hP.resid l h b o)
    · intro l hl b o
      exact up_to k l hl _ _ (fun l => Spec.midA (lays m c) (ins m c) l b o) _ (mid_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o12 l o) rfl (fun h => hP.mid l h b o)
    · intro l hl b o
      exact up_to k l hl _ _ (fun l => Spec.hidA (lays m c) (ins m c) l b o) _ (hid_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o13 l o) rfl (fun h => hP.hid l h b o)
    · intro l hl b o
      exact up_to k l hl _ _ (fun l => Spec.codesA (lays m c) (ins m c) l b o) _ (c1_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o14 l o) rfl (fun h => hP.c1 l h b o)
    · intro l hl b o
      exact up_to k l hl _ _ (fun l => Spec.codesB (lays m c) l b o) _ (c2_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o15 l o) rfl (fun h => hP.c2 l h b o)
    · intro l hl b o
      exact up_to k l hl _ _ (fun l => Spec.codesC (lays m c) (ins m c) l b o) _ (c3_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o16 l o) rfl (fun h => hP.c3 l h b o)
    · intro l hl b o
      exact up_to k l hl _ _ (fun l => Spec.codesD (lays m c) (ins m c) l b o) _ (c4_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o17 l o) rfl (fun h => hP.c4 l h b o)
    · intro l hl j b
      exact up_to k l hl _ _ (fun l => Spec.statA (lays m c) (ins m c) l j b) _ (stat_after (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) c k (scales (ms0_1 t) c f1) f0 f1 f2 f3 f4 f5 f6 (land7 c ![k.val, 0, 0] h7 g7 (V m c main_arg2)) (land8 c ![k.val, 0, 0] h8 g8 (V m c main_arg3)) (land9 c ![k.val, 0, 0] h9 g9 (V m c main_arg4)) (land10 c ![k.val, 0, 0] h10 g10 (V m c main_arg5)) r f28 _ hy (fun b => Spec.stream (lays m c) (ins m c) b k.val) b (⟨b.val, by have := b.isLt; omega⟩ : Fin 16) rfl (hs b) o18 l j) rfl (fun h => hP.stat l h j b)
  fin c t r o11 o12 o13 o14 o15 o16 o17 o18 hP := by
    obtain rfl : c = 0 := Subsingleton.elim _ _
    have l3 : ∀ l : Fin 3, l.val < 3 := fun l => l.isLt
    exact ⟨funext fun z => by
      obtain ⟨l, b, o, rfl⟩ : ∃ (l : Fin 3) (b : Fin 12) (o : Fin 2560), z = Idealize.ShloMosaic.ix4 l b (0 : Fin 1) o := ⟨z 0, z 1, z 3, funext fun a => by
        match a with
        | ⟨0, _⟩ | ⟨1, _⟩ | ⟨3, _⟩ => rfl
        | ⟨2, _⟩ => exact Subsingleton.elim (α := Fin 1) _ _⟩
      exact hP.resid l (l3 l) b o, funext fun z => by
      obtain ⟨l, b, o, rfl⟩ : ∃ (l : Fin 3) (b : Fin 12) (o : Fin 2560), z = Idealize.ShloMosaic.ix4 l b (0 : Fin 1) o := ⟨z 0, z 1, z 3, funext fun a => by
        match a with
        | ⟨0, _⟩ | ⟨1, _⟩ | ⟨3, _⟩ => rfl
        | ⟨2, _⟩ => exact Subsingleton.elim (α := Fin 1) _ _⟩
      exact hP.mid l (l3 l) b o, funext fun z => by
      obtain ⟨l, b, o, rfl⟩ : ∃ (l : Fin 3) (b : Fin 12) (o : Fin 6912), z = Idealize.ShloMosaic.ix4 l b (0 : Fin 1) o := ⟨z 0, z 1, z 3, funext fun a => by
        match a with
        | ⟨0, _⟩ | ⟨1, _⟩ | ⟨3, _⟩ => rfl
        | ⟨2, _⟩ => exact Subsingleton.elim (α := Fin 1) _ _⟩
      exact hP.hid l (l3 l) b o, funext fun z => by
      obtain ⟨l, b, o, rfl⟩ : ∃ (l : Fin 3) (b : Fin 12) (o : Fin 2560), z = Idealize.ShloMosaic.ix3 l b o := ⟨z 0, z 1, z 2, funext fun a => by
        match a with
        | ⟨0, _⟩ | ⟨1, _⟩ | ⟨2, _⟩ => rfl⟩
      exact hP.c1 l (l3 l) b o, funext fun z => by
      obtain ⟨l, b, o, rfl⟩ : ∃ (l : Fin 3) (b : Fin 12) (o : Fin 2560), z = Idealize.ShloMosaic.ix3 l b o := ⟨z 0, z 1, z 2, funext fun a => by
        match a with
        | ⟨0, _⟩ | ⟨1, _⟩ | ⟨2, _⟩ => rfl⟩
      exact hP.c2 l (l3 l) b o, funext fun z => by
      obtain ⟨l, b, o, rfl⟩ : ∃ (l : Fin 3) (b : Fin 12) (o : Fin 2560), z = Idealize.ShloMosaic.ix3 l b o := ⟨z 0, z 1, z 2, funext fun a => by
        match a with
        | ⟨0, _⟩ | ⟨1, _⟩ | ⟨2, _⟩ => rfl⟩
      exact hP.c3 l (l3 l) b o, funext fun z => by
      obtain ⟨l, b, o, rfl⟩ : ∃ (l : Fin 3) (b : Fin 12) (o : Fin 6912), z = Idealize.ShloMosaic.ix3 l b o := ⟨z 0, z 1, z 2, funext fun a => by
        match a with
        | ⟨0, _⟩ | ⟨1, _⟩ | ⟨2, _⟩ => rfl⟩
      exact hP.c4 l (l3 l) b o, funext fun z => by
      obtain ⟨l, b, o, rfl⟩ : ∃ (l : Fin 3) (b : Fin 32) (o : Fin 12), z = Idealize.ShloMosaic.ix3 l b o := ⟨z 0, z 1, z 2, funext fun a => by
        match a with
        | ⟨0, _⟩ | ⟨1, _⟩ | ⟨2, _⟩ => rfl⟩
      exact hP.stat l (l3 l) b o⟩

end Cert.KernelIdeal.Hand
-- ==== Proof.IdealRun.lean ====
/- The kernel's results after its run over the extended reals, as the specification's arrays. -/
module

public import proofs.«01_k».proof.Proof.IdealVals

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)

/-- Result 0 after the run: the specification's resid. -/
theorem result_0 {r : PUnit × MemSt nD τ sig (Elt Ideal)} (h : Pipeline.RDat.FramePost cfg0 (rdats m (values m)) (V m) r) (c : Dev nD) :
    r.2.mem ((c.tc : Thread nD τ).loc main_v2_0) = fun z => Spec.residA (lays m 0) (ins m 0) (z 0) (z 1) (z 3) := by
  obtain rfl : c = 0 := Subsingleton.elim _ _
  obtain ⟨X, hX, hA⟩ := ((h 0).1 7).emb_eq_of_wholeAt (t₀ := t0_0) (by decide +kernel)
  have hx : X = wholeOf m 7 t0_0 := Dat.toRRel_leaves _ (by decide) hX
  subst hx
  funext z
  exact hA z

/-- Result 1 after the run: the specification's mid. -/
theorem result_1 {r : PUnit × MemSt nD τ sig (Elt Ideal)} (h : Pipeline.RDat.FramePost cfg0 (rdats m (values m)) (V m) r) (c : Dev nD) :
    r.2.mem ((c.tc : Thread nD τ).loc main_v2_1) = fun z => Spec.midA (lays m 0) (ins m 0) (z 0) (z 1) (z 3) := by
  obtain rfl : c = 0 := Subsingleton.elim _ _
  obtain ⟨X, hX, hA⟩ := ((h 0).1 8).emb_eq_of_wholeAt (t₀ := t0_0) (by decide +kernel)
  have hx : X = wholeOf m 8 t0_0 := Dat.toRRel_leaves _ (by decide) hX
  subst hx
  funext z
  exact hA z

/-- Result 2 after the run: the specification's hid. -/
theorem result_2 {r : PUnit × MemSt nD τ sig (Elt Ideal)} (h : Pipeline.RDat.FramePost cfg0 (rdats m (values m)) (V m) r) (c : Dev nD) :
    r.2.mem ((c.tc : Thread nD τ).loc main_v2_2) = fun z => Spec.hidA (lays m 0) (ins m 0) (z 0) (z 1) (z 3) := by
  obtain rfl : c = 0 := Subsingleton.elim _ _
  obtain ⟨X, hX, hA⟩ := ((h 0).1 9).emb_eq_of_wholeAt (t₀ := t0_0) (by decide +kernel)
  have hx : X = wholeOf m 9 t0_0 := Dat.toRRel_leaves _ (by decide) hX
  subst hx
  funext z
  exact hA z

/-- Result 3 after the run: the specification's codes of the first product. -/
theorem result_3 {r : PUnit × MemSt nD τ sig (Elt Ideal)} (h : Pipeline.RDat.FramePost cfg0 (rdats m (values m)) (V m) r) (c : Dev nD) :
    r.2.mem ((c.tc : Thread nD τ).loc main_v2_3) = fun z => Spec.codesA (lays m 0) (ins m 0) (z 0) (z 1) (z 2) := by
  obtain rfl : c = 0 := Subsingleton.elim _ _
  obtain ⟨X, hX, hA⟩ := ((h 0).1 10).emb_eq_of_wholeAt (t₀ := t0_0) (by decide +kernel)
  have hx : X = wholeOf m 10 t0_0 := Dat.toRRel_leaves _ (by decide) hX
  subst hx
  funext z
  exact hA z

/-- Result 4 after the run: the specification's codes of the second product. -/
theorem result_4 {r : PUnit × MemSt nD τ sig (Elt Ideal)} (h : Pipeline.RDat.FramePost cfg0 (rdats m (values m)) (V m) r) (c : Dev nD) :
    r.2.mem ((c.tc : Thread nD τ).loc main_v2_4) = fun z => Spec.codesB (lays m 0) (z 0) (z 1) (z 2) := by
  obtain rfl : c = 0 := Subsingleton.elim _ _
  obtain ⟨X, hX, hA⟩ := ((h 0).1 11).emb_eq_of_wholeAt (t₀ := t0_0) (by decide +kernel)
  have hx : X = wholeOf m 11 t0_0 := Dat.toRRel_leaves _ (by decide) hX
  subst hx
  funext z
  exact hA z

/-- Result 5 after the run: the specification's codes of the third product. -/
theorem result_5 {r : PUnit × MemSt nD τ sig (Elt Ideal)} (h : Pipeline.RDat.FramePost cfg0 (rdats m (values m)) (V m) r) (c : Dev nD) :
    r.2.mem ((c.tc : Thread nD τ).loc main_v2_5) = fun z => Spec.codesC (lays m 0) (ins m 0) (z 0) (z 1) (z 2) := by
  obtain rfl : c = 0 := Subsingleton.elim _ _
  obtain ⟨X, hX, hA⟩ := ((h 0).1 12).emb_eq_of_wholeAt (t₀ := t0_0) (by decide +kernel)
  have hx : X = wholeOf m 12 t0_0 := Dat.toRRel_leaves _ (by decide) hX
  subst hx
  funext z
  exact hA z

/-- Result 6 after the run: the specification's codes of the fourth product. -/
theorem result_6 {r : PUnit × MemSt nD τ sig (Elt Ideal)} (h : Pipeline.RDat.FramePost cfg0 (rdats m (values m)) (V m) r) (c : Dev nD) :
    r.2.mem ((c.tc : Thread nD τ).loc main_v2_6) = fun z => Spec.codesD (lays m 0) (ins m 0) (z 0) (z 1) (z 2) := by
  obtain rfl : c = 0 := Subsingleton.elim _ _
  obtain ⟨X, hX, hA⟩ := ((h 0).1 13).emb_eq_of_wholeAt (t₀ := t0_0) (by decide +kernel)
  have hx : X = wholeOf m 13 t0_0 := Dat.toRRel_leaves _ (by decide) hX
  subst hx
  funext z
  exact hA z

/-- Result 7 after the run: the specification's scales. -/
theorem result_7 {r : PUnit × MemSt nD τ sig (Elt Ideal)} (h : Pipeline.RDat.FramePost cfg0 (rdats m (values m)) (V m) r) (c : Dev nD) :
    r.2.mem ((c.tc : Thread nD τ).loc main_v2_7) = fun z => Spec.statA (lays m 0) (ins m 0) (z 0) (z 1) (z 2) := by
  obtain rfl : c = 0 := Subsingleton.elim _ _
  obtain ⟨X, hX, hA⟩ := ((h 0).1 14).emb_eq_of_wholeAt (t₀ := t0_0) (by decide +kernel)
  have hx : X = wholeOf m 14 t0_0 := Dat.toRRel_leaves _ (by decide) hX
  subst hx
  funext z
  exact hA z

end Cert.KernelIdeal.Hand
end
-- ==== Proof.RefRows.lean ====
/- The reference's vector functions over the extended reals, read at an entry: norms, scales, codes and products are the specification's. -/
module

public import proofs.«01_k».proof.Proof.Gen.ReferenceIdeal.Skeleton
public import proofs.«01_k».proof.Proof.SpecWhole

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic

/-- Row `r` of a matrix. -/
abbrev rowOf {M K : ℕ} {α : Type} (v : (⟨2, ![M, K]⟩ : Shape).Idx → α) (r : Fin M) : Fin K → α := fun i => v (ix2 r i)

/-- The normed rows of 2560. -/
theorem norm_at (v : FVec Ideal S12x2560 .f32) (g : Vec Ideal S1x2560 .f32) (r : Fin 12) (i : Fin 2560) :
    k0_pay17 v g (ix2 r i) = Spec.nrm (Ideal.ofBits .f32 1159725056#32) (rowOf v r) (rowOf g 0) i := by
  pointwise [k0_pay17]
  rfl

/-- The rows' scales. -/
theorem scale_at (v : FVec Ideal S12x2560 .f32) (g : Vec Ideal S1x2560 .f32) (r : Fin 12) :
    k0_pay18 v g (ix1 r) = Spec.scl (Spec.nrm (Ideal.ofBits .f32 1159725056#32) (rowOf v r) (rowOf g 0)) := by
  pointwise [k0_pay18]
  simp only [norm_at]
  rfl

/-- The rows' codes. -/
theorem codes_at (v : FVec Ideal S12x2560 .f32) (g : Vec Ideal S1x2560 .f32) (r : Fin 12) (i : Fin 2560) :
    k0_pay19 v g (ix2 r i) = Spec.byt (Spec.nrm (Ideal.ofBits .f32 1159725056#32) (rowOf v r) (rowOf g 0)) i := by
  pointwise [k0_pay19]
  simp only [norm_at, scale_at]
  rfl

/-- The normed rows of 6912. -/
theorem norm4_at (v : FVec Ideal S12x6912 .f32) (g : Vec Ideal S1x6912 .f32) (r : Fin 12) (i : Fin 6912) :
    k0_pay32 v (k0_pay30 g) (mulf v v) (ix2 r i) = Spec.nrm (Ideal.ofBits .f32 1171783680#32) (rowOf v r) (rowOf g 0) i := by
  pointwise [k0_pay32, k0_pay30]
  rfl

/-- The scales of the rows of 6912. -/
theorem scale4_at (v : FVec Ideal S12x6912 .f32) (g : Vec Ideal S1x6912 .f32) (r : Fin 12) :
    k0_pay33 v (k0_pay30 g) (mulf v v) (ix1 r) = Spec.scl (Spec.nrm (Ideal.ofBits .f32 1171783680#32) (rowOf v r) (rowOf g 0)) := by
  pointwise [k0_pay33]
  simp only [norm4_at]
  rfl

/-- The codes of the rows of 6912. -/
theorem codes4_at (v : FVec Ideal S12x6912 .f32) (g : Vec Ideal S1x6912 .f32) (r : Fin 12) (i : Fin 6912) :
    k0_pay34 v (k0_pay30 g) (mulf v v) (ix2 r i) = Spec.byt (Spec.nrm (Ideal.ofBits .f32 1171783680#32) (rowOf v r) (rowOf g 0)) i := by
  pointwise [k0_pay34]
  simp only [norm4_at, scale4_at]
  rfl

/-- One bit pair of the widened bytes, less one. -/
def plane {s : Shape} (d : BitVec 32) (w : IVec s 32) : FVec Ideal s .bf16 :=
  sitofp .bf16 (subi (andi (shrsi w (broadcast s d)) (broadcast s 3#32)) (broadcast s 1#32))

/-- A bit pair of the widened bytes, less one, read at an entry. -/
theorem plane_at {s : Shape} (j : Fin 4) (w : IVec s 8) (x : s.Idx) :
    plane (BitVec.ofNat 32 (2 * j.val)) (extui 32 w natLt_8_32) x = (((Spec.two j.val (w x) : ℝ) - 1 : ℝ) : EReal) := by
  rw [← Spec.two_wide]
  show (((IntOp.subi (IntOp.andi (IntOp.shrsi .vector ((w x).setWidth 32) (BitVec.ofNat 32 (2 * j.val))) 3#32) 1#32).toInt : ℝ) : EReal) = _
  have hi : (BitVec.ofNat 32 (2 * j.val)).toNat = 2 * j.val := by
    rw [BitVec.toNat_ofNat]; omega
  unfold IntOp.shrsi
  rw [if_pos (by rw [hi]; omega)]
  unfold IntOp.subi IntOp.andi
  rw [BitVec.sshiftRight_eq', hi]

/-- Four blocks set side by side, read at a column: the block that holds the column. -/
theorem cat_at {α : Type} {K M : ℕ} (hK : 0 < K) (f : Fin 4 → ((⟨2, ![12, K]⟩ : Shape).Idx → α))
    (h : Shape.Concatenates ((List.ofFn fun n : Fin 4 => (⟨⟨2, ![12, K]⟩, f n⟩ : (s : Shape) × (s.Idx → α))).map (·.1)) ⟨2, ![12, M]⟩ 1) (r : Fin 12) (o : Fin M)
    (ho : o.val / K < 4) :
    concatenate ⟨2, ![12, M]⟩ 1 (List.ofFn fun n : Fin 4 => (⟨⟨2, ![12, K]⟩, f n⟩ : (s : Shape) × (s.Idx → α))) h (ix2 r o)
      = f ⟨o.val / K, ho⟩ (ix2 r ⟨o.val % K, Nat.mod_lt _ hK⟩) :=
  concatenate_ofFn_apply 1 f h rfl K rfl (ix2 r o) ⟨o.val / K, ho⟩ rfl (ix2 r ⟨o.val % K, Nat.mod_lt _ hK⟩) rfl (fun b hb => by
    match b with
    | ⟨0, _⟩ => rfl
    | ⟨1, _⟩ => exact absurd rfl hb)

/-- The output projection's four products, one a bit pair, set side by side. -/
def prodO (c : IVec S12x2560 8) (w : IVec S640x2560 8) : FVec Ideal S12x2560 .f32 :=
  concatenate S12x2560 1 [⟨S12x640, matmul dot_S12x2560_S640x2560_S12x640_1_1_0_0_n_n none (sitofp .bf16 c) (plane 0#32 (extui 32 w natLt_8_32)) (constant S12x640 .f32 0x00000000#32)⟩,
    ⟨S12x640, matmul dot_S12x2560_S640x2560_S12x640_1_1_0_0_n_n none (sitofp .bf16 c) (plane 2#32 (extui 32 w natLt_8_32)) (constant S12x640 .f32 0x00000000#32)⟩,
    ⟨S12x640, matmul dot_S12x2560_S640x2560_S12x640_1_1_0_0_n_n none (sitofp .bf16 c) (plane 4#32 (extui 32 w natLt_8_32)) (constant S12x640 .f32 0x00000000#32)⟩,
    ⟨S12x640, matmul dot_S12x2560_S640x2560_S12x640_1_1_0_0_n_n none (sitofp .bf16 c) (plane 6#32 (extui 32 w natLt_8_32)) (constant S12x640 .f32 0x00000000#32)⟩] concatenates_S12x640_S12x640_S12x640_S12x640_S12x2560_d1

/-- The products read at an entry. -/
theorem prodO_at (c : IVec S12x2560 8) (w : IVec S640x2560 8) (r : Fin 12) (o : Fin 2560) (v : Fin 2560 → EReal)
    (hc : ∀ i, c (ix2 r i) = Spec.byt v i) :
    prodO c w (ix2 r o) = Spec.lin (R := 640) (by decide) (Spec.cod v) (fun p i => w (ix2 p i)) o := by
  have ho : o.val / 640 < 4 := by have := o.isLt; omega
  refine (cat_at (K := 640) (by decide) (fun j : Fin 4 => matmul (F := Ideal) dot_S12x2560_S640x2560_S12x640_1_1_0_0_n_n none (sitofp .bf16 c)
    (plane (BitVec.ofNat 32 (2 * j.val)) (extui 32 w natLt_8_32)) (constant S12x640 .f32 0x00000000#32)) concatenates_S12x640_S12x640_S12x640_S12x640_S12x2560_d1 r o ho).trans ?_
  have e (a : FVec Ideal S12x2560 .bf16) (b : FVec Ideal S640x2560 .bf16) (q : Fin 640) :
      matmul dot_S12x2560_S640x2560_S12x640_1_1_0_0_n_n none a b (constant S12x640 .f32 0x00000000#32) (ix2 r q) = ∑ t : Fin 2560, a (ix2 r t) * b (ix2 q t) := by
    pointwise
  refine (e _ _ _).trans (Finset.sum_congr rfl fun t _ => ?_)
  rw [plane_at]
  congr 1
  show (((c (ix2 r t)).toInt : ℝ) : EReal) = _
  rw [hc, Spec.byt_toInt]

/-- The gate's and up projection's four products, one a bit pair, set side by side. -/
def prodG (c : IVec S12x2560 8) (w : IVec S1728x2560 8) : FVec Ideal S12x6912 .f32 :=
  concatenate S12x6912 1 [⟨S12x1728, matmul dot_S12x2560_S1728x2560_S12x1728_1_1_0_0_n_n none (sitofp .bf16 c) (plane 0#32 (extui 32 w natLt_8_32)) (constant S12x1728 .f32 0x00000000#32)⟩,
    ⟨S12x1728, matmul dot_S12x2560_S1728x2560_S12x1728_1_1_0_0_n_n none (sitofp .bf16 c) (plane 2#32 (extui 32 w natLt_8_32)) (constant S12x1728 .f32 0x00000000#32)⟩,
    ⟨S12x1728, matmul dot_S12x2560_S1728x2560_S12x1728_1_1_0_0_n_n none (sitofp .bf16 c) (plane 4#32 (extui 32 w natLt_8_32)) (constant S12x1728 .f32 0x00000000#32)⟩,
    ⟨S12x1728, matmul dot_S12x2560_S1728x2560_S12x1728_1_1_0_0_n_n none (sitofp .bf16 c) (plane 6#32 (extui 32 w natLt_8_32)) (constant S12x1728 .f32 0x00000000#32)⟩] concatenates_S12x1728_S12x1728_S12x1728_S12x1728_S12x6912_d1

/-- The products read at an entry. -/
theorem prodG_at (c : IVec S12x2560 8) (w : IVec S1728x2560 8) (r : Fin 12) (o : Fin 6912) (v : Fin 2560 → EReal)
    (hc : ∀ i, c (ix2 r i) = Spec.byt v i) :
    prodG c w (ix2 r o) = Spec.lin (R := 1728) (by decide) (Spec.cod v) (fun p i => w (ix2 p i)) o := by
  have ho : o.val / 1728 < 4 := by have := o.isLt; omega
  refine (cat_at (K := 1728) (by decide) (fun j : Fin 4 => matmul (F := Ideal) dot_S12x2560_S1728x2560_S12x1728_1_1_0_0_n_n none (sitofp .bf16 c)
    (plane (BitVec.ofNat 32 (2 * j.val)) (extui 32 w natLt_8_32)) (constant S12x1728 .f32 0x00000000#32)) concatenates_S12x1728_S12x1728_S12x1728_S12x1728_S12x6912_d1 r o ho).trans ?_
  have e (a : FVec Ideal S12x2560 .bf16) (b : FVec Ideal S1728x2560 .bf16) (q : Fin 1728) :
      matmul dot_S12x2560_S1728x2560_S12x1728_1_1_0_0_n_n none a b (constant S12x1728 .f32 0x00000000#32) (ix2 r q) = ∑ t : Fin 2560, a (ix2 r t) * b (ix2 q t) := by
    pointwise
  refine (e _ _ _).trans (Finset.sum_congr rfl fun t _ => ?_)
  rw [plane_at]
  congr 1
  show (((c (ix2 r t)).toInt : ℝ) : EReal) = _
  rw [hc, Spec.byt_toInt]

/-- The down projection's four products, one a bit pair, set side by side. -/
def prodD (c : IVec S12x6912 8) (w : IVec S640x6912 8) : FVec Ideal S12x2560 .f32 :=
  concatenate S12x2560 1 [⟨S12x640, matmul dot_S12x6912_S640x6912_S12x640_1_1_0_0_n_n none (sitofp .bf16 c) (plane 0#32 (extui 32 w natLt_8_32)) (constant S12x640 .f32 0x00000000#32)⟩,
    ⟨S12x640, matmul dot_S12x6912_S640x6912_S12x640_1_1_0_0_n_n none (sitofp .bf16 c) (plane 2#32 (extui 32 w natLt_8_32)) (constant S12x640 .f32 0x00000000#32)⟩,
    ⟨S12x640, matmul dot_S12x6912_S640x6912_S12x640_1_1_0_0_n_n none (sitofp .bf16 c) (plane 4#32 (extui 32 w natLt_8_32)) (constant S12x640 .f32 0x00000000#32)⟩,
    ⟨S12x640, matmul dot_S12x6912_S640x6912_S12x640_1_1_0_0_n_n none (sitofp .bf16 c) (plane 6#32 (extui 32 w natLt_8_32)) (constant S12x640 .f32 0x00000000#32)⟩] concatenates_S12x640_S12x640_S12x640_S12x640_S12x2560_d1

/-- The products read at an entry. -/
theorem prodD_at (c : IVec S12x6912 8) (w : IVec S640x6912 8) (r : Fin 12) (o : Fin 2560) (v : Fin 6912 → EReal)
    (hc : ∀ i, c (ix2 r i) = Spec.byt v i) :
    prodD c w (ix2 r o) = Spec.lin (R := 640) (by decide) (Spec.cod v) (fun p i => w (ix2 p i)) o := by
  have ho : o.val / 640 < 4 := by have := o.isLt; omega
  refine (cat_at (K := 640) (by decide) (fun j : Fin 4 => matmul (F := Ideal) dot_S12x6912_S640x6912_S12x640_1_1_0_0_n_n none (sitofp .bf16 c)
    (plane (BitVec.ofNat 32 (2 * j.val)) (extui 32 w natLt_8_32)) (constant S12x640 .f32 0x00000000#32)) concatenates_S12x640_S12x640_S12x640_S12x640_S12x2560_d1 r o ho).trans ?_
  have e (a : FVec Ideal S12x6912 .bf16) (b : FVec Ideal S640x6912 .bf16) (q : Fin 640) :
      matmul dot_S12x6912_S640x6912_S12x640_1_1_0_0_n_n none a b (constant S12x640 .f32 0x00000000#32) (ix2 r q) = ∑ t : Fin 6912, a (ix2 r t) * b (ix2 q t) := by
    pointwise
  refine (e _ _ _).trans (Finset.sum_congr rfl fun t _ => ?_)
  rw [plane_at]
  congr 1
  show (((c (ix2 r t)).toInt : ℝ) : EReal) = _
  rw [hc, Spec.byt_toInt]

/-- A matrix scaled row by row, read at an entry. -/
theorem rows2560_at (p : FVec Ideal S12x2560 .f32) (q : FVec Ideal S12 .f32) (z : Ideal .f32) (r : Fin 12) (o : Fin 2560) :
    mulf p (broadcastTo S12x2560 (mulf (shapeCast S12x1 q shapeCasts_S12_S12x1) (broadcast S12x1 z)) broadcasts_S12x1_S12x2560) (ix2 r o)
      = p (ix2 r o) * (q (ix1 r) * z) := by
  pointwise

/-- A matrix scaled row by row, read at an entry. -/
theorem rows6912_at (p : FVec Ideal S12x6912 .f32) (q : FVec Ideal S12 .f32) (z : Ideal .f32) (r : Fin 12) (o : Fin 6912) :
    mulf p (broadcastTo S12x6912 (mulf (shapeCast S12x1 q shapeCasts_S12_S12x1) (broadcast S12x1 z)) broadcasts_S12x1_S12x6912) (ix2 r o)
      = p (ix2 r o) * (q (ix1 r) * z) := by
  pointwise

/-- Scale 3 of a layer's seven. -/
theorem sc3_at (s : FVec Ideal S7 .f32) : (extractAt ![0] (extractStridedSlice S1 ![3] s slices_S7_o3_S1) inpos_S1_p0) = s (ix1 3) := by
  pointwise

/-- Scale 4 of a layer's seven. -/
theorem sc4_at (s : FVec Ideal S7 .f32) : (extractAt ![0] (extractStridedSlice S1 ![4] s slices_S7_o4_S1) inpos_S1_p0) = s (ix1 4) := by
  pointwise

/-- Scale 5 of a layer's seven. -/
theorem sc5_at (s : FVec Ideal S7 .f32) : (extractAt ![0] (extractStridedSlice S1 ![5] s slices_S7_o5_S1) inpos_S1_p0) = s (ix1 5) := by
  pointwise

/-- Scale 6 of a layer's seven. -/
theorem sc6_at (s : FVec Ideal S7 .f32) : (extractAt ![0] (extractStridedSlice S1 ![6] s slices_S7_o6_S1) inpos_S1_p0) = s (ix1 6) := by
  pointwise

end Cert.ReferenceIdeal.Hand
end
-- ==== Proof.RefLayer.lean ====
/- One layer of the reference over the extended reals, row by row, is the specification's layer. -/
module

public import proofs.«01_k».proof.Proof.RefRows

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic

/-- What a layer of the reference loads. -/
structure In where
  /-- The attention output's slab. -/
  at4 : Vec Ideal S1x12x1x2560 .f32
  /-- The packed output-projection weights. -/
  wo : Vec Ideal S1x640x2560 .i8
  /-- The packed gate weights. -/
  wg : Vec Ideal S1x1728x2560 .i8
  /-- The packed up weights. -/
  wu : Vec Ideal S1x1728x2560 .i8
  /-- The packed down weights. -/
  wd : Vec Ideal S1x640x6912 .i8
  /-- The weights' scales. -/
  sc : Vec Ideal S1x7 .bf16
  /-- The input norm's gains. -/
  gi : Vec Ideal S1x2560 .f32
  /-- The attention sub-norm's gains. -/
  ga : Vec Ideal S1x2560 .f32
  /-- The post-attention norm's gains. -/
  gp : Vec Ideal S1x2560 .f32
  /-- The feed-forward sub-norm's gains. -/
  gf : Vec Ideal S1x6912 .f32

/-- What a layer loads is the specification's layer. -/
structure Is (L : In) (y : Spec.Layer) : Prop where
  at4 : ∀ b i, L.at4 (Idealize.ShloMosaic.ix4 (0 : Fin 1) b (0 : Fin 1) i) = y.at' b i
  wo : ∀ p i, L.wo (Idealize.ShloMosaic.ix3 (0 : Fin 1) p i) = y.wo p i
  wg : ∀ p i, L.wg (Idealize.ShloMosaic.ix3 (0 : Fin 1) p i) = y.wg p i
  wu : ∀ p i, L.wu (Idealize.ShloMosaic.ix3 (0 : Fin 1) p i) = y.wu p i
  wd : ∀ p i, L.wd (Idealize.ShloMosaic.ix3 (0 : Fin 1) p i) = y.wd p i
  sc : ∀ n, L.sc (ix2 0 n) = y.sc n
  gi : rowOf L.gi 0 = y.gi
  ga : rowOf L.ga 0 = y.ga
  gp : rowOf L.gp 0 = y.gp
  gf : rowOf L.gf 0 = y.gf

/-- A matrix's rows scaled by a row scale times one number. -/
abbrev scaled (p : FVec Ideal S12x2560 .f32) (q : FVec Ideal S12 .f32) (z : Ideal .f32) : FVec Ideal S12x2560 .f32 :=
  mulf p (broadcastTo S12x2560 (mulf (shapeCast S12x1 q shapeCasts_S12_S12x1) (broadcast S12x1 z)) broadcasts_S12x1_S12x2560)

/-- The same, of rows of 6912. -/
abbrev scaledW (p : FVec Ideal S12x6912 .f32) (q : FVec Ideal S12 .f32) (z : Ideal .f32) : FVec Ideal S12x6912 .f32 :=
  mulf p (broadcastTo S12x6912 (mulf (shapeCast S12x1 q shapeCasts_S12_S12x1) (broadcast S12x1 z)) broadcasts_S12x1_S12x6912)

/-- A scaled matrix read at an entry. -/
theorem scaled_at (p : FVec Ideal S12x2560 .f32) (q : FVec Ideal S12 .f32) (z : Ideal .f32) (r : Fin 12) (o : Fin 2560) :
    scaled p q z (ix2 r o) = p (ix2 r o) * (q (ix1 r) * z) := rows2560_at p q z r o
/-- The same, of rows of 6912. -/
theorem scaledW_at (p : FVec Ideal S12x6912 .f32) (q : FVec Ideal S12 .f32) (z : Ideal .f32) (r : Fin 12) (o : Fin 6912) :
    scaledW p q z (ix2 r o) = p (ix2 r o) * (q (ix1 r) * z) := rows6912_at p q z r o

namespace In

variable (L : In)

/-- The attention output's rows. -/
abbrev att : FVec Ideal S12x2560 .f32 := k0_pay55 L.at4
/-- The layer's seven scales. -/
abbrev scs : FVec Ideal S7 .f32 := k0_pay5 L.sc
/-- The second product's codes. -/
abbrev c2 : IVec S12x2560 8 := k0_pay19 L.att L.ga
/-- The second product's scales. -/
abbrev s2 : FVec Ideal S12 .f32 := k0_pay18 L.att L.ga
/-- The middle stream. -/
def mid (v : FVec Ideal S12x2560 .f32) : FVec Ideal S12x2560 .f32 :=
  addf v (scaled (prodO L.c2 (k0_pay14 L.wo)) L.s2 (extractAt ![0] (extractStridedSlice S1 ![3] L.scs slices_S7_o3_S1) inpos_S1_p0))
/-- The hidden rows: the gate clipped below at zero, squared, times the up projection. -/
def hid (m : FVec Ideal S12x2560 .f32) : FVec Ideal S12x6912 .f32 :=
  mulf (mulf (maximumf (scaledW (prodG (k0_pay19 m L.gp) (shapeCast S1728x2560 L.wg shapeCasts_S1x1728x2560_S1728x2560)) (k0_pay18 m L.gp) (extractAt ![0] (extractStridedSlice S1 ![4] L.scs slices_S7_o4_S1) inpos_S1_p0))
      (broadcast S12x6912 (Scalar.ofBits .f32 0x00000000#32)))
    (maximumf (scaledW (prodG (k0_pay19 m L.gp) (shapeCast S1728x2560 L.wg shapeCasts_S1x1728x2560_S1728x2560)) (k0_pay18 m L.gp) (extractAt ![0] (extractStridedSlice S1 ![4] L.scs slices_S7_o4_S1) inpos_S1_p0))
      (broadcast S12x6912 (Scalar.ofBits .f32 0x00000000#32))))
    (scaledW (prodG (k0_pay19 m L.gp) (shapeCast S1728x2560 L.wu shapeCasts_S1x1728x2560_S1728x2560)) (k0_pay18 m L.gp) (extractAt ![0] (extractStridedSlice S1 ![5] L.scs slices_S7_o5_S1) inpos_S1_p0))
/-- The fourth product's codes. -/
abbrev c4 (h : FVec Ideal S12x6912 .f32) : IVec S12x6912 8 := k0_pay34 h (k0_pay30 L.gf) (mulf h h)
/-- The fourth product's scales. -/
abbrev s4 (h : FVec Ideal S12x6912 .f32) : FVec Ideal S12 .f32 := k0_pay33 h (k0_pay30 L.gf) (mulf h h)
/-- The layer's output stream. -/
def out (m : FVec Ideal S12x2560 .f32) (h : FVec Ideal S12x6912 .f32) : FVec Ideal S12x2560 .f32 :=
  addf m (scaled (prodD (L.c4 h) (shapeCast S640x6912 L.wd shapeCasts_S1x640x6912_S640x6912)) (L.s4 h) (extractAt ![0] (extractStridedSlice S1 ![6] L.scs slices_S7_o6_S1) inpos_S1_p0))
/-- The stream after the layer. -/
abbrev step (v : FVec Ideal S12x2560 .f32) : FVec Ideal S12x2560 .f32 := L.out (L.mid v) (L.hid (L.mid v))

end In

variable {L : In} {y : Spec.Layer}

/-- The attention output's rows read at an entry. -/
theorem att_row (h : Is L y) (b : Fin 12) : rowOf L.att b = y.at' b := by
  funext i
  rw [← h.at4]
  show L.att (ix2 b i) = _
  pointwise [In.att, k0_pay55]

/-- A scale read at its number. -/
theorem scs_at (h : Is L y) (n : Fin 7) : L.scs (ix1 n) = y.sc n := by
  rw [← h.sc]
  pointwise [In.scs, k0_pay5]

/-- The second product's codes are the specification's. -/
theorem c2_at (h : Is L y) (b : Fin 12) (i : Fin 2560) : L.c2 (ix2 b i) = Spec.byt (y.n2 b) i := by
  refine (codes_at L.att L.ga b i).trans ?_
  rw [att_row h, h.ga]

/-- The second product's scales are the specification's. -/
theorem s2_at (h : Is L y) (b : Fin 12) : L.s2 (ix1 b) = Spec.scl (y.n2 b) := by
  refine (scale_at L.att L.ga b).trans ?_
  rw [att_row h, h.ga]

/-- The middle stream is the specification's. -/
theorem mid_row (h : Is L y) (v : FVec Ideal S12x2560 .f32) (b : Fin 12) : rowOf (L.mid v) b = y.mid b (rowOf v b) := by
  funext o
  have hw : (fun (p : Fin 640) (i : Fin 2560) => k0_pay14 L.wo (ix2 p i)) = y.wo := by
    funext p i
    rw [← h.wo]
    pointwise [k0_pay14]
  show v (ix2 b o) + scaled _ _ _ (ix2 b o) = _
  rw [scaled_at, prodO_at L.c2 (k0_pay14 L.wo) b o (y.n2 b) (c2_at h b), hw, s2_at h, sc3_at, scs_at h]
  rfl

/-- The third product's codes are the specification's. -/
theorem c3_at (h : Is L y) (m : FVec Ideal S12x2560 .f32) (b : Fin 12) (i : Fin 2560) : k0_pay19 m L.gp (ix2 b i) = Spec.byt (y.n3 (rowOf m b)) i := by
  refine (codes_at m L.gp b i).trans ?_
  rw [h.gp]

/-- The third product's scales are the specification's. -/
theorem s3_at (h : Is L y) (m : FVec Ideal S12x2560 .f32) (b : Fin 12) : k0_pay18 m L.gp (ix1 b) = Spec.scl (y.n3 (rowOf m b)) := by
  refine (scale_at m L.gp b).trans ?_
  rw [h.gp]

/-- The hidden rows are the specification's. -/
theorem hid_row (h : Is L y) (m : FVec Ideal S12x2560 .f32) (b : Fin 12) : rowOf (L.hid m) b = y.hid (rowOf m b) := by
  funext o
  have hg : (fun (p : Fin 1728) (i : Fin 2560) => shapeCast S1728x2560 L.wg shapeCasts_S1x1728x2560_S1728x2560 (ix2 p i)) = y.wg := by
    funext p i
    rw [← h.wg]
    pointwise
  have hu : (fun (p : Fin 1728) (i : Fin 2560) => shapeCast S1728x2560 L.wu shapeCasts_S1x1728x2560_S1728x2560 (ix2 p i)) = y.wu := by
    funext p i
    rw [← h.wu]
    pointwise
  show max (scaledW _ _ _ (ix2 b o)) (Ideal.ofBits .f32 0#32) * max (scaledW _ _ _ (ix2 b o)) (Ideal.ofBits .f32 0#32) * scaledW _ _ _ (ix2 b o) = _
  rw [scaledW_at, scaledW_at, prodG_at _ (shapeCast S1728x2560 L.wg shapeCasts_S1x1728x2560_S1728x2560) b o (y.n3 (rowOf m b)) (c3_at h m b),
    prodG_at _ (shapeCast S1728x2560 L.wu shapeCasts_S1x1728x2560_S1728x2560) b o (y.n3 (rowOf m b)) (c3_at h m b), hg, hu, s3_at h, sc4_at, sc5_at, scs_at h, scs_at h]
  rfl

/-- The fourth product's codes are the specification's. -/
theorem c4_at (h : Is L y) (w : FVec Ideal S12x6912 .f32) (b : Fin 12) (i : Fin 6912) : L.c4 w (ix2 b i) = Spec.byt (y.n4 (rowOf w b)) i := by
  refine (codes4_at w L.gf b i).trans ?_
  rw [h.gf]

/-- The fourth product's scales are the specification's. -/
theorem s4_at (h : Is L y) (w : FVec Ideal S12x6912 .f32) (b : Fin 12) : L.s4 w (ix1 b) = Spec.scl (y.n4 (rowOf w b)) := by
  refine (scale4_at w L.gf b).trans ?_
  rw [h.gf]

/-- The output rows are the specification's. -/
theorem out_row (h : Is L y) (m : FVec Ideal S12x2560 .f32) (w : FVec Ideal S12x6912 .f32) (b : Fin 12) :
    rowOf (L.out m w) b = y.out (rowOf m b) (rowOf w b) := by
  funext o
  have hw : (fun (p : Fin 640) (i : Fin 6912) => shapeCast S640x6912 L.wd shapeCasts_S1x640x6912_S640x6912 (ix2 p i)) = y.wd := by
    funext p i
    rw [← h.wd]
    pointwise
  show m (ix2 b o) + scaled _ _ _ (ix2 b o) = _
  rw [scaled_at, prodD_at (L.c4 w) (shapeCast S640x6912 L.wd shapeCasts_S1x640x6912_S640x6912) b o (y.n4 (rowOf w b)) (c4_at h w b), hw, s4_at h, sc6_at, scs_at h]
  rfl

/-- The stream after the layer is the specification's. -/
theorem step_row (h : Is L y) (v : FVec Ideal S12x2560 .f32) (b : Fin 12) : rowOf (L.step v) b = y.step b (rowOf v b) := by
  rw [In.step, out_row h, hid_row h, mid_row h]
  rfl

end Cert.ReferenceIdeal.Hand
end
-- ==== Proof.RefPieces.lean ====
/- What the reference's body stores over the extended reals: the layers' vectors, a slab a layer. -/
module

public import proofs.«01_k».proof.Proof.RefLayer
public import proofs.«01_k».proof.Proof.Gen.ReferenceIdeal.Frame

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic

variable (c : Dev nD) (arg0 : Memref sig .tc .vmem S12x1x2560 .bf16) (harg0 : arg0.IsWhole) (arg1 : Memref sig .tc .vmem S3x12x1x2560 .f32) (harg1 : arg1.IsWhole) (arg2 : Memref sig .tc .vmem S3x640x2560 .i8) (harg2 : arg2.IsWhole) (arg3 : Memref sig .tc .vmem S3x1728x2560 .i8) (harg3 : arg3.IsWhole) (arg4 : Memref sig .tc .vmem S3x1728x2560 .i8) (harg4 : arg4.IsWhole) (arg5 : Memref sig .tc .vmem S3x640x6912 .i8) (harg5 : arg5.IsWhole) (arg6 : Memref sig .tc .vmem S3x7 .bf16) (harg6 : arg6.IsWhole) (arg7 : Memref sig .tc .vmem S3x2560 .f32) (harg7 : arg7.IsWhole) (arg8 : Memref sig .tc .vmem S3x2560 .f32) (harg8 : arg8.IsWhole) (arg9 : Memref sig .tc .vmem S3x2560 .f32) (harg9 : arg9.IsWhole) (arg10 : Memref sig .tc .vmem S3x6912 .f32) (harg10 : arg10.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)
  (x0 : Vec Ideal S12x1x2560 .bf16) (x1 : Vec Ideal S3x12x1x2560 .f32) (x2 : Vec Ideal S3x640x2560 .i8) (x3 : Vec Ideal S3x1728x2560 .i8) (x4 : Vec Ideal S3x1728x2560 .i8) (x5 : Vec Ideal S3x640x6912 .i8) (x6 : Vec Ideal S3x7 .bf16) (x7 : Vec Ideal S3x2560 .f32) (x8 : Vec Ideal S3x2560 .f32) (x9 : Vec Ideal S3x2560 .f32) (x10 : Vec Ideal S3x6912 .f32)

/-- What the first layer loads. -/
def ld0 : In where
  at4 := View.readAt (Elt Ideal) arg1.view (Rect.unit (s := S3x12x1x2560) ![0, 0, 0, 0] S1x12x1x2560.size inb_S3x12x1x2560_S1x12x1x2560_0_0_0_0).toLoadRect (harg1.unread x1)
  wo := View.readAt (Elt Ideal) arg2.view (Rect.unit (s := S3x640x2560) ![0, 0, 0] S1x640x2560.size inb_S3x640x2560_S1x640x2560_0_0_0).toLoadRect (harg2.unread x2)
  wg := View.readAt (Elt Ideal) arg3.view (Rect.unit (s := S3x1728x2560) ![0, 0, 0] S1x1728x2560.size inb_S3x1728x2560_S1x1728x2560_0_0_0).toLoadRect (harg3.unread x3)
  wu := View.readAt (Elt Ideal) arg4.view (Rect.unit (s := S3x1728x2560) ![0, 0, 0] S1x1728x2560.size inb_S3x1728x2560_S1x1728x2560_0_0_0).toLoadRect (harg4.unread x4)
  wd := View.readAt (Elt Ideal) arg5.view (Rect.unit (s := S3x640x6912) ![0, 0, 0] S1x640x6912.size inb_S3x640x6912_S1x640x6912_0_0_0).toLoadRect (harg5.unread x5)
  sc := View.readAt (Elt Ideal) arg6.view (Rect.unit (s := S3x7) ![0, 0] S1x7.size inb_S3x7_S1x7_0_0).toLoadRect (harg6.unread x6)
  gi := View.readAt (Elt Ideal) arg7.view (Rect.unit (s := S3x2560) ![0, 0] S1x2560.size inb_S3x2560_S1x2560_0_0).toLoadRect (harg7.unread x7)
  ga := View.readAt (Elt Ideal) arg8.view (Rect.unit (s := S3x2560) ![0, 0] S1x2560.size inb_S3x2560_S1x2560_0_0).toLoadRect (harg8.unread x8)
  gp := View.readAt (Elt Ideal) arg9.view (Rect.unit (s := S3x2560) ![0, 0] S1x2560.size inb_S3x2560_S1x2560_0_0).toLoadRect (harg9.unread x9)
  gf := View.readAt (Elt Ideal) arg10.view (Rect.unit (s := S3x6912) ![0, 0] S1x6912.size inb_S3x6912_S1x6912_0_0).toLoadRect (harg10.unread x10)
/-- What the second layer loads. -/
def ld1 : In where
  at4 := View.readAt (Elt Ideal) arg1.view (Rect.unit (s := S3x12x1x2560) ![1, 0, 0, 0] S1x12x1x2560.size inb_S3x12x1x2560_S1x12x1x2560_1_0_0_0).toLoadRect (harg1.unread x1)
  wo := View.readAt (Elt Ideal) arg2.view (Rect.unit (s := S3x640x2560) ![1, 0, 0] S1x640x2560.size inb_S3x640x2560_S1x640x2560_1_0_0).toLoadRect (harg2.unread x2)
  wg := View.readAt (Elt Ideal) arg3.view (Rect.unit (s := S3x1728x2560) ![1, 0, 0] S1x1728x2560.size inb_S3x1728x2560_S1x1728x2560_1_0_0).toLoadRect (harg3.unread x3)
  wu := View.readAt (Elt Ideal) arg4.view (Rect.unit (s := S3x1728x2560) ![1, 0, 0] S1x1728x2560.size inb_S3x1728x2560_S1x1728x2560_1_0_0).toLoadRect (harg4.unread x4)
  wd := View.readAt (Elt Ideal) arg5.view (Rect.unit (s := S3x640x6912) ![1, 0, 0] S1x640x6912.size inb_S3x640x6912_S1x640x6912_1_0_0).toLoadRect (harg5.unread x5)
  sc := View.readAt (Elt Ideal) arg6.view (Rect.unit (s := S3x7) ![1, 0] S1x7.size inb_S3x7_S1x7_1_0).toLoadRect (harg6.unread x6)
  gi := View.readAt (Elt Ideal) arg7.view (Rect.unit (s := S3x2560) ![1, 0] S1x2560.size inb_S3x2560_S1x2560_1_0).toLoadRect (harg7.unread x7)
  ga := View.readAt (Elt Ideal) arg8.view (Rect.unit (s := S3x2560) ![1, 0] S1x2560.size inb_S3x2560_S1x2560_1_0).toLoadRect (harg8.unread x8)
  gp := View.readAt (Elt Ideal) arg9.view (Rect.unit (s := S3x2560) ![1, 0] S1x2560.size inb_S3x2560_S1x2560_1_0).toLoadRect (harg9.unread x9)
  gf := View.readAt (Elt Ideal) arg10.view (Rect.unit (s := S3x6912) ![1, 0] S1x6912.size inb_S3x6912_S1x6912_1_0).toLoadRect (harg10.unread x10)
/-- What the third layer loads. -/
def ld2 : In where
  at4 := View.readAt (Elt Ideal) arg1.view (Rect.unit (s := S3x12x1x2560) ![2, 0, 0, 0] S1x12x1x2560.size inb_S3x12x1x2560_S1x12x1x2560_2_0_0_0).toLoadRect (harg1.unread x1)
  wo := View.readAt (Elt Ideal) arg2.view (Rect.unit (s := S3x640x2560) ![2, 0, 0] S1x640x2560.size inb_S3x640x2560_S1x640x2560_2_0_0).toLoadRect (harg2.unread x2)
  wg := View.readAt (Elt Ideal) arg3.view (Rect.unit (s := S3x1728x2560) ![2, 0, 0] S1x1728x2560.size inb_S3x1728x2560_S1x1728x2560_2_0_0).toLoadRect (harg3.unread x3)
  wu := View.readAt (Elt Ideal) arg4.view (Rect.unit (s := S3x1728x2560) ![2, 0, 0] S1x1728x2560.size inb_S3x1728x2560_S1x1728x2560_2_0_0).toLoadRect (harg4.unread x4)
  wd := View.readAt (Elt Ideal) arg5.view (Rect.unit (s := S3x640x6912) ![2, 0, 0] S1x640x6912.size inb_S3x640x6912_S1x640x6912_2_0_0).toLoadRect (harg5.unread x5)
  sc := View.readAt (Elt Ideal) arg6.view (Rect.unit (s := S3x7) ![2, 0] S1x7.size inb_S3x7_S1x7_2_0).toLoadRect (harg6.unread x6)
  gi := View.readAt (Elt Ideal) arg7.view (Rect.unit (s := S3x2560) ![2, 0] S1x2560.size inb_S3x2560_S1x2560_2_0).toLoadRect (harg7.unread x7)
  ga := View.readAt (Elt Ideal) arg8.view (Rect.unit (s := S3x2560) ![2, 0] S1x2560.size inb_S3x2560_S1x2560_2_0).toLoadRect (harg8.unread x8)
  gp := View.readAt (Elt Ideal) arg9.view (Rect.unit (s := S3x2560) ![2, 0] S1x2560.size inb_S3x2560_S1x2560_2_0).toLoadRect (harg9.unread x9)
  gf := View.readAt (Elt Ideal) arg10.view (Rect.unit (s := S3x6912) ![2, 0] S1x6912.size inb_S3x6912_S1x6912_2_0).toLoadRect (harg10.unread x10)

/-- The middle stream of the first layer. -/
theorem m0_eq : (kernelRun0_A.sl.r_9 c arg0 harg0 arg1 harg1 arg2 harg2 arg6 harg6 arg8 harg8 x0 x1 x2 x6 x8) = In.mid (ld0 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r c arg0 harg0 x0) := rfl
/-- The hidden rows of the first layer. -/
theorem h0_eq : (kernelRun0_A.sl.r_20 c arg0 harg0 arg1 harg1 arg2 harg2 arg3 harg3 arg4 harg4 arg6 harg6 arg8 harg8 arg9 harg9 x0 x1 x2 x3 x4 x6 x8 x9) = In.hid (ld0 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_9 c arg0 harg0 arg1 harg1 arg2 harg2 arg6 harg6 arg8 harg8 x0 x1 x2 x6 x8) := rfl
/-- The stream after the first layer. -/
theorem o0_eq : (kernelRun0_A.sl.r_29 c arg0 harg0 arg1 harg1 arg2 harg2 arg3 harg3 arg4 harg4 arg5 harg5 arg6 harg6 arg8 harg8 arg9 harg9 arg10 harg10 x0 x1 x2 x3 x4 x5 x6 x8 x9 x10) = In.out (ld0 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_9 c arg0 harg0 arg1 harg1 arg2 harg2 arg6 harg6 arg8 harg8 x0 x1 x2 x6 x8) (kernelRun0_A.sl.r_20 c arg0 harg0 arg1 harg1 arg2 harg2 arg3 harg3 arg4 harg4 arg6 harg6 arg8 harg8 arg9 harg9 x0 x1 x2 x3 x4 x6 x8 x9) := rfl
/-- The first scales of the first layer. -/
theorem s10_eq : (kernelRun0_A.sl.r_2 c arg0 harg0 arg7 harg7 x0 x7) = k0_pay18 (kernelRun0_A.sl.r c arg0 harg0 x0) (In.gi (ld0 arg1 harg1 arg2 harg2 arg3 harg3 arg4 harg4 arg5 harg5 arg6 harg6 arg7 harg7 arg8 harg8 arg9 harg9 arg10 harg10 x1 x2 x3 x4 x5 x6 x7 x8 x9 x10)) := rfl
/-- The first codes of the first layer. -/
theorem c10_eq : (kernelRun0_A.sl.r_4 c arg0 harg0 arg7 harg7 x0 x7) = k0_pay19 (kernelRun0_A.sl.r c arg0 harg0 x0) (In.gi (ld0 arg1 harg1 arg2 harg2 arg3 harg3 arg4 harg4 arg5 harg5 arg6 harg6 arg7 harg7 arg8 harg8 arg9 harg9 arg10 harg10 x1 x2 x3 x4 x5 x6 x7 x8 x9 x10)) := rfl
/-- The second scales of the first layer. -/
theorem s20_eq : (kernelRun0_A.sl.r_5 c arg1 harg1 arg8 harg8 x1 x8) = In.s2 (ld0 arg1 harg1 arg2 harg2 arg3 harg3 arg4 harg4 arg5 harg5 arg6 harg6 arg7 harg7 arg8 harg8 arg9 harg9 arg10 harg10 x1 x2 x3 x4 x5 x6 x7 x8 x9 x10) := rfl
/-- The second codes of the first layer. -/
theorem c20_eq : (kernelRun0_A.sl.r_6 c arg1 harg1 arg8 harg8 x1 x8) = In.c2 (ld0 arg1 harg1 arg2 harg2 arg3 harg3 arg4 harg4 arg5 harg5 arg6 harg6 arg7 harg7 arg8 harg8 arg9 harg9 arg10 harg10 x1 x2 x3 x4 x5 x6 x7 x8 x9 x10) := rfl
/-- The third scales of the first layer. -/
theorem s30_eq : (kernelRun0_A.sl.r_10 c arg0 harg0 arg1 harg1 arg2 harg2 arg6 harg6 arg8 harg8 arg9 harg9 x0 x1 x2 x6 x8 x9) = k0_pay18 (kernelRun0_A.sl.r_9 c arg0 harg0 arg1 harg1 arg2 harg2 arg6 harg6 arg8 harg8 x0 x1 x2 x6 x8) (In.gp (ld0 arg1 harg1 arg2 harg2 arg3 harg3 arg4 harg4 arg5 harg5 arg6 harg6 arg7 harg7 arg8 harg8 arg9 harg9 arg10 harg10 x1 x2 x3 x4 x5 x6 x7 x8 x9 x10)) := rfl
/-- The third codes of the first layer. -/
theorem c30_eq : (kernelRun0_A.sl.r_11 c arg0 harg0 arg1 harg1 arg2 harg2 arg6 harg6 arg8 harg8 arg9 harg9 x0 x1 x2 x6 x8 x9) = k0_pay19 (kernelRun0_A.sl.r_9 c arg0 harg0 arg1 harg1 arg2 harg2 arg6 harg6 arg8 harg8 x0 x1 x2 x6 x8) (In.gp (ld0 arg1 harg1 arg2 harg2 arg3 harg3 arg4 harg4 arg5 harg5 arg6 harg6 arg7 harg7 arg8 harg8 arg9 harg9 arg10 harg10 x1 x2 x3 x4 x5 x6 x7 x8 x9 x10)) := rfl
/-- The fourth scales of the first layer. -/
theorem s40_eq : (kernelRun0_A.sl.r_23 c arg0 harg0 arg1 harg1 arg2 harg2 arg3 harg3 arg4 harg4 arg6 harg6 arg8 harg8 arg9 harg9 arg10 harg10 x0 x1 x2 x3 x4 x6 x8 x9 x10) = In.s4 (ld0 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_20 c arg0 harg0 arg1 harg1 arg2 harg2 arg3 harg3 arg4 harg4 arg6 harg6 arg8 harg8 arg9 harg9 x0 x1 x2 x3 x4 x6 x8 x9) := rfl
/-- The fourth codes of the first layer. -/
theorem c40_eq : (kernelRun0_A.sl.r_24 c arg0 harg0 arg1 harg1 arg2 harg2 arg3 harg3 arg4 harg4 arg6 harg6 arg8 harg8 arg9 harg9 arg10 harg10 x0 x1 x2 x3 x4 x6 x8 x9 x10) = In.c4 (ld0 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_20 c arg0 harg0 arg1 harg1 arg2 harg2 arg3 harg3 arg4 harg4 arg6 harg6 arg8 harg8 arg9 harg9 x0 x1 x2 x3 x4 x6 x8 x9) := rfl
/-- The middle stream of the second layer. -/
theorem m1_eq : (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) = In.mid (ld1 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_29 c arg0 harg0 arg1 harg1 arg2 harg2 arg3 harg3 arg4 harg4 arg5 harg5 arg6 harg6 arg8 harg8 arg9 harg9 arg10 harg10 x0 x1 x2 x3 x4 x5 x6 x8 x9 x10) := rfl
/-- The hidden rows of the second layer. -/
theorem h1_eq : (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10) = In.hid (ld1 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) := rfl
/-- The stream after the second layer. -/
theorem o1_eq : (kernelRun0_A.sl.r_65 c arg0 harg0 arg1 harg1 arg2 harg2 arg3 harg3 arg4 harg4 arg5 harg5 arg6 harg6 arg8 harg8 arg9 harg9 arg10 harg10 x0 x1 x2 x3 x4 x5 x6 x8 x9 x10) = In.out (ld1 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10) := rfl
/-- The first scales of the second layer. -/
theorem s11_eq : (kernelRun0_A.sl.r_31 c arg0 harg0 arg1 harg1 arg2 harg2 arg3 harg3 arg4 harg4 arg5 harg5 arg6 harg6 arg7 harg7 arg8 harg8 arg9 harg9 arg10 harg10 x0 x1 x2 x3 x4 x5 x6 x7 x8 x9 x10) = k0_pay18 (kernelRun0_A.sl.r_29 c arg0 harg0 arg1 harg1 arg2 harg2 arg3 harg3 arg4 harg4 arg5 harg5 arg6 harg6 arg8 harg8 arg9 harg9 arg10 harg10 x0 x1 x2 x3 x4 x5 x6 x8 x9 x10) (In.gi (ld1 arg1 harg1 arg2 harg2 arg3 harg3 arg4 harg4 arg5 harg5 arg6 harg6 arg7 harg7 arg8 harg8 arg9 harg9 arg10 harg10 x1 x2 x3 x4 x5 x6 x7 x8 x9 x10)) := rfl
/-- The first codes of the second layer. -/
theorem c11_eq : (kernelRun0_A.sl.r_32 c arg0 harg0 arg1 harg1 arg2 harg2 arg3 harg3 arg4 harg4 arg5 harg5 arg6 harg6 arg7 harg7 arg8 harg8 arg9 harg9 arg10 harg10 x0 x1 x2 x3 x4 x5 x6 x7 x8 x9 x10) = k0_pay19 (kernelRun0_A.sl.r_29 c arg0 harg0 arg1 harg1 arg2 harg2 arg3 harg3 arg4 harg4 arg5 harg5 arg6 harg6 arg8 harg8 arg9 harg9 arg10 harg10 x0 x1 x2 x3 x4 x5 x6 x8 x9 x10) (In.gi (ld1 arg1 harg1 arg2 harg2 arg3 harg3 arg4 harg4 arg5 harg5 arg6 harg6 arg7 harg7 arg8 harg8 arg9 harg9 arg10 harg10 x1 x2 x3 x4 x5 x6 x7 x8 x9 x10)) := rfl
/-- The second scales of the second layer. -/
theorem s21_eq : (kernelRun0_A.sl.r_34 c arg1 harg1 arg8 harg8 x1 x8) = In.s2 (ld1 arg1 harg1 arg2 harg2 arg3 harg3 arg4 harg4 arg5 harg5 arg6 harg6 arg7 harg7 arg8 harg8 arg9 harg9 arg10 harg10 x1 x2 x3 x4 x5 x6 x7 x8 x9 x10) := rfl
/-- The second codes of the second layer. -/
theorem c21_eq : (kernelRun0_A.sl.r_35 c arg1 harg1 arg8 harg8 x1 x8) = In.c2 (ld1 arg1 harg1 arg2 harg2 arg3 harg3 arg4 harg4 arg5 harg5 arg6 harg6 arg7 harg7 arg8 harg8 arg9 harg9 arg10 harg10 x1 x2 x3 x4 x5 x6 x7 x8 x9 x10) := rfl
/-- The third scales of the second layer. -/
theorem s31_eq : (kernelRun0_A.sl.r_43 c arg0 harg0 arg1 harg1 arg2 harg2 arg3 harg3 arg4 harg4 arg5 harg5 arg6 harg6 arg8 harg8 arg9 harg9 arg10 harg10 x0 x1 x2 x3 x4 x5 x6 x8 x9 x10) = k0_pay18 (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) (In.gp (ld1 arg1 harg1 arg2 harg2 arg3 harg3 arg4 harg4 arg5 harg5 arg6 harg6 arg7 harg7 arg8 harg8 arg9 harg9 arg10 harg10 x1 x2 x3 x4 x5 x6 x7 x8 x9 x10)) := rfl
/-- The third codes of the second layer. -/
theorem c31_eq : (kernelRun0_A.sl.r_44 c arg0 harg0 arg1 harg1 arg2 harg2 arg3 harg3 arg4 harg4 arg5 harg5 arg6 harg6 arg8 harg8 arg9 harg9 arg10 harg10 x0 x1 x2 x3 x4 x5 x6 x8 x9 x10) = k0_pay19 (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) (In.gp (ld1 arg1 harg1 arg2 harg2 arg3 harg3 arg4 harg4 arg5 harg5 arg6 harg6 arg7 harg7 arg8 harg8 arg9 harg9 arg10 harg10 x1 x2 x3 x4 x5 x6 x7 x8 x9 x10)) := rfl
/-- The fourth scales of the second layer. -/
theorem s41_eq : (kernelRun0_A.sl.r_58 c arg0 harg0 arg1 harg1 arg2 harg2 arg3 harg3 arg4 harg4 arg5 harg5 arg6 harg6 arg8 harg8 arg9 harg9 arg10 harg10 x0 x1 x2 x3 x4 x5 x6 x8 x9 x10) = In.s4 (ld1 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10) := rfl
/-- The fourth codes of the second layer. -/
theorem c41_eq : (kernelRun0_A.sl.r_59 c arg0 harg0 arg1 harg1 arg2 harg2 arg3 harg3 arg4 harg4 arg5 harg5 arg6 harg6 arg8 harg8 arg9 harg9 arg10 harg10 x0 x1 x2 x3 x4 x5 x6 x8 x9 x10) = In.c4 (ld1 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10) := rfl
/-- The middle stream of the third layer. -/
theorem m2_eq : (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) = In.mid (ld2 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_65 c arg0 harg0 arg1 harg1 arg2 harg2 arg3 harg3 arg4 harg4 arg5 harg5 arg6 harg6 arg8 harg8 arg9 harg9 arg10 harg10 x0 x1 x2 x3 x4 x5 x6 x8 x9 x10) := rfl
/-- The hidden rows of the third layer. -/
theorem h2_eq : (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10) = In.hid (ld2 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) := rfl
/-- The first scales of the third layer. -/
theorem s12_eq : (kernelRun0_A.sl.r_67 c arg0 harg0 arg1 harg1 arg2 harg2 arg3 harg3 arg4 harg4 arg5 harg5 arg6 harg6 arg7 harg7 arg8 harg8 arg9 harg9 arg10 harg10 x0 x1 x2 x3 x4 x5 x6 x7 x8 x9 x10) = k0_pay18 (kernelRun0_A.sl.r_65 c arg0 harg0 arg1 harg1 arg2 harg2 arg3 harg3 arg4 harg4 arg5 harg5 arg6 harg6 arg8 harg8 arg9 harg9 arg10 harg10 x0 x1 x2 x3 x4 x5 x6 x8 x9 x10) (In.gi (ld2 arg1 harg1 arg2 harg2 arg3 harg3 arg4 harg4 arg5 harg5 arg6 harg6 arg7 harg7 arg8 harg8 arg9 harg9 arg10 harg10 x1 x2 x3 x4 x5 x6 x7 x8 x9 x10)) := rfl
/-- The first codes of the third layer. -/
theorem c12_eq : (kernelRun0_A.sl.r_68 c arg0 harg0 arg1 harg1 arg2 harg2 arg3 harg3 arg4 harg4 arg5 harg5 arg6 harg6 arg7 harg7 arg8 harg8 arg9 harg9 arg10 harg10 x0 x1 x2 x3 x4 x5 x6 x7 x8 x9 x10) = k0_pay19 (kernelRun0_A.sl.r_65 c arg0 harg0 arg1 harg1 arg2 harg2 arg3 harg3 arg4 harg4 arg5 harg5 arg6 harg6 arg8 harg8 arg9 harg9 arg10 harg10 x0 x1 x2 x3 x4 x5 x6 x8 x9 x10) (In.gi (ld2 arg1 harg1 arg2 harg2 arg3 harg3 arg4 harg4 arg5 harg5 arg6 harg6 arg7 harg7 arg8 harg8 arg9 harg9 arg10 harg10 x1 x2 x3 x4 x5 x6 x7 x8 x9 x10)) := rfl
/-- The second scales of the third layer. -/
theorem s22_eq : (kernelRun0_A.sl.r_72 c arg1 harg1 arg8 harg8 x1 x8) = In.s2 (ld2 arg1 harg1 arg2 harg2 arg3 harg3 arg4 harg4 arg5 harg5 arg6 harg6 arg7 harg7 arg8 harg8 arg9 harg9 arg10 harg10 x1 x2 x3 x4 x5 x6 x7 x8 x9 x10) := rfl
/-- The second codes of the third layer. -/
theorem c22_eq : (kernelRun0_A.sl.r_73 c arg1 harg1 arg8 harg8 x1 x8) = In.c2 (ld2 arg1 harg1 arg2 harg2 arg3 harg3 arg4 harg4 arg5 harg5 arg6 harg6 arg7 harg7 arg8 harg8 arg9 harg9 arg10 harg10 x1 x2 x3 x4 x5 x6 x7 x8 x9 x10) := rfl
/-- The third scales of the third layer. -/
theorem s32_eq : (kernelRun0_A.sl.r_82 c arg0 harg0 arg1 harg1 arg2 harg2 arg3 harg3 arg4 harg4 arg5 harg5 arg6 harg6 arg8 harg8 arg9 harg9 arg10 harg10 x0 x1 x2 x3 x4 x5 x6 x8 x9 x10) = k0_pay18 (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) (In.gp (ld2 arg1 harg1 arg2 harg2 arg3 harg3 arg4 harg4 arg5 harg5 arg6 harg6 arg7 harg7 arg8 harg8 arg9 harg9 arg10 harg10 x1 x2 x3 x4 x5 x6 x7 x8 x9 x10)) := rfl
/-- The third codes of the third layer. -/
theorem c32_eq : (kernelRun0_A.sl.r_83 c arg0 harg0 arg1 harg1 arg2 harg2 arg3 harg3 arg4 harg4 arg5 harg5 arg6 harg6 arg8 harg8 arg9 harg9 arg10 harg10 x0 x1 x2 x3 x4 x5 x6 x8 x9 x10) = k0_pay19 (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) (In.gp (ld2 arg1 harg1 arg2 harg2 arg3 harg3 arg4 harg4 arg5 harg5 arg6 harg6 arg7 harg7 arg8 harg8 arg9 harg9 arg10 harg10 x1 x2 x3 x4 x5 x6 x7 x8 x9 x10)) := rfl
/-- The fourth scales of the third layer. -/
theorem s42_eq : (kernelRun0_A.sl.r_100 c arg0 harg0 arg1 harg1 arg2 harg2 arg3 harg3 arg4 harg4 arg5 harg5 arg6 harg6 arg8 harg8 arg9 harg9 arg10 harg10 x0 x1 x2 x3 x4 x5 x6 x8 x9 x10) = In.s4 (ld2 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10) := rfl
/-- The fourth codes of the third layer. -/
theorem c42_eq : (kernelRun0_A.sl.r_101 c arg0 harg0 arg1 harg1 arg2 harg2 arg3 harg3 arg4 harg4 arg5 harg5 arg6 harg6 arg8 harg8 arg9 harg9 arg10 harg10 x0 x1 x2 x3 x4 x5 x6 x8 x9 x10) = In.c4 (ld2 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10) := rfl
/-- The pieces of the resid result, the last first. -/
theorem pieces0 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).1 = [
    ⟨Rect.unit (s := S3x12x1x2560) ![2, 0, 0, 0] S1x12x1x2560.size inb_S3x12x1x2560_S1x12x1x2560_2_0_0_0, shapeCast S1x12x1x2560 (In.out (ld2 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10)) shapeCasts_S12x2560_S1x12x1x2560⟩,
    ⟨Rect.unit (s := S3x12x1x2560) ![1, 0, 0, 0] S1x12x1x2560.size inb_S3x12x1x2560_S1x12x1x2560_1_0_0_0, shapeCast S1x12x1x2560 (kernelRun0_A.sl.r_65 c arg0 harg0 arg1 harg1 arg2 harg2 arg3 harg3 arg4 harg4 arg5 harg5 arg6 harg6 arg8 harg8 arg9 harg9 arg10 harg10 x0 x1 x2 x3 x4 x5 x6 x8 x9 x10) shapeCasts_S12x2560_S1x12x1x2560⟩,
    ⟨Rect.unit (s := S3x12x1x2560) ![0, 0, 0, 0] S1x12x1x2560.size inb_S3x12x1x2560_S1x12x1x2560_0_0_0_0, shapeCast S1x12x1x2560 (kernelRun0_A.sl.r_29 c arg0 harg0 arg1 harg1 arg2 harg2 arg3 harg3 arg4 harg4 arg5 harg5 arg6 harg6 arg8 harg8 arg9 harg9 arg10 harg10 x0 x1 x2 x3 x4 x5 x6 x8 x9 x10) shapeCasts_S12x2560_S1x12x1x2560⟩] := rfl

/-- The pieces of the middle result, the last first. -/
theorem pieces1 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.1 = [
    ⟨Rect.unit (s := S3x12x1x2560) ![2, 0, 0, 0] S1x12x1x2560.size inb_S3x12x1x2560_S1x12x1x2560_2_0_0_0, shapeCast S1x12x1x2560 (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) shapeCasts_S12x2560_S1x12x1x2560⟩,
    ⟨Rect.unit (s := S3x12x1x2560) ![1, 0, 0, 0] S1x12x1x2560.size inb_S3x12x1x2560_S1x12x1x2560_1_0_0_0, shapeCast S1x12x1x2560 (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) shapeCasts_S12x2560_S1x12x1x2560⟩,
    ⟨Rect.unit (s := S3x12x1x2560) ![0, 0, 0, 0] S1x12x1x2560.size inb_S3x12x1x2560_S1x12x1x2560_0_0_0_0, shapeCast S1x12x1x2560 (kernelRun0_A.sl.r_9 c arg0 harg0 arg1 harg1 arg2 harg2 arg6 harg6 arg8 harg8 x0 x1 x2 x6 x8) shapeCasts_S12x2560_S1x12x1x2560⟩] := rfl

/-- The pieces of the hidden result, the last first. -/
theorem pieces2 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.1 = [
    ⟨Rect.unit (s := S3x12x1x6912) ![2, 0, 0, 0] S1x12x1x6912.size inb_S3x12x1x6912_S1x12x1x6912_2_0_0_0, shapeCast S1x12x1x6912 (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10) shapeCasts_S12x6912_S1x12x1x6912⟩,
    ⟨Rect.unit (s := S3x12x1x6912) ![1, 0, 0, 0] S1x12x1x6912.size inb_S3x12x1x6912_S1x12x1x6912_1_0_0_0, shapeCast S1x12x1x6912 (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10) shapeCasts_S12x6912_S1x12x1x6912⟩,
    ⟨Rect.unit (s := S3x12x1x6912) ![0, 0, 0, 0] S1x12x1x6912.size inb_S3x12x1x6912_S1x12x1x6912_0_0_0_0, shapeCast S1x12x1x6912 (kernelRun0_A.sl.r_20 c arg0 harg0 arg1 harg1 arg2 harg2 arg3 harg3 arg4 harg4 arg6 harg6 arg8 harg8 arg9 harg9 x0 x1 x2 x3 x4 x6 x8 x9) shapeCasts_S12x6912_S1x12x1x6912⟩] := rfl

/-- The pieces of the first codes result, the last first. -/
theorem pieces3 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.1 = [
    ⟨Rect.unit (s := S3x12x2560) ![2, 0, 0] S1x12x2560.size inb_S3x12x2560_S1x12x2560_2_0_0, shapeCast S1x12x2560 (kernelRun0_A.sl.r_68 c arg0 harg0 arg1 harg1 arg2 harg2 arg3 harg3 arg4 harg4 arg5 harg5 arg6 harg6 arg7 harg7 arg8 harg8 arg9 harg9 arg10 harg10 x0 x1 x2 x3 x4 x5 x6 x7 x8 x9 x10) shapeCasts_S12x2560_S1x12x2560⟩,
    ⟨Rect.unit (s := S3x12x2560) ![1, 0, 0] S1x12x2560.size inb_S3x12x2560_S1x12x2560_1_0_0, shapeCast S1x12x2560 (kernelRun0_A.sl.r_32 c arg0 harg0 arg1 harg1 arg2 harg2 arg3 harg3 arg4 harg4 arg5 harg5 arg6 harg6 arg7 harg7 arg8 harg8 arg9 harg9 arg10 harg10 x0 x1 x2 x3 x4 x5 x6 x7 x8 x9 x10) shapeCasts_S12x2560_S1x12x2560⟩,
    ⟨Rect.unit (s := S3x12x2560) ![0, 0, 0] S1x12x2560.size inb_S3x12x2560_S1x12x2560_0_0_0, shapeCast S1x12x2560 (kernelRun0_A.sl.r_4 c arg0 harg0 arg7 harg7 x0 x7) shapeCasts_S12x2560_S1x12x2560⟩] := rfl

/-- The pieces of the second codes result, the last first. -/
theorem pieces4 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.1 = [
    ⟨Rect.unit (s := S3x12x2560) ![2, 0, 0] S1x12x2560.size inb_S3x12x2560_S1x12x2560_2_0_0, shapeCast S1x12x2560 (kernelRun0_A.sl.r_73 c arg1 harg1 arg8 harg8 x1 x8) shapeCasts_S12x2560_S1x12x2560⟩,
    ⟨Rect.unit (s := S3x12x2560) ![1, 0, 0] S1x12x2560.size inb_S3x12x2560_S1x12x2560_1_0_0, shapeCast S1x12x2560 (kernelRun0_A.sl.r_35 c arg1 harg1 arg8 harg8 x1 x8) shapeCasts_S12x2560_S1x12x2560⟩,
    ⟨Rect.unit (s := S3x12x2560) ![0, 0, 0] S1x12x2560.size inb_S3x12x2560_S1x12x2560_0_0_0, shapeCast S1x12x2560 (kernelRun0_A.sl.r_6 c arg1 harg1 arg8 harg8 x1 x8) shapeCasts_S12x2560_S1x12x2560⟩] := rfl

/-- The pieces of the third codes result, the last first. -/
theorem pieces5 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.2.1 = [
    ⟨Rect.unit (s := S3x12x2560) ![2, 0, 0] S1x12x2560.size inb_S3x12x2560_S1x12x2560_2_0_0, shapeCast S1x12x2560 (kernelRun0_A.sl.r_83 c arg0 harg0 arg1 harg1 arg2 harg2 arg3 harg3 arg4 harg4 arg5 harg5 arg6 harg6 arg8 harg8 arg9 harg9 arg10 harg10 x0 x1 x2 x3 x4 x5 x6 x8 x9 x10) shapeCasts_S12x2560_S1x12x2560⟩,
    ⟨Rect.unit (s := S3x12x2560) ![1, 0, 0] S1x12x2560.size inb_S3x12x2560_S1x12x2560_1_0_0, shapeCast S1x12x2560 (kernelRun0_A.sl.r_44 c arg0 harg0 arg1 harg1 arg2 harg2 arg3 harg3 arg4 harg4 arg5 harg5 arg6 harg6 arg8 harg8 arg9 harg9 arg10 harg10 x0 x1 x2 x3 x4 x5 x6 x8 x9 x10) shapeCasts_S12x2560_S1x12x2560⟩,
    ⟨Rect.unit (s := S3x12x2560) ![0, 0, 0] S1x12x2560.size inb_S3x12x2560_S1x12x2560_0_0_0, shapeCast S1x12x2560 (kernelRun0_A.sl.r_11 c arg0 harg0 arg1 harg1 arg2 harg2 arg6 harg6 arg8 harg8 arg9 harg9 x0 x1 x2 x6 x8 x9) shapeCasts_S12x2560_S1x12x2560⟩] := rfl

/-- The pieces of the fourth codes result, the last first. -/
theorem pieces6 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.2.2.1 = [
    ⟨Rect.unit (s := S3x12x6912) ![2, 0, 0] S1x12x6912.size inb_S3x12x6912_S1x12x6912_2_0_0, shapeCast S1x12x6912 (kernelRun0_A.sl.r_101 c arg0 harg0 arg1 harg1 arg2 harg2 arg3 harg3 arg4 harg4 arg5 harg5 arg6 harg6 arg8 harg8 arg9 harg9 arg10 harg10 x0 x1 x2 x3 x4 x5 x6 x8 x9 x10) shapeCasts_S12x6912_S1x12x6912⟩,
    ⟨Rect.unit (s := S3x12x6912) ![1, 0, 0] S1x12x6912.size inb_S3x12x6912_S1x12x6912_1_0_0, shapeCast S1x12x6912 (kernelRun0_A.sl.r_59 c arg0 harg0 arg1 harg1 arg2 harg2 arg3 harg3 arg4 harg4 arg5 harg5 arg6 harg6 arg8 harg8 arg9 harg9 arg10 harg10 x0 x1 x2 x3 x4 x5 x6 x8 x9 x10) shapeCasts_S12x6912_S1x12x6912⟩,
    ⟨Rect.unit (s := S3x12x6912) ![0, 0, 0] S1x12x6912.size inb_S3x12x6912_S1x12x6912_0_0_0, shapeCast S1x12x6912 (kernelRun0_A.sl.r_24 c arg0 harg0 arg1 harg1 arg2 harg2 arg3 harg3 arg4 harg4 arg6 harg6 arg8 harg8 arg9 harg9 arg10 harg10 x0 x1 x2 x3 x4 x6 x8 x9 x10) shapeCasts_S12x6912_S1x12x6912⟩] := rfl

/-- The pieces of the scales result, the last first. -/
theorem pieces7 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10).2.2.2.2.2.2.2.1 = [
    ⟨Rect.unit (s := S3x32x12) ![2, 3, 0] S1x1x12.size inb_S3x32x12_S1x1x12_2_3_0, shapeCast S1x1x12 (kernelRun0_A.sl.r_100 c arg0 harg0 arg1 harg1 arg2 harg2 arg3 harg3 arg4 harg4 arg5 harg5 arg6 harg6 arg8 harg8 arg9 harg9 arg10 harg10 x0 x1 x2 x3 x4 x5 x6 x8 x9 x10) shapeCasts_S12_S1x1x12⟩,
    ⟨Rect.unit (s := S3x32x12) ![2, 2, 0] S1x1x12.size inb_S3x32x12_S1x1x12_2_2_0, shapeCast S1x1x12 (kernelRun0_A.sl.r_82 c arg0 harg0 arg1 harg1 arg2 harg2 arg3 harg3 arg4 harg4 arg5 harg5 arg6 harg6 arg8 harg8 arg9 harg9 arg10 harg10 x0 x1 x2 x3 x4 x5 x6 x8 x9 x10) shapeCasts_S12_S1x1x12⟩,
    ⟨Rect.unit (s := S3x32x12) ![2, 1, 0] S1x1x12.size inb_S3x32x12_S1x1x12_2_1_0, shapeCast S1x1x12 (kernelRun0_A.sl.r_72 c arg1 harg1 arg8 harg8 x1 x8) shapeCasts_S12_S1x1x12⟩,
    ⟨Rect.unit (s := S3x32x12) ![2, 0, 0] S1x1x12.size inb_S3x32x12_S1x1x12_2_0_0, shapeCast S1x1x12 (kernelRun0_A.sl.r_67 c arg0 harg0 arg1 harg1 arg2 harg2 arg3 harg3 arg4 harg4 arg5 harg5 arg6 harg6 arg7 harg7 arg8 harg8 arg9 harg9 arg10 harg10 x0 x1 x2 x3 x4 x5 x6 x7 x8 x9 x10) shapeCasts_S12_S1x1x12⟩,
    ⟨Rect.unit (s := S3x32x12) ![1, 3, 0] S1x1x12.size inb_S3x32x12_S1x1x12_1_3_0, shapeCast S1x1x12 (kernelRun0_A.sl.r_58 c arg0 harg0 arg1 harg1 arg2 harg2 arg3 harg3 arg4 harg4 arg5 harg5 arg6 harg6 arg8 harg8 arg9 harg9 arg10 harg10 x0 x1 x2 x3 x4 x5 x6 x8 x9 x10) shapeCasts_S12_S1x1x12⟩,
    ⟨Rect.unit (s := S3x32x12) ![1, 2, 0] S1x1x12.size inb_S3x32x12_S1x1x12_1_2_0, shapeCast S1x1x12 (kernelRun0_A.sl.r_43 c arg0 harg0 arg1 harg1 arg2 harg2 arg3 harg3 arg4 harg4 arg5 harg5 arg6 harg6 arg8 harg8 arg9 harg9 arg10 harg10 x0 x1 x2 x3 x4 x5 x6 x8 x9 x10) shapeCasts_S12_S1x1x12⟩,
    ⟨Rect.unit (s := S3x32x12) ![1, 1, 0] S1x1x12.size inb_S3x32x12_S1x1x12_1_1_0, shapeCast S1x1x12 (kernelRun0_A.sl.r_34 c arg1 harg1 arg8 harg8 x1 x8) shapeCasts_S12_S1x1x12⟩,
    ⟨Rect.unit (s := S3x32x12) ![1, 0, 0] S1x1x12.size inb_S3x32x12_S1x1x12_1_0_0, shapeCast S1x1x12 (kernelRun0_A.sl.r_31 c arg0 harg0 arg1 harg1 arg2 harg2 arg3 harg3 arg4 harg4 arg5 harg5 arg6 harg6 arg7 harg7 arg8 harg8 arg9 harg9 arg10 harg10 x0 x1 x2 x3 x4 x5 x6 x7 x8 x9 x10) shapeCasts_S12_S1x1x12⟩,
    ⟨Rect.unit (s := S3x32x12) ![0, 3, 0] S1x1x12.size inb_S3x32x12_S1x1x12_0_3_0, shapeCast S1x1x12 (kernelRun0_A.sl.r_23 c arg0 harg0 arg1 harg1 arg2 harg2 arg3 harg3 arg4 harg4 arg6 harg6 arg8 harg8 arg9 harg9 arg10 harg10 x0 x1 x2 x3 x4 x6 x8 x9 x10) shapeCasts_S12_S1x1x12⟩,
    ⟨Rect.unit (s := S3x32x12) ![0, 2, 0] S1x1x12.size inb_S3x32x12_S1x1x12_0_2_0, shapeCast S1x1x12 (kernelRun0_A.sl.r_10 c arg0 harg0 arg1 harg1 arg2 harg2 arg6 harg6 arg8 harg8 arg9 harg9 x0 x1 x2 x6 x8 x9) shapeCasts_S12_S1x1x12⟩,
    ⟨Rect.unit (s := S3x32x12) ![0, 1, 0] S1x1x12.size inb_S3x32x12_S1x1x12_0_1_0, shapeCast S1x1x12 (kernelRun0_A.sl.r_5 c arg1 harg1 arg8 harg8 x1 x8) shapeCasts_S12_S1x1x12⟩,
    ⟨Rect.unit (s := S3x32x12) ![0, 0, 0] S1x1x12.size inb_S3x32x12_S1x1x12_0_0_0, shapeCast S1x1x12 (kernelRun0_A.sl.r_2 c arg0 harg0 arg7 harg7 x0 x7) shapeCasts_S12_S1x1x12⟩,
    ⟨Rect.unit (s := S3x32x12) ![0, 0, 0] S3x32x12.size inb_S3x32x12_S3x32x12_0_0_0, k0_pay3 (F := Ideal)⟩] := rfl

end Cert.ReferenceIdeal.Hand
end
-- ==== Proof.RefLand.lean ====
/- The reference's loads and stores at an entry. -/
module

public import proofs.«01_k».proof.Proof.RefLayer
public import proofs.«01_k».proof.Proof.IdealLand
public import proofs.«01_k».proof.Proof.SpecArrays
public import Idealize.ShloMosaic.Lib.Pipeline.Value

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic

/-- A layer's slab of a four-axis block, loaded. -/
theorem ld_ix4 {sg : RefSig} {κ : Kind} {sp : Space} {B N : ℕ} {e : EltTy} (M : Memref sg κ sp ⟨4, ![3, B, 1, N]⟩ e) (h : M.IsWhole)
    (x : (⟨4, ![3, B, 1, N]⟩ : Shape).Idx → Elt Ideal e) (off : Fin 4 → ℕ) (k : Fin 3) (hoff : off = ![k.val, 0, 0, 0])
    (hin : ∀ a, off a + (![1, B, 1, N] : Fin 4 → ℕ) a ≤ (![3, B, 1, N] : Fin 4 → ℕ) a) (b : Fin B) (i : Fin N) :
    M.view.readAt (Elt Ideal) (Rect.unit (s := ⟨4, ![3, B, 1, N]⟩) off ![1, B, 1, N] hin).toLoadRect (h.unread x) (Idealize.ShloMosaic.ix4 (0 : Fin 1) b (0 : Fin 1) i)
      = x (Idealize.ShloMosaic.ix4 k b (0 : Fin 1) i) := by
  subst hoff
  show M.view.read (Elt Ideal) (h.unread x) _ = _
  rw [h.read_unread]
  congr 1
  funext a
  match a with
  | ⟨0, _⟩ => exact Fin.ext (by show k.val + 1 * 0 = k.val; omega)
  | ⟨1, _⟩ => exact Fin.ext (by show 0 + 1 * b.val = b.val; omega)
  | ⟨2, _⟩ => rfl
  | ⟨3, _⟩ => exact Fin.ext (by show 0 + 1 * i.val = i.val; omega)

/-- A layer's slab of a three-axis block, loaded. -/
theorem ld_ix3 {sg : RefSig} {κ : Kind} {sp : Space} {B N : ℕ} {e : EltTy} (M : Memref sg κ sp ⟨3, ![3, B, N]⟩ e) (h : M.IsWhole)
    (x : (⟨3, ![3, B, N]⟩ : Shape).Idx → Elt Ideal e) (off : Fin 3 → ℕ) (k : Fin 3) (hoff : off = ![k.val, 0, 0])
    (hin : ∀ a, off a + (![1, B, N] : Fin 3 → ℕ) a ≤ (![3, B, N] : Fin 3 → ℕ) a) (b : Fin B) (i : Fin N) :
    M.view.readAt (Elt Ideal) (Rect.unit (s := ⟨3, ![3, B, N]⟩) off ![1, B, N] hin).toLoadRect (h.unread x) (Idealize.ShloMosaic.ix3 (0 : Fin 1) b i)
      = x (Idealize.ShloMosaic.ix3 k b i) := by
  subst hoff
  show M.view.read (Elt Ideal) (h.unread x) _ = _
  rw [h.read_unread]
  congr 1
  funext a
  match a with
  | ⟨0, _⟩ => exact Fin.ext (by show k.val + 1 * 0 = k.val; omega)
  | ⟨1, _⟩ => exact Fin.ext (by show 0 + 1 * b.val = b.val; omega)
  | ⟨2, _⟩ => exact Fin.ext (by show 0 + 1 * i.val = i.val; omega)

/-- A layer's row of a two-axis block, loaded. -/
theorem ld_ix2 {sg : RefSig} {κ : Kind} {sp : Space} {N : ℕ} {e : EltTy} (M : Memref sg κ sp ⟨2, ![3, N]⟩ e) (h : M.IsWhole)
    (x : (⟨2, ![3, N]⟩ : Shape).Idx → Elt Ideal e) (off : Fin 2 → ℕ) (k : Fin 3) (hoff : off = ![k.val, 0])
    (hin : ∀ a, off a + (![1, N] : Fin 2 → ℕ) a ≤ (![3, N] : Fin 2 → ℕ) a) (i : Fin N) :
    M.view.readAt (Elt Ideal) (Rect.unit (s := ⟨2, ![3, N]⟩) off ![1, N] hin).toLoadRect (h.unread x) (ix2 0 i) = x (ix2 k i) := by
  subst hoff
  show M.view.read (Elt Ideal) (h.unread x) _ = _
  rw [h.read_unread]
  congr 1
  funext a
  match a with
  | ⟨0, _⟩ => exact Fin.ext (by show k.val + 1 * 0 = k.val; omega)
  | ⟨1, _⟩ => exact Fin.ext (by show 0 + 1 * i.val = i.val; omega)

/-- The input rows, loaded whole. -/
theorem ld_x {sg : RefSig} {κ : Kind} {sp : Space} {B N : ℕ} {e : EltTy} (M : Memref sg κ sp ⟨3, ![B, 1, N]⟩ e) (h : M.IsWhole)
    (x : (⟨3, ![B, 1, N]⟩ : Shape).Idx → Elt Ideal e) (off : Fin 3 → ℕ) (hoff : off = ![0, 0, 0])
    (hin : ∀ a, off a + (![B, 1, N] : Fin 3 → ℕ) a ≤ (![B, 1, N] : Fin 3 → ℕ) a) (b : Fin B) (i : Fin N) :
    M.view.readAt (Elt Ideal) (Rect.unit (s := ⟨3, ![B, 1, N]⟩) off ![B, 1, N] hin).toLoadRect (h.unread x) (Idealize.ShloMosaic.ix3 b (0 : Fin 1) i)
      = x (Idealize.ShloMosaic.ix3 b (0 : Fin 1) i) := by
  subst hoff
  show M.view.read (Elt Ideal) (h.unread x) _ = _
  rw [h.read_unread]
  congr 1
  funext a
  match a with
  | ⟨0, _⟩ => exact Fin.ext (by show 0 + 1 * b.val = b.val; omega)
  | ⟨1, _⟩ => rfl
  | ⟨2, _⟩ => exact Fin.ext (by show 0 + 1 * i.val = i.val; omega)

/-- Three layers' slabs stored into a four-axis result. -/
theorem three4 {sg : RefSig} {κ : Kind} {sp : Space} {B N : ℕ} {e : EltTy} (v : View sg κ sp ⟨4, ![3, B, 1, N]⟩ e) (f : v.ty.Contents (Elt Ideal))
    (h2 : ∀ a, (![2, 0, 0, 0] : Fin 4 → ℕ) a + (![1, B, 1, N] : Fin 4 → ℕ) a ≤ (![3, B, 1, N] : Fin 4 → ℕ) a)
    (h1 : ∀ a, (![1, 0, 0, 0] : Fin 4 → ℕ) a + (![1, B, 1, N] : Fin 4 → ℕ) a ≤ (![3, B, 1, N] : Fin 4 → ℕ) a)
    (h0 : ∀ a, (![0, 0, 0, 0] : Fin 4 → ℕ) a + (![1, B, 1, N] : Fin 4 → ℕ) a ≤ (![3, B, 1, N] : Fin 4 → ℕ) a)
    (w2 w1 w0 : (⟨4, ![1, B, 1, N]⟩ : Shape).Idx → Elt Ideal e) (l : Fin 3) (b : Fin B) (o : Fin N) :
    v.read (Elt Ideal) (v.writes (Elt Ideal) f [⟨Rect.unit (s := ⟨4, ![3, B, 1, N]⟩) ![2, 0, 0, 0] ![1, B, 1, N] h2, w2⟩,
      ⟨Rect.unit (s := ⟨4, ![3, B, 1, N]⟩) ![1, 0, 0, 0] ![1, B, 1, N] h1, w1⟩, ⟨Rect.unit (s := ⟨4, ![3, B, 1, N]⟩) ![0, 0, 0, 0] ![1, B, 1, N] h0, w0⟩])
        (Idealize.ShloMosaic.ix4 l b (0 : Fin 1) o)
      = if l = 2 then w2 (Idealize.ShloMosaic.ix4 (0 : Fin 1) b (0 : Fin 1) o) else if l = 1 then w1 (Idealize.ShloMosaic.ix4 (0 : Fin 1) b (0 : Fin 1) o)
        else w0 (Idealize.ShloMosaic.ix4 (0 : Fin 1) b (0 : Fin 1) o) := by
  refine (Cert.KernelIdeal.Hand.layer4 v (v.writes (Elt Ideal) f [⟨Rect.unit (s := ⟨4, ![3, B, 1, N]⟩) ![1, 0, 0, 0] ![1, B, 1, N] h1, w1⟩,
    ⟨Rect.unit (s := ⟨4, ![3, B, 1, N]⟩) ![0, 0, 0, 0] ![1, B, 1, N] h0, w0⟩]) 2 _ rfl h2 w2 l b o).trans ?_
  rw [Cert.KernelIdeal.Hand.layer4 v (v.writes (Elt Ideal) f [⟨Rect.unit (s := ⟨4, ![3, B, 1, N]⟩) ![0, 0, 0, 0] ![1, B, 1, N] h0, w0⟩]) 1 _ rfl h1 w1 l b o |> fun e => (show v.read (Elt Ideal) (v.writes (Elt Ideal) f [⟨Rect.unit (s := ⟨4, ![3, B, 1, N]⟩) ![1, 0, 0, 0] ![1, B, 1, N] h1, w1⟩,
    ⟨Rect.unit (s := ⟨4, ![3, B, 1, N]⟩) ![0, 0, 0, 0] ![1, B, 1, N] h0, w0⟩]) _ = _ from e)]
  rw [Cert.KernelIdeal.Hand.layer4 v f 0 ![0, 0, 0, 0] rfl h0 w0 l b o]
  match l with
  | 0 => rfl
  | 1 => rfl
  | 2 => rfl

/-- Three layers' slabs stored into a three-axis result. -/
theorem three3 {sg : RefSig} {κ : Kind} {sp : Space} {B N : ℕ} {e : EltTy} (v : View sg κ sp ⟨3, ![3, B, N]⟩ e) (f : v.ty.Contents (Elt Ideal))
    (h2 : ∀ a, (![2, 0, 0] : Fin 3 → ℕ) a + (![1, B, N] : Fin 3 → ℕ) a ≤ (![3, B, N] : Fin 3 → ℕ) a)
    (h1 : ∀ a, (![1, 0, 0] : Fin 3 → ℕ) a + (![1, B, N] : Fin 3 → ℕ) a ≤ (![3, B, N] : Fin 3 → ℕ) a)
    (h0 : ∀ a, (![0, 0, 0] : Fin 3 → ℕ) a + (![1, B, N] : Fin 3 → ℕ) a ≤ (![3, B, N] : Fin 3 → ℕ) a)
    (w2 w1 w0 : (⟨3, ![1, B, N]⟩ : Shape).Idx → Elt Ideal e) (l : Fin 3) (b : Fin B) (o : Fin N) :
    v.read (Elt Ideal) (v.writes (Elt Ideal) f [⟨Rect.unit (s := ⟨3, ![3, B, N]⟩) ![2, 0, 0] ![1, B, N] h2, w2⟩,
      ⟨Rect.unit (s := ⟨3, ![3, B, N]⟩) ![1, 0, 0] ![1, B, N] h1, w1⟩, ⟨Rect.unit (s := ⟨3, ![3, B, N]⟩) ![0, 0, 0] ![1, B, N] h0, w0⟩])
        (Idealize.ShloMosaic.ix3 l b o)
      = if l = 2 then w2 (Idealize.ShloMosaic.ix3 (0 : Fin 1) b o) else if l = 1 then w1 (Idealize.ShloMosaic.ix3 (0 : Fin 1) b o)
        else w0 (Idealize.ShloMosaic.ix3 (0 : Fin 1) b o) := by
  refine (Cert.KernelIdeal.Hand.layer3 v (v.writes (Elt Ideal) f [⟨Rect.unit (s := ⟨3, ![3, B, N]⟩) ![1, 0, 0] ![1, B, N] h1, w1⟩,
    ⟨Rect.unit (s := ⟨3, ![3, B, N]⟩) ![0, 0, 0] ![1, B, N] h0, w0⟩]) 2 _ rfl h2 w2 l b o).trans ?_
  rw [Cert.KernelIdeal.Hand.layer3 v (v.writes (Elt Ideal) f [⟨Rect.unit (s := ⟨3, ![3, B, N]⟩) ![0, 0, 0] ![1, B, N] h0, w0⟩]) 1 _ rfl h1 w1 l b o |> fun e => (show v.read (Elt Ideal) (v.writes (Elt Ideal) f [⟨Rect.unit (s := ⟨3, ![3, B, N]⟩) ![1, 0, 0] ![1, B, N] h1, w1⟩,
    ⟨Rect.unit (s := ⟨3, ![3, B, N]⟩) ![0, 0, 0] ![1, B, N] h0, w0⟩]) _ = _ from e)]
  rw [Cert.KernelIdeal.Hand.layer3 v f 0 ![0, 0, 0] rfl h0 w0 l b o]
  match l with
  | 0 => rfl
  | 1 => rfl
  | 2 => rfl

/-- One row of twelve stored into the table of scales. -/
theorem row_piece {sg : RefSig} {κ : Kind} {sp : Space} (v : View sg κ sp ⟨3, ![3, 32, 12]⟩ .f32) (f : v.ty.Contents (Elt Ideal)) (k : Fin 3) (q : Fin 32)
    (off : Fin 3 → ℕ) (hoff : off = ![k.val, q.val, 0]) (hin : ∀ a, off a + (![1, 1, 12] : Fin 3 → ℕ) a ≤ (![3, 32, 12] : Fin 3 → ℕ) a)
    (w : (⟨3, ![1, 1, 12]⟩ : Shape).Idx → Elt Ideal .f32) (L : List (View.Piece (Elt Ideal) ⟨3, ![3, 32, 12]⟩ .f32)) (l : Fin 3) (j : Fin 32) (b : Fin 12) :
    v.read (Elt Ideal) (v.writes (Elt Ideal) f (⟨Rect.unit (s := ⟨3, ![3, 32, 12]⟩) off ![1, 1, 12] hin, w⟩ :: L)) (Idealize.ShloMosaic.ix3 l j b)
      = if l.val = k.val ∧ j.val = q.val then w (Idealize.ShloMosaic.ix3 (0 : Fin 1) (0 : Fin 1) b)
        else v.read (Elt Ideal) (v.writes (Elt Ideal) f L) (Idealize.ShloMosaic.ix3 l j b) := by
  by_cases hl : l.val = k.val
  · by_cases hj : j.val = q.val
    · rw [if_pos ⟨hl, hj⟩]
      exact View.read_writes_cons_unit_of_mem v f hin w L _ (Idealize.ShloMosaic.ix3 (0 : Fin 1) (0 : Fin 1) b) hoff (fun a => by
        match a with
        | ⟨0, _⟩ => exact hl
        | ⟨1, _⟩ => exact hj
        | ⟨2, _⟩ => exact (Nat.zero_add _).symm)
    · rw [if_neg fun h => hj h.2]
      exact View.read_writes_cons_unit_of_not_mem v f hin w L _ hoff ⟨1, by show (3 : ℕ) > 1; decide⟩ (by
        show j.val < q.val ∨ q.val + 1 ≤ j.val
        omega)
  · rw [if_neg fun h => hl h.1]
    exact View.read_writes_cons_unit_of_not_mem v f hin w L _ hoff ⟨0, by show (3 : ℕ) > 0; decide⟩ (by
      show l.val < k.val ∨ k.val + 1 ≤ l.val
      omega)

/-- The table of scales cleared whole. -/
theorem zero_piece {sg : RefSig} {κ : Kind} {sp : Space} (v : View sg κ sp ⟨3, ![3, 32, 12]⟩ .f32) (f : v.ty.Contents (Elt Ideal))
    (off : Fin 3 → ℕ) (hoff : off = ![0, 0, 0]) (hin : ∀ a, off a + (![3, 32, 12] : Fin 3 → ℕ) a ≤ (![3, 32, 12] : Fin 3 → ℕ) a)
    (w : (⟨3, ![3, 32, 12]⟩ : Shape).Idx → Elt Ideal .f32) (L : List (View.Piece (Elt Ideal) ⟨3, ![3, 32, 12]⟩ .f32)) (z : (⟨3, ![3, 32, 12]⟩ : Shape).Idx) :
    v.read (Elt Ideal) (v.writes (Elt Ideal) f (⟨Rect.unit (s := ⟨3, ![3, 32, 12]⟩) off ![3, 32, 12] hin, w⟩ :: L)) z = w z :=
  View.read_writes_cons_unit_of_mem v f hin w L _ z hoff (fun a => by
    match a with
    | ⟨0, _⟩ | ⟨1, _⟩ | ⟨2, _⟩ => exact (Nat.zero_add _).symm)

/-- The table's twelve rows, one layer's four after another's, over the cleared table. -/
theorem table_read {sg : RefSig} {κ : Kind} {sp : Space} (v : View sg κ sp ⟨3, ![3, 32, 12]⟩ .f32) (f : v.ty.Contents (Elt Ideal))
    (w00 w01 w02 w03 w10 w11 w12 w13 w20 w21 w22 w23 : (⟨3, ![1, 1, 12]⟩ : Shape).Idx → Elt Ideal .f32) (z : (⟨3, ![3, 32, 12]⟩ : Shape).Idx → Elt Ideal .f32)
    (hz : ∀ i, z i = (0 : EReal))
    (h00 : ∀ a, (![0, 0, 0] : Fin 3 → ℕ) a + (![1, 1, 12] : Fin 3 → ℕ) a ≤ (![3, 32, 12] : Fin 3 → ℕ) a)
    (h01 : ∀ a, (![0, 1, 0] : Fin 3 → ℕ) a + (![1, 1, 12] : Fin 3 → ℕ) a ≤ (![3, 32, 12] : Fin 3 → ℕ) a)
    (h02 : ∀ a, (![0, 2, 0] : Fin 3 → ℕ) a + (![1, 1, 12] : Fin 3 → ℕ) a ≤ (![3, 32, 12] : Fin 3 → ℕ) a)
    (h03 : ∀ a, (![0, 3, 0] : Fin 3 → ℕ) a + (![1, 1, 12] : Fin 3 → ℕ) a ≤ (![3, 32, 12] : Fin 3 → ℕ) a)
    (h10 : ∀ a, (![1, 0, 0] : Fin 3 → ℕ) a + (![1, 1, 12] : Fin 3 → ℕ) a ≤ (![3, 32, 12] : Fin 3 → ℕ) a)
    (h11 : ∀ a, (![1, 1, 0] : Fin 3 → ℕ) a + (![1, 1, 12] : Fin 3 → ℕ) a ≤ (![3, 32, 12] : Fin 3 → ℕ) a)
    (h12 : ∀ a, (![1, 2, 0] : Fin 3 → ℕ) a + (![1, 1, 12] : Fin 3 → ℕ) a ≤ (![3, 32, 12] : Fin 3 → ℕ) a)
    (h13 : ∀ a, (![1, 3, 0] : Fin 3 → ℕ) a + (![1, 1, 12] : Fin 3 → ℕ) a ≤ (![3, 32, 12] : Fin 3 → ℕ) a)
    (h20 : ∀ a, (![2, 0, 0] : Fin 3 → ℕ) a + (![1, 1, 12] : Fin 3 → ℕ) a ≤ (![3, 32, 12] : Fin 3 → ℕ) a)
    (h21 : ∀ a, (![2, 1, 0] : Fin 3 → ℕ) a + (![1, 1, 12] : Fin 3 → ℕ) a ≤ (![3, 32, 12] : Fin 3 → ℕ) a)
    (h22 : ∀ a, (![2, 2, 0] : Fin 3 → ℕ) a + (![1, 1, 12] : Fin 3 → ℕ) a ≤ (![3, 32, 12] : Fin 3 → ℕ) a)
    (h23 : ∀ a, (![2, 3, 0] : Fin 3 → ℕ) a + (![1, 1, 12] : Fin 3 → ℕ) a ≤ (![3, 32, 12] : Fin 3 → ℕ) a)
    (h0 : ∀ a, (![0, 0, 0] : Fin 3 → ℕ) a + (![3, 32, 12] : Fin 3 → ℕ) a ≤ (![3, 32, 12] : Fin 3 → ℕ) a) (l : Fin 3) (j : Fin 32) (b : Fin 12) :
    v.read (Elt Ideal) (v.writes (Elt Ideal) f [
      ⟨Rect.unit (s := ⟨3, ![3, 32, 12]⟩) ![2, 3, 0] ![1, 1, 12] h23, w23⟩,
      ⟨Rect.unit (s := ⟨3, ![3, 32, 12]⟩) ![2, 2, 0] ![1, 1, 12] h22, w22⟩,
      ⟨Rect.unit (s := ⟨3, ![3, 32, 12]⟩) ![2, 1, 0] ![1, 1, 12] h21, w21⟩,
      ⟨Rect.unit (s := ⟨3, ![3, 32, 12]⟩) ![2, 0, 0] ![1, 1, 12] h20, w20⟩,
      ⟨Rect.unit (s := ⟨3, ![3, 32, 12]⟩) ![1, 3, 0] ![1, 1, 12] h13, w13⟩,
      ⟨Rect.unit (s := ⟨3, ![3, 32, 12]⟩) ![1, 2, 0] ![1, 1, 12] h12, w12⟩,
      ⟨Rect.unit (s := ⟨3, ![3, 32, 12]⟩) ![1, 1, 0] ![1, 1, 12] h11, w11⟩,
      ⟨Rect.unit (s := ⟨3, ![3, 32, 12]⟩) ![1, 0, 0] ![1, 1, 12] h10, w10⟩,
      ⟨Rect.unit (s := ⟨3, ![3, 32, 12]⟩) ![0, 3, 0] ![1, 1, 12] h03, w03⟩,
      ⟨Rect.unit (s := ⟨3, ![3, 32, 12]⟩) ![0, 2, 0] ![1, 1, 12] h02, w02⟩,
      ⟨Rect.unit (s := ⟨3, ![3, 32, 12]⟩) ![0, 1, 0] ![1, 1, 12] h01, w01⟩,
      ⟨Rect.unit (s := ⟨3, ![3, 32, 12]⟩) ![0, 0, 0] ![1, 1, 12] h00, w00⟩,
      ⟨Rect.unit (s := ⟨3, ![3, 32, 12]⟩) ![0, 0, 0] ![3, 32, 12] h0, z⟩]) (Idealize.ShloMosaic.ix3 l j b)
      = if l = 2 then Spec.stat (w20 (Idealize.ShloMosaic.ix3 (0 : Fin 1) (0 : Fin 1) b)) (w21 (Idealize.ShloMosaic.ix3 (0 : Fin 1) (0 : Fin 1) b)) (w22 (Idealize.ShloMosaic.ix3 (0 : Fin 1) (0 : Fin 1) b)) (w23 (Idealize.ShloMosaic.ix3 (0 : Fin 1) (0 : Fin 1) b)) j.val
        else if l = 1 then Spec.stat (w10 (Idealize.ShloMosaic.ix3 (0 : Fin 1) (0 : Fin 1) b)) (w11 (Idealize.ShloMosaic.ix3 (0 : Fin 1) (0 : Fin 1) b)) (w12 (Idealize.ShloMosaic.ix3 (0 : Fin 1) (0 : Fin 1) b)) (w13 (Idealize.ShloMosaic.ix3 (0 : Fin 1) (0 : Fin 1) b)) j.val
        else Spec.stat (w00 (Idealize.ShloMosaic.ix3 (0 : Fin 1) (0 : Fin 1) b)) (w01 (Idealize.ShloMosaic.ix3 (0 : Fin 1) (0 : Fin 1) b)) (w02 (Idealize.ShloMosaic.ix3 (0 : Fin 1) (0 : Fin 1) b)) (w03 (Idealize.ShloMosaic.ix3 (0 : Fin 1) (0 : Fin 1) b)) j.val := by
  rw [row_piece v f 2 3 ![2, 3, 0] rfl h23 w23,
    row_piece v f 2 2 ![2, 2, 0] rfl h22 w22,
    row_piece v f 2 1 ![2, 1, 0] rfl h21 w21,
    row_piece v f 2 0 ![2, 0, 0] rfl h20 w20,
    row_piece v f 1 3 ![1, 3, 0] rfl h13 w13,
    row_piece v f 1 2 ![1, 2, 0] rfl h12 w12,
    row_piece v f 1 1 ![1, 1, 0] rfl h11 w11,
    row_piece v f 1 0 ![1, 0, 0] rfl h10 w10,
    row_piece v f 0 3 ![0, 3, 0] rfl h03 w03,
    row_piece v f 0 2 ![0, 2, 0] rfl h02 w02,
    row_piece v f 0 1 ![0, 1, 0] rfl h01 w01,
    row_piece v f 0 0 ![0, 0, 0] rfl h00 w00]
  rw [zero_piece v f _ rfl h0 z, hz]
  unfold Spec.stat
  match l with
  | 0 => simp
  | 1 => simp
  | 2 => simp

end Cert.ReferenceIdeal.Hand
end
-- ==== Proof.RefVals.lean ====
/- What the reference's body stores over the extended reals is the specification's entries. -/
module

public import proofs.«01_k».proof.Proof.RefPieces
public import proofs.«01_k».proof.Proof.RefLand

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic

/-- A slab of 2560 columns with a unit axis in the middle, at an entry. -/
theorem cast4_2560 (v : FVec Ideal S12x2560 .f32) (b : Fin 12) (i : Fin 2560) :
    shapeCast S1x12x1x2560 v shapeCasts_S12x2560_S1x12x1x2560 (Idealize.ShloMosaic.ix4 (0 : Fin 1) b (0 : Fin 1) i) = v (ix2 b i) := by
  pointwise []
/-- A slab of 2560 columns of codes, at an entry. -/
theorem cast3_2560 (v : IVec S12x2560 8) (b : Fin 12) (i : Fin 2560) :
    shapeCast S1x12x2560 v shapeCasts_S12x2560_S1x12x2560 (Idealize.ShloMosaic.ix3 (0 : Fin 1) b i) = v (ix2 b i) := by
  pointwise []
/-- A slab of 6912 columns with a unit axis in the middle, at an entry. -/
theorem cast4_6912 (v : FVec Ideal S12x6912 .f32) (b : Fin 12) (i : Fin 6912) :
    shapeCast S1x12x1x6912 v shapeCasts_S12x6912_S1x12x1x6912 (Idealize.ShloMosaic.ix4 (0 : Fin 1) b (0 : Fin 1) i) = v (ix2 b i) := by
  pointwise []
/-- A slab of 6912 columns of codes, at an entry. -/
theorem cast3_6912 (v : IVec S12x6912 8) (b : Fin 12) (i : Fin 6912) :
    shapeCast S1x12x6912 v shapeCasts_S12x6912_S1x12x6912 (Idealize.ShloMosaic.ix3 (0 : Fin 1) b i) = v (ix2 b i) := by
  pointwise []
/-- A row of twelve scales, at an entry. -/
theorem cast1 (v : FVec Ideal S12 .f32) (b : Fin 12) :
    shapeCast S1x1x12 v shapeCasts_S12_S1x1x12 (Idealize.ShloMosaic.ix3 (0 : Fin 1) (0 : Fin 1) b) = v (ix1 b) := by
  pointwise []
/-- The cleared table is zero everywhere. -/
theorem cleared (z : S3x32x12.Idx) : k0_pay3 (F := Ideal) z = (0 : EReal) := by
  pointwise [k0_pay3]
/-- The stream the layers start from is the rows given. -/
theorem first_at (v : Vec Ideal S12x1x2560 .bf16) (b : Fin 12) (i : Fin 2560) :
    @Eq EReal (k0_pay4 (F := Ideal) v (ix2 b i)) (v (Idealize.ShloMosaic.ix3 b (0 : Fin 1) i)) := by
  pointwise [k0_pay4]

variable (c : Dev nD) (arg0 : Memref sig .tc .vmem S12x1x2560 .bf16) (harg0 : arg0.IsWhole) (arg1 : Memref sig .tc .vmem S3x12x1x2560 .f32) (harg1 : arg1.IsWhole) (arg2 : Memref sig .tc .vmem S3x640x2560 .i8) (harg2 : arg2.IsWhole) (arg3 : Memref sig .tc .vmem S3x1728x2560 .i8) (harg3 : arg3.IsWhole) (arg4 : Memref sig .tc .vmem S3x1728x2560 .i8) (harg4 : arg4.IsWhole) (arg5 : Memref sig .tc .vmem S3x640x6912 .i8) (harg5 : arg5.IsWhole) (arg6 : Memref sig .tc .vmem S3x7 .bf16) (harg6 : arg6.IsWhole) (arg7 : Memref sig .tc .vmem S3x2560 .f32) (harg7 : arg7.IsWhole) (arg8 : Memref sig .tc .vmem S3x2560 .f32) (harg8 : arg8.IsWhole) (arg9 : Memref sig .tc .vmem S3x2560 .f32) (harg9 : arg9.IsWhole) (arg10 : Memref sig .tc .vmem S3x6912 .f32) (harg10 : arg10.IsWhole) (arg11 : Memref sig .tc .vmem S3x12x1x2560 .f32) (harg11 : arg11.IsWhole) (arg12 : Memref sig .tc .vmem S3x12x1x2560 .f32) (harg12 : arg12.IsWhole) (arg13 : Memref sig .tc .vmem S3x12x1x6912 .f32) (harg13 : arg13.IsWhole) (arg14 : Memref sig .tc .vmem S3x12x2560 .i8) (harg14 : arg14.IsWhole) (arg15 : Memref sig .tc .vmem S3x12x2560 .i8) (harg15 : arg15.IsWhole) (arg16 : Memref sig .tc .vmem S3x12x2560 .i8) (harg16 : arg16.IsWhole) (arg17 : Memref sig .tc .vmem S3x12x6912 .i8) (harg17 : arg17.IsWhole) (arg18 : Memref sig .tc .vmem S3x32x12 .f32) (harg18 : arg18.IsWhole)
  (x0 : Vec Ideal S12x1x2560 .bf16) (x1 : Vec Ideal S3x12x1x2560 .f32) (x2 : Vec Ideal S3x640x2560 .i8) (x3 : Vec Ideal S3x1728x2560 .i8) (x4 : Vec Ideal S3x1728x2560 .i8) (x5 : Vec Ideal S3x640x6912 .i8) (x6 : Vec Ideal S3x7 .bf16) (x7 : Vec Ideal S3x2560 .f32) (x8 : Vec Ideal S3x2560 .f32) (x9 : Vec Ideal S3x2560 .f32) (x10 : Vec Ideal S3x6912 .f32)

/-- The arrays the layers are made of. -/
def arrsR : Spec.Arrays where
  at' z := x1 z
  wo z := x2 z
  wg z := x3 z
  wu z := x4 z
  wd z := x5 z
  sc z := x6 z
  gi z := x7 z
  ga z := x8 z
  gp z := x9 z
  gf z := x10 z

include arg1 harg1 arg2 harg2 arg3 harg3 arg4 harg4 arg5 harg5 arg6 harg6 arg7 harg7 arg8 harg8 arg9 harg9 arg10 harg10 x1 x2 x3 x4 x5 x6 x7 x8 x9 x10
/-- What the first layer loads is that layer of the arrays. -/
theorem is0 : Is (ld0 arg1 harg1 arg2 harg2 arg3 harg3 arg4 harg4 arg5 harg5 arg6 harg6 arg7 harg7 arg8 harg8 arg9 harg9 arg10 harg10 x1 x2 x3 x4 x5 x6 x7 x8 x9 x10) ((Spec.Arrays.lay (arrsR x1 x2 x3 x4 x5 x6 x7 x8 x9 x10)) 0) where
  at4 b i := ld_ix4 arg1 harg1 x1 ![0, 0, 0, 0] 0 rfl _ b i
  wo p i := ld_ix3 arg2 harg2 x2 ![0, 0, 0] 0 rfl _ p i
  wg p i := ld_ix3 arg3 harg3 x3 ![0, 0, 0] 0 rfl _ p i
  wu p i := ld_ix3 arg4 harg4 x4 ![0, 0, 0] 0 rfl _ p i
  wd p i := ld_ix3 arg5 harg5 x5 ![0, 0, 0] 0 rfl _ p i
  sc i := ld_ix2 arg6 harg6 x6 ![0, 0] 0 rfl _ i
  gi := funext fun i => ld_ix2 arg7 harg7 x7 ![0, 0] 0 rfl _ i
  ga := funext fun i => ld_ix2 arg8 harg8 x8 ![0, 0] 0 rfl _ i
  gp := funext fun i => ld_ix2 arg9 harg9 x9 ![0, 0] 0 rfl _ i
  gf := funext fun i => ld_ix2 arg10 harg10 x10 ![0, 0] 0 rfl _ i
/-- What the second layer loads is that layer of the arrays. -/
theorem is1 : Is (ld1 arg1 harg1 arg2 harg2 arg3 harg3 arg4 harg4 arg5 harg5 arg6 harg6 arg7 harg7 arg8 harg8 arg9 harg9 arg10 harg10 x1 x2 x3 x4 x5 x6 x7 x8 x9 x10) ((Spec.Arrays.lay (arrsR x1 x2 x3 x4 x5 x6 x7 x8 x9 x10)) 1) where
  at4 b i := ld_ix4 arg1 harg1 x1 ![1, 0, 0, 0] 1 rfl _ b i
  wo p i := ld_ix3 arg2 harg2 x2 ![1, 0, 0] 1 rfl _ p i
  wg p i := ld_ix3 arg3 harg3 x3 ![1, 0, 0] 1 rfl _ p i
  wu p i := ld_ix3 arg4 harg4 x4 ![1, 0, 0] 1 rfl _ p i
  wd p i := ld_ix3 arg5 harg5 x5 ![1, 0, 0] 1 rfl _ p i
  sc i := ld_ix2 arg6 harg6 x6 ![1, 0] 1 rfl _ i
  gi := funext fun i => ld_ix2 arg7 harg7 x7 ![1, 0] 1 rfl _ i
  ga := funext fun i => ld_ix2 arg8 harg8 x8 ![1, 0] 1 rfl _ i
  gp := funext fun i => ld_ix2 arg9 harg9 x9 ![1, 0] 1 rfl _ i
  gf := funext fun i => ld_ix2 arg10 harg10 x10 ![1, 0] 1 rfl _ i
/-- What the third layer loads is that layer of the arrays. -/
theorem is2 : Is (ld2 arg1 harg1 arg2 harg2 arg3 harg3 arg4 harg4 arg5 harg5 arg6 harg6 arg7 harg7 arg8 harg8 arg9 harg9 arg10 harg10 x1 x2 x3 x4 x5 x6 x7 x8 x9 x10) ((Spec.Arrays.lay (arrsR x1 x2 x3 x4 x5 x6 x7 x8 x9 x10)) 2) where
  at4 b i := ld_ix4 arg1 harg1 x1 ![2, 0, 0, 0] 2 rfl _ b i
  wo p i := ld_ix3 arg2 harg2 x2 ![2, 0, 0] 2 rfl _ p i
  wg p i := ld_ix3 arg3 harg3 x3 ![2, 0, 0] 2 rfl _ p i
  wu p i := ld_ix3 arg4 harg4 x4 ![2, 0, 0] 2 rfl _ p i
  wd p i := ld_ix3 arg5 harg5 x5 ![2, 0, 0] 2 rfl _ p i
  sc i := ld_ix2 arg6 harg6 x6 ![2, 0] 2 rfl _ i
  gi := funext fun i => ld_ix2 arg7 harg7 x7 ![2, 0] 2 rfl _ i
  ga := funext fun i => ld_ix2 arg8 harg8 x8 ![2, 0] 2 rfl _ i
  gp := funext fun i => ld_ix2 arg9 harg9 x9 ![2, 0] 2 rfl _ i
  gf := funext fun i => ld_ix2 arg10 harg10 x10 ![2, 0] 2 rfl _ i
include c arg0 harg0 x0

/-- The first layer's stream is the input rows. -/
theorem v0_row (b : Fin 12) : rowOf (kernelRun0_A.sl.r c arg0 harg0 x0) b = Spec.stream (Spec.Arrays.lay (arrsR x1 x2 x3 x4 x5 x6 x7 x8 x9 x10)) (Spec.rowsIn fun z => x0 z) b 0 :=
  funext fun i => (first_at _ b i).trans (ld_x arg0 harg0 x0 ![0, 0, 0] rfl _ b i)
/-- The middle stream of the first layer. -/
theorem m0_row (b : Fin 12) : rowOf (kernelRun0_A.sl.r_9 c arg0 harg0 arg1 harg1 arg2 harg2 arg6 harg6 arg8 harg8 x0 x1 x2 x6 x8) b = Spec.midA (Spec.Arrays.lay (arrsR x1 x2 x3 x4 x5 x6 x7 x8 x9 x10)) (Spec.rowsIn fun z => x0 z) 0 b := by
  rw [m0_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (mid_row (is0 ..) _ b).trans ?_
  rw [v0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The hidden rows of the first layer. -/
theorem h0_row (b : Fin 12) : rowOf (kernelRun0_A.sl.r_20 c arg0 harg0 arg1 harg1 arg2 harg2 arg3 harg3 arg4 harg4 arg6 harg6 arg8 harg8 arg9 harg9 x0 x1 x2 x3 x4 x6 x8 x9) b = Spec.hidA (Spec.Arrays.lay (arrsR x1 x2 x3 x4 x5 x6 x7 x8 x9 x10)) (Spec.rowsIn fun z => x0 z) 0 b := by
  rw [h0_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (hid_row (is0 ..) _ b).trans ?_
  rw [m0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The stream the first layer leaves. -/
theorem out0_row (b : Fin 12) : rowOf (In.out (ld0 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_9 c arg0 harg0 arg1 harg1 arg2 harg2 arg6 harg6 arg8 harg8 x0 x1 x2 x6 x8) (kernelRun0_A.sl.r_20 c arg0 harg0 arg1 harg1 arg2 harg2 arg3 harg3 arg4 harg4 arg6 harg6 arg8 harg8 arg9 harg9 x0 x1 x2 x3 x4 x6 x8 x9)) b = Spec.stream (Spec.Arrays.lay (arrsR x1 x2 x3 x4 x5 x6 x7 x8 x9 x10)) (Spec.rowsIn fun z => x0 z) b 1 := by
  refine (out_row (is0 ..) _ _ b).trans ?_
  rw [m0_row c arg0 harg0 arg1 harg1 arg2 harg2 arg3 harg3 arg4 harg4 arg5 harg5 arg6 harg6 arg7 harg7 arg8 harg8 arg9 harg9 arg10 harg10 x0 x1 x2 x3 x4 x5 x6 x7 x8 x9 x10, h0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  exact (Spec.stream_succ (Spec.Arrays.lay (arrsR x1 x2 x3 x4 x5 x6 x7 x8 x9 x10)) (Spec.rowsIn fun z => x0 z) 0 b).symm
/-- The stream the second layer meets. -/
theorem v1_row (b : Fin 12) : rowOf (kernelRun0_A.sl.r_29 c arg0 harg0 arg1 harg1 arg2 harg2 arg3 harg3 arg4 harg4 arg5 harg5 arg6 harg6 arg8 harg8 arg9 harg9 arg10 harg10 x0 x1 x2 x3 x4 x5 x6 x8 x9 x10) b = Spec.stream (Spec.Arrays.lay (arrsR x1 x2 x3 x4 x5 x6 x7 x8 x9 x10)) (Spec.rowsIn fun z => x0 z) b 1 := by
  rw [o0_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  exact out0_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b
/-- The first codes of the first layer. -/
theorem c10_at (b : Fin 12) (i : Fin 2560) : (kernelRun0_A.sl.r_4 c arg0 harg0 arg7 harg7 x0 x7) (ix2 b i) = Spec.codesA (Spec.Arrays.lay (arrsR x1 x2 x3 x4 x5 x6 x7 x8 x9 x10)) (Spec.rowsIn fun z => x0 z) 0 b i := by
  rw [c10_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (codes_at _ _ b i).trans ?_
  rw [v0_row c arg0 harg0 arg1 harg1 arg2 harg2 arg3 harg3 arg4 harg4 arg5 harg5 arg6 harg6 arg7 harg7 arg8 harg8 arg9 harg9 arg10 harg10 x0 x1 x2 x3 x4 x5 x6 x7 x8 x9 x10, (is0 ..).gi]
  rfl
/-- The first scales of the first layer. -/
theorem s10_at (b : Fin 12) : (kernelRun0_A.sl.r_2 c arg0 harg0 arg7 harg7 x0 x7) (ix1 b) = Spec.scl (((Spec.Arrays.lay (arrsR x1 x2 x3 x4 x5 x6 x7 x8 x9 x10)) 0).n1 (Spec.stream (Spec.Arrays.lay (arrsR x1 x2 x3 x4 x5 x6 x7 x8 x9 x10)) (Spec.rowsIn fun z => x0 z) b 0)) := by
  rw [s10_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (scale_at _ _ b).trans ?_
  rw [v0_row c arg0 harg0 arg1 harg1 arg2 harg2 arg3 harg3 arg4 harg4 arg5 harg5 arg6 harg6 arg7 harg7 arg8 harg8 arg9 harg9 arg10 harg10 x0 x1 x2 x3 x4 x5 x6 x7 x8 x9 x10, (is0 ..).gi]
/-- The second codes of the first layer. -/
theorem c20_at (b : Fin 12) (i : Fin 2560) : (kernelRun0_A.sl.r_6 c arg1 harg1 arg8 harg8 x1 x8) (ix2 b i) = Spec.codesB (Spec.Arrays.lay (arrsR x1 x2 x3 x4 x5 x6 x7 x8 x9 x10)) 0 b i := by
  rw [c20_eq c arg1 harg1 arg2 harg2 arg3 harg3 arg4 harg4 arg5 harg5 arg6 harg6 arg7 harg7 arg8 harg8 arg9 harg9 arg10 harg10 x1 x2 x3 x4 x5 x6 x7 x8 x9 x10]
  exact c2_at (is0 ..) b i
/-- The second scales of the first layer. -/
theorem s20_at (b : Fin 12) : (kernelRun0_A.sl.r_5 c arg1 harg1 arg8 harg8 x1 x8) (ix1 b) = Spec.scl (((Spec.Arrays.lay (arrsR x1 x2 x3 x4 x5 x6 x7 x8 x9 x10)) 0).n2 b) := by
  rw [s20_eq c arg1 harg1 arg2 harg2 arg3 harg3 arg4 harg4 arg5 harg5 arg6 harg6 arg7 harg7 arg8 harg8 arg9 harg9 arg10 harg10 x1 x2 x3 x4 x5 x6 x7 x8 x9 x10]
  exact s2_at (is0 ..) b
/-- The third codes of the first layer. -/
theorem c30_at (b : Fin 12) (i : Fin 2560) : (kernelRun0_A.sl.r_11 c arg0 harg0 arg1 harg1 arg2 harg2 arg6 harg6 arg8 harg8 arg9 harg9 x0 x1 x2 x6 x8 x9) (ix2 b i) = Spec.codesC (Spec.Arrays.lay (arrsR x1 x2 x3 x4 x5 x6 x7 x8 x9 x10)) (Spec.rowsIn fun z => x0 z) 0 b i := by
  rw [c30_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (c3_at (is0 ..) _ b i).trans ?_
  rw [m0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The third scales of the first layer. -/
theorem s30_at (b : Fin 12) : (kernelRun0_A.sl.r_10 c arg0 harg0 arg1 harg1 arg2 harg2 arg6 harg6 arg8 harg8 arg9 harg9 x0 x1 x2 x6 x8 x9) (ix1 b) = Spec.scl (((Spec.Arrays.lay (arrsR x1 x2 x3 x4 x5 x6 x7 x8 x9 x10)) 0).n3 (Spec.midA (Spec.Arrays.lay (arrsR x1 x2 x3 x4 x5 x6 x7 x8 x9 x10)) (Spec.rowsIn fun z => x0 z) 0 b)) := by
  rw [s30_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (s3_at (is0 ..) _ b).trans ?_
  rw [m0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
/-- The fourth codes of the first layer. -/
theorem c40_at (b : Fin 12) (i : Fin 6912) : (kernelRun0_A.sl.r_24 c arg0 harg0 arg1 harg1 arg2 harg2 arg3 harg3 arg4 harg4 arg6 harg6 arg8 harg8 arg9 harg9 arg10 harg10 x0 x1 x2 x3 x4 x6 x8 x9 x10) (ix2 b i) = Spec.codesD (Spec.Arrays.lay (arrsR x1 x2 x3 x4 x5 x6 x7 x8 x9 x10)) (Spec.rowsIn fun z => x0 z) 0 b i := by
  rw [c40_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (c4_at (is0 ..) _ b i).trans ?_
  rw [h0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The fourth scales of the first layer. -/
theorem s40_at (b : Fin 12) : (kernelRun0_A.sl.r_23 c arg0 harg0 arg1 harg1 arg2 harg2 arg3 harg3 arg4 harg4 arg6 harg6 arg8 harg8 arg9 harg9 arg10 harg10 x0 x1 x2 x3 x4 x6 x8 x9 x10) (ix1 b) = Spec.scl (((Spec.Arrays.lay (arrsR x1 x2 x3 x4 x5 x6 x7 x8 x9 x10)) 0).n4 (Spec.hidA (Spec.Arrays.lay (arrsR x1 x2 x3 x4 x5 x6 x7 x8 x9 x10)) (Spec.rowsIn fun z => x0 z) 0 b)) := by
  rw [s40_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (s4_at (is0 ..) _ b).trans ?_
  rw [h0_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
/-- The middle stream of the second layer. -/
theorem m1_row (b : Fin 12) : rowOf (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) b = Spec.midA (Spec.Arrays.lay (arrsR x1 x2 x3 x4 x5 x6 x7 x8 x9 x10)) (Spec.rowsIn fun z => x0 z) 1 b := by
  rw [m1_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (mid_row (is1 ..) _ b).trans ?_
  rw [v1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The hidden rows of the second layer. -/
theorem h1_row (b : Fin 12) : rowOf (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10) b = Spec.hidA (Spec.Arrays.lay (arrsR x1 x2 x3 x4 x5 x6 x7 x8 x9 x10)) (Spec.rowsIn fun z => x0 z) 1 b := by
  rw [h1_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (hid_row (is1 ..) _ b).trans ?_
  rw [m1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The stream the second layer leaves. -/
theorem out1_row (b : Fin 12) : rowOf (In.out (ld1 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_40 c arg0 harg0 arg1 harg1 arg2 harg2 arg3 harg3 arg4 harg4 arg5 harg5 arg6 harg6 arg8 harg8 arg9 harg9 arg10 harg10 x0 x1 x2 x3 x4 x5 x6 x8 x9 x10) (kernelRun0_A.sl.r_55 c arg0 harg0 arg1 harg1 arg2 harg2 arg3 harg3 arg4 harg4 arg5 harg5 arg6 harg6 arg8 harg8 arg9 harg9 arg10 harg10 x0 x1 x2 x3 x4 x5 x6 x8 x9 x10)) b = Spec.stream (Spec.Arrays.lay (arrsR x1 x2 x3 x4 x5 x6 x7 x8 x9 x10)) (Spec.rowsIn fun z => x0 z) b 2 := by
  refine (out_row (is1 ..) _ _ b).trans ?_
  rw [m1_row c arg0 harg0 arg1 harg1 arg2 harg2 arg3 harg3 arg4 harg4 arg5 harg5 arg6 harg6 arg7 harg7 arg8 harg8 arg9 harg9 arg10 harg10 x0 x1 x2 x3 x4 x5 x6 x7 x8 x9 x10, h1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  exact (Spec.stream_succ (Spec.Arrays.lay (arrsR x1 x2 x3 x4 x5 x6 x7 x8 x9 x10)) (Spec.rowsIn fun z => x0 z) 1 b).symm
/-- The stream the third layer meets. -/
theorem v2_row (b : Fin 12) : rowOf (kernelRun0_A.sl.r_65 c arg0 harg0 arg1 harg1 arg2 harg2 arg3 harg3 arg4 harg4 arg5 harg5 arg6 harg6 arg8 harg8 arg9 harg9 arg10 harg10 x0 x1 x2 x3 x4 x5 x6 x8 x9 x10) b = Spec.stream (Spec.Arrays.lay (arrsR x1 x2 x3 x4 x5 x6 x7 x8 x9 x10)) (Spec.rowsIn fun z => x0 z) b 2 := by
  rw [o1_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  exact out1_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b
/-- The first codes of the second layer. -/
theorem c11_at (b : Fin 12) (i : Fin 2560) : (kernelRun0_A.sl.r_32 c arg0 harg0 arg1 harg1 arg2 harg2 arg3 harg3 arg4 harg4 arg5 harg5 arg6 harg6 arg7 harg7 arg8 harg8 arg9 harg9 arg10 harg10 x0 x1 x2 x3 x4 x5 x6 x7 x8 x9 x10) (ix2 b i) = Spec.codesA (Spec.Arrays.lay (arrsR x1 x2 x3 x4 x5 x6 x7 x8 x9 x10)) (Spec.rowsIn fun z => x0 z) 1 b i := by
  rw [c11_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (codes_at _ _ b i).trans ?_
  rw [v1_row c arg0 harg0 arg1 harg1 arg2 harg2 arg3 harg3 arg4 harg4 arg5 harg5 arg6 harg6 arg7 harg7 arg8 harg8 arg9 harg9 arg10 harg10 x0 x1 x2 x3 x4 x5 x6 x7 x8 x9 x10, (is1 ..).gi]
  rfl
/-- The first scales of the second layer. -/
theorem s11_at (b : Fin 12) : (kernelRun0_A.sl.r_31 c arg0 harg0 arg1 harg1 arg2 harg2 arg3 harg3 arg4 harg4 arg5 harg5 arg6 harg6 arg7 harg7 arg8 harg8 arg9 harg9 arg10 harg10 x0 x1 x2 x3 x4 x5 x6 x7 x8 x9 x10) (ix1 b) = Spec.scl (((Spec.Arrays.lay (arrsR x1 x2 x3 x4 x5 x6 x7 x8 x9 x10)) 1).n1 (Spec.stream (Spec.Arrays.lay (arrsR x1 x2 x3 x4 x5 x6 x7 x8 x9 x10)) (Spec.rowsIn fun z => x0 z) b 1)) := by
  rw [s11_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (scale_at _ _ b).trans ?_
  rw [v1_row c arg0 harg0 arg1 harg1 arg2 harg2 arg3 harg3 arg4 harg4 arg5 harg5 arg6 harg6 arg7 harg7 arg8 harg8 arg9 harg9 arg10 harg10 x0 x1 x2 x3 x4 x5 x6 x7 x8 x9 x10, (is1 ..).gi]
/-- The second codes of the second layer. -/
theorem c21_at (b : Fin 12) (i : Fin 2560) : (kernelRun0_A.sl.r_35 c arg1 harg1 arg8 harg8 x1 x8) (ix2 b i) = Spec.codesB (Spec.Arrays.lay (arrsR x1 x2 x3 x4 x5 x6 x7 x8 x9 x10)) 1 b i := by
  rw [c21_eq c arg1 harg1 arg2 harg2 arg3 harg3 arg4 harg4 arg5 harg5 arg6 harg6 arg7 harg7 arg8 harg8 arg9 harg9 arg10 harg10 x1 x2 x3 x4 x5 x6 x7 x8 x9 x10]
  exact c2_at (is1 ..) b i
/-- The second scales of the second layer. -/
theorem s21_at (b : Fin 12) : (kernelRun0_A.sl.r_34 c arg1 harg1 arg8 harg8 x1 x8) (ix1 b) = Spec.scl (((Spec.Arrays.lay (arrsR x1 x2 x3 x4 x5 x6 x7 x8 x9 x10)) 1).n2 b) := by
  rw [s21_eq c arg1 harg1 arg2 harg2 arg3 harg3 arg4 harg4 arg5 harg5 arg6 harg6 arg7 harg7 arg8 harg8 arg9 harg9 arg10 harg10 x1 x2 x3 x4 x5 x6 x7 x8 x9 x10]
  exact s2_at (is1 ..) b
/-- The third codes of the second layer. -/
theorem c31_at (b : Fin 12) (i : Fin 2560) : (kernelRun0_A.sl.r_44 c arg0 harg0 arg1 harg1 arg2 harg2 arg3 harg3 arg4 harg4 arg5 harg5 arg6 harg6 arg8 harg8 arg9 harg9 arg10 harg10 x0 x1 x2 x3 x4 x5 x6 x8 x9 x10) (ix2 b i) = Spec.codesC (Spec.Arrays.lay (arrsR x1 x2 x3 x4 x5 x6 x7 x8 x9 x10)) (Spec.rowsIn fun z => x0 z) 1 b i := by
  rw [c31_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (c3_at (is1 ..) _ b i).trans ?_
  rw [m1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The third scales of the second layer. -/
theorem s31_at (b : Fin 12) : (kernelRun0_A.sl.r_43 c arg0 harg0 arg1 harg1 arg2 harg2 arg3 harg3 arg4 harg4 arg5 harg5 arg6 harg6 arg8 harg8 arg9 harg9 arg10 harg10 x0 x1 x2 x3 x4 x5 x6 x8 x9 x10) (ix1 b) = Spec.scl (((Spec.Arrays.lay (arrsR x1 x2 x3 x4 x5 x6 x7 x8 x9 x10)) 1).n3 (Spec.midA (Spec.Arrays.lay (arrsR x1 x2 x3 x4 x5 x6 x7 x8 x9 x10)) (Spec.rowsIn fun z => x0 z) 1 b)) := by
  rw [s31_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (s3_at (is1 ..) _ b).trans ?_
  rw [m1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
/-- The fourth codes of the second layer. -/
theorem c41_at (b : Fin 12) (i : Fin 6912) : (kernelRun0_A.sl.r_59 c arg0 harg0 arg1 harg1 arg2 harg2 arg3 harg3 arg4 harg4 arg5 harg5 arg6 harg6 arg8 harg8 arg9 harg9 arg10 harg10 x0 x1 x2 x3 x4 x5 x6 x8 x9 x10) (ix2 b i) = Spec.codesD (Spec.Arrays.lay (arrsR x1 x2 x3 x4 x5 x6 x7 x8 x9 x10)) (Spec.rowsIn fun z => x0 z) 1 b i := by
  rw [c41_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (c4_at (is1 ..) _ b i).trans ?_
  rw [h1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The fourth scales of the second layer. -/
theorem s41_at (b : Fin 12) : (kernelRun0_A.sl.r_58 c arg0 harg0 arg1 harg1 arg2 harg2 arg3 harg3 arg4 harg4 arg5 harg5 arg6 harg6 arg8 harg8 arg9 harg9 arg10 harg10 x0 x1 x2 x3 x4 x5 x6 x8 x9 x10) (ix1 b) = Spec.scl (((Spec.Arrays.lay (arrsR x1 x2 x3 x4 x5 x6 x7 x8 x9 x10)) 1).n4 (Spec.hidA (Spec.Arrays.lay (arrsR x1 x2 x3 x4 x5 x6 x7 x8 x9 x10)) (Spec.rowsIn fun z => x0 z) 1 b)) := by
  rw [s41_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (s4_at (is1 ..) _ b).trans ?_
  rw [h1_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
/-- The middle stream of the third layer. -/
theorem m2_row (b : Fin 12) : rowOf (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) b = Spec.midA (Spec.Arrays.lay (arrsR x1 x2 x3 x4 x5 x6 x7 x8 x9 x10)) (Spec.rowsIn fun z => x0 z) 2 b := by
  rw [m2_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (mid_row (is2 ..) _ b).trans ?_
  rw [v2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The hidden rows of the third layer. -/
theorem h2_row (b : Fin 12) : rowOf (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10) b = Spec.hidA (Spec.Arrays.lay (arrsR x1 x2 x3 x4 x5 x6 x7 x8 x9 x10)) (Spec.rowsIn fun z => x0 z) 2 b := by
  rw [h2_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (hid_row (is2 ..) _ b).trans ?_
  rw [m2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The stream the third layer leaves. -/
theorem out2_row (b : Fin 12) : rowOf (In.out (ld2 arg1 harg1 arg2 harg2 arg3 harg3 arg4 harg4 arg5 harg5 arg6 harg6 arg7 harg7 arg8 harg8 arg9 harg9 arg10 harg10 x1 x2 x3 x4 x5 x6 x7 x8 x9 x10) (kernelRun0_A.sl.r_79 c arg0 harg0 arg1 harg1 arg2 harg2 arg3 harg3 arg4 harg4 arg5 harg5 arg6 harg6 arg8 harg8 arg9 harg9 arg10 harg10 x0 x1 x2 x3 x4 x5 x6 x8 x9 x10) (kernelRun0_A.sl.r_96 c arg0 harg0 arg1 harg1 arg2 harg2 arg3 harg3 arg4 harg4 arg5 harg5 arg6 harg6 arg8 harg8 arg9 harg9 arg10 harg10 x0 x1 x2 x3 x4 x5 x6 x8 x9 x10)) b = Spec.stream (Spec.Arrays.lay (arrsR x1 x2 x3 x4 x5 x6 x7 x8 x9 x10)) (Spec.rowsIn fun z => x0 z) b 3 := by
  refine (out_row (is2 ..) _ _ b).trans ?_
  rw [m2_row c arg0 harg0 arg1 harg1 arg2 harg2 arg3 harg3 arg4 harg4 arg5 harg5 arg6 harg6 arg7 harg7 arg8 harg8 arg9 harg9 arg10 harg10 x0 x1 x2 x3 x4 x5 x6 x7 x8 x9 x10, h2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  exact (Spec.stream_succ (Spec.Arrays.lay (arrsR x1 x2 x3 x4 x5 x6 x7 x8 x9 x10)) (Spec.rowsIn fun z => x0 z) 2 b).symm
/-- The first codes of the third layer. -/
theorem c12_at (b : Fin 12) (i : Fin 2560) : (kernelRun0_A.sl.r_68 c arg0 harg0 arg1 harg1 arg2 harg2 arg3 harg3 arg4 harg4 arg5 harg5 arg6 harg6 arg7 harg7 arg8 harg8 arg9 harg9 arg10 harg10 x0 x1 x2 x3 x4 x5 x6 x7 x8 x9 x10) (ix2 b i) = Spec.codesA (Spec.Arrays.lay (arrsR x1 x2 x3 x4 x5 x6 x7 x8 x9 x10)) (Spec.rowsIn fun z => x0 z) 2 b i := by
  rw [c12_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (codes_at _ _ b i).trans ?_
  rw [v2_row c arg0 harg0 arg1 harg1 arg2 harg2 arg3 harg3 arg4 harg4 arg5 harg5 arg6 harg6 arg7 harg7 arg8 harg8 arg9 harg9 arg10 harg10 x0 x1 x2 x3 x4 x5 x6 x7 x8 x9 x10, (is2 ..).gi]
  rfl
/-- The first scales of the third layer. -/
theorem s12_at (b : Fin 12) : (kernelRun0_A.sl.r_67 c arg0 harg0 arg1 harg1 arg2 harg2 arg3 harg3 arg4 harg4 arg5 harg5 arg6 harg6 arg7 harg7 arg8 harg8 arg9 harg9 arg10 harg10 x0 x1 x2 x3 x4 x5 x6 x7 x8 x9 x10) (ix1 b) = Spec.scl (((Spec.Arrays.lay (arrsR x1 x2 x3 x4 x5 x6 x7 x8 x9 x10)) 2).n1 (Spec.stream (Spec.Arrays.lay (arrsR x1 x2 x3 x4 x5 x6 x7 x8 x9 x10)) (Spec.rowsIn fun z => x0 z) b 2)) := by
  rw [s12_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (scale_at _ _ b).trans ?_
  rw [v2_row c arg0 harg0 arg1 harg1 arg2 harg2 arg3 harg3 arg4 harg4 arg5 harg5 arg6 harg6 arg7 harg7 arg8 harg8 arg9 harg9 arg10 harg10 x0 x1 x2 x3 x4 x5 x6 x7 x8 x9 x10, (is2 ..).gi]
/-- The second codes of the third layer. -/
theorem c22_at (b : Fin 12) (i : Fin 2560) : (kernelRun0_A.sl.r_73 c arg1 harg1 arg8 harg8 x1 x8) (ix2 b i) = Spec.codesB (Spec.Arrays.lay (arrsR x1 x2 x3 x4 x5 x6 x7 x8 x9 x10)) 2 b i := by
  rw [c22_eq c arg1 harg1 arg2 harg2 arg3 harg3 arg4 harg4 arg5 harg5 arg6 harg6 arg7 harg7 arg8 harg8 arg9 harg9 arg10 harg10 x1 x2 x3 x4 x5 x6 x7 x8 x9 x10]
  exact c2_at (is2 ..) b i
/-- The second scales of the third layer. -/
theorem s22_at (b : Fin 12) : (kernelRun0_A.sl.r_72 c arg1 harg1 arg8 harg8 x1 x8) (ix1 b) = Spec.scl (((Spec.Arrays.lay (arrsR x1 x2 x3 x4 x5 x6 x7 x8 x9 x10)) 2).n2 b) := by
  rw [s22_eq c arg1 harg1 arg2 harg2 arg3 harg3 arg4 harg4 arg5 harg5 arg6 harg6 arg7 harg7 arg8 harg8 arg9 harg9 arg10 harg10 x1 x2 x3 x4 x5 x6 x7 x8 x9 x10]
  exact s2_at (is2 ..) b
/-- The third codes of the third layer. -/
theorem c32_at (b : Fin 12) (i : Fin 2560) : (kernelRun0_A.sl.r_83 c arg0 harg0 arg1 harg1 arg2 harg2 arg3 harg3 arg4 harg4 arg5 harg5 arg6 harg6 arg8 harg8 arg9 harg9 arg10 harg10 x0 x1 x2 x3 x4 x5 x6 x8 x9 x10) (ix2 b i) = Spec.codesC (Spec.Arrays.lay (arrsR x1 x2 x3 x4 x5 x6 x7 x8 x9 x10)) (Spec.rowsIn fun z => x0 z) 2 b i := by
  rw [c32_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (c3_at (is2 ..) _ b i).trans ?_
  rw [m2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The third scales of the third layer. -/
theorem s32_at (b : Fin 12) : (kernelRun0_A.sl.r_82 c arg0 harg0 arg1 harg1 arg2 harg2 arg3 harg3 arg4 harg4 arg5 harg5 arg6 harg6 arg8 harg8 arg9 harg9 arg10 harg10 x0 x1 x2 x3 x4 x5 x6 x8 x9 x10) (ix1 b) = Spec.scl (((Spec.Arrays.lay (arrsR x1 x2 x3 x4 x5 x6 x7 x8 x9 x10)) 2).n3 (Spec.midA (Spec.Arrays.lay (arrsR x1 x2 x3 x4 x5 x6 x7 x8 x9 x10)) (Spec.rowsIn fun z => x0 z) 2 b)) := by
  rw [s32_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (s3_at (is2 ..) _ b).trans ?_
  rw [m2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
/-- The fourth codes of the third layer. -/
theorem c42_at (b : Fin 12) (i : Fin 6912) : (kernelRun0_A.sl.r_101 c arg0 harg0 arg1 harg1 arg2 harg2 arg3 harg3 arg4 harg4 arg5 harg5 arg6 harg6 arg8 harg8 arg9 harg9 arg10 harg10 x0 x1 x2 x3 x4 x5 x6 x8 x9 x10) (ix2 b i) = Spec.codesD (Spec.Arrays.lay (arrsR x1 x2 x3 x4 x5 x6 x7 x8 x9 x10)) (Spec.rowsIn fun z => x0 z) 2 b i := by
  rw [c42_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (c4_at (is2 ..) _ b i).trans ?_
  rw [h2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
  rfl
/-- The fourth scales of the third layer. -/
theorem s42_at (b : Fin 12) : (kernelRun0_A.sl.r_100 c arg0 harg0 arg1 harg1 arg2 harg2 arg3 harg3 arg4 harg4 arg5 harg5 arg6 harg6 arg8 harg8 arg9 harg9 arg10 harg10 x0 x1 x2 x3 x4 x5 x6 x8 x9 x10) (ix1 b) = Spec.scl (((Spec.Arrays.lay (arrsR x1 x2 x3 x4 x5 x6 x7 x8 x9 x10)) 2).n4 (Spec.hidA (Spec.Arrays.lay (arrsR x1 x2 x3 x4 x5 x6 x7 x8 x9 x10)) (Spec.rowsIn fun z => x0 z) 2 b)) := by
  rw [s42_eq c arg0 harg0 arg1 harg1 arg2 harg2 arg3 harg3 arg4 harg4 arg5 harg5 arg6 harg6 arg7 harg7 arg8 harg8 arg9 harg9 arg10 harg10 x0 x1 x2 x3 x4 x5 x6 x7 x8 x9 x10]
  refine (s4_at (is2 ..) _ b).trans ?_
  rw [h2_row c arg0 harg0 arg1 harg1 arg2 harg2 arg3 harg3 arg4 harg4 arg5 harg5 arg6 harg6 arg7 harg7 arg8 harg8 arg9 harg9 arg10 harg10 x0 x1 x2 x3 x4 x5 x6 x7 x8 x9 x10]
/-- The resid result, at an entry. -/
theorem block11_at (z : S3x12x1x2560.Idx) : out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.residA (Spec.Arrays.lay (arrsR x1 x2 x3 x4 x5 x6 x7 x8 x9 x10)) (Spec.rowsIn fun z => x0 z) (z 0) (z 1) (z 3) := by
  obtain ⟨l, b, o, rfl⟩ : ∃ (l : Fin 3) (b : Fin 12) (o : Fin 2560), z = Idealize.ShloMosaic.ix4 l b (0 : Fin 1) o := ⟨z 0, z 1, z 3, funext fun a => by match a with | ⟨0, _⟩ | ⟨1, _⟩ | ⟨3, _⟩ => rfl | ⟨2, _⟩ => exact Subsingleton.elim (α := Fin 1) _ _⟩
  refine (congrArg (fun L => VO0_11.read (Elt Ideal) (VO0_11.writes (Elt Ideal) VO0_11.junk L) (Idealize.ShloMosaic.ix4 l b (0 : Fin 1) o)) (pieces0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three4 VO0_11 _ _ _ _ _ _ _ l b o).trans ?_
  match l with
  | 0 => exact (if_neg (by decide)).trans ((if_neg (by decide)).trans ((cast4_2560 _ b o).trans (congrFun (v1_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o)))
  | 1 => exact (if_neg (by decide)).trans ((if_pos rfl).trans ((cast4_2560 _ b o).trans (congrFun (v2_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o)))
  | 2 => exact (if_pos rfl).trans ((cast4_2560 _ b o).trans (congrFun (out2_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o))
/-- The middle result, at an entry. -/
theorem block12_at (z : S3x12x1x2560.Idx) : out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.midA (Spec.Arrays.lay (arrsR x1 x2 x3 x4 x5 x6 x7 x8 x9 x10)) (Spec.rowsIn fun z => x0 z) (z 0) (z 1) (z 3) := by
  obtain ⟨l, b, o, rfl⟩ : ∃ (l : Fin 3) (b : Fin 12) (o : Fin 2560), z = Idealize.ShloMosaic.ix4 l b (0 : Fin 1) o := ⟨z 0, z 1, z 3, funext fun a => by match a with | ⟨0, _⟩ | ⟨1, _⟩ | ⟨3, _⟩ => rfl | ⟨2, _⟩ => exact Subsingleton.elim (α := Fin 1) _ _⟩
  refine (congrArg (fun L => VO0_12.read (Elt Ideal) (VO0_12.writes (Elt Ideal) VO0_12.junk L) (Idealize.ShloMosaic.ix4 l b (0 : Fin 1) o)) (pieces1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three4 VO0_12 _ _ _ _ _ _ _ l b o).trans ?_
  match l with
  | 0 => exact (if_neg (by decide)).trans ((if_neg (by decide)).trans ((cast4_2560 _ b o).trans (congrFun (m0_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o)))
  | 1 => exact (if_neg (by decide)).trans ((if_pos rfl).trans ((cast4_2560 _ b o).trans (congrFun (m1_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o)))
  | 2 => exact (if_pos rfl).trans ((cast4_2560 _ b o).trans (congrFun (m2_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o))
/-- The hidden result, at an entry. -/
theorem block13_at (z : S3x12x1x6912.Idx) : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.hidA (Spec.Arrays.lay (arrsR x1 x2 x3 x4 x5 x6 x7 x8 x9 x10)) (Spec.rowsIn fun z => x0 z) (z 0) (z 1) (z 3) := by
  obtain ⟨l, b, o, rfl⟩ : ∃ (l : Fin 3) (b : Fin 12) (o : Fin 6912), z = Idealize.ShloMosaic.ix4 l b (0 : Fin 1) o := ⟨z 0, z 1, z 3, funext fun a => by match a with | ⟨0, _⟩ | ⟨1, _⟩ | ⟨3, _⟩ => rfl | ⟨2, _⟩ => exact Subsingleton.elim (α := Fin 1) _ _⟩
  refine (congrArg (fun L => VO0_13.read (Elt Ideal) (VO0_13.writes (Elt Ideal) VO0_13.junk L) (Idealize.ShloMosaic.ix4 l b (0 : Fin 1) o)) (pieces2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three4 VO0_13 _ _ _ _ _ _ _ l b o).trans ?_
  match l with
  | 0 => exact (if_neg (by decide)).trans ((if_neg (by decide)).trans ((cast4_6912 _ b o).trans (congrFun (h0_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o)))
  | 1 => exact (if_neg (by decide)).trans ((if_pos rfl).trans ((cast4_6912 _ b o).trans (congrFun (h1_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o)))
  | 2 => exact (if_pos rfl).trans ((cast4_6912 _ b o).trans (congrFun (h2_row c arg0 harg0 arg1 harg1 arg2 harg2 arg3 harg3 arg4 harg4 arg5 harg5 arg6 harg6 arg7 harg7 arg8 harg8 arg9 harg9 arg10 harg10 x0 x1 x2 x3 x4 x5 x6 x7 x8 x9 x10 b) o))
/-- The first codes result, at an entry. -/
theorem block14_at (z : S3x12x2560.Idx) : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.codesA (Spec.Arrays.lay (arrsR x1 x2 x3 x4 x5 x6 x7 x8 x9 x10)) (Spec.rowsIn fun z => x0 z) (z 0) (z 1) (z 2) := by
  obtain ⟨l, b, o, rfl⟩ : ∃ (l : Fin 3) (b : Fin 12) (o : Fin 2560), z = Idealize.ShloMosaic.ix3 l b o := ⟨z 0, z 1, z 2, funext fun a => by match a with | ⟨0, _⟩ | ⟨1, _⟩ | ⟨2, _⟩ => rfl⟩
  refine (congrArg (fun L => VO0_14.read (Elt Ideal) (VO0_14.writes (Elt Ideal) VO0_14.junk L) (Idealize.ShloMosaic.ix3 l b o)) (pieces3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three3 VO0_14 _ _ _ _ _ _ _ l b o).trans ?_
  match l with
  | 0 => exact (if_neg (by decide)).trans ((if_neg (by decide)).trans ((cast3_2560 _ b o).trans (c10_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 1 => exact (if_neg (by decide)).trans ((if_pos rfl).trans ((cast3_2560 _ b o).trans (c11_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 2 => exact (if_pos rfl).trans ((cast3_2560 _ b o).trans (c12_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o))
/-- The second codes result, at an entry. -/
theorem block15_at (z : S3x12x2560.Idx) : out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.codesB (Spec.Arrays.lay (arrsR x1 x2 x3 x4 x5 x6 x7 x8 x9 x10)) (z 0) (z 1) (z 2) := by
  obtain ⟨l, b, o, rfl⟩ : ∃ (l : Fin 3) (b : Fin 12) (o : Fin 2560), z = Idealize.ShloMosaic.ix3 l b o := ⟨z 0, z 1, z 2, funext fun a => by match a with | ⟨0, _⟩ | ⟨1, _⟩ | ⟨2, _⟩ => rfl⟩
  refine (congrArg (fun L => VO0_15.read (Elt Ideal) (VO0_15.writes (Elt Ideal) VO0_15.junk L) (Idealize.ShloMosaic.ix3 l b o)) (pieces4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three3 VO0_15 _ _ _ _ _ _ _ l b o).trans ?_
  match l with
  | 0 => exact (if_neg (by decide)).trans ((if_neg (by decide)).trans ((cast3_2560 _ b o).trans (c20_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 1 => exact (if_neg (by decide)).trans ((if_pos rfl).trans ((cast3_2560 _ b o).trans (c21_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 2 => exact (if_pos rfl).trans ((cast3_2560 _ b o).trans (c22_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o))
/-- The third codes result, at an entry. -/
theorem block16_at (z : S3x12x2560.Idx) : out0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.codesC (Spec.Arrays.lay (arrsR x1 x2 x3 x4 x5 x6 x7 x8 x9 x10)) (Spec.rowsIn fun z => x0 z) (z 0) (z 1) (z 2) := by
  obtain ⟨l, b, o, rfl⟩ : ∃ (l : Fin 3) (b : Fin 12) (o : Fin 2560), z = Idealize.ShloMosaic.ix3 l b o := ⟨z 0, z 1, z 2, funext fun a => by match a with | ⟨0, _⟩ | ⟨1, _⟩ | ⟨2, _⟩ => rfl⟩
  refine (congrArg (fun L => VO0_16.read (Elt Ideal) (VO0_16.writes (Elt Ideal) VO0_16.junk L) (Idealize.ShloMosaic.ix3 l b o)) (pieces5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three3 VO0_16 _ _ _ _ _ _ _ l b o).trans ?_
  match l with
  | 0 => exact (if_neg (by decide)).trans ((if_neg (by decide)).trans ((cast3_2560 _ b o).trans (c30_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 1 => exact (if_neg (by decide)).trans ((if_pos rfl).trans ((cast3_2560 _ b o).trans (c31_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 2 => exact (if_pos rfl).trans ((cast3_2560 _ b o).trans (c32_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o))
/-- The fourth codes result, at an entry. -/
theorem block17_at (z : S3x12x6912.Idx) : out0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.codesD (Spec.Arrays.lay (arrsR x1 x2 x3 x4 x5 x6 x7 x8 x9 x10)) (Spec.rowsIn fun z => x0 z) (z 0) (z 1) (z 2) := by
  obtain ⟨l, b, o, rfl⟩ : ∃ (l : Fin 3) (b : Fin 12) (o : Fin 6912), z = Idealize.ShloMosaic.ix3 l b o := ⟨z 0, z 1, z 2, funext fun a => by match a with | ⟨0, _⟩ | ⟨1, _⟩ | ⟨2, _⟩ => rfl⟩
  refine (congrArg (fun L => VO0_17.read (Elt Ideal) (VO0_17.writes (Elt Ideal) VO0_17.junk L) (Idealize.ShloMosaic.ix3 l b o)) (pieces6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (three3 VO0_17 _ _ _ _ _ _ _ l b o).trans ?_
  match l with
  | 0 => exact (if_neg (by decide)).trans ((if_neg (by decide)).trans ((cast3_6912 _ b o).trans (c40_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 1 => exact (if_neg (by decide)).trans ((if_pos rfl).trans ((cast3_6912 _ b o).trans (c41_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o)))
  | 2 => exact (if_pos rfl).trans ((cast3_6912 _ b o).trans (c42_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b o))
/-- The scales result, at an entry. -/
theorem block18_at (z : S3x32x12.Idx) : out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 z = Spec.statA (Spec.Arrays.lay (arrsR x1 x2 x3 x4 x5 x6 x7 x8 x9 x10)) (Spec.rowsIn fun z => x0 z) (z 0) (z 1) (z 2) := by
  obtain ⟨l, j, b, rfl⟩ : ∃ (l : Fin 3) (j : Fin 32) (b : Fin 12), z = Idealize.ShloMosaic.ix3 l j b := ⟨z 0, z 1, z 2, funext fun a => by match a with | ⟨0, _⟩ | ⟨1, _⟩ | ⟨2, _⟩ => rfl⟩
  refine (congrArg (fun L => VO0_18.read (Elt Ideal) (VO0_18.writes (Elt Ideal) VO0_18.junk L) (Idealize.ShloMosaic.ix3 l j b)) (pieces7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)).trans ?_
  refine (table_read VO0_18 _ _ _ _ _ _ _ _ _ _ _ _ _ _ cleared _ _ _ _ _ _ _ _ _ _ _ _ _ l j b).trans ?_
  match l with
  | 0 => exact (if_neg (by decide)).trans ((if_neg (by decide)).trans (congr (congr (congr (congr (congrArg Spec.stat ((cast1 _ b).trans (s10_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s20_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s30_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s40_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) rfl))
  | 1 => exact (if_neg (by decide)).trans ((if_pos rfl).trans (congr (congr (congr (congr (congrArg Spec.stat ((cast1 _ b).trans (s11_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s21_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s31_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s41_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) rfl))
  | 2 => exact (if_pos rfl).trans ((congr (congr (congr (congr (congrArg Spec.stat ((cast1 _ b).trans (s12_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s22_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s32_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) ((cast1 _ b).trans (s42_at c arg0 harg0 arg1 harg1 arg2 harg2 arg3 harg3 arg4 harg4 arg5 harg5 arg6 harg6 arg7 harg7 arg8 harg8 arg9 harg9 arg10 harg10 x0 x1 x2 x3 x4 x5 x6 x7 x8 x9 x10 b))) rfl))

end Cert.ReferenceIdeal.Hand
end
-- ==== Proof.RefArr.lean ====
/- The reference's result arrays over the extended reals are the specification's. -/
module

public import proofs.«01_k».proof.Proof.RefVals
public import proofs.«01_k».proof.Proof.Gen.ReferenceIdeal.Value
public import Idealize.ShloMosaic.Lib.Pipeline.ValueKit.Geometry
public import Idealize.ShloMosaic.Lib.WritesUnit

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (t : Fin cfg0.N)

/-- Window 0 has one block, at the origin. -/
theorem block_index0 : ∀ (t : Fin cfg0.N) (a : Fin 3), win0_0.index t a = 0 := (by decide +kernel : ∀ (t : Fin grid0.N) (a : Fin 3), win0_0.index t a = 0)
/-- Window 0 stages its whole argument. -/
theorem staged0 : (fun z : S12x1x2560.Idx => iblk m 0 0 t z) = fun z => m (((0 : Dev nD).tc).loc main_arg0) z := funext fun z => by
  blk_ext! [iblk, V, block_index0 t]
/-- Window 1 has one block, at the origin. -/
theorem block_index1 : ∀ (t : Fin cfg0.N) (a : Fin 4), win0_1.index t a = 0 := (by decide +kernel : ∀ (t : Fin grid0.N) (a : Fin 4), win0_1.index t a = 0)
/-- Window 1 stages its whole argument. -/
theorem staged1 : (fun z : S3x12x1x2560.Idx => iblk m 0 1 t z) = fun z => m (((0 : Dev nD).tc).loc main_arg1) z := funext fun z => by
  blk_ext! [iblk, V, block_index1 t]
/-- Window 2 has one block, at the origin. -/
theorem block_index2 : ∀ (t : Fin cfg0.N) (a : Fin 3), win0_2.index t a = 0 := (by decide +kernel : ∀ (t : Fin grid0.N) (a : Fin 3), win0_2.index t a = 0)
/-- Window 2 stages its whole argument. -/
theorem staged2 : (fun z : S3x640x2560.Idx => iblk m 0 2 t z) = fun z => m (((0 : Dev nD).tc).loc main_arg2) z := funext fun z => by
  blk_ext! [iblk, V, block_index2 t]
/-- Window 3 has one block, at the origin. -/
theorem block_index3 : ∀ (t : Fin cfg0.N) (a : Fin 3), win0_3.index t a = 0 := (by decide +kernel : ∀ (t : Fin grid0.N) (a : Fin 3), win0_3.index t a = 0)
/-- Window 3 stages its whole argument. -/
theorem staged3 : (fun z : S3x1728x2560.Idx => iblk m 0 3 t z) = fun z => m (((0 : Dev nD).tc).loc main_arg3) z := funext fun z => by
  blk_ext! [iblk, V, block_index3 t]
/-- Window 4 has one block, at the origin. -/
theorem block_index4 : ∀ (t : Fin cfg0.N) (a : Fin 3), win0_4.index t a = 0 := (by decide +kernel : ∀ (t : Fin grid0.N) (a : Fin 3), win0_4.index t a = 0)
/-- Window 4 stages its whole argument. -/
theorem staged4 : (fun z : S3x1728x2560.Idx => iblk m 0 4 t z) = fun z => m (((0 : Dev nD).tc).loc main_arg4) z := funext fun z => by
  blk_ext! [iblk, V, block_index4 t]
/-- Window 5 has one block, at the origin. -/
theorem block_index5 : ∀ (t : Fin cfg0.N) (a : Fin 3), win0_5.index t a = 0 := (by decide +kernel : ∀ (t : Fin grid0.N) (a : Fin 3), win0_5.index t a = 0)
/-- Window 5 stages its whole argument. -/
theorem staged5 : (fun z : S3x640x6912.Idx => iblk m 0 5 t z) = fun z => m (((0 : Dev nD).tc).loc main_arg5) z := funext fun z => by
  blk_ext! [iblk, V, block_index5 t]
/-- Window 6 has one block, at the origin. -/
theorem block_index6 : ∀ (t : Fin cfg0.N) (a : Fin 2), win0_6.index t a = 0 := (by decide +kernel : ∀ (t : Fin grid0.N) (a : Fin 2), win0_6.index t a = 0)
/-- Window 6 stages its whole argument. -/
theorem staged6 : (fun z : S3x7.Idx => iblk m 0 6 t z) = fun z => m (((0 : Dev nD).tc).loc main_arg6) z := funext fun z => by
  blk_ext! [iblk, V, block_index6 t]
/-- Window 7 has one block, at the origin. -/
theorem block_index7 : ∀ (t : Fin cfg0.N) (a : Fin 2), win0_7.index t a = 0 := (by decide +kernel : ∀ (t : Fin grid0.N) (a : Fin 2), win0_7.index t a = 0)
/-- Window 7 stages its whole argument. -/
theorem staged7 : (fun z : S3x2560.Idx => iblk m 0 7 t z) = fun z => m (((0 : Dev nD).tc).loc main_arg7) z := funext fun z => by
  blk_ext! [iblk, V, block_index7 t]
/-- Window 8 has one block, at the origin. -/
theorem block_index8 : ∀ (t : Fin cfg0.N) (a : Fin 2), win0_8.index t a = 0 := (by decide +kernel : ∀ (t : Fin grid0.N) (a : Fin 2), win0_8.index t a = 0)
/-- Window 8 stages its whole argument. -/
theorem staged8 : (fun z : S3x2560.Idx => iblk m 0 8 t z) = fun z => m (((0 : Dev nD).tc).loc main_arg8) z := funext fun z => by
  blk_ext! [iblk, V, block_index8 t]
/-- Window 9 has one block, at the origin. -/
theorem block_index9 : ∀ (t : Fin cfg0.N) (a : Fin 2), win0_9.index t a = 0 := (by decide +kernel : ∀ (t : Fin grid0.N) (a : Fin 2), win0_9.index t a = 0)
/-- Window 9 stages its whole argument. -/
theorem staged9 : (fun z : S3x2560.Idx => iblk m 0 9 t z) = fun z => m (((0 : Dev nD).tc).loc main_arg9) z := funext fun z => by
  blk_ext! [iblk, V, block_index9 t]
/-- Window 10 has one block, at the origin. -/
theorem block_index10 : ∀ (t : Fin cfg0.N) (a : Fin 2), win0_10.index t a = 0 := (by decide +kernel : ∀ (t : Fin grid0.N) (a : Fin 2), win0_10.index t a = 0)
/-- Window 10 stages its whole argument. -/
theorem staged10 : (fun z : S3x6912.Idx => iblk m 0 10 t z) = fun z => m (((0 : Dev nD).tc).loc main_arg10) z := funext fun z => by
  blk_ext! [iblk, V, block_index10 t]

/-- The arrays the layers are made of, as launched. -/
def arrs : Spec.Arrays where
  at' z := m (((0 : Dev nD).tc).loc main_arg1) z
  wo z := m (((0 : Dev nD).tc).loc main_arg2) z
  wg z := m (((0 : Dev nD).tc).loc main_arg3) z
  wu z := m (((0 : Dev nD).tc).loc main_arg4) z
  wd z := m (((0 : Dev nD).tc).loc main_arg5) z
  sc z := m (((0 : Dev nD).tc).loc main_arg6) z
  gi z := m (((0 : Dev nD).tc).loc main_arg7) z
  ga z := m (((0 : Dev nD).tc).loc main_arg8) z
  gp z := m (((0 : Dev nD).tc).loc main_arg9) z
  gf z := m (((0 : Dev nD).tc).loc main_arg10) z
/-- The input rows, as launched. -/
abbrev ins : Fin 12 → Fin 2560 → EReal := Spec.rowsIn fun z => m (((0 : Dev nD).tc).loc main_arg0) z

/-- The arrays staged are the arrays launched. -/
theorem arrs_eq : arrsR (iblk m 0 1 t) (iblk m 0 2 t) (iblk m 0 3 t) (iblk m 0 4 t) (iblk m 0 5 t) (iblk m 0 6 t) (iblk m 0 7 t) (iblk m 0 8 t) (iblk m 0 9 t) (iblk m 0 10 t) = arrs m := by
  refine (show _ = Spec.Arrays.mk (fun z => iblk m 0 1 t z) (fun z => iblk m 0 2 t z) (fun z => iblk m 0 3 t z) (fun z => iblk m 0 4 t z) (fun z => iblk m 0 5 t z) (fun z => iblk m 0 6 t z) (fun z => iblk m 0 7 t z) (fun z => iblk m 0 8 t z) (fun z => iblk m 0 9 t z) (fun z => iblk m 0 10 t z) from rfl).trans ?_
  rw [staged1 m t, staged2 m t, staged3 m t, staged4 m t, staged5 m t, staged6 m t, staged7 m t, staged8 m t, staged9 m t, staged10 m t]
  rfl
/-- The input rows staged are the rows launched. -/
theorem ins_eq : (Spec.rowsIn fun z => iblk m 0 0 t z) = ins m := congrArg Spec.rowsIn (staged0 m t)
/-- What the grid's point leaves for result 0 is the specification's entries. -/
theorem left11 (z : S3x12x1x2560.Idx) : (outsAt0 m 0 t0_0).1 z = Spec.residA (arrs m).lay (ins m) (z 0) (z 1) (z 3) := by
  unfold outsAt0
  dsimp only
  refine (block11_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 0 ends as the specification's entries. -/
theorem array11 : (dats m 0 0).arrAt 11 cfg0.N = (fun z : S3x12x1x2560.Idx => Spec.residA (arrs m).lay (ins m) (z 0) (z 1) (z 3)) := by
  refine (dats m 0 0).arrAt_eq_of_after_last 11 t0_0 (by decide +kernel) _ fun j => ?_
  have e : (dats m 0 0).after 11 t0_0 = fun z : S3x12x1x2560.Idx => Spec.residA (arrs m).lay (ins m) (z 0) (z 1) (z 3) := (after0_11 m 0 t0_0).trans (funext (left11 m))
  rw [e]
  generalize (arrs m).lay = L
  generalize ins m = x
  rfl
/-- What the grid's point leaves for result 1 is the specification's entries. -/
theorem left12 (z : S3x12x1x2560.Idx) : (outsAt0 m 0 t0_0).2.1 z = Spec.midA (arrs m).lay (ins m) (z 0) (z 1) (z 3) := by
  unfold outsAt0
  dsimp only
  refine (block12_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 1 ends as the specification's entries. -/
theorem array12 : (dats m 0 0).arrAt 12 cfg0.N = (fun z : S3x12x1x2560.Idx => Spec.midA (arrs m).lay (ins m) (z 0) (z 1) (z 3)) := by
  refine (dats m 0 0).arrAt_eq_of_after_last 12 t0_0 (by decide +kernel) _ fun j => ?_
  have e : (dats m 0 0).after 12 t0_0 = fun z : S3x12x1x2560.Idx => Spec.midA (arrs m).lay (ins m) (z 0) (z 1) (z 3) := (after0_12 m 0 t0_0).trans (funext (left12 m))
  rw [e]
  generalize (arrs m).lay = L
  generalize ins m = x
  rfl
/-- What the grid's point leaves for result 2 is the specification's entries. -/
theorem left13 (z : S3x12x1x6912.Idx) : (outsAt0 m 0 t0_0).2.2.1 z = Spec.hidA (arrs m).lay (ins m) (z 0) (z 1) (z 3) := by
  unfold outsAt0
  dsimp only
  refine (block13_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 2 ends as the specification's entries. -/
theorem array13 : (dats m 0 0).arrAt 13 cfg0.N = (fun z : S3x12x1x6912.Idx => Spec.hidA (arrs m).lay (ins m) (z 0) (z 1) (z 3)) := by
  refine (dats m 0 0).arrAt_eq_of_after_last 13 t0_0 (by decide +kernel) _ fun j => ?_
  have e : (dats m 0 0).after 13 t0_0 = fun z : S3x12x1x6912.Idx => Spec.hidA (arrs m).lay (ins m) (z 0) (z 1) (z 3) := (after0_13 m 0 t0_0).trans (funext (left13 m))
  rw [e]
  generalize (arrs m).lay = L
  generalize ins m = x
  rfl
/-- What the grid's point leaves for result 3 is the specification's entries. -/
theorem left14 (z : S3x12x2560.Idx) : (outsAt0 m 0 t0_0).2.2.2.1 z = Spec.codesA (arrs m).lay (ins m) (z 0) (z 1) (z 2) := by
  unfold outsAt0
  dsimp only
  refine (block14_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 3 ends as the specification's entries. -/
theorem array14 : (dats m 0 0).arrAt 14 cfg0.N = (fun z : S3x12x2560.Idx => Spec.codesA (arrs m).lay (ins m) (z 0) (z 1) (z 2)) := by
  refine (dats m 0 0).arrAt_eq_of_after_last 14 t0_0 (by decide +kernel) _ fun j => ?_
  have e : (dats m 0 0).after 14 t0_0 = fun z : S3x12x2560.Idx => Spec.codesA (arrs m).lay (ins m) (z 0) (z 1) (z 2) := (after0_14 m 0 t0_0).trans (funext (left14 m))
  rw [e]
  generalize (arrs m).lay = L
  generalize ins m = x
  rfl
/-- What the grid's point leaves for result 4 is the specification's entries. -/
theorem left15 (z : S3x12x2560.Idx) : (outsAt0 m 0 t0_0).2.2.2.2.1 z = Spec.codesB (arrs m).lay (z 0) (z 1) (z 2) := by
  unfold outsAt0
  dsimp only
  refine (block15_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0]
/-- Result 4 ends as the specification's entries. -/
theorem array15 : (dats m 0 0).arrAt 15 cfg0.N = (fun z : S3x12x2560.Idx => Spec.codesB (arrs m).lay (z 0) (z 1) (z 2)) := by
  refine (dats m 0 0).arrAt_eq_of_after_last 15 t0_0 (by decide +kernel) _ fun j => ?_
  have e : (dats m 0 0).after 15 t0_0 = fun z : S3x12x2560.Idx => Spec.codesB (arrs m).lay (z 0) (z 1) (z 2) := (after0_15 m 0 t0_0).trans (funext (left15 m))
  rw [e]
  generalize (arrs m).lay = L
  rfl
/-- What the grid's point leaves for result 5 is the specification's entries. -/
theorem left16 (z : S3x12x2560.Idx) : (outsAt0 m 0 t0_0).2.2.2.2.2.1 z = Spec.codesC (arrs m).lay (ins m) (z 0) (z 1) (z 2) := by
  unfold outsAt0
  dsimp only
  refine (block16_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 5 ends as the specification's entries. -/
theorem array16 : (dats m 0 0).arrAt 16 cfg0.N = (fun z : S3x12x2560.Idx => Spec.codesC (arrs m).lay (ins m) (z 0) (z 1) (z 2)) := by
  refine (dats m 0 0).arrAt_eq_of_after_last 16 t0_0 (by decide +kernel) _ fun j => ?_
  have e : (dats m 0 0).after 16 t0_0 = fun z : S3x12x2560.Idx => Spec.codesC (arrs m).lay (ins m) (z 0) (z 1) (z 2) := (after0_16 m 0 t0_0).trans (funext (left16 m))
  rw [e]
  generalize (arrs m).lay = L
  generalize ins m = x
  rfl
/-- What the grid's point leaves for result 6 is the specification's entries. -/
theorem left17 (z : S3x12x6912.Idx) : (outsAt0 m 0 t0_0).2.2.2.2.2.2.1 z = Spec.codesD (arrs m).lay (ins m) (z 0) (z 1) (z 2) := by
  unfold outsAt0
  dsimp only
  refine (block17_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 6 ends as the specification's entries. -/
theorem array17 : (dats m 0 0).arrAt 17 cfg0.N = (fun z : S3x12x6912.Idx => Spec.codesD (arrs m).lay (ins m) (z 0) (z 1) (z 2)) := by
  refine (dats m 0 0).arrAt_eq_of_after_last 17 t0_0 (by decide +kernel) _ fun j => ?_
  have e : (dats m 0 0).after 17 t0_0 = fun z : S3x12x6912.Idx => Spec.codesD (arrs m).lay (ins m) (z 0) (z 1) (z 2) := (after0_17 m 0 t0_0).trans (funext (left17 m))
  rw [e]
  generalize (arrs m).lay = L
  generalize ins m = x
  rfl
/-- What the grid's point leaves for result 7 is the specification's entries. -/
theorem left18 (z : S3x32x12.Idx) : (outsAt0 m 0 t0_0).2.2.2.2.2.2.2 z = Spec.statA (arrs m).lay (ins m) (z 0) (z 1) (z 2) := by
  unfold outsAt0
  dsimp only
  refine (block18_at 0 (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (iblk m 0 0 t0_0) (iblk m 0 1 t0_0) (iblk m 0 2 t0_0) (iblk m 0 3 t0_0) (iblk m 0 4 t0_0) (iblk m 0 5 t0_0) (iblk m 0 6 t0_0) (iblk m 0 7 t0_0) (iblk m 0 8 t0_0) (iblk m 0 9 t0_0) (iblk m 0 10 t0_0) z).trans ?_
  rw [arrs_eq m t0_0, ins_eq m t0_0]
/-- Result 7 ends as the specification's entries. -/
theorem array18 : (dats m 0 0).arrAt 18 cfg0.N = (fun z : S3x32x12.Idx => Spec.statA (arrs m).lay (ins m) (z 0) (z 1) (z 2)) := by
  refine (dats m 0 0).arrAt_eq_of_after_last 18 t0_0 (by decide +kernel) _ fun j => ?_
  have e : (dats m 0 0).after 18 t0_0 = fun z : S3x32x12.Idx => Spec.statA (arrs m).lay (ins m) (z 0) (z 1) (z 2) := (after0_18 m 0 t0_0).trans (funext (left18 m))
  rw [e]
  generalize (arrs m).lay = L
  generalize ins m = x
  rfl

end Cert.ReferenceIdeal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.BitsFrame
public import proofs.«01_k».proof.Proof.IdealFrame
public import proofs.«01_k».proof.Proof.IdealRun
public import proofs.«01_k».proof.Proof.RefArr

@[expose] public section

set_option maxRecDepth 16384
set_option maxHeartbeats 1000000

noncomputable section

namespace Cert.Proof

open Idealize.ShloMosaic Idealize.ShloMosaic.TcCoe Idealize.SL.Sem Cert.Kernel

/-- Launched on the same arguments, the two programs meet the same arrays. -/
theorem arrs_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h1 : m' (((0 : Dev Cert.ReferenceIdeal.nD).tc : Thread Cert.ReferenceIdeal.nD Cert.ReferenceIdeal.τ).loc Cert.ReferenceIdeal.main_arg1) = m (((0 : Dev Cert.KernelIdeal.nD).tc : Thread Cert.KernelIdeal.nD Cert.KernelIdeal.τ).loc Cert.KernelIdeal.main_arg1))
    (h2 : m' (((0 : Dev Cert.ReferenceIdeal.nD).tc : Thread Cert.ReferenceIdeal.nD Cert.ReferenceIdeal.τ).loc Cert.ReferenceIdeal.main_arg2) = m (((0 : Dev Cert.KernelIdeal.nD).tc : Thread Cert.KernelIdeal.nD Cert.KernelIdeal.τ).loc Cert.KernelIdeal.main_arg2))
    (h3 : m' (((0 : Dev Cert.ReferenceIdeal.nD).tc : Thread Cert.ReferenceIdeal.nD Cert.ReferenceIdeal.τ).loc Cert.ReferenceIdeal.main_arg3) = m (((0 : Dev Cert.KernelIdeal.nD).tc : Thread Cert.KernelIdeal.nD Cert.KernelIdeal.τ).loc Cert.KernelIdeal.main_arg3))
    (h4 : m' (((0 : Dev Cert.ReferenceIdeal.nD).tc : Thread Cert.ReferenceIdeal.nD Cert.ReferenceIdeal.τ).loc Cert.ReferenceIdeal.main_arg4) = m (((0 : Dev Cert.KernelIdeal.nD).tc : Thread Cert.KernelIdeal.nD Cert.KernelIdeal.τ).loc Cert.KernelIdeal.main_arg4))
    (h5 : m' (((0 : Dev Cert.ReferenceIdeal.nD).tc : Thread Cert.ReferenceIdeal.nD Cert.ReferenceIdeal.τ).loc Cert.ReferenceIdeal.main_arg5) = m (((0 : Dev Cert.KernelIdeal.nD).tc : Thread Cert.KernelIdeal.nD Cert.KernelIdeal.τ).loc Cert.KernelIdeal.main_arg5))
    (h6 : m' (((0 : Dev Cert.ReferenceIdeal.nD).tc : Thread Cert.ReferenceIdeal.nD Cert.ReferenceIdeal.τ).loc Cert.ReferenceIdeal.main_arg6) = m (((0 : Dev Cert.KernelIdeal.nD).tc : Thread Cert.KernelIdeal.nD Cert.KernelIdeal.τ).loc Cert.KernelIdeal.main_arg6))
    (h7 : m' (((0 : Dev Cert.ReferenceIdeal.nD).tc : Thread Cert.ReferenceIdeal.nD Cert.ReferenceIdeal.τ).loc Cert.ReferenceIdeal.main_arg7) = m (((0 : Dev Cert.KernelIdeal.nD).tc : Thread Cert.KernelIdeal.nD Cert.KernelIdeal.τ).loc Cert.KernelIdeal.main_arg7))
    (h8 : m' (((0 : Dev Cert.ReferenceIdeal.nD).tc : Thread Cert.ReferenceIdeal.nD Cert.ReferenceIdeal.τ).loc Cert.ReferenceIdeal.main_arg8) = m (((0 : Dev Cert.KernelIdeal.nD).tc : Thread Cert.KernelIdeal.nD Cert.KernelIdeal.τ).loc Cert.KernelIdeal.main_arg8))
    (h9 : m' (((0 : Dev Cert.ReferenceIdeal.nD).tc : Thread Cert.ReferenceIdeal.nD Cert.ReferenceIdeal.τ).loc Cert.ReferenceIdeal.main_arg9) = m (((0 : Dev Cert.KernelIdeal.nD).tc : Thread Cert.KernelIdeal.nD Cert.KernelIdeal.τ).loc Cert.KernelIdeal.main_arg9))
    (h10 : m' (((0 : Dev Cert.ReferenceIdeal.nD).tc : Thread Cert.ReferenceIdeal.nD Cert.ReferenceIdeal.τ).loc Cert.ReferenceIdeal.main_arg10) = m (((0 : Dev Cert.KernelIdeal.nD).tc : Thread Cert.KernelIdeal.nD Cert.KernelIdeal.τ).loc Cert.KernelIdeal.main_arg10)) :
    Cert.ReferenceIdeal.Hand.arrs m' = Cert.KernelIdeal.Hand.arrs m 0 := by
  unfold Cert.ReferenceIdeal.Hand.arrs Cert.KernelIdeal.Hand.arrs
  rw [h1, h2, h3, h4, h5, h6, h7, h8, h9, h10]

/-- Over the extended reals the kernel and the reference leave the same eight results: both are the specification's entries of the arrays launched. -/
theorem same_results : @Cert.algebraic_KernelIdeal_ReferenceIdeal Cert.KernelIdeal.Gen.facts Cert.ReferenceIdeal.Gen.facts := by
  intro m g m' g' _ hag
  obtain ⟨h0, h1, h2, h3, h4, h5, h6, h7, h8, h9, h10⟩ := hag 0
  have hA : Cert.ReferenceIdeal.Hand.arrs m' = Cert.KernelIdeal.Hand.arrs m 0 := arrs_same m m' h1 h2 h3 h4 h5 h6 h7 h8 h9 h10
  have hX : Cert.ReferenceIdeal.Hand.ins m' = Cert.KernelIdeal.Hand.ins m 0 := congrArg Spec.rowsIn h0
  refine ⟨fun _ => (fun z : Cert.KernelIdeal.S3x12x1x2560.Idx => Spec.residA (Cert.KernelIdeal.Hand.lays m 0) (Cert.KernelIdeal.Hand.ins m 0) (z 0) (z 1) (z 3)),
    fun _ => (fun z : Cert.KernelIdeal.S3x12x1x2560.Idx => Spec.midA (Cert.KernelIdeal.Hand.lays m 0) (Cert.KernelIdeal.Hand.ins m 0) (z 0) (z 1) (z 3)),
    fun _ => (fun z : Cert.KernelIdeal.S3x12x1x6912.Idx => Spec.hidA (Cert.KernelIdeal.Hand.lays m 0) (Cert.KernelIdeal.Hand.ins m 0) (z 0) (z 1) (z 3)),
    fun _ => (fun z : Cert.KernelIdeal.S3x12x2560.Idx => Spec.codesA (Cert.KernelIdeal.Hand.lays m 0) (Cert.KernelIdeal.Hand.ins m 0) (z 0) (z 1) (z 2)),
    fun _ => (fun z : Cert.KernelIdeal.S3x12x2560.Idx => Spec.codesB (Cert.KernelIdeal.Hand.lays m 0) (z 0) (z 1) (z 2)),
    fun _ => (fun z : Cert.KernelIdeal.S3x12x2560.Idx => Spec.codesC (Cert.KernelIdeal.Hand.lays m 0) (Cert.KernelIdeal.Hand.ins m 0) (z 0) (z 1) (z 2)),
    fun _ => (fun z : Cert.KernelIdeal.S3x12x6912.Idx => Spec.codesD (Cert.KernelIdeal.Hand.lays m 0) (Cert.KernelIdeal.Hand.ins m 0) (z 0) (z 1) (z 2)),
    fun _ => (fun z : Cert.KernelIdeal.S3x32x12.Idx => Spec.statA (Cert.KernelIdeal.Hand.lays m 0) (Cert.KernelIdeal.Hand.ins m 0) (z 0) (z 1) (z 2)), ?_, ?_⟩
  · refine (θ_run _ _ _).mono (fun r h c => ?_) (Cert.KernelIdeal.Hand.run_main m g (Cert.KernelIdeal.Hand.values m))
    exact ⟨Cert.KernelIdeal.Hand.result_0 m h.1 c, Cert.KernelIdeal.Hand.result_1 m h.1 c, Cert.KernelIdeal.Hand.result_2 m h.1 c, Cert.KernelIdeal.Hand.result_3 m h.1 c, Cert.KernelIdeal.Hand.result_4 m h.1 c, Cert.KernelIdeal.Hand.result_5 m h.1 c, Cert.KernelIdeal.Hand.result_6 m h.1 c, Cert.KernelIdeal.Hand.result_7 m h.1 c,
      Cert.KernelIdeal.Hand.args_of m (Cert.KernelIdeal.Hand.values m) h.1 c⟩
  · refine (θ_run _ _ _).mono (fun r h c => ?_) (Cert.ReferenceIdeal.Value.run_blocks m' g')
    obtain rfl : c = 0 := Subsingleton.elim _ _
    obtain ⟨e0, e1, e2, e3, e4, e5, e6, e7, hargs⟩ := h 0
    have a0 := Cert.ReferenceIdeal.Hand.array11 m'
    have a1 := Cert.ReferenceIdeal.Hand.array12 m'
    have a2 := Cert.ReferenceIdeal.Hand.array13 m'
    have a3 := Cert.ReferenceIdeal.Hand.array14 m'
    have a4 := Cert.ReferenceIdeal.Hand.array15 m'
    have a5 := Cert.ReferenceIdeal.Hand.array16 m'
    have a6 := Cert.ReferenceIdeal.Hand.array17 m'
    have a7 := Cert.ReferenceIdeal.Hand.array18 m'
    rw [hA, hX] at a0
    rw [hA, hX] at a1
    rw [hA, hX] at a2
    rw [hA, hX] at a3
    rw [hA] at a4
    rw [hA, hX] at a5
    rw [hA, hX] at a6
    rw [hA, hX] at a7
    exact ⟨e0.trans a0, e1.trans a1, e2.trans a2, e3.trans a3, e4.trans a4, e5.trans a5, e6.trans a6, e7.trans a7, hargs⟩

/-- Everything claimed. -/
theorem claim : Cert.Claim := ⟨Cert.Kernel.Gen.facts, Cert.KernelIdeal.Gen.facts, Cert.ReferenceIdeal.Gen.facts,
  fun m ρ _ => Cert.Kernel.Hand.frame_thm m ρ, fun m ρ _ => Cert.KernelIdeal.Hand.frame_thm m ρ, fun m ρ _ => Cert.ReferenceIdeal.Gen.frame m ρ, trivial, same_results⟩

end Cert.Proof

end
